-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Kernel_KernelIdeal : Prop :=
  IdealRules.named_const.Statement Cert.KernelIdeal.κ "masked" .f32 0xF549F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v21)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v21) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
-- ==== Pre_finite.lean ====
abbrev S16x2048x1024 : Shape := ⟨3, ![16, 2048, 1024]⟩
abbrev S1024x10240 : Shape := ⟨2, ![1024, 10240]⟩
abbrev S10240 : Shape := ⟨1, ![10240]⟩
abbrev S64 : Shape := ⟨1, ![64]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x10240 : S_.BroadcastsInDim S1024x10240 (![] : Fin 0 → Fin S1024x10240.rank)
  reducesTo_S1024x10240_S_d0_1 : S1024x10240.ReducesTo [0, 1] S_
  bcast_S_S10240 : S_.BroadcastsInDim S10240 (![] : Fin 0 → Fin S10240.rank)
  reducesTo_S10240_S_d0 : S10240.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16x2048x1024 .f32) (main_arg1 : FVec F S1024x10240 .f32) (main_arg2 : FVec F S10240 .f32) (main_arg3 : FVec F S64 .f32) (main_arg4 : FVec F S64 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x10240 .f32 := Host.absf main_arg1
  let main_cst_0 : FVec F S_ .f32 := constant S_ .f32 0x7F800000#32
  let main_v5 : FVec F S1024x10240 .f32 := broadcastInDim S1024x10240 ![] bcast_S_S1024x10240 main_cst_0
  let main_v6 : IVec S1024x10240 1 := cmpf .olt main_v4 main_v5
  let main_c_1 : IVec S_ 1 := constantI S_ 1 1#1
  let main_v7 : IVec S_ 1 := (fun x v => Host.reduce IntOp.andi x v reducesTo_S1024x10240_S_d0_1 h_S_) main_v6 main_c_1
  let main_v8 : IVec S_ 1 := andi main_v3 main_v7
  let main_v9 : FVec F S10240 .f32 := Host.absf main_arg2
  let main_cst_2 : FVec F S_ .f32 := constant S_ .f32 0x7F800000#32
  let main_v10 : FVec F S10240 .f32 := broadcastInDim S10240 ![] bcast_S_S10240 main_cst_2
  let main_v11 : IVec S10240 1 := cmpf .olt main_v9 main_v10
  let main_c_3 : IVec S_ 1 := constantI S_ 1 1#1
  let main_v12 : IVec S_ 1 := (fun x v => Host.reduce IntOp.andi x v reducesTo_S10240_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S16x2048x1024 : Shape := ⟨3, ![16, 2048, 1024]⟩
abbrev S1024x10240 : Shape := ⟨2, ![1024, 10240]⟩
abbrev S10240 : Shape := ⟨1, ![10240]⟩
abbrev S64 : Shape := ⟨1, ![64]⟩
abbrev S8 : Shape := ⟨1, ![8]⟩
abbrev S16x128x16x1024 : Shape := ⟨4, ![16, 128, 16, 1024]⟩
abbrev S16x16x128x1024 : Shape := ⟨4, ![16, 16, 128, 1024]⟩
abbrev S16x512x4x1024 : Shape := ⟨4, ![16, 512, 4, 1024]⟩
abbrev S16x4x512x1024 : Shape := ⟨4, ![16, 4, 512, 1024]⟩
abbrev S16x2048x1x1024 : Shape := ⟨4, ![16, 2048, 1, 1024]⟩
abbrev S16x1x2048x1024 : Shape := ⟨4, ![16, 1, 2048, 1024]⟩
abbrev S1x16x2048x1024 : Shape := ⟨4, ![1, 16, 2048, 1024]⟩
abbrev S3x16x2048x1024 : Shape := ⟨4, ![3, 16, 2048, 1024]⟩
abbrev S1x10240 : Shape := ⟨2, ![1, 10240]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S3x256x128 : Shape := ⟨3, ![3, 256, 128]⟩
abbrev S1x128x128 : Shape := ⟨3, ![1, 128, 128]⟩
abbrev S4x2x128x128 : Shape := ⟨4, ![4, 2, 128, 128]⟩
abbrev S4x2x1x1 : Shape := ⟨4, ![4, 2, 1, 1]⟩
abbrev S4x256x128 : Shape := ⟨3, ![4, 256, 128]⟩
abbrev S16x2048x512 : Shape := ⟨3, ![16, 2048, 512]⟩
abbrev S1x1x2048x1024 : Shape := ⟨4, ![1, 1, 2048, 1024]⟩
abbrev S1024x512 : Shape := ⟨2, ![1024, 512]⟩
abbrev S1x2048x512 : Shape := ⟨3, ![1, 2048, 512]⟩
abbrev S2048x512 : Shape := ⟨2, ![2048, 512]⟩
abbrev S4x2048x128 : Shape := ⟨3, ![4, 2048, 128]⟩
abbrev S128x128 : Shape := ⟨2, ![128, 128]⟩
abbrev S1x1x512x1024 : Shape := ⟨4, ![1, 1, 512, 1024]⟩
abbrev S512x1024 : Shape := ⟨2, ![512, 1024]⟩
abbrev S512x512 : Shape := ⟨2, ![512, 512]⟩
abbrev S512x256 : Shape := ⟨2, ![512, 256]⟩
abbrev S256x128 : Shape := ⟨2, ![256, 128]⟩
abbrev S1x256x128 : Shape := ⟨3, ![1, 256, 128]⟩
abbrev S128x256 : Shape := ⟨2, ![128, 256]⟩
abbrev S128x1 : Shape := ⟨2, ![128, 1]⟩
abbrev S1x512x128 : Shape := ⟨3, ![1, 512, 128]⟩
abbrev S512x128 : Shape := ⟨2, ![512, 128]⟩
abbrev S1x512x512 : Shape := ⟨3, ![1, 512, 512]⟩

abbrev nBuf : Space → Nat
  | .hbm => 113
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S1024x10240, .f32⟩
  | .hbm, ⟨2, _⟩ => ⟨S10240, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S16x128x16x1024, .f32⟩
  | .hbm, ⟨7, _⟩ => ⟨S16x16x128x1024, .f32⟩
  | .hbm, ⟨8, _⟩ => ⟨S16x2048x1024, .f32⟩
  | .hbm, ⟨9, _⟩ => ⟨S16x512x4x1024, .f32⟩
  | .hbm, ⟨10, _⟩ => ⟨S16x4x512x1024, .f32⟩
  | .hbm, ⟨11, _⟩ => ⟨S16x2048x1024, .f32⟩
  | .hbm, ⟨12, _⟩ => ⟨S16x2048x1x1024, .f32⟩
  | .hbm, ⟨13, _⟩ => ⟨S16x1x2048x1024, .f32⟩
  | .hbm, ⟨14, _⟩ => ⟨S16x2048x1024, .f32⟩
  | .hbm, ⟨15, _⟩ => ⟨S1x16x2048x1024, .f32⟩
  | .hbm, ⟨16, _⟩ => ⟨S1x16x2048x1024, .f32⟩
  | .hbm, ⟨17, _⟩ => ⟨S1x16x2048x1024, .f32⟩
  | .hbm, ⟨18, _⟩ => ⟨S3x16x2048x1024, .f32⟩
  | .hbm, ⟨19, _⟩ => ⟨S3x16x2048x1024, .bf16⟩
  | .hbm, ⟨20, _⟩ => ⟨S1x10240, .f32⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S256, .i32⟩
  | .hbm, ⟨30, _⟩ => ⟨S_, .i32⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S256x1, .i32⟩
  | .hbm, ⟨49, _⟩ => ⟨S1x256, .i32⟩
  | .hbm, ⟨50, _⟩ => ⟨S256x256, .i32⟩
  | .hbm, ⟨51, _⟩ => ⟨S256x256, .i32⟩
  | .hbm, ⟨52, _⟩ => ⟨S256x256, .i1⟩
  | .hbm, ⟨53, _⟩ => ⟨S_, .f32⟩
  | .hbm, ⟨54, _⟩ => ⟨S_, .f32⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S256x256, .bf16⟩
  | .hbm, ⟨59, _⟩ => ⟨S3x256x128, .i32⟩
  | .hbm, ⟨60, _⟩ => ⟨S3x256x128, .i32⟩
  | .hbm, ⟨61, _⟩ => ⟨S_, .i32⟩
  | .hbm, ⟨62, _⟩ => ⟨S3x256x128, .i32⟩
  | .hbm, ⟨63, _⟩ => ⟨S3x256x128, .i32⟩
  | .hbm, ⟨64, _⟩ => ⟨S3x256x128, .i32⟩
  | .hbm, ⟨65, _⟩ => ⟨S3x256x128, .i32⟩
  | .hbm, ⟨66, _⟩ => ⟨S3x256x128, .i32⟩
  | .hbm, ⟨67, _⟩ => ⟨S3x256x128, .i32⟩
  | .hbm, ⟨68, _⟩ => ⟨S_, .i32⟩
  | .hbm, ⟨69, _⟩ => ⟨S3x256x128, .i32⟩
  | .hbm, ⟨70, _⟩ => ⟨S3x256x128, .i32⟩
  | .hbm, ⟨71, _⟩ => ⟨S3x256x128, .f32⟩
  | .hbm, ⟨72, _⟩ => ⟨S3x256x128, .bf16⟩
  | .hbm, ⟨73, _⟩ => ⟨S3x256x128, .i32⟩
  | .hbm, ⟨74, _⟩ => ⟨S3x256x128, .i32⟩
  | .hbm, ⟨75, _⟩ => ⟨S_, .i32⟩
  | .hbm, ⟨76, _⟩ => ⟨S3x256x128, .i32⟩
  | .hbm, ⟨77, _⟩ => ⟨S3x256x128, .i32⟩
  | .hbm, ⟨78, _⟩ => ⟨S3x256x128, .i32⟩
  | .hbm, ⟨79, _⟩ => ⟨S3x256x128, .i32⟩
  | .hbm, ⟨80, _⟩ => ⟨S3x256x128, .i32⟩
  | .hbm, ⟨81, _⟩ => ⟨S3x256x128, .i32⟩
  | .hbm, ⟨82, _⟩ => ⟨S_, .i32⟩
  | .hbm, ⟨83, _⟩ => ⟨S3x256x128, .i32⟩
  | .hbm, ⟨84, _⟩ => ⟨S3x256x128, .i32⟩
  | .hbm, ⟨85, _⟩ => ⟨S3x256x128, .f32⟩
  | .hbm, ⟨86, _⟩ => ⟨S3x256x128, .bf16⟩
  | .hbm, ⟨87, _⟩ => ⟨S1x128x128, .i32⟩
  | .hbm, ⟨88, _⟩ => ⟨S1x128x128, .i32⟩
  | .hbm, ⟨89, _⟩ => ⟨S_, .i32⟩
  | .hbm, ⟨90, _⟩ => ⟨S1x128x128, .i32⟩
  | .hbm, ⟨91, _⟩ => ⟨S1x128x128, .i32⟩
  | .hbm, ⟨92, _⟩ => ⟨S1x128x128, .i32⟩
  | .hbm, ⟨93, _⟩ => ⟨S1x128x128, .i32⟩
  | .hbm, ⟨94, _⟩ => ⟨S1x128x128, .i32⟩
  | .hbm, ⟨95, _⟩ => ⟨S1x128x128, .i32⟩
  | .hbm, ⟨96, _⟩ => ⟨S_, .i32⟩
  | .hbm, ⟨97, _⟩ => ⟨S1x128x128, .i32⟩
  | .hbm, ⟨98, _⟩ => ⟨S1x128x128, .i32⟩
  | .hbm, ⟨99, _⟩ => ⟨S1x128x128, .f32⟩
  | .hbm, ⟨100, _⟩ => ⟨S1x128x128, .bf16⟩
  | .hbm, ⟨101, _⟩ => ⟨S4x2x128x128, .i32⟩
  | .hbm, ⟨102, _⟩ => ⟨S4x2x128x128, .i32⟩
  | .hbm, ⟨103, _⟩ => ⟨S4x2x128x128, .i1⟩
  | .hbm, ⟨104, _⟩ => ⟨S4x2x1x1, .f32⟩
  | .hbm, ⟨105, _⟩ => ⟨S_, .f32⟩
  | .hbm, ⟨106, _⟩ => ⟨S_, .f32⟩
  | .hbm, ⟨107, _⟩ => ⟨S4x2x128x128, .f32⟩
  | .hbm, ⟨108, _⟩ => ⟨S4x2x128x128, .f32⟩
  | .hbm, ⟨109, _⟩ => ⟨S4x2x128x128, .f32⟩
  | .hbm, ⟨110, _⟩ => ⟨S4x256x128, .f32⟩
  | .hbm, ⟨111, _⟩ => ⟨S4x256x128, .bf16⟩
  | .hbm, ⟨112, _⟩ => ⟨S16x2048x512, .bf16⟩
  | .local _ .vmem, ⟨0, _⟩ => ⟨S1x1x2048x1024, .bf16⟩
  | .local _ .vmem, ⟨1, _⟩ => ⟨S1x1x2048x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S256x256, .bf16⟩
  | .local _ .vmem, ⟨19, _⟩ => ⟨S4x256x128, .bf16⟩
  | .local _ .vmem, ⟨20, _⟩ => ⟨S3x256x128, .bf16⟩
  | .local _ .vmem, ⟨21, _⟩ => ⟨S3x256x128, .bf16⟩
  | .local _ .vmem, ⟨22, _⟩ => ⟨S1x128x128, .bf16⟩
  | .local _ .vmem, ⟨23, _⟩ => ⟨S1x2048x512, .bf16⟩
  | .local _ .vmem, ⟨24, _⟩ => ⟨S1x2048x512, .bf16⟩
  | .local _ .vmem, ⟨25, _⟩ => ⟨S2048x512, .bf16⟩
  | .local _ .vmem, ⟨26, _⟩ => ⟨S2048x512, .bf16⟩
  | .local _ .vmem, ⟨27, _⟩ => ⟨S2048x512, .bf16⟩
  | .local _ .vmem, ⟨28, _⟩ => ⟨S4x2048x128, .f32⟩
  | .local _ .vmem, ⟨29, _⟩ => ⟨S4x2048x128, .f32⟩
  | .local _ .vmem, ⟨30, _⟩ => ⟨S4x2048x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_0 : Ref sig .tc := ⟨.hbm, 53, rfl⟩
abbrev main_cst_1 : Ref sig .tc := ⟨.hbm, 54, rfl⟩
abbrev main_call1_v0 : Ref sig .tc := ⟨.hbm, 55, rfl⟩
abbrev main_call1_v1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_5 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_6 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_7 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_8 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_166 : BitVec 32 := 0#32
  let c16_i32 : BitVec 32 := 16#32
  let v313 : BitVec 32 := Scalar.addi c0_i32_166 c16_i32
  let c1_i32_167 : BitVec 32 := 1#32
  ⟨c0_i32_166, v313, c1_i32_167⟩
def k0_mult1 (k0_t1 : Fin k0_t1_loop.trips) : BitVec 32 :=
  let c0_i32_166 : BitVec 32 := 0#32
  let c1_i32_167 : BitVec 32 := 1#32
  let arg25 : BitVec 32 := Scf.iv c0_i32_166 c1_i32_167 k0_t1
  let c128_i32 : BitVec 32 := 128#32
  let v341 : BitVec 32 := Scalar.muli arg25 c128_i32
  v341
def k0_off1 (k0_t1 : Fin k0_t1_loop.trips) : Fin 3 → Nat :=
  let c0_i32_166 : BitVec 32 := 0#32
  let c1_i32_167 : BitVec 32 := 1#32
  let arg25 : BitVec 32 := Scf.iv c0_i32_166 c1_i32_167 k0_t1
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_186 : BitVec 32 := 128#32
  let v347 : BitVec 32 := Scalar.muli v340 c128_i32_186
  let c0_i32_185 : BitVec 32 := 0#32
  let c0_i32_184 : BitVec 32 := 0#32
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c0_i32_185 v345
  let v348 : BitVec 32 := Scalar.subi v347 v346
  let c0_i32_188 : BitVec 32 := 0#32
  let v350 : BitVec 1 := Scalar.cmpi .sgt v348 c0_i32_188
  let v351 : BitVec 32 := Scalar.extui v350
  let c0_i32_189 : BitVec 32 := 0#32
  let v352 : BitVec 1 := Scalar.cmpi .slt v348 c0_i32_189
  let v353 : BitVec 32 := Scalar.extui v352
  let v354 : BitVec 32 := Scalar.subi v351 v353
  let c64_i32_187 : BitVec 32 := 64#32
  let c0_i32_190 : BitVec 32 := 0#32
  let v355 : BitVec 1 := Scalar.cmpi .sgt c64_i32_187 c0_i32_190
  let v356 : BitVec 32 := Scalar.extui v355
  let c0_i32_191 : BitVec 32 := 0#32
  let v357 : BitVec 1 := Scalar.cmpi .slt c64_i32_187 c0_i32_191
  let v358 : BitVec 32 := Scalar.extui v357
  let v359 : BitVec 32 := Scalar.subi v356 v358
  let v360 : BitVec 1 := Scalar.cmpi .ne v354 v359
  let v361 : BitVec 32 := Scalar.remsi v348 c64_i32_187
  let c0_i32_192 : BitVec 32 := 0#32
  let v362 : BitVec 1 := Scalar.cmpi .ne v361 c0_i32_192
  let v363 : BitVec 1 := Scalar.andi v360 v362
  let v349 : BitVec 32 := Scalar.divsi v348 c64_i32_187
  let c1_i32_193 : BitVec 32 := 1#32
  let v364 : BitVec 32 := Scalar.subi v349 c1_i32_193
  let v365 : BitVec 32 := Scalar.select v363 v364 v349
  let v366 : Index := Scalar.indexCast v365
  let c0_194 : Index := 0#32
  let c0_195 : Index := 0#32
  ![v366.toNat, 0, 0]
def k0_mult2 (k0_t1 : Fin k0_t1_loop.trips) : BitVec 32 :=
  let c0_i32_166 : BitVec 32 := 0#32
  let c1_i32_167 : BitVec 32 := 1#32
  let arg25 : BitVec 32 := Scf.iv c0_i32_166 c1_i32_167 k0_t1
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let c128_i32_198 : BitVec 32 := 128#32
  let v374 : BitVec 32 := Scalar.muli v330 c128_i32_198
  let c0_i32_185 : BitVec 32 := 0#32
  let c0_i32_184 : BitVec 32 := 0#32
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c0_i32_185 v345
  let v375 : BitVec 32 := Scalar.addi v374 v346
  v375
def k0_off2 (k0_t1 : Fin k0_t1_loop.trips) : Fin 2 → Nat :=
  let c0_i32_166 : BitVec 32 := 0#32
  let c1_i32_167 : BitVec 32 := 1#32
  let arg25 : BitVec 32 := Scf.iv c0_i32_166 c1_i32_167 k0_t1
  let c128_i32 : BitVec 32 := 128#32
  let v341 : BitVec 32 := Scalar.muli arg25 c128_i32
  let v342 : BitVec 32 := v341
  let v380 : Index := Scalar.indexCast v342
  let c0_201 : Index := 0#32
  ![v380.toNat, 0]
def k0_off3 (k0_t1 : Fin k0_t1_loop.trips) : Fin 2 → Nat :=
  let c0_i32_166 : BitVec 32 := 0#32
  let c1_i32_167 : BitVec 32 := 1#32
  let arg25 : BitVec 32 := Scf.iv c0_i32_166 c1_i32_167 k0_t1
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let c128_i32_198 : BitVec 32 := 128#32
  let v374 : BitVec 32 := Scalar.muli v330 c128_i32_198
  let c0_i32_185 : BitVec 32 := 0#32
  let c0_i32_184 : BitVec 32 := 0#32
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c0_i32_185 v345
  let v375 : BitVec 32 := Scalar.addi v374 v346
  let v376 : BitVec 32 := v375
  let v389 : Index := Scalar.indexCast v376
  let c0_206 : Index := 0#32
  ![v389.toNat, 0]
def k0_off4 (k0_t1 : Fin k0_t1_loop.trips) : Fin 3 → Nat :=
  let c0_212 : Index := 0#32
  let c0_i32_166 : BitVec 32 := 0#32
  let c1_i32_167 : BitVec 32 := 1#32
  let arg25 : BitVec 32 := Scf.iv c0_i32_166 c1_i32_167 k0_t1
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_199 : BitVec 32 := 128#32
  let v377 : BitVec 32 := Scalar.muli v340 c128_i32_199
  let c16_i32_200 : BitVec 32 := 16#32
  let v378 : BitVec 32 := Scalar.muli v377 c16_i32_200
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let v379 : BitVec 32 := Scalar.addi v378 v330
  let v417 : Index := Scalar.indexCast v379
  let c0_213 : Index := 0#32
  ![0, v417.toNat, 0]
def k0_off5 (k0_t1 : Fin k0_t1_loop.trips) : Fin 2 → Nat :=
  let c0_i32_166 : BitVec 32 := 0#32
  let c1_i32_167 : BitVec 32 := 1#32
  let arg25 : BitVec 32 := Scf.iv c0_i32_166 c1_i32_167 k0_t1
  let c128_i32 : BitVec 32 := 128#32
  let v341 : BitVec 32 := Scalar.muli arg25 c128_i32
  let v342 : BitVec 32 := v341
  let v429 : Index := Scalar.indexCast v342
  let c128 : Index := 128#32
  ![v429.toNat, 128]
def k0_off6 (k0_t1 : Fin k0_t1_loop.trips) : Fin 2 → Nat :=
  let c0_i32_166 : BitVec 32 := 0#32
  let c1_i32_167 : BitVec 32 := 1#32
  let arg25 : BitVec 32 := Scf.iv c0_i32_166 c1_i32_167 k0_t1
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let c128_i32_198 : BitVec 32 := 128#32
  let v374 : BitVec 32 := Scalar.muli v330 c128_i32_198
  let c0_i32_185 : BitVec 32 := 0#32
  let c0_i32_184 : BitVec 32 := 0#32
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c0_i32_185 v345
  let v375 : BitVec 32 := Scalar.addi v374 v346
  let v376 : BitVec 32 := v375
  let v438 : Index := Scalar.indexCast v376
  let c128_221 : Index := 128#32
  ![v438.toNat, 128]
def k0_off7 (k0_t1 : Fin k0_t1_loop.trips) : Fin 3 → Nat :=
  let c1_227 : Index := 1#32
  let c0_i32_166 : BitVec 32 := 0#32
  let c1_i32_167 : BitVec 32 := 1#32
  let arg25 : BitVec 32 := Scf.iv c0_i32_166 c1_i32_167 k0_t1
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_199 : BitVec 32 := 128#32
  let v377 : BitVec 32 := Scalar.muli v340 c128_i32_199
  let c16_i32_200 : BitVec 32 := 16#32
  let v378 : BitVec 32 := Scalar.muli v377 c16_i32_200
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let v379 : BitVec 32 := Scalar.addi v378 v330
  let v466 : Index := Scalar.indexCast v379
  let c0_228 : Index := 0#32
  ![1, v466.toNat, 0]
def k0_off8 (k0_t1 : Fin k0_t1_loop.trips) : Fin 2 → Nat :=
  let c0_i32_166 : BitVec 32 := 0#32
  let c1_i32_167 : BitVec 32 := 1#32
  let arg25 : BitVec 32 := Scf.iv c0_i32_166 c1_i32_167 k0_t1
  let c128_i32 : BitVec 32 := 128#32
  let v341 : BitVec 32 := Scalar.muli arg25 c128_i32
  let v342 : BitVec 32 := v341
  let v478 : Index := Scalar.indexCast v342
  let c256 : Index := 256#32
  ![v478.toNat, 256]
def k0_off9 (k0_t1 : Fin k0_t1_loop.trips) : Fin 2 → Nat :=
  let c0_i32_166 : BitVec 32 := 0#32
  let c1_i32_167 : BitVec 32 := 1#32
  let arg25 : BitVec 32 := Scf.iv c0_i32_166 c1_i32_167 k0_t1
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let c128_i32_198 : BitVec 32 := 128#32
  let v374 : BitVec 32 := Scalar.muli v330 c128_i32_198
  let c0_i32_185 : BitVec 32 := 0#32
  let c0_i32_184 : BitVec 32 := 0#32
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c0_i32_185 v345
  let v375 : BitVec 32 := Scalar.addi v374 v346
  let v376 : BitVec 32 := v375
  let v487 : Index := Scalar.indexCast v376
  let c256_236 : Index := 256#32
  ![v487.toNat, 256]
def k0_off10 (k0_t1 : Fin k0_t1_loop.trips) : Fin 3 → Nat :=
  let c2_242 : Index := 2#32
  let c0_i32_166 : BitVec 32 := 0#32
  let c1_i32_167 : BitVec 32 := 1#32
  let arg25 : BitVec 32 := Scf.iv c0_i32_166 c1_i32_167 k0_t1
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_199 : BitVec 32 := 128#32
  let v377 : BitVec 32 := Scalar.muli v340 c128_i32_199
  let c16_i32_200 : BitVec 32 := 16#32
  let v378 : BitVec 32 := Scalar.muli v377 c16_i32_200
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let v379 : BitVec 32 := Scalar.addi v378 v330
  let v515 : Index := Scalar.indexCast v379
  let c0_243 : Index := 0#32
  ![2, v515.toNat, 0]
def k0_off11 (k0_t1 : Fin k0_t1_loop.trips) : Fin 2 → Nat :=
  let c0_i32_166 : BitVec 32 := 0#32
  let c1_i32_167 : BitVec 32 := 1#32
  let arg25 : BitVec 32 := Scf.iv c0_i32_166 c1_i32_167 k0_t1
  let c128_i32 : BitVec 32 := 128#32
  let v341 : BitVec 32 := Scalar.muli arg25 c128_i32
  let v342 : BitVec 32 := v341
  let v527 : Index := Scalar.indexCast v342
  let c384 : Index := 384#32
  ![v527.toNat, 384]
def k0_off12 (k0_t1 : Fin k0_t1_loop.trips) : Fin 2 → Nat :=
  let c0_i32_166 : BitVec 32 := 0#32
  let c1_i32_167 : BitVec 32 := 1#32
  let arg25 : BitVec 32 := Scf.iv c0_i32_166 c1_i32_167 k0_t1
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let c128_i32_198 : BitVec 32 := 128#32
  let v374 : BitVec 32 := Scalar.muli v330 c128_i32_198
  let c0_i32_185 : BitVec 32 := 0#32
  let c0_i32_184 : BitVec 32 := 0#32
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c0_i32_185 v345
  let v375 : BitVec 32 := Scalar.addi v374 v346
  let v376 : BitVec 32 := v375
  let v536 : Index := Scalar.indexCast v376
  let c384_251 : Index := 384#32
  ![v536.toNat, 384]
def k0_off13 (k0_t1 : Fin k0_t1_loop.trips) : Fin 3 → Nat :=
  let c3_257 : Index := 3#32
  let c0_i32_166 : BitVec 32 := 0#32
  let c1_i32_167 : BitVec 32 := 1#32
  let arg25 : BitVec 32 := Scf.iv c0_i32_166 c1_i32_167 k0_t1
  let c1_i32_176 : BitVec 32 := 1#32
  let c0_i32_177 : BitVec 32 := 0#32
  let v331 : BitVec 1 := Scalar.cmpi .eq c1_i32_176 c0_i32_177
  let c1_i32_178 : BitVec 32 := 1#32
  let v332 : BitVec 32 := Scalar.select v331 c1_i32_178 c1_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_199 : BitVec 32 := 128#32
  let v377 : BitVec 32 := Scalar.muli v340 c128_i32_199
  let c16_i32_200 : BitVec 32 := 16#32
  let v378 : BitVec 32 := Scalar.muli v377 c16_i32_200
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c1_i32_169 : BitVec 32 := 1#32
  let c0_i32_172 : BitVec 32 := 0#32
  let v320 : BitVec 1 := Scalar.cmpi .sgt c1_i32_169 c0_i32_172
  let v321 : BitVec 32 := Scalar.extui v320
  let c0_i32_173 : BitVec 32 := 0#32
  let v322 : BitVec 1 := Scalar.cmpi .slt c1_i32_169 c0_i32_173
  let v323 : BitVec 32 := Scalar.extui v322
  let v324 : BitVec 32 := Scalar.subi v321 v323
  let v325 : BitVec 1 := Scalar.cmpi .ne v319 v324
  let v326 : BitVec 32 := Scalar.remsi arg25 c1_i32_169
  let c0_i32_174 : BitVec 32 := 0#32
  let v327 : BitVec 1 := Scalar.cmpi .ne v326 c0_i32_174
  let v328 : BitVec 1 := Scalar.andi v325 v327
  let v314 : BitVec 32 := Scalar.divsi arg25 c1_i32_169
  let c1_i32_175 : BitVec 32 := 1#32
  let v329 : BitVec 32 := Scalar.subi v314 c1_i32_175
  let v330 : BitVec 32 := Scalar.select v328 v329 v314
  let v379 : BitVec 32 := Scalar.addi v378 v330
  let v564 : Index := Scalar.indexCast v379
  let c0_258 : Index := 0#32
  ![3, v564.toNat, 0]
def k0_cond2 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_1 : BitVec 32 := 0#32
  let v8 : BitVec 1 := Scalar.cmpi .ne v7 c0_i32_1
  v8

@[reducible] def k0_t2_loop : Scf.Loop 32 :=
  let c0_i32_166 : BitVec 32 := 0#32
  let c16_i32 : BitVec 32 := 16#32
  let v313 : BitVec 32 := Scalar.addi c0_i32_166 c16_i32
  let c1_i32_167 : BitVec 32 := 1#32
  ⟨c0_i32_166, v313, c1_i32_167⟩
def k0_mult3 (k0_t2 : Fin k0_t2_loop.trips) : BitVec 32 :=
  let c0_i32_166 : BitVec 32 := 0#32
  let c1_i32_167 : BitVec 32 := 1#32
  let arg25 : BitVec 32 := Scf.iv c0_i32_166 c1_i32_167 k0_t2
  let c128_i32 : BitVec 32 := 128#32
  let v341 : BitVec 32 := Scalar.muli arg25 c128_i32
  v341
def k0_off14 (k0_t2 : Fin k0_t2_loop.trips) : Fin 3 → Nat :=
  let c0_i32_166 : BitVec 32 := 0#32
  let c1_i32_167 : BitVec 32 := 1#32
  let arg25 : BitVec 32 := Scf.iv c0_i32_166 c1_i32_167 k0_t2
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_184 : BitVec 32 := 128#32
  let v347 : BitVec 32 := Scalar.muli v340 c128_i32_184
  let c256_i32 : BitVec 32 := 256#32
  let c0_i32_183 : BitVec 32 := 0#32
  let c128_i32_181 : BitVec 32 := 128#32
  let v343 : BitVec 32 := Scalar.muli v340 c128_i32_181
  let c64_i32_182 : BitVec 32 := 64#32
  let v344 : BitVec 32 := Scalar.subi v343 c64_i32_182
  let v345 : BitVec 32 := Scalar.maxsi c0_i32_183 v344
  let v346 : BitVec 32 := Scalar.minsi c256_i32 v345
  let v348 : BitVec 32 := Scalar.subi v347 v346
  let c0_i32_186 : BitVec 32 := 0#32
  let v350 : BitVec 1 := Scalar.cmpi .sgt v348 c0_i32_186
  let v351 : BitVec 32 := Scalar.extui v350
  let c0_i32_187 : BitVec 32 := 0#32
  let v352 : BitVec 1 := Scalar.cmpi .slt v348 c0_i32_187
  let v353 : BitVec 32 := Scalar.extui v352
  let v354 : BitVec 32 := Scalar.subi v351 v353
  let c64_i32_185 : BitVec 32 := 64#32
  let c0_i32_188 : BitVec 32 := 0#32
  let v355 : BitVec 1 := Scalar.cmpi .sgt c64_i32_185 c0_i32_188
  let v356 : BitVec 32 := Scalar.extui v355
  let c0_i32_189 : BitVec 32 := 0#32
  let v357 : BitVec 1 := Scalar.cmpi .slt c64_i32_185 c0_i32_189
  let v358 : BitVec 32 := Scalar.extui v357
  let v359 : BitVec 32 := Scalar.subi v356 v358
  let v360 : BitVec 1 := Scalar.cmpi .ne v354 v359
  let v361 : BitVec 32 := Scalar.remsi v348 c64_i32_185
  let c0_i32_190 : BitVec 32 := 0#32
  let v362 : BitVec 1 := Scalar.cmpi .ne v361 c0_i32_190
  let v363 : BitVec 1 := Scalar.andi v360 v362
  let v349 : BitVec 32 := Scalar.divsi v348 c64_i32_185
  let c1_i32_191 : BitVec 32 := 1#32
  let v364 : BitVec 32 := Scalar.subi v349 c1_i32_191
  let v365 : BitVec 32 := Scalar.select v363 v364 v349
  let v366 : Index := Scalar.indexCast v365
  let c0_192 : Index := 0#32
  let c0_193 : Index := 0#32
  ![v366.toNat, 0, 0]
def k0_mult4 (k0_t2 : Fin k0_t2_loop.trips) : BitVec 32 :=
  let c0_i32_166 : BitVec 32 := 0#32
  let c1_i32_167 : BitVec 32 := 1#32
  let arg25 : BitVec 32 := Scf.iv c0_i32_166 c1_i32_167 k0_t2
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let c512_i32 : BitVec 32 := 512#32
  let v374 : BitVec 32 := Scalar.muli v330 c512_i32
  let c256_i32 : BitVec 32 := 256#32
  let c0_i32_183 : BitVec 32 := 0#32
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_181 : BitVec 32 := 128#32
  let v343 : BitVec 32 := Scalar.muli v340 c128_i32_181
  let c64_i32_182 : BitVec 32 := 64#32
  let v344 : BitVec 32 := Scalar.subi v343 c64_i32_182
  let v345 : BitVec 32 := Scalar.maxsi c0_i32_183 v344
  let v346 : BitVec 32 := Scalar.minsi c256_i32 v345
  let v375 : BitVec 32 := Scalar.addi v374 v346
  v375
def k0_off15 (k0_t2 : Fin k0_t2_loop.trips) : Fin 2 → Nat :=
  let c0_i32_166 : BitVec 32 := 0#32
  let c1_i32_167 : BitVec 32 := 1#32
  let arg25 : BitVec 32 := Scf.iv c0_i32_166 c1_i32_167 k0_t2
  let c128_i32 : BitVec 32 := 128#32
  let v341 : BitVec 32 := Scalar.muli arg25 c128_i32
  let v342 : BitVec 32 := v341
  let v380 : Index := Scalar.indexCast v342
  let c0_198 : Index := 0#32
  ![v380.toNat, 0]
def k0_off16 (k0_t2 : Fin k0_t2_loop.trips) : Fin 2 → Nat :=
  let c0_i32_166 : BitVec 32 := 0#32
  let c1_i32_167 : BitVec 32 := 1#32
  let arg25 : BitVec 32 := Scf.iv c0_i32_166 c1_i32_167 k0_t2
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let c512_i32 : BitVec 32 := 512#32
  let v374 : BitVec 32 := Scalar.muli v330 c512_i32
  let c256_i32 : BitVec 32 := 256#32
  let c0_i32_183 : BitVec 32 := 0#32
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_181 : BitVec 32 := 128#32
  let v343 : BitVec 32 := Scalar.muli v340 c128_i32_181
  let c64_i32_182 : BitVec 32 := 64#32
  let v344 : BitVec 32 := Scalar.subi v343 c64_i32_182
  let v345 : BitVec 32 := Scalar.maxsi c0_i32_183 v344
  let v346 : BitVec 32 := Scalar.minsi c256_i32 v345
  let v375 : BitVec 32 := Scalar.addi v374 v346
  let v376 : BitVec 32 := v375
  let v389 : Index := Scalar.indexCast v376
  let c0_203 : Index := 0#32
  ![v389.toNat, 0]
def k0_off17 (k0_t2 : Fin k0_t2_loop.trips) : Fin 3 → Nat :=
  let c0_209 : Index := 0#32
  let c0_i32_166 : BitVec 32 := 0#32
  let c1_i32_167 : BitVec 32 := 1#32
  let arg25 : BitVec 32 := Scf.iv c0_i32_166 c1_i32_167 k0_t2
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_196 : BitVec 32 := 128#32
  let v377 : BitVec 32 := Scalar.muli v340 c128_i32_196
  let c4_i32_197 : BitVec 32 := 4#32
  let v378 : BitVec 32 := Scalar.muli v377 c4_i32_197
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let v379 : BitVec 32 := Scalar.addi v378 v330
  let v417 : Index := Scalar.indexCast v379
  let c0_210 : Index := 0#32
  ![0, v417.toNat, 0]
def k0_off18 (k0_t2 : Fin k0_t2_loop.trips) : Fin 2 → Nat :=
  let c0_i32_166 : BitVec 32 := 0#32
  let c1_i32_167 : BitVec 32 := 1#32
  let arg25 : BitVec 32 := Scf.iv c0_i32_166 c1_i32_167 k0_t2
  let c128_i32 : BitVec 32 := 128#32
  let v341 : BitVec 32 := Scalar.muli arg25 c128_i32
  let v342 : BitVec 32 := v341
  let v449 : Index := Scalar.indexCast v342
  let c128 : Index := 128#32
  ![v449.toNat, 128]
def k0_off19 (k0_t2 : Fin k0_t2_loop.trips) : Fin 2 → Nat :=
  let c0_i32_166 : BitVec 32 := 0#32
  let c1_i32_167 : BitVec 32 := 1#32
  let arg25 : BitVec 32 := Scf.iv c0_i32_166 c1_i32_167 k0_t2
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let c512_i32 : BitVec 32 := 512#32
  let v374 : BitVec 32 := Scalar.muli v330 c512_i32
  let c256_i32 : BitVec 32 := 256#32
  let c0_i32_183 : BitVec 32 := 0#32
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_181 : BitVec 32 := 128#32
  let v343 : BitVec 32 := Scalar.muli v340 c128_i32_181
  let c64_i32_182 : BitVec 32 := 64#32
  let v344 : BitVec 32 := Scalar.subi v343 c64_i32_182
  let v345 : BitVec 32 := Scalar.maxsi c0_i32_183 v344
  let v346 : BitVec 32 := Scalar.minsi c256_i32 v345
  let v375 : BitVec 32 := Scalar.addi v374 v346
  let v376 : BitVec 32 := v375
  let v458 : Index := Scalar.indexCast v376
  let c128_224 : Index := 128#32
  ![v458.toNat, 128]
def k0_off20 (k0_t2 : Fin k0_t2_loop.trips) : Fin 3 → Nat :=
  let c1_230 : Index := 1#32
  let c0_i32_166 : BitVec 32 := 0#32
  let c1_i32_167 : BitVec 32 := 1#32
  let arg25 : BitVec 32 := Scf.iv c0_i32_166 c1_i32_167 k0_t2
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_196 : BitVec 32 := 128#32
  let v377 : BitVec 32 := Scalar.muli v340 c128_i32_196
  let c4_i32_197 : BitVec 32 := 4#32
  let v378 : BitVec 32 := Scalar.muli v377 c4_i32_197
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let v379 : BitVec 32 := Scalar.addi v378 v330
  let v486 : Index := Scalar.indexCast v379
  let c0_231 : Index := 0#32
  ![1, v486.toNat, 0]
def k0_off21 (k0_t2 : Fin k0_t2_loop.trips) : Fin 2 → Nat :=
  let c0_i32_166 : BitVec 32 := 0#32
  let c1_i32_167 : BitVec 32 := 1#32
  let arg25 : BitVec 32 := Scf.iv c0_i32_166 c1_i32_167 k0_t2
  let c128_i32 : BitVec 32 := 128#32
  let v341 : BitVec 32 := Scalar.muli arg25 c128_i32
  let v342 : BitVec 32 := v341
  let v518 : Index := Scalar.indexCast v342
  let c256 : Index := 256#32
  ![v518.toNat, 256]
def k0_off22 (k0_t2 : Fin k0_t2_loop.trips) : Fin 2 → Nat :=
  let c0_i32_166 : BitVec 32 := 0#32
  let c1_i32_167 : BitVec 32 := 1#32
  let arg25 : BitVec 32 := Scf.iv c0_i32_166 c1_i32_167 k0_t2
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let c512_i32 : BitVec 32 := 512#32
  let v374 : BitVec 32 := Scalar.muli v330 c512_i32
  let c256_i32 : BitVec 32 := 256#32
  let c0_i32_183 : BitVec 32 := 0#32
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_181 : BitVec 32 := 128#32
  let v343 : BitVec 32 := Scalar.muli v340 c128_i32_181
  let c64_i32_182 : BitVec 32 := 64#32
  let v344 : BitVec 32 := Scalar.subi v343 c64_i32_182
  let v345 : BitVec 32 := Scalar.maxsi c0_i32_183 v344
  let v346 : BitVec 32 := Scalar.minsi c256_i32 v345
  let v375 : BitVec 32 := Scalar.addi v374 v346
  let v376 : BitVec 32 := v375
  let v527 : Index := Scalar.indexCast v376
  let c256_245 : Index := 256#32
  ![v527.toNat, 256]
def k0_off23 (k0_t2 : Fin k0_t2_loop.trips) : Fin 3 → Nat :=
  let c2_251 : Index := 2#32
  let c0_i32_166 : BitVec 32 := 0#32
  let c1_i32_167 : BitVec 32 := 1#32
  let arg25 : BitVec 32 := Scf.iv c0_i32_166 c1_i32_167 k0_t2
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_196 : BitVec 32 := 128#32
  let v377 : BitVec 32 := Scalar.muli v340 c128_i32_196
  let c4_i32_197 : BitVec 32 := 4#32
  let v378 : BitVec 32 := Scalar.muli v377 c4_i32_197
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let v379 : BitVec 32 := Scalar.addi v378 v330
  let v555 : Index := Scalar.indexCast v379
  let c0_252 : Index := 0#32
  ![2, v555.toNat, 0]
def k0_off24 (k0_t2 : Fin k0_t2_loop.trips) : Fin 2 → Nat :=
  let c0_i32_166 : BitVec 32 := 0#32
  let c1_i32_167 : BitVec 32 := 1#32
  let arg25 : BitVec 32 := Scf.iv c0_i32_166 c1_i32_167 k0_t2
  let c128_i32 : BitVec 32 := 128#32
  let v341 : BitVec 32 := Scalar.muli arg25 c128_i32
  let v342 : BitVec 32 := v341
  let v587 : Index := Scalar.indexCast v342
  let c384 : Index := 384#32
  ![v587.toNat, 384]
def k0_off25 (k0_t2 : Fin k0_t2_loop.trips) : Fin 2 → Nat :=
  let c0_i32_166 : BitVec 32 := 0#32
  let c1_i32_167 : BitVec 32 := 1#32
  let arg25 : BitVec 32 := Scf.iv c0_i32_166 c1_i32_167 k0_t2
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let c512_i32 : BitVec 32 := 512#32
  let v374 : BitVec 32 := Scalar.muli v330 c512_i32
  let c256_i32 : BitVec 32 := 256#32
  let c0_i32_183 : BitVec 32 := 0#32
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_181 : BitVec 32 := 128#32
  let v343 : BitVec 32 := Scalar.muli v340 c128_i32_181
  let c64_i32_182 : BitVec 32 := 64#32
  let v344 : BitVec 32 := Scalar.subi v343 c64_i32_182
  let v345 : BitVec 32 := Scalar.maxsi c0_i32_183 v344
  let v346 : BitVec 32 := Scalar.minsi c256_i32 v345
  let v375 : BitVec 32 := Scalar.addi v374 v346
  let v376 : BitVec 32 := v375
  let v596 : Index := Scalar.indexCast v376
  let c384_266 : Index := 384#32
  ![v596.toNat, 384]
def k0_off26 (k0_t2 : Fin k0_t2_loop.trips) : Fin 3 → Nat :=
  let c3_272 : Index := 3#32
  let c0_i32_166 : BitVec 32 := 0#32
  let c1_i32_167 : BitVec 32 := 1#32
  let arg25 : BitVec 32 := Scf.iv c0_i32_166 c1_i32_167 k0_t2
  let c4_i32_175 : BitVec 32 := 4#32
  let c0_i32_176 : BitVec 32 := 0#32
  let v331 : BitVec 1 := Scalar.cmpi .eq c4_i32_175 c0_i32_176
  let c1_i32_177 : BitVec 32 := 1#32
  let v332 : BitVec 32 := Scalar.select v331 c1_i32_177 c4_i32_175
  let v333 : BitVec 32 := Scalar.remsi arg25 v332
  let c0_i32_179 : BitVec 32 := 0#32
  let v335 : BitVec 1 := Scalar.cmpi .slt v333 c0_i32_179
  let c0_i32_180 : BitVec 32 := 0#32
  let v336 : BitVec 1 := Scalar.cmpi .slt v332 c0_i32_180
  let v337 : BitVec 1 := Scalar.xori v335 v336
  let c0_i32_178 : BitVec 32 := 0#32
  let v334 : BitVec 1 := Scalar.cmpi .ne v333 c0_i32_178
  let v338 : BitVec 1 := Scalar.andi v337 v334
  let v339 : BitVec 32 := Scalar.addi v333 v332
  let v340 : BitVec 32 := Scalar.select v338 v339 v333
  let c128_i32_196 : BitVec 32 := 128#32
  let v377 : BitVec 32 := Scalar.muli v340 c128_i32_196
  let c4_i32_197 : BitVec 32 := 4#32
  let v378 : BitVec 32 := Scalar.muli v377 c4_i32_197
  let c0_i32_169 : BitVec 32 := 0#32
  let v315 : BitVec 1 := Scalar.cmpi .sgt arg25 c0_i32_169
  let v316 : BitVec 32 := Scalar.extui v315
  let c0_i32_170 : BitVec 32 := 0#32
  let v317 : BitVec 1 := Scalar.cmpi .slt arg25 c0_i32_170
  let v318 : BitVec 32 := Scalar.extui v317
  let v319 : BitVec 32 := Scalar.subi v316 v318
  let c4_i32 : BitVec 32 := 4#32
  let c0_i32_171 : BitVec 32 := 0#32
  let v320 : BitVec 1 := Scalar.cmpi .sgt c4_i32 c0_i32_171
  let v321 : BitVec 32 := Scalar.extui v320
  let c0_i32_172 : BitVec 32 := 0#32
  let v322 : BitVec 1 := Scalar.cmpi .slt c4_i32 c0_i32_172
  let v323 : BitVec 32 := Scalar.extui v322
  let v324 : BitVec 32 := Scalar.subi v321 v323
  let v325 : BitVec 1 := Scalar.cmpi .ne v319 v324
  let v326 : BitVec 32 := Scalar.remsi arg25 c4_i32
  let c0_i32_173 : BitVec 32 := 0#32
  let v327 : BitVec 1 := Scalar.cmpi .ne v326 c0_i32_173
  let v328 : BitVec 1 := Scalar.andi v325 v327
  let v314 : BitVec 32 := Scalar.divsi arg25 c4_i32
  let c1_i32_174 : BitVec 32 := 1#32
  let v329 : BitVec 32 := Scalar.subi v314 c1_i32_174
  let v330 : BitVec 32 := Scalar.select v328 v329 v314
  let v379 : BitVec 32 := Scalar.addi v378 v330
  let v624 : Index := Scalar.indexCast v379
  let c0_273 : Index := 0#32
  ![3, v624.toNat, 0]
def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_2 : BitVec 32 := 0#32
  let v11 : BitVec 1 := Scalar.cmpi .ne v10 c0_i32_2
  v11

@[reducible] def k0_t3_loop : Scf.Loop 32 :=
  let c0_i32_166 : BitVec 32 := 0#32
  let c16_i32 : BitVec 32 := 16#32
  let v313 : BitVec 32 := Scalar.addi c0_i32_166 c16_i32
  let c1_i32_167 : BitVec 32 := 1#32
  ⟨c0_i32_166, v313, c1_i32_167⟩
def k0_mult5 (k0_t3 : Fin k0_t3_loop.trips) : BitVec 32 :=
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  v341
def k0_off27 (k0_t3 : Fin k0_t3_loop.trips) : Fin 3 → Nat :=
  let c0_i32_166 : BitVec 32 := 0#32
  let c1_i32_167 : BitVec 32 := 1#32
  let arg25 : BitVec 32 := Scf.iv c0_i32_166 c1_i32_167 k0_t3
  let c16_i32_176 : BitVec 32 := 16#32
  let c0_i32_177 : BitVec 32 := 0#32
  let v331 : BitVec 1 := Scalar.cmpi .eq c16_i32_176 c0_i32_177
  let c1_i32_178 : BitVec 32 := 1#32
  let v332 : BitVec 32 := Scalar.select v331 c1_i32_178 c16_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_185 : BitVec 32 := 128#32
  let v347 : BitVec 32 := Scalar.muli v340 c128_i32_185
  let c1792_i32 : BitVec 32 := 1792#32
  let c0_i32_184 : BitVec 32 := 0#32
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c1792_i32 v345
  let v348 : BitVec 32 := Scalar.subi v347 v346
  let c0_i32_187 : BitVec 32 := 0#32
  let v350 : BitVec 1 := Scalar.cmpi .sgt v348 c0_i32_187
  let v351 : BitVec 32 := Scalar.extui v350
  let c0_i32_188 : BitVec 32 := 0#32
  let v352 : BitVec 1 := Scalar.cmpi .slt v348 c0_i32_188
  let v353 : BitVec 32 := Scalar.extui v352
  let v354 : BitVec 32 := Scalar.subi v351 v353
  let c64_i32_186 : BitVec 32 := 64#32
  let c0_i32_189 : BitVec 32 := 0#32
  let v355 : BitVec 1 := Scalar.cmpi .sgt c64_i32_186 c0_i32_189
  let v356 : BitVec 32 := Scalar.extui v355
  let c0_i32_190 : BitVec 32 := 0#32
  let v357 : BitVec 1 := Scalar.cmpi .slt c64_i32_186 c0_i32_190
  let v358 : BitVec 32 := Scalar.extui v357
  let v359 : BitVec 32 := Scalar.subi v356 v358
  let v360 : BitVec 1 := Scalar.cmpi .ne v354 v359
  let v361 : BitVec 32 := Scalar.remsi v348 c64_i32_186
  let c0_i32_191 : BitVec 32 := 0#32
  let v362 : BitVec 1 := Scalar.cmpi .ne v361 c0_i32_191
  let v363 : BitVec 1 := Scalar.andi v360 v362
  let v349 : BitVec 32 := Scalar.divsi v348 c64_i32_186
  let c1_i32_192 : BitVec 32 := 1#32
  let v364 : BitVec 32 := Scalar.subi v349 c1_i32_192
  let v365 : BitVec 32 := Scalar.select v363 v364 v349
  let v366 : Index := Scalar.indexCast v365
  let c0_193 : Index := 0#32
  let c0_194 : Index := 0#32
  ![v366.toNat, 0, 0]
def k0_mult6 (k0_t3 : Fin k0_t3_loop.trips) : BitVec 32 :=
  let c0_i32_166 : BitVec 32 := 0#32
  let c1_i32_167 : BitVec 32 := 1#32
  let arg25 : BitVec 32 := Scf.iv c0_i32_166 c1_i32_167 k0_t3
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c16_i32_169 : BitVec 32 := 16#32
  let c0_i32_172 : BitVec 32 := 0#32
  let v320 : BitVec 1 := Scalar.cmpi .sgt c16_i32_169 c0_i32_172
  let v321 : BitVec 32 := Scalar.extui v320
  let c0_i32_173 : BitVec 32 := 0#32
  let v322 : BitVec 1 := Scalar.cmpi .slt c16_i32_169 c0_i32_173
  let v323 : BitVec 32 := Scalar.extui v322
  let v324 : BitVec 32 := Scalar.subi v321 v323
  let v325 : BitVec 1 := Scalar.cmpi .ne v319 v324
  let v326 : BitVec 32 := Scalar.remsi arg25 c16_i32_169
  let c0_i32_174 : BitVec 32 := 0#32
  let v327 : BitVec 1 := Scalar.cmpi .ne v326 c0_i32_174
  let v328 : BitVec 1 := Scalar.andi v325 v327
  let v314 : BitVec 32 := Scalar.divsi arg25 c16_i32_169
  let c1_i32_175 : BitVec 32 := 1#32
  let v329 : BitVec 32 := Scalar.subi v314 c1_i32_175
  let v330 : BitVec 32 := Scalar.select v328 v329 v314
  let c2048_i32 : BitVec 32 := 2048#32
  let v374 : BitVec 32 := Scalar.muli v330 c2048_i32
  let c1792_i32 : BitVec 32 := 1792#32
  let c0_i32_184 : BitVec 32 := 0#32
  let c16_i32_176 : BitVec 32 := 16#32
  let c0_i32_177 : BitVec 32 := 0#32
  let v331 : BitVec 1 := Scalar.cmpi .eq c16_i32_176 c0_i32_177
  let c1_i32_178 : BitVec 32 := 1#32
  let v332 : BitVec 32 := Scalar.select v331 c1_i32_178 c16_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c1792_i32 v345
  let v375 : BitVec 32 := Scalar.addi v374 v346
  v375
def k0_off28 (k0_t3 : Fin k0_t3_loop.trips) : Fin 2 → Nat :=
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  let v342 : BitVec 32 := v341
  let v377 : Index := Scalar.indexCast v342
  let c0_197 : Index := 0#32
  ![v377.toNat, 0]
def k0_off29 (k0_t3 : Fin k0_t3_loop.trips) : Fin 2 → Nat :=
  let c0_i32_166 : BitVec 32 := 0#32
  let c1_i32_167 : BitVec 32 := 1#32
  let arg25 : BitVec 32 := Scf.iv c0_i32_166 c1_i32_167 k0_t3
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c16_i32_169 : BitVec 32 := 16#32
  let c0_i32_172 : BitVec 32 := 0#32
  let v320 : BitVec 1 := Scalar.cmpi .sgt c16_i32_169 c0_i32_172
  let v321 : BitVec 32 := Scalar.extui v320
  let c0_i32_173 : BitVec 32 := 0#32
  let v322 : BitVec 1 := Scalar.cmpi .slt c16_i32_169 c0_i32_173
  let v323 : BitVec 32 := Scalar.extui v322
  let v324 : BitVec 32 := Scalar.subi v321 v323
  let v325 : BitVec 1 := Scalar.cmpi .ne v319 v324
  let v326 : BitVec 32 := Scalar.remsi arg25 c16_i32_169
  let c0_i32_174 : BitVec 32 := 0#32
  let v327 : BitVec 1 := Scalar.cmpi .ne v326 c0_i32_174
  let v328 : BitVec 1 := Scalar.andi v325 v327
  let v314 : BitVec 32 := Scalar.divsi arg25 c16_i32_169
  let c1_i32_175 : BitVec 32 := 1#32
  let v329 : BitVec 32 := Scalar.subi v314 c1_i32_175
  let v330 : BitVec 32 := Scalar.select v328 v329 v314
  let c2048_i32 : BitVec 32 := 2048#32
  let v374 : BitVec 32 := Scalar.muli v330 c2048_i32
  let c1792_i32 : BitVec 32 := 1792#32
  let c0_i32_184 : BitVec 32 := 0#32
  let c16_i32_176 : BitVec 32 := 16#32
  let c0_i32_177 : BitVec 32 := 0#32
  let v331 : BitVec 1 := Scalar.cmpi .eq c16_i32_176 c0_i32_177
  let c1_i32_178 : BitVec 32 := 1#32
  let v332 : BitVec 32 := Scalar.select v331 c1_i32_178 c16_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c1792_i32 v345
  let v375 : BitVec 32 := Scalar.addi v374 v346
  let v376 : BitVec 32 := v375
  let v386 : Index := Scalar.indexCast v376
  let c0_202 : Index := 0#32
  ![v386.toNat, 0]
def k0_off30 (k0_t3 : Fin k0_t3_loop.trips) : Fin 3 → Nat :=
  let c0_208 : Index := 0#32
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  let v342 : BitVec 32 := v341
  let v414 : Index := Scalar.indexCast v342
  let c0_209 : Index := 0#32
  ![0, v414.toNat, 0]
def k0_off31 (k0_t3 : Fin k0_t3_loop.trips) : Fin 2 → Nat :=
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  let v342 : BitVec 32 := v341
  let v446 : Index := Scalar.indexCast v342
  let c128 : Index := 128#32
  ![v446.toNat, 128]
def k0_off32 (k0_t3 : Fin k0_t3_loop.trips) : Fin 2 → Nat :=
  let c0_i32_166 : BitVec 32 := 0#32
  let c1_i32_167 : BitVec 32 := 1#32
  let arg25 : BitVec 32 := Scf.iv c0_i32_166 c1_i32_167 k0_t3
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c16_i32_169 : BitVec 32 := 16#32
  let c0_i32_172 : BitVec 32 := 0#32
  let v320 : BitVec 1 := Scalar.cmpi .sgt c16_i32_169 c0_i32_172
  let v321 : BitVec 32 := Scalar.extui v320
  let c0_i32_173 : BitVec 32 := 0#32
  let v322 : BitVec 1 := Scalar.cmpi .slt c16_i32_169 c0_i32_173
  let v323 : BitVec 32 := Scalar.extui v322
  let v324 : BitVec 32 := Scalar.subi v321 v323
  let v325 : BitVec 1 := Scalar.cmpi .ne v319 v324
  let v326 : BitVec 32 := Scalar.remsi arg25 c16_i32_169
  let c0_i32_174 : BitVec 32 := 0#32
  let v327 : BitVec 1 := Scalar.cmpi .ne v326 c0_i32_174
  let v328 : BitVec 1 := Scalar.andi v325 v327
  let v314 : BitVec 32 := Scalar.divsi arg25 c16_i32_169
  let c1_i32_175 : BitVec 32 := 1#32
  let v329 : BitVec 32 := Scalar.subi v314 c1_i32_175
  let v330 : BitVec 32 := Scalar.select v328 v329 v314
  let c2048_i32 : BitVec 32 := 2048#32
  let v374 : BitVec 32 := Scalar.muli v330 c2048_i32
  let c1792_i32 : BitVec 32 := 1792#32
  let c0_i32_184 : BitVec 32 := 0#32
  let c16_i32_176 : BitVec 32 := 16#32
  let c0_i32_177 : BitVec 32 := 0#32
  let v331 : BitVec 1 := Scalar.cmpi .eq c16_i32_176 c0_i32_177
  let c1_i32_178 : BitVec 32 := 1#32
  let v332 : BitVec 32 := Scalar.select v331 c1_i32_178 c16_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c1792_i32 v345
  let v375 : BitVec 32 := Scalar.addi v374 v346
  let v376 : BitVec 32 := v375
  let v455 : Index := Scalar.indexCast v376
  let c128_223 : Index := 128#32
  ![v455.toNat, 128]
def k0_off33 (k0_t3 : Fin k0_t3_loop.trips) : Fin 3 → Nat :=
  let c1_229 : Index := 1#32
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  let v342 : BitVec 32 := v341
  let v483 : Index := Scalar.indexCast v342
  let c0_230 : Index := 0#32
  ![1, v483.toNat, 0]
def k0_off34 (k0_t3 : Fin k0_t3_loop.trips) : Fin 2 → Nat :=
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  let v342 : BitVec 32 := v341
  let v515 : Index := Scalar.indexCast v342
  let c256 : Index := 256#32
  ![v515.toNat, 256]
def k0_off35 (k0_t3 : Fin k0_t3_loop.trips) : Fin 2 → Nat :=
  let c0_i32_166 : BitVec 32 := 0#32
  let c1_i32_167 : BitVec 32 := 1#32
  let arg25 : BitVec 32 := Scf.iv c0_i32_166 c1_i32_167 k0_t3
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c16_i32_169 : BitVec 32 := 16#32
  let c0_i32_172 : BitVec 32 := 0#32
  let v320 : BitVec 1 := Scalar.cmpi .sgt c16_i32_169 c0_i32_172
  let v321 : BitVec 32 := Scalar.extui v320
  let c0_i32_173 : BitVec 32 := 0#32
  let v322 : BitVec 1 := Scalar.cmpi .slt c16_i32_169 c0_i32_173
  let v323 : BitVec 32 := Scalar.extui v322
  let v324 : BitVec 32 := Scalar.subi v321 v323
  let v325 : BitVec 1 := Scalar.cmpi .ne v319 v324
  let v326 : BitVec 32 := Scalar.remsi arg25 c16_i32_169
  let c0_i32_174 : BitVec 32 := 0#32
  let v327 : BitVec 1 := Scalar.cmpi .ne v326 c0_i32_174
  let v328 : BitVec 1 := Scalar.andi v325 v327
  let v314 : BitVec 32 := Scalar.divsi arg25 c16_i32_169
  let c1_i32_175 : BitVec 32 := 1#32
  let v329 : BitVec 32 := Scalar.subi v314 c1_i32_175
  let v330 : BitVec 32 := Scalar.select v328 v329 v314
  let c2048_i32 : BitVec 32 := 2048#32
  let v374 : BitVec 32 := Scalar.muli v330 c2048_i32
  let c1792_i32 : BitVec 32 := 1792#32
  let c0_i32_184 : BitVec 32 := 0#32
  let c16_i32_176 : BitVec 32 := 16#32
  let c0_i32_177 : BitVec 32 := 0#32
  let v331 : BitVec 1 := Scalar.cmpi .eq c16_i32_176 c0_i32_177
  let c1_i32_178 : BitVec 32 := 1#32
  let v332 : BitVec 32 := Scalar.select v331 c1_i32_178 c16_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c1792_i32 v345
  let v375 : BitVec 32 := Scalar.addi v374 v346
  let v376 : BitVec 32 := v375
  let v524 : Index := Scalar.indexCast v376
  let c256_244 : Index := 256#32
  ![v524.toNat, 256]
def k0_off36 (k0_t3 : Fin k0_t3_loop.trips) : Fin 3 → Nat :=
  let c2_250 : Index := 2#32
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  let v342 : BitVec 32 := v341
  let v552 : Index := Scalar.indexCast v342
  let c0_251 : Index := 0#32
  ![2, v552.toNat, 0]
def k0_off37 (k0_t3 : Fin k0_t3_loop.trips) : Fin 2 → Nat :=
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  let v342 : BitVec 32 := v341
  let v584 : Index := Scalar.indexCast v342
  let c384 : Index := 384#32
  ![v584.toNat, 384]
def k0_off38 (k0_t3 : Fin k0_t3_loop.trips) : Fin 2 → Nat :=
  let c0_i32_166 : BitVec 32 := 0#32
  let c1_i32_167 : BitVec 32 := 1#32
  let arg25 : BitVec 32 := Scf.iv c0_i32_166 c1_i32_167 k0_t3
  let c0_i32_170 : BitVec 32 := 0#32
  let v315 : BitVec 1 := Scalar.cmpi .sgt arg25 c0_i32_170
  let v316 : BitVec 32 := Scalar.extui v315
  let c0_i32_171 : BitVec 32 := 0#32
  let v317 : BitVec 1 := Scalar.cmpi .slt arg25 c0_i32_171
  let v318 : BitVec 32 := Scalar.extui v317
  let v319 : BitVec 32 := Scalar.subi v316 v318
  let c16_i32_169 : BitVec 32 := 16#32
  let c0_i32_172 : BitVec 32 := 0#32
  let v320 : BitVec 1 := Scalar.cmpi .sgt c16_i32_169 c0_i32_172
  let v321 : BitVec 32 := Scalar.extui v320
  let c0_i32_173 : BitVec 32 := 0#32
  let v322 : BitVec 1 := Scalar.cmpi .slt c16_i32_169 c0_i32_173
  let v323 : BitVec 32 := Scalar.extui v322
  let v324 : BitVec 32 := Scalar.subi v321 v323
  let v325 : BitVec 1 := Scalar.cmpi .ne v319 v324
  let v326 : BitVec 32 := Scalar.remsi arg25 c16_i32_169
  let c0_i32_174 : BitVec 32 := 0#32
  let v327 : BitVec 1 := Scalar.cmpi .ne v326 c0_i32_174
  let v328 : BitVec 1 := Scalar.andi v325 v327
  let v314 : BitVec 32 := Scalar.divsi arg25 c16_i32_169
  let c1_i32_175 : BitVec 32 := 1#32
  let v329 : BitVec 32 := Scalar.subi v314 c1_i32_175
  let v330 : BitVec 32 := Scalar.select v328 v329 v314
  let c2048_i32 : BitVec 32 := 2048#32
  let v374 : BitVec 32 := Scalar.muli v330 c2048_i32
  let c1792_i32 : BitVec 32 := 1792#32
  let c0_i32_184 : BitVec 32 := 0#32
  let c16_i32_176 : BitVec 32 := 16#32
  let c0_i32_177 : BitVec 32 := 0#32
  let v331 : BitVec 1 := Scalar.cmpi .eq c16_i32_176 c0_i32_177
  let c1_i32_178 : BitVec 32 := 1#32
  let v332 : BitVec 32 := Scalar.select v331 c1_i32_178 c16_i32_176
  let v333 : BitVec 32 := Scalar.remsi arg25 v332
  let c0_i32_180 : BitVec 32 := 0#32
  let v335 : BitVec 1 := Scalar.cmpi .slt v333 c0_i32_180
  let c0_i32_181 : BitVec 32 := 0#32
  let v336 : BitVec 1 := Scalar.cmpi .slt v332 c0_i32_181
  let v337 : BitVec 1 := Scalar.xori v335 v336
  let c0_i32_179 : BitVec 32 := 0#32
  let v334 : BitVec 1 := Scalar.cmpi .ne v333 c0_i32_179
  let v338 : BitVec 1 := Scalar.andi v337 v334
  let v339 : BitVec 32 := Scalar.addi v333 v332
  let v340 : BitVec 32 := Scalar.select v338 v339 v333
  let c128_i32_182 : BitVec 32 := 128#32
  let v343 : BitVec 32 := Scalar.muli v340 c128_i32_182
  let c64_i32_183 : BitVec 32 := 64#32
  let v344 : BitVec 32 := Scalar.subi v343 c64_i32_183
  let v345 : BitVec 32 := Scalar.maxsi c0_i32_184 v344
  let v346 : BitVec 32 := Scalar.minsi c1792_i32 v345
  let v375 : BitVec 32 := Scalar.addi v374 v346
  let v376 : BitVec 32 := v375
  let v593 : Index := Scalar.indexCast v376
  let c384_265 : Index := 384#32
  ![v593.toNat, 384]
def k0_off39 (k0_t3 : Fin k0_t3_loop.trips) : Fin 3 → Nat :=
  let c3_271 : Index := 3#32
  let c0_i32_166 : BitVec 32 := 0#32
  let c1_i32_167 : BitVec 32 := 1#32
  let arg25 : BitVec 32 := Scf.iv c0_i32_166 c1_i32_167 k0_t3
  let c128_i32 : BitVec 32 := 128#32
  let v341 : BitVec 32 := Scalar.muli arg25 c128_i32
  let v342 : BitVec 32 := v341
  let v621 : Index := Scalar.indexCast v342
  let c0_272 : Index := 0#32
  ![3, v621.toNat, 0]
def k0_cond4 (i : grid0.Coords) : BitVec 1 :=
  let arg1 : BitVec 32 := BitVec.ofNat 32 (i 1).val
  let c2_i32_3 : BitVec 32 := 2#32
  let v12 : BitVec 1 := Scalar.cmpi .eq arg1 c2_i32_3
  let v13 : BitVec 32 := Scalar.extui v12
  let c0_i32_4 : BitVec 32 := 0#32
  let v14 : BitVec 1 := Scalar.cmpi .ne v13 c0_i32_4
  v14

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c6_i32 : BitVec 32 := 6#32
  let v1 : BitVec 32 := Scalar.addi c6_i32 v0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c9_i32 : BitVec 32 := 9#32
  let v1 : BitVec 32 := Scalar.addi c9_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c12_i32 : BitVec 32 := 12#32
  let v1 : BitVec 32 := Scalar.addi c12_i32 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c6_i32 : BitVec 32 := 6#32
  let v1 : BitVec 32 := Scalar.addi c6_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c9_i32 : BitVec 32 := 9#32
  let v1 : BitVec 32 := Scalar.addi c9_i32 v0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c12_i32 : BitVec 32 := 12#32
  let v1 : BitVec 32 := Scalar.addi c12_i32 v0
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c15_i32 : BitVec 32 := 15#32
  let c0_i32_0 : BitVec 32 := 0#32
  ![c0_i32.toNat, c15_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c15_i32 : BitVec 32 := 15#32
  let c0_i32_0 : BitVec 32 := 0#32
  ![c0_i32.toNat, c15_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x256x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x2048x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== KernelIdeal.lean ====
variable {F : FTy → Type} [FloatOps F] [Named F]
def κ : String → Option EReal := fun
  | "masked" => some ⊥
  | _ => none
-- ==== ReferenceIdeal.lean ====
abbrev S16x2048x1024 : Shape := ⟨3, ![16, 2048, 1024]⟩
abbrev S1024x10240 : Shape := ⟨2, ![1024, 10240]⟩
abbrev S10240 : Shape := ⟨1, ![10240]⟩
abbrev S64 : Shape := ⟨1, ![64]⟩
abbrev S8 : Shape := ⟨1, ![8]⟩
abbrev S_ : Shape := ⟨0, ![]⟩
abbrev S1024x4608 : Shape := ⟨2, ![1024, 4608]⟩
abbrev S16x2048x4608 : Shape := ⟨3, ![16, 2048, 4608]⟩
abbrev S4608 : Shape := ⟨1, ![4608]⟩
abbrev S1x1x4608 : Shape := ⟨3, ![1, 1, 4608]⟩
abbrev S1024x512 : Shape := ⟨2, ![1024, 512]⟩
abbrev S16x2048x512 : Shape := ⟨3, ![16, 2048, 512]⟩
abbrev S512 : Shape := ⟨1, ![512]⟩
abbrev S1x1x512 : Shape := ⟨3, ![1, 1, 512]⟩
abbrev S16x2048x1536 : Shape := ⟨3, ![16, 2048, 1536]⟩
abbrev S16x2048x3x8x64 : Shape := ⟨5, ![16, 2048, 3, 8, 64]⟩
abbrev S16x2048x3x8 : Shape := ⟨4, ![16, 2048, 3, 8]⟩
abbrev S16x2048x3x8x1 : Shape := ⟨5, ![16, 2048, 3, 8, 1]⟩
abbrev S1x1x1x1x64 : Shape := ⟨5, ![1, 1, 1, 1, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2048x1x8x64 : Shape := ⟨5, ![16, 2048, 1, 8, 64]⟩
abbrev S16x2048x8x64 : Shape := ⟨4, ![16, 2048, 8, 64]⟩
abbrev S16x8x2048x2048 : Shape := ⟨4, ![16, 8, 2048, 2048]⟩
abbrev S1x8x1x1 : Shape := ⟨4, ![1, 8, 1, 1]⟩
abbrev S1x1x2048x2048 : Shape := ⟨4, ![1, 1, 2048, 2048]⟩
abbrev S1x8x2048x2048 : Shape := ⟨4, ![1, 8, 2048, 2048]⟩
abbrev S16x8x2048 : Shape := ⟨3, ![16, 8, 2048]⟩
abbrev S16x8x2048x1 : Shape := ⟨4, ![16, 8, 2048, 1]⟩
abbrev S16x8x2048x64 : Shape := ⟨4, ![16, 8, 2048, 64]⟩
abbrev S1x16x8x2048 : Shape := ⟨4, ![1, 16, 8, 2048]⟩
abbrev S3x16x8x2048 : Shape := ⟨4, ![3, 16, 8, 2048]⟩
abbrev S3x16x8x2048x1 : Shape := ⟨5, ![3, 16, 8, 2048, 1]⟩
abbrev S1x16x8x2048x64 : Shape := ⟨5, ![1, 16, 8, 2048, 64]⟩
abbrev S3x16x8x2048x64 : Shape := ⟨5, ![3, 16, 8, 2048, 64]⟩

abbrev nBuf : Space → Nat
  | .hbm => 317
  | .vmem => 0
  | .smem => 0
  | _ => 0

abbrev hbmTy0_0 (i : Nat) : BufTy := match i % 128 with
  | 0 => ⟨S16x2048x1024, .f32⟩
  | 1 => ⟨S1024x10240, .f32⟩
  | 2 => ⟨S10240, .f32⟩
  | 3 => ⟨S64, .f32⟩
  | 4 => ⟨S64, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S1024x4608, .f32⟩
  | 19 => ⟨S16x2048x4608, .f32⟩
  | 20 => ⟨S4608, .f32⟩
  | 21 => ⟨S1x1x4608, .f32⟩
  | 22 => ⟨S16x2048x4608, .f32⟩
  | 23 => ⟨S16x2048x4608, .f32⟩
  | 24 => ⟨S1024x512, .f32⟩
  | 25 => ⟨S16x2048x512, .f32⟩
  | 26 => ⟨S512, .f32⟩
  | 27 => ⟨S1x1x512, .f32⟩
  | 28 => ⟨S16x2048x512, .f32⟩
  | 29 => ⟨S16x2048x512, .f32⟩
  | 30 => ⟨S16x2048x1536, .f32⟩
  | 31 => ⟨S16x2048x1536, .f32⟩
  | 32 => ⟨S16x2048x1536, .f32⟩
  | 33 => ⟨S16x2048x3x8x64, .f32⟩
  | 34 => ⟨S16x2048x3x8x64, .f32⟩
  | 35 => ⟨S_, .f32⟩
  | 36 => ⟨S16x2048x3x8, .f32⟩
  | 37 => ⟨S16x2048x3x8x1, .f32⟩
  | 38 => ⟨S_, .f32⟩
  | 39 => ⟨S16x2048x3x8x1, .f32⟩
  | 40 => ⟨S16x2048x3x8x1, .f32⟩
  | 41 => ⟨S_, .f32⟩
  | 42 => ⟨S16x2048x3x8x1, .f32⟩
  | 43 => ⟨S16x2048x3x8x1, .f32⟩
  | 44 => ⟨S16x2048x3x8x1, .f32⟩
  | 45 => ⟨S16x2048x3x8x64, .f32⟩
  | 46 => ⟨S16x2048x3x8x64, .f32⟩
  | 47 => ⟨S1x1x1x1x64, .f32⟩
  | 48 => ⟨S16x2048x3x8x64, .f32⟩
  | 49 => ⟨S16x2048x3x8x64, .f32⟩
  | 50 => ⟨S16x2048x3x8x64, .f32⟩
  | 51 => ⟨S16x2048x3x8x64, .f32⟩
  | 52 => ⟨S_, .f32⟩
  | 53 => ⟨S16x2048x3x8, .f32⟩
  | 54 => ⟨S16x2048x3x8x1, .f32⟩
  | 55 => ⟨S_, .f32⟩
  | 56 => ⟨S16x2048x3x8x1, .f32⟩
  | 57 => ⟨S16x2048x3x8x1, .f32⟩
  | 58 => ⟨S_, .f32⟩
  | 59 => ⟨S16x2048x3x8x1, .f32⟩
  | 60 => ⟨S16x2048x3x8x1, .f32⟩
  | 61 => ⟨S16x2048x3x8x1, .f32⟩
  | 62 => ⟨S16x2048x3x8x64, .f32⟩
  | 63 => ⟨S16x2048x3x8x64, .f32⟩
  | 64 => ⟨S1x1x1x1x64, .f32⟩
  | 65 => ⟨S16x2048x3x8x64, .f32⟩
  | 66 => ⟨S16x2048x3x8x64, .f32⟩
  | 67 => ⟨S16x2048x3x8x64, .f32⟩
  | 68 => ⟨S2048, .i32⟩
  | 69 => ⟨S2048x1, .i32⟩
  | 70 => ⟨S2048, .i32⟩
  | 71 => ⟨S1x2048, .i32⟩
  | 72 => ⟨S2048x2048, .i32⟩
  | 73 => ⟨S2048x2048, .i32⟩
  | 74 => ⟨S2048x2048, .i32⟩
  | 75 => ⟨S2048x2048, .i32⟩
  | 76 => ⟨S_, .i32⟩
  | 77 => ⟨S2048x2048, .i32⟩
  | 78 => ⟨S2048x2048, .i1⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S2048x2048, .i32⟩
  | 86 => ⟨S2048x2048, .i32⟩
  | 87 => ⟨S_, .i32⟩
  | 88 => ⟨S2048x2048, .i32⟩
  | 89 => ⟨S2048x2048, .i1⟩
  | 90 => ⟨S_, .i32⟩
  | 91 => ⟨S2048x2048, .i32⟩
  | 92 => ⟨S2048x2048, .i1⟩
  | 93 => ⟨S_, .i32⟩
  | 94 => ⟨S_, .i1⟩
  | 95 => ⟨S2048x2048, .i1⟩
  | 96 => ⟨S2048x2048, .i1⟩
  | 97 => ⟨S2048x2048, .i1⟩
  | 98 => ⟨S2048x2048, .i32⟩
  | 99 => ⟨S2048x2048, .i32⟩
  | 100 => ⟨S2048x2048, .i32⟩
  | 101 => ⟨S_, .i32⟩
  | 102 => ⟨S2048x2048, .i32⟩
  | 103 => ⟨S2048x2048, .i1⟩
  | 104 => ⟨S2048x2048, .i1⟩
  | 105 => ⟨S16x2048x1x8x64, .f32⟩
  | 106 => ⟨S16x2048x8x64, .f32⟩
  | 107 => ⟨S16x2048x1x8x64, .f32⟩
  | 108 => ⟨S16x2048x8x64, .f32⟩
  | 109 => ⟨S16x8x2048x2048, .f32⟩
  | 110 => ⟨S_, .f32⟩
  | 111 => ⟨S16x8x2048x2048, .f32⟩
  | 112 => ⟨S16x8x2048x2048, .f32⟩
  | 113 => ⟨S1x8x1x1, .f32⟩
  | 114 => ⟨S2048x2048, .f32⟩
  | 115 => ⟨S1x1x2048x2048, .f32⟩
  | 116 => ⟨S1x8x2048x2048, .f32⟩
  | 117 => ⟨S1x8x2048x2048, .f32⟩
  | 118 => ⟨S1x8x2048x2048, .f32⟩
  | 119 => ⟨S16x8x2048x2048, .f32⟩
  | 120 => ⟨S16x8x2048x2048, .f32⟩
  | 121 => ⟨S1x1x2048x2048, .i1⟩
  | 122 => ⟨S_, .f32⟩
  | 123 => ⟨S_, .f32⟩
  | 124 => ⟨S16x8x2048x2048, .i1⟩
  | 125 => ⟨S16x8x2048x2048, .f32⟩
  | 126 => ⟨S16x8x2048x2048, .f32⟩
  | 127 => ⟨S_, .f32⟩
  | _ => ⟨S16x2048x1024, .f32⟩

abbrev hbmTy0_1 (i : Nat) : BufTy := match i % 128 with
  | 0 => ⟨S16x8x2048, .f32⟩
  | 1 => ⟨S16x8x2048x1, .f32⟩
  | 2 => ⟨S16x8x2048x2048, .f32⟩
  | 3 => ⟨S16x8x2048x2048, .f32⟩
  | 4 => ⟨S16x8x2048x2048, .f32⟩
  | 5 => ⟨S_, .f32⟩
  | 6 => ⟨S16x8x2048, .f32⟩
  | 7 => ⟨S16x2048x1x8x64, .f32⟩
  | 8 => ⟨S16x2048x8x64, .f32⟩
  | 9 => ⟨S16x8x2048x64, .f32⟩
  | 10 => ⟨S16x8x2048x1, .f32⟩
  | 11 => ⟨S16x8x2048x64, .f32⟩
  | 12 => ⟨S16x8x2048x64, .f32⟩
  | 13 => ⟨S16x8x2048, .f32⟩
  | 14 => ⟨S16x8x2048, .f32⟩
  | 15 => ⟨S_, .i32⟩
  | 16 => ⟨S2048x2048, .i32⟩
  | 17 => ⟨S2048x2048, .i1⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S_, .i32⟩
  | 30 => ⟨S2048x2048, .i32⟩
  | 31 => ⟨S2048x2048, .i1⟩
  | 32 => ⟨S_, .i32⟩
  | 33 => ⟨S_, .i1⟩
  | 34 => ⟨S2048x2048, .i1⟩
  | 35 => ⟨S2048x2048, .i1⟩
  | 36 => ⟨S2048x2048, .i1⟩
  | 37 => ⟨S2048x2048, .i32⟩
  | 38 => ⟨S2048x2048, .i32⟩
  | 39 => ⟨S2048x2048, .i32⟩
  | 40 => ⟨S_, .i32⟩
  | 41 => ⟨S2048x2048, .i32⟩
  | 42 => ⟨S2048x2048, .i1⟩
  | 43 => ⟨S2048x2048, .i1⟩
  | 44 => ⟨S16x2048x1x8x64, .f32⟩
  | 45 => ⟨S16x2048x8x64, .f32⟩
  | 46 => ⟨S16x2048x1x8x64, .f32⟩
  | 47 => ⟨S16x2048x8x64, .f32⟩
  | 48 => ⟨S16x8x2048x2048, .f32⟩
  | 49 => ⟨S_, .f32⟩
  | 50 => ⟨S16x8x2048x2048, .f32⟩
  | 51 => ⟨S16x8x2048x2048, .f32⟩
  | 52 => ⟨S1x8x1x1, .f32⟩
  | 53 => ⟨S2048x2048, .f32⟩
  | 54 => ⟨S1x1x2048x2048, .f32⟩
  | 55 => ⟨S1x8x2048x2048, .f32⟩
  | 56 => ⟨S1x8x2048x2048, .f32⟩
  | 57 => ⟨S1x8x2048x2048, .f32⟩
  | 58 => ⟨S16x8x2048x2048, .f32⟩
  | 59 => ⟨S16x8x2048x2048, .f32⟩
  | 60 => ⟨S1x1x2048x2048, .i1⟩
  | 61 => ⟨S_, .f32⟩
  | 62 => ⟨S_, .f32⟩
  | 63 => ⟨S16x8x2048x2048, .i1⟩
  | 64 => ⟨S16x8x2048x2048, .f32⟩
  | 65 => ⟨S16x8x2048x2048, .f32⟩
  | 66 => ⟨S_, .f32⟩
  | 67 => ⟨S16x8x2048, .f32⟩
  | 68 => ⟨S16x8x2048x1, .f32⟩
  | 69 => ⟨S16x8x2048x2048, .f32⟩
  | 70 => ⟨S16x8x2048x2048, .f32⟩
  | 71 => ⟨S16x8x2048x2048, .f32⟩
  | 72 => ⟨S_, .f32⟩
  | 73 => ⟨S16x8x2048, .f32⟩
  | 74 => ⟨S16x2048x1x8x64, .f32⟩
  | 75 => ⟨S16x2048x8x64, .f32⟩
  | 76 => ⟨S16x8x2048x64, .f32⟩
  | 77 => ⟨S16x8x2048x1, .f32⟩
  | 78 => ⟨S16x8x2048x64, .f32⟩
  | 79 => ⟨S16x8x2048x64, .f32⟩
  | 80 => ⟨S16x8x2048, .f32⟩
  | 81 => ⟨S16x8x2048, .f32⟩
  | 82 => ⟨S_, .i32⟩
  | 83 => ⟨S2048x2048, .i32⟩
  | 84 => ⟨S2048x2048, .i1⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S2048x2048, .i32⟩
  | 92 => ⟨S2048x2048, .i32⟩
  | 93 => ⟨S_, .i32⟩
  | 94 => ⟨S2048x2048, .i32⟩
  | 95 => ⟨S2048x2048, .i1⟩
  | 96 => ⟨S_, .i32⟩
  | 97 => ⟨S2048x2048, .i32⟩
  | 98 => ⟨S2048x2048, .i1⟩
  | 99 => ⟨S_, .i32⟩
  | 100 => ⟨S_, .i1⟩
  | 101 => ⟨S2048x2048, .i1⟩
  | 102 => ⟨S2048x2048, .i1⟩
  | 103 => ⟨S2048x2048, .i1⟩
  | 104 => ⟨S2048x2048, .i32⟩
  | 105 => ⟨S2048x2048, .i32⟩
  | 106 => ⟨S2048x2048, .i32⟩
  | 107 => ⟨S_, .i32⟩
  | 108 => ⟨S2048x2048, .i32⟩
  | 109 => ⟨S2048x2048, .i1⟩
  | 110 => ⟨S2048x2048, .i1⟩
  | 111 => ⟨S16x2048x1x8x64, .f32⟩
  | 112 => ⟨S16x2048x8x64, .f32⟩
  | 113 => ⟨S16x2048x1x8x64, .f32⟩
  | 114 => ⟨S16x2048x8x64, .f32⟩
  | 115 => ⟨S16x8x2048x2048, .f32⟩
  | 116 => ⟨S_, .f32⟩
  | 117 => ⟨S16x8x2048x2048, .f32⟩
  | 118 => ⟨S16x8x2048x2048, .f32⟩
  | 119 => ⟨S1x8x1x1, .f32⟩
  | 120 => ⟨S2048x2048, .f32⟩
  | 121 => ⟨S1x1x2048x2048, .f32⟩
  | 122 => ⟨S1x8x2048x2048, .f32⟩
  | 123 => ⟨S1x8x2048x2048, .f32⟩
  | 124 => ⟨S1x8x2048x2048, .f32⟩
  | 125 => ⟨S16x8x2048x2048, .f32⟩
  | 126 => ⟨S16x8x2048x2048, .f32⟩
  | 127 => ⟨S1x1x2048x2048, .i1⟩
  | _ => ⟨S16x2048x1024, .f32⟩

abbrev hbmTy0_2 (i : Nat) : BufTy := match i % 128 with
  | 0 => ⟨S_, .f32⟩
  | 1 => ⟨S_, .f32⟩
  | 2 => ⟨S16x8x2048x2048, .i1⟩
  | 3 => ⟨S16x8x2048x2048, .f32⟩
  | 4 => ⟨S16x8x2048x2048, .f32⟩
  | 5 => ⟨S_, .f32⟩
  | 6 => ⟨S16x8x2048, .f32⟩
  | 7 => ⟨S16x8x2048x1, .f32⟩
  | 8 => ⟨S16x8x2048x2048, .f32⟩
  | 9 => ⟨S16x8x2048x2048, .f32⟩
  | 10 => ⟨S16x8x2048x2048, .f32⟩
  | 11 => ⟨S_, .f32⟩
  | 12 => ⟨S16x8x2048, .f32⟩
  | 13 => ⟨S16x2048x1x8x64, .f32⟩
  | 14 => ⟨S16x2048x8x64, .f32⟩
  | 15 => ⟨S16x8x2048x64, .f32⟩
  | 16 => ⟨S16x8x2048x1, .f32⟩
  | 17 => ⟨S16x8x2048x64, .f32⟩
  | 18 => ⟨S16x8x2048x64, .f32⟩
  | 19 => ⟨S16x8x2048, .f32⟩
  | 20 => ⟨S16x8x2048, .f32⟩
  | 21 => ⟨S1x16x8x2048, .f32⟩
  | 22 => ⟨S1x16x8x2048, .f32⟩
  | 23 => ⟨S1x16x8x2048, .f32⟩
  | 24 => ⟨S3x16x8x2048, .f32⟩
  | 25 => ⟨S_, .f32⟩
  | 26 => ⟨S16x8x2048, .f32⟩
  | 27 => ⟨S_, .f32⟩
  | 28 => ⟨S16x8x2048, .f32⟩
  | 29 => ⟨S16x8x2048, .f32⟩
  | 30 => ⟨S1x16x8x2048, .f32⟩
  | 31 => ⟨S3x16x8x2048, .f32⟩
  | 32 => ⟨S3x16x8x2048, .f32⟩
  | 33 => ⟨S3x16x8x2048, .f32⟩
  | 34 => ⟨S_, .f32⟩
  | 35 => ⟨S16x8x2048, .f32⟩
  | 36 => ⟨S1x16x8x2048, .f32⟩
  | 37 => ⟨S3x16x8x2048, .f32⟩
  | 38 => ⟨S3x16x8x2048, .f32⟩
  | 39 => ⟨S3x16x8x2048x1, .f32⟩
  | 40 => ⟨S1x16x8x2048x64, .f32⟩
  | 41 => ⟨S1x16x8x2048x64, .f32⟩
  | 42 => ⟨S1x16x8x2048x64, .f32⟩
  | 43 => ⟨S3x16x8x2048x64, .f32⟩
  | 44 => ⟨S3x16x8x2048x64, .f32⟩
  | 45 => ⟨S3x16x8x2048x64, .f32⟩
  | 46 => ⟨S_, .f32⟩
  | 47 => ⟨S16x8x2048x64, .f32⟩
  | 48 => ⟨S16x2048x8x64, .f32⟩
  | 49 => ⟨S16x2048x512, .f32⟩
  | 50 => ⟨S16x2048x512, .f32⟩
  | 51 => ⟨S16x2048x512, .f32⟩
  | 52 => ⟨S_, .f32⟩
  | 53 => ⟨S16x2048x512, .f32⟩
  | 54 => ⟨S16x2048x512, .f32⟩
  | 55 => ⟨S_, .f32⟩
  | 56 => ⟨S16x2048x512, .f32⟩
  | 57 => ⟨S16x2048x512, .f32⟩
  | 58 => ⟨S16x2048x512, .f32⟩
  | 59 => ⟨S16x2048x512, .f32⟩
  | 60 => ⟨S16x2048x512, .bf16⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_c_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_1 : Ref sig .tc := ⟨.hbm, 87, rfl⟩
abbrev main_call0_v5 : Ref sig .tc := ⟨.hbm, 88, rfl⟩
abbrev main_call0_v6 : Ref sig .tc := ⟨.hbm, 89, rfl⟩
abbrev main_call0_c_2 : Ref sig .tc := ⟨.hbm, 90, rfl⟩
abbrev main_call0_v7 : Ref sig .tc := ⟨.hbm, 91, rfl⟩
abbrev main_call0_v8 : Ref sig .tc := ⟨.hbm, 92, rfl⟩
abbrev main_call0_c_3 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_v12 : Ref sig .tc := ⟨.hbm, 97, rfl⟩
abbrev main_call0_v13 : Ref sig .tc := ⟨.hbm, 98, rfl⟩
abbrev main_call0_v14 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_11 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_12 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v83 : Ref sig .tc := ⟨.hbm, 126, rfl⟩
abbrev main_cst_13 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_14 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_15 : Ref sig .tc := ⟨.hbm, 143, rfl⟩
abbrev main_v98 : Ref sig .tc := ⟨.hbm, 144, rfl⟩
abbrev main_v99 : Ref sig .tc := ⟨.hbm, 145, rfl⟩
abbrev main_c_16 : Ref sig .tc := ⟨.hbm, 146, rfl⟩
abbrev main_call2_v0 : Ref sig .tc := ⟨.hbm, 147, rfl⟩
abbrev main_call2_c : Ref sig .tc := ⟨.hbm, 148, rfl⟩
abbrev main_call2_v1 : Ref sig .tc := ⟨.hbm, 149, rfl⟩
abbrev main_call2_c_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_c_1 : Ref sig .tc := ⟨.hbm, 154, rfl⟩
abbrev main_call2_v5 : Ref sig .tc := ⟨.hbm, 155, rfl⟩
abbrev main_call2_v6 : Ref sig .tc := ⟨.hbm, 156, rfl⟩
abbrev main_call2_c_2 : Ref sig .tc := ⟨.hbm, 157, rfl⟩
abbrev main_call2_v7 : Ref sig .tc := ⟨.hbm, 158, rfl⟩
abbrev main_call2_v8 : Ref sig .tc := ⟨.hbm, 159, rfl⟩
abbrev main_call2_c_3 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_v12 : Ref sig .tc := ⟨.hbm, 164, rfl⟩
abbrev main_call2_v13 : Ref sig .tc := ⟨.hbm, 165, rfl⟩
abbrev main_call2_v14 : Ref sig .tc := ⟨.hbm, 166, rfl⟩
abbrev main_v100 : Ref sig .tc := ⟨.hbm, 167, rfl⟩
abbrev main_c_17 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_18 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_cst_19 : Ref sig .tc := ⟨.hbm, 189, rfl⟩
abbrev main_call3_v0 : Ref sig .tc := ⟨.hbm, 190, rfl⟩
abbrev main_call3_v1 : Ref sig .tc := ⟨.hbm, 191, rfl⟩
abbrev main_call3_v2 : Ref sig .tc := ⟨.hbm, 192, rfl⟩
abbrev main_v120 : Ref sig .tc := ⟨.hbm, 193, rfl⟩
abbrev main_cst_20 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_cst_21 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_c_22 : Ref sig .tc := ⟨.hbm, 210, rfl⟩
abbrev main_v135 : Ref sig .tc := ⟨.hbm, 211, rfl⟩
abbrev main_v136 : Ref sig .tc := ⟨.hbm, 212, rfl⟩
abbrev main_c_23 : Ref sig .tc := ⟨.hbm, 213, rfl⟩
abbrev main_call4_v0 : Ref sig .tc := ⟨.hbm, 214, rfl⟩
abbrev main_call4_c : Ref sig .tc := ⟨.hbm, 215, rfl⟩
abbrev main_call4_v1 : Ref sig .tc := ⟨.hbm, 216, rfl⟩
abbrev main_call4_c_0 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_call4_c_1 : Ref sig .tc := ⟨.hbm, 221, rfl⟩
abbrev main_call4_v5 : Ref sig .tc := ⟨.hbm, 222, rfl⟩
abbrev main_call4_v6 : Ref sig .tc := ⟨.hbm, 223, rfl⟩
abbrev main_call4_c_2 : Ref sig .tc := ⟨.hbm, 224, rfl⟩
abbrev main_call4_v7 : Ref sig .tc := ⟨.hbm, 225, rfl⟩
abbrev main_call4_v8 : Ref sig .tc := ⟨.hbm, 226, rfl⟩
abbrev main_call4_c_3 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_v12 : Ref sig .tc := ⟨.hbm, 231, rfl⟩
abbrev main_call4_v13 : Ref sig .tc := ⟨.hbm, 232, rfl⟩
abbrev main_call4_v14 : Ref sig .tc := ⟨.hbm, 233, rfl⟩
abbrev main_v137 : Ref sig .tc := ⟨.hbm, 234, rfl⟩
abbrev main_c_24 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_cst_25 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_cst_26 : Ref sig .tc := ⟨.hbm, 256, rfl⟩
abbrev main_call5_v0 : Ref sig .tc := ⟨.hbm, 257, rfl⟩
abbrev main_call5_v1 : Ref sig .tc := ⟨.hbm, 258, rfl⟩
abbrev main_call5_v2 : Ref sig .tc := ⟨.hbm, 259, rfl⟩
abbrev main_v157 : Ref sig .tc := ⟨.hbm, 260, rfl⟩
abbrev main_cst_27 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_cst_28 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_cst_29 : Ref sig .tc := ⟨.hbm, 281, rfl⟩
abbrev main_v176 : Ref sig .tc := ⟨.hbm, 282, rfl⟩
abbrev main_cst_30 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_cst_31 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_cst_32 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_call6_v0 : Ref sig .tc := ⟨.hbm, 306, rfl⟩
abbrev main_call6_v1 : Ref sig .tc := ⟨.hbm, 307, rfl⟩
abbrev main_call6_cst : Ref sig .tc := ⟨.hbm, 308, rfl⟩
abbrev main_call6_v2 : Ref sig .tc := ⟨.hbm, 309, rfl⟩
abbrev main_call6_v3 : Ref sig .tc := ⟨.hbm, 310, rfl⟩
abbrev main_call6_cst_0 : Ref sig .tc := ⟨.hbm, 311, rfl⟩
abbrev main_call6_v4 : Ref sig .tc := ⟨.hbm, 312, rfl⟩
abbrev main_call6_v5 : Ref sig .tc := ⟨.hbm, 313, rfl⟩
abbrev main_v197 : Ref sig .tc := ⟨.hbm, 314, rfl⟩
abbrev main_v198 : Ref sig .tc := ⟨.hbm, 315, rfl⟩
abbrev main_v199 : Ref sig .tc := ⟨.hbm, 316, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x768 : Shape := ⟨3, ![16, 2048, 768]⟩
abbrev S16x2048x512 : Shape := ⟨3, ![16, 2048, 512]⟩
abbrev S1024x10240 : Shape := ⟨2, ![1024, 10240]⟩
abbrev S10240 : Shape := ⟨1, ![10240]⟩
abbrev S768x1024 : Shape := ⟨2, ![768, 1024]⟩
abbrev S512x1024 : Shape := ⟨2, ![512, 1024]⟩
abbrev S1024x1024 : Shape := ⟨2, ![1024, 1024]⟩
abbrev S16x128x16x1024 : Shape := ⟨4, ![16, 128, 16, 1024]⟩
abbrev S16x16x128x1024 : Shape := ⟨4, ![16, 16, 128, 1024]⟩
abbrev S16x512x4x1024 : Shape := ⟨4, ![16, 512, 4, 1024]⟩
abbrev S16x4x512x1024 : Shape := ⟨4, ![16, 4, 512, 1024]⟩
abbrev S16x2048x1x1024 : Shape := ⟨4, ![16, 2048, 1, 1024]⟩
abbrev S16x1x2048x1024 : Shape := ⟨4, ![16, 1, 2048, 1024]⟩
abbrev S1x16x2048x1024 : Shape := ⟨4, ![1, 16, 2048, 1024]⟩
abbrev S3x16x2048x1024 : Shape := ⟨4, ![3, 16, 2048, 1024]⟩
abbrev S32768x1024 : Shape := ⟨2, ![32768, 1024]⟩
abbrev S3x32768x1024 : Shape := ⟨3, ![3, 32768, 1024]⟩
abbrev S32768x768 : Shape := ⟨2, ![32768, 768]⟩
abbrev S32768x512 : Shape := ⟨2, ![32768, 512]⟩
abbrev S1x10240 : Shape := ⟨2, ![1, 10240]⟩
abbrev S1x512x1024 : Shape := ⟨3, ![1, 512, 1024]⟩
abbrev S512x768 : Shape := ⟨2, ![512, 768]⟩
abbrev S512x512 : Shape := ⟨2, ![512, 512]⟩
abbrev S1024x2048 : Shape := ⟨2, ![1024, 2048]⟩
abbrev S1x2048 : Shape := ⟨2, ![1, 2048]⟩
abbrev S512x2048 : Shape := ⟨2, ![512, 2048]⟩

abbrev nBuf : Space → Nat
  | .hbm => 31
  | .vmem => 19
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x768, .f32⟩
  | .hbm, ⟨3, _⟩ => ⟨S16x2048x512, .f32⟩
  | .hbm, ⟨4, _⟩ => ⟨S1024x10240, .f32⟩
  | .hbm, ⟨5, _⟩ => ⟨S10240, .f32⟩
  | .hbm, ⟨6, _⟩ => ⟨S768x1024, .f32⟩
  | .hbm, ⟨7, _⟩ => ⟨S512x1024, .f32⟩
  | .hbm, ⟨8, _⟩ => ⟨S1024x1024, .f32⟩
  | .hbm, ⟨9, _⟩ => ⟨S16x128x16x1024, .f32⟩
  | .hbm, ⟨10, _⟩ => ⟨S16x16x128x1024, .f32⟩
  | .hbm, ⟨11, _⟩ => ⟨S16x2048x1024, .f32⟩
  | .hbm, ⟨12, _⟩ => ⟨S16x512x4x1024, .f32⟩
  | .hbm, ⟨13, _⟩ => ⟨S16x4x512x1024, .f32⟩
  | .hbm, ⟨14, _⟩ => ⟨S16x2048x1024, .f32⟩
  | .hbm, ⟨15, _⟩ => ⟨S16x2048x1x1024, .f32⟩
  | .hbm, ⟨16, _⟩ => ⟨S16x1x2048x1024, .f32⟩
  | .hbm, ⟨17, _⟩ => ⟨S16x2048x1024, .f32⟩
  | .hbm, ⟨18, _⟩ => ⟨S1x16x2048x1024, .f32⟩
  | .hbm, ⟨19, _⟩ => ⟨S1x16x2048x1024, .f32⟩
  | .hbm, ⟨20, _⟩ => ⟨S1x16x2048x1024, .f32⟩
  | .hbm, ⟨21, _⟩ => ⟨S3x16x2048x1024, .f32⟩
  | .hbm, ⟨22, _⟩ => ⟨S3x16x2048x1024, .bf16⟩
  | .hbm, ⟨23, _⟩ => ⟨S32768x1024, .f32⟩
  | .hbm, ⟨24, _⟩ => ⟨S3x32768x1024, .bf16⟩
  | .hbm, ⟨25, _⟩ => ⟨S16x2048x768, .bf16⟩
  | .hbm, ⟨26, _⟩ => ⟨S32768x768, .bf16⟩
  | .hbm, ⟨27, _⟩ => ⟨S16x2048x512, .bf16⟩
  | .hbm, ⟨28, _⟩ => ⟨S32768x512, .bf16⟩
  | .hbm, ⟨29, _⟩ => ⟨S1x10240, .f32⟩
  | .hbm, ⟨30, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S512x768, .bf16⟩
  | .local _ .vmem, ⟨5, _⟩ => ⟨S512x768, .bf16⟩
  | .local _ .vmem, ⟨6, _⟩ => ⟨S512x512, .bf16⟩
  | .local _ .vmem, ⟨7, _⟩ => ⟨S512x512, .bf16⟩
  | .local _ .vmem, ⟨8, _⟩ => ⟨S1024x2048, .f32⟩
  | .local _ .vmem, ⟨9, _⟩ => ⟨S1x2048, .f32⟩
  | .local _ .vmem, ⟨10, _⟩ => ⟨S768x1024, .f32⟩
  | .local _ .vmem, ⟨11, _⟩ => ⟨S512x1024, .f32⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | .local _ .vmem, ⟨15, _⟩ => ⟨S1024x2048, .bf16⟩
  | .local _ .vmem, ⟨16, _⟩ => ⟨S768x1024, .bf16⟩
  | .local _ .vmem, ⟨17, _⟩ => ⟨S512x1024, .bf16⟩
  | .local _ .vmem, ⟨18, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S16x2048x1024 : Shape := ⟨3, ![16, 2048, 1024]⟩
abbrev S16x2048x768 : Shape := ⟨3, ![16, 2048, 768]⟩
abbrev S16x2048x512 : Shape := ⟨3, ![16, 2048, 512]⟩
abbrev S1024x10240 : Shape := ⟨2, ![1024, 10240]⟩
abbrev S10240 : Shape := ⟨1, ![10240]⟩
abbrev S768x1024 : Shape := ⟨2, ![768, 1024]⟩
abbrev S512x1024 : Shape := ⟨2, ![512, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x768, .f32⟩
  | .hbm, ⟨3, _⟩ => ⟨S16x2048x512, .f32⟩
  | .hbm, ⟨4, _⟩ => ⟨S1024x10240, .f32⟩
  | .hbm, ⟨5, _⟩ => ⟨S10240, .f32⟩
  | .hbm, ⟨6, _⟩ => ⟨S768x1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S16x2048x1024, .f32⟩
  | .hbm, ⟨11, _⟩ => ⟨S1024, .f32⟩
  | .hbm, ⟨12, _⟩ => ⟨S1x1x1024, .f32⟩
  | .hbm, ⟨13, _⟩ => ⟨S16x2048x1024, .f32⟩
  | .hbm, ⟨14, _⟩ => ⟨S16x2048x1024, .f32⟩
  | .hbm, ⟨15, _⟩ => ⟨S1024x1024, .f32⟩
  | .hbm, ⟨16, _⟩ => ⟨S16x2048x1024, .f32⟩
  | .hbm, ⟨17, _⟩ => ⟨S1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.KernelIdealLoops.lean ====
/- The kernel's three loops over the tiles of a group, each by its invariant: what the accumulators hold before a trip. -/
module

public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- A memref held whole at given contents. -/
abbrev pt {sp : Space} {S : Shape} {e : EltTy} (M : Memref sig .tc sp S e) (c : Dev nD) (f : BufTy.Contents (Elt F) M.view.ty) : sProp 𝕄 :=
  M.view.loc (c : Thread nD τ) ↦[M.view.set]{fullShare} f

/-! Where a tile of the strided groups lies, in closed form. -/

theorem off4_eq : ∀ k : Fin k0_t1_loop.trips, k0_off4 k = ![0, k.val, 0] := by decide +kernel
instance off4_closed (k : Fin k0_t1_loop.trips) : ClosedOff (k0_off4 k) := ⟨![0, k.val, 0], off4_eq k⟩
theorem off7_eq : ∀ k : Fin k0_t1_loop.trips, k0_off7 k = ![1, k.val, 0] := by decide +kernel
instance off7_closed (k : Fin k0_t1_loop.trips) : ClosedOff (k0_off7 k) := ⟨![1, k.val, 0], off7_eq k⟩
theorem off10_eq : ∀ k : Fin k0_t1_loop.trips, k0_off10 k = ![2, k.val, 0] := by decide +kernel
instance off10_closed (k : Fin k0_t1_loop.trips) : ClosedOff (k0_off10 k) := ⟨![2, k.val, 0], off10_eq k⟩
theorem off13_eq : ∀ k : Fin k0_t1_loop.trips, k0_off13 k = ![3, k.val, 0] := by decide +kernel
instance off13_closed (k : Fin k0_t1_loop.trips) : ClosedOff (k0_off13 k) := ⟨![3, k.val, 0], off13_eq k⟩

/-! Where a tile of the strided groups lies, in closed form. -/

theorem off17_eq : ∀ k : Fin k0_t2_loop.trips, k0_off17 k = ![0, 512 * (k.val % 4) + k.val / 4, 0] := by decide +kernel
instance off17_closed (k : Fin k0_t2_loop.trips) : ClosedOff (k0_off17 k) := ⟨![0, 512 * (k.val % 4) + k.val / 4, 0], off17_eq k⟩
theorem off20_eq : ∀ k : Fin k0_t2_loop.trips, k0_off20 k = ![1, 512 * (k.val % 4) + k.val / 4, 0] := by decide +kernel
instance off20_closed (k : Fin k0_t2_loop.trips) : ClosedOff (k0_off20 k) := ⟨![1, 512 * (k.val % 4) + k.val / 4, 0], off20_eq k⟩
theorem off23_eq : ∀ k : Fin k0_t2_loop.trips, k0_off23 k = ![2, 512 * (k.val % 4) + k.val / 4, 0] := by decide +kernel
instance off23_closed (k : Fin k0_t2_loop.trips) : ClosedOff (k0_off23 k) := ⟨![2, 512 * (k.val % 4) + k.val / 4, 0], off23_eq k⟩
theorem off26_eq : ∀ k : Fin k0_t2_loop.trips, k0_off26 k = ![3, 512 * (k.val % 4) + k.val / 4, 0] := by decide +kernel
instance off26_closed (k : Fin k0_t2_loop.trips) : ClosedOff (k0_off26 k) := ⟨![3, 512 * (k.val % 4) + k.val / 4, 0], off26_eq k⟩

variable {c : Dev nD} {i : grid0.Coords}
  {arg2 : Memref sig .tc .vmem S1x1x2048x1024 .bf16} {harg2 : arg2.IsWhole}
  {arg3 : Memref sig .tc .vmem S1024x512 .f32} {harg3 : arg3.IsWhole}
  {arg4 : Memref sig .tc .vmem S1024x512 .f32} {harg4 : arg4.IsWhole}
  {arg5 : Memref sig .tc .vmem S1024x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x512 .f32} {harg9 : arg9.IsWhole}
  {arg10 : Memref sig .tc .vmem S1x512 .f32} {harg10 : arg10.IsWhole}
  {arg11 : Memref sig .tc .vmem S1x512 .f32} {harg11 : arg11.IsWhole}
  {arg12 : Memref sig .tc .vmem S1x512 .f32} {harg12 : arg12.IsWhole}
  {arg13 : Memref sig .tc .vmem S256x256 .bf16} {harg13 : arg13.IsWhole}
  {arg14 : Memref sig .tc .vmem S4x256x128 .bf16} {harg14 : arg14.IsWhole}
  {arg15 : Memref sig .tc .vmem S3x256x128 .bf16} {harg15 : arg15.IsWhole}
  {arg16 : Memref sig .tc .vmem S3x256x128 .bf16} {harg16 : arg16.IsWhole}
  {arg17 : Memref sig .tc .vmem S1x128x128 .bf16} {harg17 : arg17.IsWhole}
  {arg18 : Memref sig .tc .vmem S1x2048x512 .bf16} {harg18 : arg18.IsWhole}
  {arg19 : Memref sig .tc .vmem S2048x512 .bf16} {harg19 : arg19.IsWhole}
  {arg20 : Memref sig .tc .vmem S2048x512 .bf16} {harg20 : arg20.IsWhole}
  {arg21 : Memref sig .tc .vmem S2048x512 .bf16} {harg21 : arg21.IsWhole}
  {arg22 : Memref sig .tc .vmem S4x2048x128 .f32} {harg22 : arg22.IsWhole}
  {arg23 : Memref sig .tc .vmem S4x2048x128 .f32} {harg23 : arg23.IsWhole}
  {arg24 : Memref sig .tc .vmem S4x2048x128 .f32} {harg24 : arg24.IsWhole}

/-- One trip: the pieces it writes into the three accumulators, from what it finds there. -/
@[irreducible] def trip1 (k0_h1 : k0_cond1 i = 1#1) (k0 k1 : BitVec 32) (X14 : BufTy.Contents (Elt F) arg14.view.ty) (X17 : BufTy.Contents (Elt F) arg17.view.ty) (X19 : BufTy.Contents (Elt F) arg19.view.ty) (X20 : BufTy.Contents (Elt F) arg20.view.ty) (X21 : BufTy.Contents (Elt F) arg21.view.ty) (k : Fin k0_t1_loop.trips) :
    Σ' (L22 : BufTy.Contents (Elt F) arg22.view.ty → BufTy.Contents (Elt F) arg23.view.ty → BufTy.Contents (Elt F) arg24.view.ty → List (View.Piece (Elt F) S4x2048x128 .f32)) (L23 : BufTy.Contents (Elt F) arg22.view.ty → BufTy.Contents (Elt F) arg23.view.ty → BufTy.Contents (Elt F) arg24.view.ty → List (View.Piece (Elt F) S4x2048x128 .f32)), { L24 : BufTy.Contents (Elt F) arg22.view.ty → BufTy.Contents (Elt F) arg23.view.ty → BufTy.Contents (Elt F) arg24.view.ty → List (View.Piece (Elt F) S4x2048x128 .f32) //
      ∀ f22 f23 f24, iprop(pt arg14 c X14 ∗ pt arg17 c X17 ∗ pt arg19 c X19 ∗ pt arg20 c X20 ∗ pt arg21 c X21 ∗ pt arg22 c f22 ∗ pt arg23 c f23 ∗ pt arg24 c f24)
        ⊢ wp frame (wpE (defs₀ (F := F)) Variants.none (c : Thread nD τ) none) Set.univ
            (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h1 k0 k1 k PUnit.unit)
            (fun _ => iprop(pt arg14 c X14 ∗ pt arg17 c X17 ∗ pt arg19 c X19 ∗ pt arg20 c X20 ∗ pt arg21 c X21 ∗ pt arg22 c (arg22.view.writes (Elt F) f22 (L22 f22 f23 f24)) ∗ pt arg23 c (arg23.view.writes (Elt F) f23 (L23 f22 f23 f24)) ∗ pt arg24 c (arg24.view.writes (Elt F) f24 (L24 f22 f23 f24)))) } := by
  have hk : k.val < 16 := Nat.lt_of_lt_of_le k.isLt k0_t1_abs.2.1
  refine ⟨?_, ?_, ?_, fun f22 f23 f24 => ?run⟩
  case run =>
    unfold k0_t1_body
    iintro ⟨H14, HT, H19, H20, H21, H22, H23, H24⟩
    sl_exec
    sl_step
    sl_close

/-- What the three accumulators hold before trip `k` of the loop, from what they hold at its entry. -/
def st1 (k0_h1 : k0_cond1 i = 1#1) (k0 k1 : BitVec 32) (X14 : BufTy.Contents (Elt F) arg14.view.ty) (X17 : BufTy.Contents (Elt F) arg17.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) : ℕ → BufTy.Contents (Elt F) arg22.view.ty × BufTy.Contents (Elt F) arg23.view.ty × BufTy.Contents (Elt F) arg24.view.ty
  | 0 => (G22, G23, G24)
  | k + 1 =>
    if hk : k < k0_t1_loop.trips then
      let s := st1 k0_h1 k0 k1 X14 X17 X19 X20 X21 G22 G23 G24 k
      (arg22.view.writes (Elt F) s.1 ((trip1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 ⟨k, hk⟩).1 s.1 s.2.1 s.2.2),
       arg23.view.writes (Elt F) s.2.1 ((trip1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 ⟨k, hk⟩).2.1 s.1 s.2.1 s.2.2),
       arg24.view.writes (Elt F) s.2.2 ((trip1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 ⟨k, hk⟩).2.2.1 s.1 s.2.1 s.2.2))
    else (G22, G23, G24)

theorem st1_succ (k0_h1 : k0_cond1 i = 1#1) (k0 k1 : BitVec 32) (X14 : BufTy.Contents (Elt F) arg14.view.ty) (X17 : BufTy.Contents (Elt F) arg17.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) (k : Fin k0_t1_loop.trips) :
    st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 (k.val + 1)
      = (arg22.view.writes (Elt F) (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).1 ((trip1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 k).1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).2.1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).2.2),
         arg23.view.writes (Elt F) (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).2.1 ((trip1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 k).2.1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).2.1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).2.2),
         arg24.view.writes (Elt F) (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).2.2 ((trip1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 k).2.2.1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).2.1 (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k.val).2.2)) := by
  rw [st1.eq_2, dif_pos k.isLt]

/-- The loop: the tables, queries, keys and values stay as they are, and before trip `k` the accumulators are at `st1 … k`. -/
@[sl_loop] def loop1 (k0_h1 : k0_cond1 i = 1#1) (k0 k1 : BitVec 32) (X14 : BufTy.Contents (Elt F) arg14.view.ty) (X17 : BufTy.Contents (Elt F) arg17.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) :
    LoopInv (M := 𝕄) Idealize.ShloMosaic.frame (wpE (defs₀ (F := F)) Variants.none (c : Thread nD τ) none) Set.univ
      k0_t1_loop.lb k0_t1_loop.ub k0_t1_loop.st (k0_t1_ok i k0_h1) ()
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h1 k0 k1) where
  inv k _ := iprop(pt arg14 c X14 ∗ pt arg17 c X17 ∗ pt arg19 c X19 ∗ pt arg20 c X20 ∗ pt arg21 c X21
    ∗ (∃ f, pt arg22 c f ∗ ⌜f = (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k).1⌝)
    ∗ (∃ f, pt arg23 c f ∗ ⌜f = (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k).2.1⌝)
    ∗ (∃ f, pt arg24 c f ∗ ⌜f = (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 G22 G23 G24 k).2.2⌝))
  step k _ := by
    iintro ⟨HR14, HRT, HR19, HR20, HR21, ⟨%f22, HW22, %h22⟩, ⟨%f23, HW23, %h23⟩, ⟨%f24, HW24, %h24⟩⟩
    subst h22 h23 h24
    iapply (wp_wand_r Idealize.ShloMosaic.frame (wpE (defs₀ (F := F)) Variants.none (c : Thread nD τ) none) Set.univ)
    isplitl [HR14 HRT HR19 HR20 HR21 HW22 HW23 HW24]
    · iapply ((trip1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0 k1 X14 X17 X19 X20 X21 k).2.2.2 _ _ _)
      isplitl [HR14]; · iexact HR14
      isplitl [HRT]; · iexact HRT
      isplitl [HR19]; · iexact HR19
      isplitl [HR20]; · iexact HR20
      isplitl [HR21]; · iexact HR21
      isplitl [HW22]; · iexact HW22
      isplitl [HW23]; · iexact HW23
      iexact HW24
    · iintro %_ ⟨HR14, HRT, HR19, HR20, HR21, HW22, HW23, HW24⟩
      rw [st1_succ]
      isplitl [HR14]; · iexact HR14
      isplitl [HRT]; · iexact HRT
      isplitl [HR19]; · iexact HR19
      isplitl [HR20]; · iexact HR20
      isplitl [HR21]; · iexact HR21
      isplitl [HW22]; · iexists _; isplitl [HW22]; · iexact HW22
                        ipureintro; rfl
      isplitl [HW23]; · iexists _; isplitl [HW23]; · iexact HW23
                        ipureintro; rfl
      iexists _; isplitl [HW24]; · iexact HW24
      ipureintro; rfl

/-- One trip: the pieces it writes into the three accumulators, from what it finds there. -/
@[irreducible] def trip2 (k0_h2 : k0_cond2 i = 1#1) (k0 k1 : BitVec 32) (X14 : BufTy.Contents (Elt F) arg14.view.ty) (X16 : BufTy.Contents (Elt F) arg16.view.ty) (X19 : BufTy.Contents (Elt F) arg19.view.ty) (X20 : BufTy.Contents (Elt F) arg20.view.ty) (X21 : BufTy.Contents (Elt F) arg21.view.ty) (k : Fin k0_t2_loop.trips) :
    Σ' (L22 : BufTy.Contents (Elt F) arg22.view.ty → BufTy.Contents (Elt F) arg23.view.ty → BufTy.Contents (Elt F) arg24.view.ty → List (View.Piece (Elt F) S4x2048x128 .f32)) (L23 : BufTy.Contents (Elt F) arg22.view.ty → BufTy.Contents (Elt F) arg23.view.ty → BufTy.Contents (Elt F) arg24.view.ty → List (View.Piece (Elt F) S4x2048x128 .f32)), { L24 : BufTy.Contents (Elt F) arg22.view.ty → BufTy.Contents (Elt F) arg23.view.ty → BufTy.Contents (Elt F) arg24.view.ty → List (View.Piece (Elt F) S4x2048x128 .f32) //
      ∀ f22 f23 f24, iprop(pt arg14 c X14 ∗ pt arg16 c X16 ∗ pt arg19 c X19 ∗ pt arg20 c X20 ∗ pt arg21 c X21 ∗ pt arg22 c f22 ∗ pt arg23 c f23 ∗ pt arg24 c f24)
        ⊢ wp frame (wpE (defs₀ (F := F)) Variants.none (c : Thread nD τ) none) Set.univ
            (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h2 k0 k1 k PUnit.unit)
            (fun _ => iprop(pt arg14 c X14 ∗ pt arg16 c X16 ∗ pt arg19 c X19 ∗ pt arg20 c X20 ∗ pt arg21 c X21 ∗ pt arg22 c (arg22.view.writes (Elt F) f22 (L22 f22 f23 f24)) ∗ pt arg23 c (arg23.view.writes (Elt F) f23 (L23 f22 f23 f24)) ∗ pt arg24 c (arg24.view.writes (Elt F) f24 (L24 f22 f23 f24)))) } := by
  have hk : k.val < 16 := Nat.lt_of_lt_of_le k.isLt k0_t2_abs.2.1
  refine ⟨?_, ?_, ?_, fun f22 f23 f24 => ?run⟩
  case run =>
    unfold k0_t2_body
    iintro ⟨H14, HT, H19, H20, H21, H22, H23, H24⟩
    sl_exec
    sl_step
    sl_close

/-- What the three accumulators hold before trip `k` of the loop, from what they hold at its entry. -/
def st2 (k0_h2 : k0_cond2 i = 1#1) (k0 k1 : BitVec 32) (X14 : BufTy.Contents (Elt F) arg14.view.ty) (X16 : BufTy.Contents (Elt F) arg16.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) : ℕ → BufTy.Contents (Elt F) arg22.view.ty × BufTy.Contents (Elt F) arg23.view.ty × BufTy.Contents (Elt F) arg24.view.ty
  | 0 => (G22, G23, G24)
  | k + 1 =>
    if hk : k < k0_t2_loop.trips then
      let s := st2 k0_h2 k0 k1 X14 X16 X19 X20 X21 G22 G23 G24 k
      (arg22.view.writes (Elt F) s.1 ((trip2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 ⟨k, hk⟩).1 s.1 s.2.1 s.2.2),
       arg23.view.writes (Elt F) s.2.1 ((trip2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 ⟨k, hk⟩).2.1 s.1 s.2.1 s.2.2),
       arg24.view.writes (Elt F) s.2.2 ((trip2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 ⟨k, hk⟩).2.2.1 s.1 s.2.1 s.2.2))
    else (G22, G23, G24)

theorem st2_succ (k0_h2 : k0_cond2 i = 1#1) (k0 k1 : BitVec 32) (X14 : BufTy.Contents (Elt F) arg14.view.ty) (X16 : BufTy.Contents (Elt F) arg16.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) (k : Fin k0_t2_loop.trips) :
    st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 (k.val + 1)
      = (arg22.view.writes (Elt F) (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).1 ((trip2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 k).1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).2.1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).2.2),
         arg23.view.writes (Elt F) (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).2.1 ((trip2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 k).2.1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).2.1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).2.2),
         arg24.view.writes (Elt F) (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).2.2 ((trip2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 k).2.2.1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).2.1 (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k.val).2.2)) := by
  rw [st2.eq_2, dif_pos k.isLt]

/-- The loop: the tables, queries, keys and values stay as they are, and before trip `k` the accumulators are at `st2 … k`. -/
@[sl_loop] def loop2 (k0_h2 : k0_cond2 i = 1#1) (k0 k1 : BitVec 32) (X14 : BufTy.Contents (Elt F) arg14.view.ty) (X16 : BufTy.Contents (Elt F) arg16.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) :
    LoopInv (M := 𝕄) Idealize.ShloMosaic.frame (wpE (defs₀ (F := F)) Variants.none (c : Thread nD τ) none) Set.univ
      k0_t2_loop.lb k0_t2_loop.ub k0_t2_loop.st (k0_t2_ok i k0_h2) ()
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h2 k0 k1) where
  inv k _ := iprop(pt arg14 c X14 ∗ pt arg16 c X16 ∗ pt arg19 c X19 ∗ pt arg20 c X20 ∗ pt arg21 c X21
    ∗ (∃ f, pt arg22 c f ∗ ⌜f = (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k).1⌝)
    ∗ (∃ f, pt arg23 c f ∗ ⌜f = (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k).2.1⌝)
    ∗ (∃ f, pt arg24 c f ∗ ⌜f = (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 G22 G23 G24 k).2.2⌝))
  step k _ := by
    iintro ⟨HR14, HRT, HR19, HR20, HR21, ⟨%f22, HW22, %h22⟩, ⟨%f23, HW23, %h23⟩, ⟨%f24, HW24, %h24⟩⟩
    subst h22 h23 h24
    iapply (wp_wand_r Idealize.ShloMosaic.frame (wpE (defs₀ (F := F)) Variants.none (c : Thread nD τ) none) Set.univ)
    isplitl [HR14 HRT HR19 HR20 HR21 HW22 HW23 HW24]
    · iapply ((trip2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 k0 k1 X14 X16 X19 X20 X21 k).2.2.2 _ _ _)
      isplitl [HR14]; · iexact HR14
      isplitl [HRT]; · iexact HRT
      isplitl [HR19]; · iexact HR19
      isplitl [HR20]; · iexact HR20
      isplitl [HR21]; · iexact HR21
      isplitl [HW22]; · iexact HW22
      isplitl [HW23]; · iexact HW23
      iexact HW24
    · iintro %_ ⟨HR14, HRT, HR19, HR20, HR21, HW22, HW23, HW24⟩
      rw [st2_succ]
      isplitl [HR14]; · iexact HR14
      isplitl [HRT]; · iexact HRT
      isplitl [HR19]; · iexact HR19
      isplitl [HR20]; · iexact HR20
      isplitl [HR21]; · iexact HR21
      isplitl [HW22]; · iexists _; isplitl [HW22]; · iexact HW22
                        ipureintro; rfl
      isplitl [HW23]; · iexists _; isplitl [HW23]; · iexact HW23
                        ipureintro; rfl
      iexists _; isplitl [HW24]; · iexact HW24
      ipureintro; rfl

/-- One trip: the pieces it writes into the three accumulators, from what it finds there. -/
@[irreducible] def trip3 (k0_h3 : k0_cond3 i = 1#1) (k0 k1 : BitVec 32) (X14 : BufTy.Contents (Elt F) arg14.view.ty) (X15 : BufTy.Contents (Elt F) arg15.view.ty) (X19 : BufTy.Contents (Elt F) arg19.view.ty) (X20 : BufTy.Contents (Elt F) arg20.view.ty) (X21 : BufTy.Contents (Elt F) arg21.view.ty) (k : Fin k0_t3_loop.trips) :
    Σ' (L22 : BufTy.Contents (Elt F) arg22.view.ty → BufTy.Contents (Elt F) arg23.view.ty → BufTy.Contents (Elt F) arg24.view.ty → List (View.Piece (Elt F) S4x2048x128 .f32)) (L23 : BufTy.Contents (Elt F) arg22.view.ty → BufTy.Contents (Elt F) arg23.view.ty → BufTy.Contents (Elt F) arg24.view.ty → List (View.Piece (Elt F) S4x2048x128 .f32)), { L24 : BufTy.Contents (Elt F) arg22.view.ty → BufTy.Contents (Elt F) arg23.view.ty → BufTy.Contents (Elt F) arg24.view.ty → List (View.Piece (Elt F) S4x2048x128 .f32) //
      ∀ f22 f23 f24, iprop(pt arg14 c X14 ∗ pt arg15 c X15 ∗ pt arg19 c X19 ∗ pt arg20 c X20 ∗ pt arg21 c X21 ∗ pt arg22 c f22 ∗ pt arg23 c f23 ∗ pt arg24 c f24)
        ⊢ wp frame (wpE (defs₀ (F := F)) Variants.none (c : Thread nD τ) none) Set.univ
            (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h3 k0 k1 k PUnit.unit)
            (fun _ => iprop(pt arg14 c X14 ∗ pt arg15 c X15 ∗ pt arg19 c X19 ∗ pt arg20 c X20 ∗ pt arg21 c X21 ∗ pt arg22 c (arg22.view.writes (Elt F) f22 (L22 f22 f23 f24)) ∗ pt arg23 c (arg23.view.writes (Elt F) f23 (L23 f22 f23 f24)) ∗ pt arg24 c (arg24.view.writes (Elt F) f24 (L24 f22 f23 f24)))) } := by
  have hk : k.val < 16 := Nat.lt_of_lt_of_le k.isLt k0_t3_abs.2.1
  refine ⟨?_, ?_, ?_, fun f22 f23 f24 => ?run⟩
  case run =>
    unfold k0_t3_body
    iintro ⟨H14, HT, H19, H20, H21, H22, H23, H24⟩
    sl_exec
    sl_step
    sl_close

/-- What the three accumulators hold before trip `k` of the loop, from what they hold at its entry. -/
def st3 (k0_h3 : k0_cond3 i = 1#1) (k0 k1 : BitVec 32) (X14 : BufTy.Contents (Elt F) arg14.view.ty) (X15 : BufTy.Contents (Elt F) arg15.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) : ℕ → BufTy.Contents (Elt F) arg22.view.ty × BufTy.Contents (Elt F) arg23.view.ty × BufTy.Contents (Elt F) arg24.view.ty
  | 0 => (G22, G23, G24)
  | k + 1 =>
    if hk : k < k0_t3_loop.trips then
      let s := st3 k0_h3 k0 k1 X14 X15 X19 X20 X21 G22 G23 G24 k
      (arg22.view.writes (Elt F) s.1 ((trip3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 ⟨k, hk⟩).1 s.1 s.2.1 s.2.2),
       arg23.view.writes (Elt F) s.2.1 ((trip3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 ⟨k, hk⟩).2.1 s.1 s.2.1 s.2.2),
       arg24.view.writes (Elt F) s.2.2 ((trip3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 ⟨k, hk⟩).2.2.1 s.1 s.2.1 s.2.2))
    else (G22, G23, G24)

theorem st3_succ (k0_h3 : k0_cond3 i = 1#1) (k0 k1 : BitVec 32) (X14 : BufTy.Contents (Elt F) arg14.view.ty) (X15 : BufTy.Contents (Elt F) arg15.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) (k : Fin k0_t3_loop.trips) :
    st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 (k.val + 1)
      = (arg22.view.writes (Elt F) (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).1 ((trip3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 k).1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).2.1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).2.2),
         arg23.view.writes (Elt F) (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).2.1 ((trip3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 k).2.1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).2.1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).2.2),
         arg24.view.writes (Elt F) (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).2.2 ((trip3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 k).2.2.1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).2.1 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k.val).2.2)) := by
  rw [st3.eq_2, dif_pos k.isLt]

/-- The loop: the tables, queries, keys and values stay as they are, and before trip `k` the accumulators are at `st3 … k`. -/
@[sl_loop] def loop3 (k0_h3 : k0_cond3 i = 1#1) (k0 k1 : BitVec 32) (X14 : BufTy.Contents (Elt F) arg14.view.ty) (X15 : BufTy.Contents (Elt F) arg15.view.ty) (X19 : BufTy.Contents (Elt F) arg19.view.ty) (X20 : BufTy.Contents (Elt F) arg20.view.ty) (X21 : BufTy.Contents (Elt F) arg21.view.ty) (G22 : BufTy.Contents (Elt F) arg22.view.ty) (G23 : BufTy.Contents (Elt F) arg23.view.ty) (G24 : BufTy.Contents (Elt F) arg24.view.ty) :
    LoopInv (M := 𝕄) Idealize.ShloMosaic.frame (wpE (defs₀ (F := F)) Variants.none (c : Thread nD τ) none) Set.univ
      k0_t3_loop.lb k0_t3_loop.ub k0_t3_loop.st (k0_t3_ok i k0_h3) ()
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h3 k0 k1) where
  inv k _ := iprop(pt arg14 c X14 ∗ pt arg15 c X15 ∗ pt arg19 c X19 ∗ pt arg20 c X20 ∗ pt arg21 c X21
    ∗ (∃ f, pt arg22 c f ∗ ⌜f = (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k).1⌝)
    ∗ (∃ f, pt arg23 c f ∗ ⌜f = (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k).2.1⌝)
    ∗ (∃ f, pt arg24 c f ∗ ⌜f = (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 G22 G23 G24 k).2.2⌝))
  step k _ := by
    iintro ⟨HR14, HRT, HR19, HR20, HR21, ⟨%f22, HW22, %h22⟩, ⟨%f23, HW23, %h23⟩, ⟨%f24, HW24, %h24⟩⟩
    subst h22 h23 h24
    iapply (wp_wand_r Idealize.ShloMosaic.frame (wpE (defs₀ (F := F)) Variants.none (c : Thread nD τ) none) Set.univ)
    isplitl [HR14 HRT HR19 HR20 HR21 HW22 HW23 HW24]
    · iapply ((trip3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 k0 k1 X14 X15 X19 X20 X21 k).2.2.2 _ _ _)
      isplitl [HR14]; · iexact HR14
      isplitl [HRT]; · iexact HRT
      isplitl [HR19]; · iexact HR19
      isplitl [HR20]; · iexact HR20
      isplitl [HR21]; · iexact HR21
      isplitl [HW22]; · iexact HW22
      isplitl [HW23]; · iexact HW23
      iexact HW24
    · iintro %_ ⟨HR14, HRT, HR19, HR20, HR21, HW22, HW23, HW24⟩
      rw [st3_succ]
      isplitl [HR14]; · iexact HR14
      isplitl [HRT]; · iexact HRT
      isplitl [HR19]; · iexact HR19
      isplitl [HR20]; · iexact HR20
      isplitl [HR21]; · iexact HR21
      isplitl [HW22]; · iexists _; isplitl [HW22]; · iexact HW22
                        ipureintro; rfl
      isplitl [HW23]; · iexists _; isplitl [HW23]; · iexact HW23
                        ipureintro; rfl
      iexists _; isplitl [HW24]; · iexact HW24
      ipureintro; rfl

end Cert.Proof.KernelIdeal

end
-- ==== Proof.KernelIdealRuns.lean ====
/- The kernel's body at each of the three grid steps of a batch row, as one run. -/
module

public import proofs.«01_k».proof.Proof.KernelIdealLoops
public import Idealize.ShloMosaic.Lib.Pipeline.FrameBody
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable {c : Dev nD} {i : grid0.Coords}
  {arg2 : Memref sig .tc .vmem S1x1x2048x1024 .bf16} {harg2 : arg2.IsWhole}
  {arg3 : Memref sig .tc .vmem S1024x512 .f32} {harg3 : arg3.IsWhole}
  {arg4 : Memref sig .tc .vmem S1024x512 .f32} {harg4 : arg4.IsWhole}
  {arg5 : Memref sig .tc .vmem S1024x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x512 .f32} {harg9 : arg9.IsWhole}
  {arg10 : Memref sig .tc .vmem S1x512 .f32} {harg10 : arg10.IsWhole}
  {arg11 : Memref sig .tc .vmem S1x512 .f32} {harg11 : arg11.IsWhole}
  {arg12 : Memref sig .tc .vmem S1x512 .f32} {harg12 : arg12.IsWhole}
  {arg13 : Memref sig .tc .vmem S256x256 .bf16} {harg13 : arg13.IsWhole}
  {arg14 : Memref sig .tc .vmem S4x256x128 .bf16} {harg14 : arg14.IsWhole}
  {arg15 : Memref sig .tc .vmem S3x256x128 .bf16} {harg15 : arg15.IsWhole}
  {arg16 : Memref sig .tc .vmem S3x256x128 .bf16} {harg16 : arg16.IsWhole}
  {arg17 : Memref sig .tc .vmem S1x128x128 .bf16} {harg17 : arg17.IsWhole}
  {arg18 : Memref sig .tc .vmem S1x2048x512 .bf16} {harg18 : arg18.IsWhole}
  {arg19 : Memref sig .tc .vmem S2048x512 .bf16} {harg19 : arg19.IsWhole}
  {arg20 : Memref sig .tc .vmem S2048x512 .bf16} {harg20 : arg20.IsWhole}
  {arg21 : Memref sig .tc .vmem S2048x512 .bf16} {harg21 : arg21.IsWhole}
  {arg22 : Memref sig .tc .vmem S4x2048x128 .f32} {harg22 : arg22.IsWhole}
  {arg23 : Memref sig .tc .vmem S4x2048x128 .f32} {harg23 : arg23.IsWhole}
  {arg24 : Memref sig .tc .vmem S4x2048x128 .f32} {harg24 : arg24.IsWhole}

def run1 (k0_h1 : k0_cond1 i = 1#1) (k0_h2 : ¬ k0_cond2 i = 1#1) (k0_h3 : ¬ k0_cond3 i = 1#1) (k0_h4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) (X17 : BufTy.Contents (Elt F) arg17.view.ty) :
    Σ' (L19 : List (View.Piece (Elt F) S2048x512 .bf16)) (L20 : List (View.Piece (Elt F) S2048x512 .bf16)), { L21 : List (View.Piece (Elt F) S2048x512 .bf16) //
      ∀ f19 f20 f21 G22 G23 G24, iprop(pt arg2 c X2 ∗ pt arg3 c X3 ∗ pt arg4 c X4 ∗ pt arg5 c X5 ∗ pt arg6 c X6 ∗ pt arg7 c X7 ∗ pt arg8 c X8 ∗ pt arg11 c X11 ∗ pt arg12 c X12 ∗ pt arg13 c X13 ∗ pt arg14 c X14 ∗ pt arg17 c X17 ∗ pt arg19 c f19 ∗ pt arg20 c f20 ∗ pt arg21 c f21 ∗ pt arg22 c G22 ∗ pt arg23 c G23 ∗ pt arg24 c G24)
        ⊢ wp frame (wpE (defs₀ (F := F)) Variants.none (c : Thread nD τ) none) Set.univ
            (cc0_dilated_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
            (fun _ => iprop(pt arg2 c X2 ∗ pt arg3 c X3 ∗ pt arg4 c X4 ∗ pt arg5 c X5 ∗ pt arg6 c X6 ∗ pt arg7 c X7 ∗ pt arg8 c X8 ∗ pt arg11 c X11 ∗ pt arg12 c X12 ∗ pt arg13 c X13 ∗ pt arg14 c X14 ∗ pt arg17 c X17 ∗ pt arg19 c (arg19.view.writes (Elt F) arg19.view.junk L19) ∗ pt arg20 c (arg20.view.writes (Elt F) arg20.view.junk L20) ∗ pt arg21 c (arg21.view.writes (Elt F) arg21.view.junk L21) ∗ pt arg22 c (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 0#32 1#32 X14 X17 (arg19.view.writes (Elt F) arg19.view.junk L19) (arg20.view.writes (Elt F) arg20.view.junk L20) (arg21.view.writes (Elt F) arg21.view.junk L21) G22 G23 G24 k0_t1_loop.trips).1 ∗ pt arg23 c (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 0#32 1#32 X14 X17 (arg19.view.writes (Elt F) arg19.view.junk L19) (arg20.view.writes (Elt F) arg20.view.junk L20) (arg21.view.writes (Elt F) arg21.view.junk L21) G22 G23 G24 k0_t1_loop.trips).2.1 ∗ pt arg24 c (st1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 0#32 1#32 X14 X17 (arg19.view.writes (Elt F) arg19.view.junk L19) (arg20.view.writes (Elt F) arg20.view.junk L20) (arg21.view.writes (Elt F) arg21.view.junk L21) G22 G23 G24 k0_t1_loop.trips).2.2)) } := by
  refine ⟨?_, ?_, ?_, fun f19 f20 f21 G22 G23 G24 => ?run⟩
  case run =>
    simp only [cc0_dilated_attention_eq_skeleton]; unfold cc0_dilated_attention_skel
    iintro ⟨H2, H3, H4, H5, H6, H7, H8, H11, H12, H13, H14, H17, H19, H20, H21, H22, H23, H24⟩
    sl_exec
    sl_step
    sl_close

def run2 (k0_h1 : ¬ k0_cond1 i = 1#1) (k0_h2 : k0_cond2 i = 1#1) (k0_h3 : ¬ k0_cond3 i = 1#1) (k0_h4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) (X16 : BufTy.Contents (Elt F) arg16.view.ty) :
    Σ' (L19 : List (View.Piece (Elt F) S2048x512 .bf16)) (L20 : List (View.Piece (Elt F) S2048x512 .bf16)), { L21 : List (View.Piece (Elt F) S2048x512 .bf16) //
      ∀ f19 f20 f21 G22 G23 G24, iprop(pt arg2 c X2 ∗ pt arg3 c X3 ∗ pt arg4 c X4 ∗ pt arg5 c X5 ∗ pt arg6 c X6 ∗ pt arg7 c X7 ∗ pt arg8 c X8 ∗ pt arg11 c X11 ∗ pt arg12 c X12 ∗ pt arg13 c X13 ∗ pt arg14 c X14 ∗ pt arg16 c X16 ∗ pt arg19 c f19 ∗ pt arg20 c f20 ∗ pt arg21 c f21 ∗ pt arg22 c G22 ∗ pt arg23 c G23 ∗ pt arg24 c G24)
        ⊢ wp frame (wpE (defs₀ (F := F)) Variants.none (c : Thread nD τ) none) Set.univ
            (cc0_dilated_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
            (fun _ => iprop(pt arg2 c X2 ∗ pt arg3 c X3 ∗ pt arg4 c X4 ∗ pt arg5 c X5 ∗ pt arg6 c X6 ∗ pt arg7 c X7 ∗ pt arg8 c X8 ∗ pt arg11 c X11 ∗ pt arg12 c X12 ∗ pt arg13 c X13 ∗ pt arg14 c X14 ∗ pt arg16 c X16 ∗ pt arg19 c (arg19.view.writes (Elt F) arg19.view.junk L19) ∗ pt arg20 c (arg20.view.writes (Elt F) arg20.view.junk L20) ∗ pt arg21 c (arg21.view.writes (Elt F) arg21.view.junk L21) ∗ pt arg22 c (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 0#32 1#32 X14 X16 (arg19.view.writes (Elt F) arg19.view.junk L19) (arg20.view.writes (Elt F) arg20.view.junk L20) (arg21.view.writes (Elt F) arg21.view.junk L21) G22 G23 G24 k0_t2_loop.trips).1 ∗ pt arg23 c (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 0#32 1#32 X14 X16 (arg19.view.writes (Elt F) arg19.view.junk L19) (arg20.view.writes (Elt F) arg20.view.junk L20) (arg21.view.writes (Elt F) arg21.view.junk L21) G22 G23 G24 k0_t2_loop.trips).2.1 ∗ pt arg24 c (st2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h2 0#32 1#32 X14 X16 (arg19.view.writes (Elt F) arg19.view.junk L19) (arg20.view.writes (Elt F) arg20.view.junk L20) (arg21.view.writes (Elt F) arg21.view.junk L21) G22 G23 G24 k0_t2_loop.trips).2.2)) } := by
  refine ⟨?_, ?_, ?_, fun f19 f20 f21 G22 G23 G24 => ?run⟩
  case run =>
    simp only [cc0_dilated_attention_eq_skeleton]; unfold cc0_dilated_attention_skel
    iintro ⟨H2, H3, H4, H5, H6, H7, H8, H11, H12, H13, H14, H16, H19, H20, H21, H22, H23, H24⟩
    sl_exec
    sl_step
    sl_close

def run3 (k0_h1 : ¬ k0_cond1 i = 1#1) (k0_h2 : ¬ k0_cond2 i = 1#1) (k0_h3 : k0_cond3 i = 1#1) (k0_h4 : k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    Σ' (L19 : List (View.Piece (Elt F) S2048x512 .bf16)) (L20 : List (View.Piece (Elt F) S2048x512 .bf16)) (L21 : List (View.Piece (Elt F) S2048x512 .bf16)), { L18 : BufTy.Contents (Elt F) arg22.view.ty → BufTy.Contents (Elt F) arg23.view.ty → BufTy.Contents (Elt F) arg24.view.ty → List (View.Piece (Elt F) S1x2048x512 .bf16) //
      ∀ f18 f19 f20 f21 G22 G23 G24, iprop(pt arg2 c X2 ∗ pt arg3 c X3 ∗ pt arg4 c X4 ∗ pt arg5 c X5 ∗ pt arg6 c X6 ∗ pt arg7 c X7 ∗ pt arg8 c X8 ∗ pt arg9 c X9 ∗ pt arg10 c X10 ∗ pt arg11 c X11 ∗ pt arg12 c X12 ∗ pt arg13 c X13 ∗ pt arg14 c X14 ∗ pt arg15 c X15 ∗ pt arg18 c f18 ∗ pt arg19 c f19 ∗ pt arg20 c f20 ∗ pt arg21 c f21 ∗ pt arg22 c G22 ∗ pt arg23 c G23 ∗ pt arg24 c G24)
        ⊢ wp frame (wpE (defs₀ (F := F)) Variants.none (c : Thread nD τ) none) Set.univ
            (cc0_dilated_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
            (fun _ => iprop(pt arg2 c X2 ∗ pt arg3 c X3 ∗ pt arg4 c X4 ∗ pt arg5 c X5 ∗ pt arg6 c X6 ∗ pt arg7 c X7 ∗ pt arg8 c X8 ∗ pt arg9 c X9 ∗ pt arg10 c X10 ∗ pt arg11 c X11 ∗ pt arg12 c X12 ∗ pt arg13 c X13 ∗ pt arg14 c X14 ∗ pt arg15 c X15 ∗ pt arg18 c (arg18.view.writes (Elt F) f18 (L18 G22 G23 G24)) ∗ pt arg19 c (arg19.view.writes (Elt F) arg19.view.junk L19) ∗ pt arg20 c (arg20.view.writes (Elt F) arg20.view.junk L20) ∗ pt arg21 c (arg21.view.writes (Elt F) arg21.view.junk L21) ∗ pt arg22 c (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 0#32 1#32 X14 X15 (arg19.view.writes (Elt F) arg19.view.junk L19) (arg20.view.writes (Elt F) arg20.view.junk L20) (arg21.view.writes (Elt F) arg21.view.junk L21) G22 G23 G24 k0_t3_loop.trips).1 ∗ pt arg23 c (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 0#32 1#32 X14 X15 (arg19.view.writes (Elt F) arg19.view.junk L19) (arg20.view.writes (Elt F) arg20.view.junk L20) (arg21.view.writes (Elt F) arg21.view.junk L21) G22 G23 G24 k0_t3_loop.trips).2.1 ∗ pt arg24 c (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 0#32 1#32 X14 X15 (arg19.view.writes (Elt F) arg19.view.junk L19) (arg20.view.writes (Elt F) arg20.view.junk L20) (arg21.view.writes (Elt F) arg21.view.junk L21) G22 G23 G24 k0_t3_loop.trips).2.2)) } := by
  refine ⟨?_, ?_, ?_, ?_, fun f18 f19 f20 f21 G22 G23 G24 => ?run⟩
  case run =>
    simp only [cc0_dilated_attention_eq_skeleton]; unfold cc0_dilated_attention_skel
    iintro ⟨H2, H3, H4, H5, H6, H7, H8, H9, H10, H11, H12, H13, H14, H15, H18, H19, H20, H21, H22, H23, H24⟩
    sl_exec
    sl_step
    sl_close

end Cert.Proof.KernelIdeal

end
-- ==== Proof.KernelIdealBody.lean ====
/- The program's frame: the body at every grid point, with the accumulators tracked from point to point, and the launch. -/
module

public import proofs.«01_k».proof.Proof.KernelIdealRuns
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

/-! The staging memref of each window at a point, and what it holds there. -/

abbrev a0 (t : Fin cfg0.N) := win0_0.stage (cfg0.slots t 0)
abbrev h0 (t : Fin cfg0.N) : (a0 t).IsWhole := hstage0_0 ((cfg0.slots t 0).cast nbuf0_0)
abbrev a1 (t : Fin cfg0.N) := win0_1.stage (cfg0.slots t 1)
abbrev h1 (t : Fin cfg0.N) : (a1 t).IsWhole := hstage0_1 ((cfg0.slots t 1).cast nbuf0_1)
abbrev a2 (t : Fin cfg0.N) := win0_2.stage (cfg0.slots t 2)
abbrev h2 (t : Fin cfg0.N) : (a2 t).IsWhole := hstage0_2 ((cfg0.slots t 2).cast nbuf0_2)
abbrev a3 (t : Fin cfg0.N) := win0_3.stage (cfg0.slots t 3)
abbrev h3 (t : Fin cfg0.N) : (a3 t).IsWhole := hstage0_3 ((cfg0.slots t 3).cast nbuf0_3)
abbrev a4 (t : Fin cfg0.N) := win0_4.stage (cfg0.slots t 4)
abbrev h4 (t : Fin cfg0.N) : (a4 t).IsWhole := hstage0_4 ((cfg0.slots t 4).cast nbuf0_4)
abbrev a5 (t : Fin cfg0.N) := win0_5.stage (cfg0.slots t 5)
abbrev h5 (t : Fin cfg0.N) : (a5 t).IsWhole := hstage0_5 ((cfg0.slots t 5).cast nbuf0_5)
abbrev a6 (t : Fin cfg0.N) := win0_6.stage (cfg0.slots t 6)
abbrev h6 (t : Fin cfg0.N) : (a6 t).IsWhole := hstage0_6 ((cfg0.slots t 6).cast nbuf0_6)
abbrev a7 (t : Fin cfg0.N) := win0_7.stage (cfg0.slots t 7)
abbrev h7 (t : Fin cfg0.N) : (a7 t).IsWhole := hstage0_7 ((cfg0.slots t 7).cast nbuf0_7)
abbrev a8 (t : Fin cfg0.N) := win0_8.stage (cfg0.slots t 8)
abbrev h8 (t : Fin cfg0.N) : (a8 t).IsWhole := hstage0_8 ((cfg0.slots t 8).cast nbuf0_8)
abbrev a9 (t : Fin cfg0.N) := win0_9.stage (cfg0.slots t 9)
abbrev h9 (t : Fin cfg0.N) : (a9 t).IsWhole := hstage0_9 ((cfg0.slots t 9).cast nbuf0_9)
abbrev a10 (t : Fin cfg0.N) := win0_10.stage (cfg0.slots t 10)
abbrev h10 (t : Fin cfg0.N) : (a10 t).IsWhole := hstage0_10 ((cfg0.slots t 10).cast nbuf0_10)
abbrev a11 (t : Fin cfg0.N) := win0_11.stage (cfg0.slots t 11)
abbrev h11 (t : Fin cfg0.N) : (a11 t).IsWhole := hstage0_11 ((cfg0.slots t 11).cast nbuf0_11)
abbrev a12 (t : Fin cfg0.N) := win0_12.stage (cfg0.slots t 12)
abbrev h12 (t : Fin cfg0.N) : (a12 t).IsWhole := hstage0_12 ((cfg0.slots t 12).cast nbuf0_12)
abbrev a13 (t : Fin cfg0.N) := win0_13.stage (cfg0.slots t 13)
abbrev h13 (t : Fin cfg0.N) : (a13 t).IsWhole := hstage0_13 ((cfg0.slots t 13).cast nbuf0_13)
abbrev a14 (t : Fin cfg0.N) := win0_14.stage (cfg0.slots t 14)
abbrev h14 (t : Fin cfg0.N) : (a14 t).IsWhole := hstage0_14 ((cfg0.slots t 14).cast nbuf0_14)
abbrev a15 (t : Fin cfg0.N) := win0_15.stage (cfg0.slots t 15)
abbrev h15 (t : Fin cfg0.N) : (a15 t).IsWhole := hstage0_15 ((cfg0.slots t 15).cast nbuf0_15)
abbrev a16 (t : Fin cfg0.N) := win0_16.stage (cfg0.slots t 16)
abbrev h16 (t : Fin cfg0.N) : (a16 t).IsWhole := hstage0_16 ((cfg0.slots t 16).cast nbuf0_16)
abbrev x0 (c : Dev nD) (t : Fin cfg0.N) : BufTy.Contents (Elt F) (a0 t).view.ty := (h0 t).unread (iblk m c 0 t)
abbrev x1 (c : Dev nD) (t : Fin cfg0.N) : BufTy.Contents (Elt F) (a1 t).view.ty := (h1 t).unread (iblk m c 1 t)
abbrev x2 (c : Dev nD) (t : Fin cfg0.N) : BufTy.Contents (Elt F) (a2 t).view.ty := (h2 t).unread (iblk m c 2 t)
abbrev x3 (c : Dev nD) (t : Fin cfg0.N) : BufTy.Contents (Elt F) (a3 t).view.ty := (h3 t).unread (iblk m c 3 t)
abbrev x4 (c : Dev nD) (t : Fin cfg0.N) : BufTy.Contents (Elt F) (a4 t).view.ty := (h4 t).unread (iblk m c 4 t)
abbrev x5 (c : Dev nD) (t : Fin cfg0.N) : BufTy.Contents (Elt F) (a5 t).view.ty := (h5 t).unread (iblk m c 5 t)
abbrev x6 (c : Dev nD) (t : Fin cfg0.N) : BufTy.Contents (Elt F) (a6 t).view.ty := (h6 t).unread (iblk m c 6 t)
abbrev x7 (c : Dev nD) (t : Fin cfg0.N) : BufTy.Contents (Elt F) (a7 t).view.ty := (h7 t).unread (iblk m c 7 t)
abbrev x8 (c : Dev nD) (t : Fin cfg0.N) : BufTy.Contents (Elt F) (a8 t).view.ty := (h8 t).unread (iblk m c 8 t)
abbrev x9 (c : Dev nD) (t : Fin cfg0.N) : BufTy.Contents (Elt F) (a9 t).view.ty := (h9 t).unread (iblk m c 9 t)
abbrev x10 (c : Dev nD) (t : Fin cfg0.N) : BufTy.Contents (Elt F) (a10 t).view.ty := (h10 t).unread (iblk m c 10 t)
abbrev x11 (c : Dev nD) (t : Fin cfg0.N) : BufTy.Contents (Elt F) (a11 t).view.ty := (h11 t).unread (iblk m c 11 t)
abbrev x12 (c : Dev nD) (t : Fin cfg0.N) : BufTy.Contents (Elt F) (a12 t).view.ty := (h12 t).unread (iblk m c 12 t)
abbrev x13 (c : Dev nD) (t : Fin cfg0.N) : BufTy.Contents (Elt F) (a13 t).view.ty := (h13 t).unread (iblk m c 13 t)
abbrev x14 (c : Dev nD) (t : Fin cfg0.N) : BufTy.Contents (Elt F) (a14 t).view.ty := (h14 t).unread (iblk m c 14 t)
abbrev x15 (c : Dev nD) (t : Fin cfg0.N) : BufTy.Contents (Elt F) (a15 t).view.ty := (h15 t).unread (iblk m c 15 t)

/-! The six scratch buffers: queries, keys, values; accumulator, running maximum, denominator. -/

abbrev S0 : Memref sig .tc .vmem S2048x512 .bf16 := Memref.whole cc0_scratch0
abbrev S1 : Memref sig .tc .vmem S2048x512 .bf16 := Memref.whole cc0_scratch1
abbrev S2 : Memref sig .tc .vmem S2048x512 .bf16 := Memref.whole cc0_scratch2
abbrev S3 : Memref sig .tc .vmem S4x2048x128 .f32 := Memref.whole cc0_scratch3
abbrev S4 : Memref sig .tc .vmem S4x2048x128 .f32 := Memref.whole cc0_scratch4
abbrev S5 : Memref sig .tc .vmem S4x2048x128 .f32 := Memref.whole cc0_scratch5

/-- Contents of the three accumulators. -/
abbrev Acc (F : FTy → Type) : Type :=
  BufTy.Contents (Elt F) S3.view.ty × BufTy.Contents (Elt F) S4.view.ty × BufTy.Contents (Elt F) S5.view.ty

/-! Which of the three groups a grid point works on. -/

abbrev C1 (i : grid0.Coords) : Prop := k0_cond1 i = 1#1 ∧ ¬ k0_cond2 i = 1#1 ∧ ¬ k0_cond3 i = 1#1 ∧ ¬ k0_cond4 i = 1#1
abbrev C2 (i : grid0.Coords) : Prop := ¬ k0_cond1 i = 1#1 ∧ k0_cond2 i = 1#1 ∧ ¬ k0_cond3 i = 1#1 ∧ ¬ k0_cond4 i = 1#1
abbrev C3 (i : grid0.Coords) : Prop := ¬ k0_cond1 i = 1#1 ∧ ¬ k0_cond2 i = 1#1 ∧ k0_cond3 i = 1#1 ∧ k0_cond4 i = 1#1

theorem C_cases : ∀ t : Fin cfg0.N, (C1 (grid0.coords t) ∧ t.val % 3 = 0) ∨ (C2 (grid0.coords t) ∧ t.val % 3 = 1) ∨ (C3 (grid0.coords t) ∧ t.val % 3 = 2) := by
  decide +kernel
theorem idle16_C1 {i : grid0.Coords} (h : C1 i) : cfg0.idle 16 i = true := by
  show (!(k0_cond4 i == 1#1)) = true; simp [h.2.2.2]
theorem idle16_C2 {i : grid0.Coords} (h : C2 i) : cfg0.idle 16 i = true := by
  show (!(k0_cond4 i == 1#1)) = true; simp [h.2.2.2]
theorem idle16_C3 {i : grid0.Coords} (h : C3 i) : cfg0.idle 16 i = false := by
  show (!(k0_cond4 i == 1#1)) = false; simp [h.2.2.2]

abbrev r1 (c : Dev nD) (t : Fin cfg0.N) (h : C1 (grid0.coords t)) :=
  run1 (F := F) (c := c) (i := grid0.coords t) (arg2 := a0 t) (arg3 := a1 t) (arg4 := a2 t) (arg5 := a3 t) (arg6 := a4 t) (arg7 := a5 t) (arg8 := a6 t) (arg9 := a7 t) (arg10 := a8 t) (arg11 := a9 t) (arg12 := a10 t) (arg13 := a11 t) (arg14 := a12 t) (arg15 := a13 t) (arg16 := a14 t) (arg17 := a15 t) (arg18 := a16 t) (arg19 := S0) (arg20 := S1) (arg21 := S2) (arg22 := S3) (arg23 := S4) (arg24 := S5) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) h.1 h.2.1 h.2.2.1 h.2.2.2 (x0 m c t) (x1 m c t) (x2 m c t) (x3 m c t) (x4 m c t) (x5 m c t) (x6 m c t) (x9 m c t) (x10 m c t) (x11 m c t) (x12 m c t) (x15 m c t)
abbrev next1 (c : Dev nD) (t : Fin cfg0.N) (h : C1 (grid0.coords t)) (G : Acc F) : Acc F :=
  st1 (F := F) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) h.1 0#32 1#32 (x12 m c t) (x15 m c t) (S0.view.writes (Elt F) S0.view.junk (r1 m c t h).1) (S1.view.writes (Elt F) S1.view.junk (r1 m c t h).2.1) (S2.view.writes (Elt F) S2.view.junk (r1 m c t h).2.2.1) G.1 G.2.1 G.2.2 k0_t1_loop.trips

abbrev r2 (c : Dev nD) (t : Fin cfg0.N) (h : C2 (grid0.coords t)) :=
  run2 (F := F) (c := c) (i := grid0.coords t) (arg2 := a0 t) (arg3 := a1 t) (arg4 := a2 t) (arg5 := a3 t) (arg6 := a4 t) (arg7 := a5 t) (arg8 := a6 t) (arg9 := a7 t) (arg10 := a8 t) (arg11 := a9 t) (arg12 := a10 t) (arg13 := a11 t) (arg14 := a12 t) (arg15 := a13 t) (arg16 := a14 t) (arg17 := a15 t) (arg18 := a16 t) (arg19 := S0) (arg20 := S1) (arg21 := S2) (arg22 := S3) (arg23 := S4) (arg24 := S5) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) h.1 h.2.1 h.2.2.1 h.2.2.2 (x0 m c t) (x1 m c t) (x2 m c t) (x3 m c t) (x4 m c t) (x5 m c t) (x6 m c t) (x9 m c t) (x10 m c t) (x11 m c t) (x12 m c t) (x14 m c t)
abbrev next2 (c : Dev nD) (t : Fin cfg0.N) (h : C2 (grid0.coords t)) (G : Acc F) : Acc F :=
  st2 (F := F) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) h.2.1 0#32 1#32 (x12 m c t) (x14 m c t) (S0.view.writes (Elt F) S0.view.junk (r2 m c t h).1) (S1.view.writes (Elt F) S1.view.junk (r2 m c t h).2.1) (S2.view.writes (Elt F) S2.view.junk (r2 m c t h).2.2.1) G.1 G.2.1 G.2.2 k0_t2_loop.trips

abbrev r3 (c : Dev nD) (t : Fin cfg0.N) (h : C3 (grid0.coords t)) :=
  run3 (F := F) (c := c) (i := grid0.coords t) (arg2 := a0 t) (arg3 := a1 t) (arg4 := a2 t) (arg5 := a3 t) (arg6 := a4 t) (arg7 := a5 t) (arg8 := a6 t) (arg9 := a7 t) (arg10 := a8 t) (arg11 := a9 t) (arg12 := a10 t) (arg13 := a11 t) (arg14 := a12 t) (arg15 := a13 t) (arg16 := a14 t) (arg17 := a15 t) (arg18 := a16 t) (arg19 := S0) (arg20 := S1) (arg21 := S2) (arg22 := S3) (arg23 := S4) (arg24 := S5) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) h.1 h.2.1 h.2.2.1 h.2.2.2 (x0 m c t) (x1 m c t) (x2 m c t) (x3 m c t) (x4 m c t) (x5 m c t) (x6 m c t) (x7 m c t) (x8 m c t) (x9 m c t) (x10 m c t) (x11 m c t) (x12 m c t) (x13 m c t)
abbrev next3 (c : Dev nD) (t : Fin cfg0.N) (h : C3 (grid0.coords t)) (G : Acc F) : Acc F :=
  st3 (F := F) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) h.2.2.1 0#32 1#32 (x12 m c t) (x13 m c t) (S0.view.writes (Elt F) S0.view.junk (r3 m c t h).1) (S1.view.writes (Elt F) S1.view.junk (r3 m c t h).2.1) (S2.view.writes (Elt F) S2.view.junk (r3 m c t h).2.2.1) G.1 G.2.1 G.2.2 k0_t3_loop.trips

/-- The accumulators after point `t`, from what they are before it. -/
def next (c : Dev nD) (t : Fin cfg0.N) (G : Acc F) : Acc F :=
  if h : C1 (grid0.coords t) then next1 m c t h G
  else if h : C2 (grid0.coords t) then next2 m c t h G
  else if h : C3 (grid0.coords t) then next3 m c t h G
  else G

theorem next_C1 (c : Dev nD) (t : Fin cfg0.N) (h : C1 (grid0.coords t)) (G : Acc F) : next m c t G = next1 m c t h G := by
  unfold next; rw [dif_pos h]
theorem next_C2 (c : Dev nD) (t : Fin cfg0.N) (h : C2 (grid0.coords t)) (G : Acc F) : next m c t G = next2 m c t h G := by
  unfold next; rw [dif_neg (fun h' => h.1 h'.1), dif_pos h]
theorem next_C3 (c : Dev nD) (t : Fin cfg0.N) (h : C3 (grid0.coords t)) (G : Acc F) : next m c t G = next3 m c t h G := by
  unfold next; rw [dif_neg (fun h' => h.1 h'.1), dif_neg (fun h' => h.2.1 h'.2.1), dif_pos h]

/-- What the accumulators may hold before point `k`: anything at first, then what the points before leave. -/
def Reach (c : Dev nD) : ℕ → Acc F → Prop
  | 0, _ => True
  | k + 1, G => ∃ (hk : k < cfg0.N) (G' : Acc F), Reach c k G' ∧ G = next m c ⟨k, hk⟩ G'

theorem Reach.step {c : Dev nD} {t : Fin cfg0.N} {G : Acc F} (h : Reach m c t.val G) : Reach m c (t.val + 1) (next m c t G) :=
  ⟨t.isLt, G, h, rfl⟩

/-- What the body leaves in the result's block: at the third step of a batch row what the run writes there, otherwise what it found. -/
def Left (c : Dev nD) (t : Fin cfg0.N) (X Y : Vec F S1x2048x512 .bf16) : Prop :=
  (¬ C3 (grid0.coords t) → Y = X) ∧
  ∀ h : C3 (grid0.coords t), ∃ (G : Acc F) (f : BufTy.Contents (Elt F) (a16 t).view.ty), Reach m c t.val G ∧
    Y = (a16 t).view.read (Elt F) ((a16 t).view.writes (Elt F) f ((r3 m c t h).2.2.2.1 G.1 G.2.1 G.2.2))

/-- Between points: the projections' scratches at anything, the accumulators at something reachable, the random register. -/
def Phi (c : Dev nD) (k : ℕ) : sProp 𝕄 :=
  iprop((∃ f, pt S0 c f) ∗ (∃ f, pt S1 c f) ∗ (∃ f, pt S2 c f)
    ∗ (∃ G : Acc F, ⌜Reach m c k G⌝ ∗ pt S3 c G.1 ∗ pt S4 c G.2.1 ∗ pt S5 c G.2.2) ∗ (∃ r, prngReg c r))

theorem phiA_eq (c : Dev nD) :
    (Pipeline.ΦA spec0 c : sProp 𝕄) = iprop(((∃ f, pt S0 c f) ∗ (∃ f, pt S1 c f) ∗ (∃ f, pt S2 c f)
      ∗ (∃ f, pt S3 c f) ∗ (∃ f, pt S4 c f) ∗ (∃ f, pt S5 c f)) ∗ (∃ r, prngReg c r)) := by
  unfold Pipeline.ΦA
  rw [scopedRest0_eq]
  simp only [pt, S0, S1, S2, S3, S4, S5, Memref.view_whole, View.set_whole]

theorem phi_in (c : Dev nD) : (Pipeline.ΦA spec0 c : sProp 𝕄) ⊢ Phi m c 0 := by
  rw [phiA_eq]; unfold Phi
  iintro ⟨⟨H0, H1, H2, ⟨%f3, H3⟩, ⟨%f4, H4⟩, ⟨%f5, H5⟩⟩, Hg⟩
  isplitl [H0]; · iexact H0
  isplitl [H1]; · iexact H1
  isplitl [H2]; · iexact H2
  isplitl [H3 H4 H5]
  · iexists (f3, f4, f5)
    isplitr; · ipureintro; trivial
    isplitl [H3]; · iexact H3
    isplitl [H4]; · iexact H4
    iexact H5
  iexact Hg

theorem phi_out (c : Dev nD) (k : ℕ) : Phi m c k ⊢ (Pipeline.ΦA spec0 c : sProp 𝕄) := by
  rw [phiA_eq]; unfold Phi
  iintro ⟨H0, H1, H2, ⟨%G, -, H3, H4, H5⟩, Hg⟩
  isplitl [H0 H1 H2 H3 H4 H5]
  · isplitl [H0]; · iexact H0
    isplitl [H1]; · iexact H1
    isplitl [H2]; · iexact H2
    isplitl [H3]; · iexists _; iexact H3
    isplitl [H4]; · iexists _; iexact H4
    iexists _; iexact H5
  iexact Hg

/-- The sixteen input windows, each at its block. -/
abbrev Ins (c : Dev nD) (t : Fin cfg0.N) : sProp 𝕄 :=
  iprop(owns (c : Thread nD τ) (a0 t) fullShare (iblk m c 0 t)
    ∗ owns (c : Thread nD τ) (a1 t) fullShare (iblk m c 1 t)
    ∗ owns (c : Thread nD τ) (a2 t) fullShare (iblk m c 2 t)
    ∗ owns (c : Thread nD τ) (a3 t) fullShare (iblk m c 3 t)
    ∗ owns (c : Thread nD τ) (a4 t) fullShare (iblk m c 4 t)
    ∗ owns (c : Thread nD τ) (a5 t) fullShare (iblk m c 5 t)
    ∗ owns (c : Thread nD τ) (a6 t) fullShare (iblk m c 6 t)
    ∗ owns (c : Thread nD τ) (a7 t) fullShare (iblk m c 7 t)
    ∗ owns (c : Thread nD τ) (a8 t) fullShare (iblk m c 8 t)
    ∗ owns (c : Thread nD τ) (a9 t) fullShare (iblk m c 9 t)
    ∗ owns (c : Thread nD τ) (a10 t) fullShare (iblk m c 10 t)
    ∗ owns (c : Thread nD τ) (a11 t) fullShare (iblk m c 11 t)
    ∗ owns (c : Thread nD τ) (a12 t) fullShare (iblk m c 12 t)
    ∗ owns (c : Thread nD τ) (a13 t) fullShare (iblk m c 13 t)
    ∗ owns (c : Thread nD τ) (a14 t) fullShare (iblk m c 14 t)
    ∗ owns (c : Thread nD τ) (a15 t) fullShare (iblk m c 15 t))

theorem owns_pt {sp : Space} {S : Shape} {e : EltTy} {M : Memref sig .tc sp S e} (h : M.IsWhole) (c : Dev nD) (X : S.Idx → Elt F e) :
    (owns (c : Thread nD τ) M fullShare X : sProp 𝕄) = pt M c (h.unread X) := by
  unfold owns
  have h₁ : iprop(∃ f, ⌜M.view.read (Elt F) f = X⌝ ∗ (M.view.loc (c : Thread nD τ) ↦[M.view.set]{fullShare} f)) ⊢ (pt M c (h.unread X) : sProp 𝕄) := by
    iintro ⟨%f, %hf, H⟩
    rw [← hf, h.unread_read]; iexact H
  have h₂ : (pt M c (h.unread X) : sProp 𝕄) ⊢ iprop(∃ f, ⌜M.view.read (Elt F) f = X⌝ ∗ (M.view.loc (c : Thread nD τ) ↦[M.view.set]{fullShare} f)) := by
    iintro H; iexists _; isplitr; swap; · iexact H
    ipureintro; exact h.read_unread X
  exact BI.equiv_iff.mp ⟨h₁, h₂⟩

theorem body1 (c : Dev nD) (t : Fin cfg0.N) (h : C1 (grid0.coords t)) (X : Vec F S1x2048x512 .bf16) :
    iprop(Phi m c t.val ∗ Ins m c t ∗ owns (c : Thread nD τ) (a16 t) fullShare X)
      ⊢ wp frame (wpE (defs₀ (F := F)) Variants.none (c : Thread nD τ) none) Set.univ
          (cc0_dilated_attention (F := F) (grid0.coords t) (a0 t) (h0 t) (a1 t) (h1 t) (a2 t) (h2 t) (a3 t) (h3 t) (a4 t) (h4 t) (a5 t) (h5 t) (a6 t) (h6 t) (a7 t) (h7 t) (a8 t) (h8 t) (a9 t) (h9 t) (a10 t) (h10 t) (a11 t) (h11 t) (a12 t) (h12 t) (a13 t) (h13 t) (a14 t) (h14 t) (a15 t) (h15 t) (a16 t) (h16 t) S0 (Memref.isWhole_whole _) S1 (Memref.isWhole_whole _) S2 (Memref.isWhole_whole _) S3 (Memref.isWhole_whole _) S4 (Memref.isWhole_whole _) S5 (Memref.isWhole_whole _))
          (fun _ => iprop(Phi m c (t.val + 1) ∗ Ins m c t ∗ ∃ Y, ⌜Left m c t X Y⌝ ∗ owns (c : Thread nD τ) (a16 t) fullShare Y)) := by
  unfold Ins Phi
  rw [owns_pt (h0 t), owns_pt (h1 t), owns_pt (h2 t), owns_pt (h3 t), owns_pt (h4 t), owns_pt (h5 t), owns_pt (h6 t), owns_pt (h7 t), owns_pt (h8 t), owns_pt (h9 t), owns_pt (h10 t), owns_pt (h11 t), owns_pt (h12 t), owns_pt (h13 t), owns_pt (h14 t), owns_pt (h15 t), owns_pt (h16 t)]
  iintro ⟨⟨⟨%f19, G0⟩, ⟨%f20, G1⟩, ⟨%f21, G2⟩, ⟨%G, %hG, G3, G4, G5⟩, Hg⟩, ⟨H0, H1, H2, H3, H4, H5, H6, H7, H8, H9, H10, H11, H12, H13, H14, H15⟩, H16⟩
  iapply (wp_wand_r Idealize.ShloMosaic.frame (wpE (defs₀ (F := F)) Variants.none (c : Thread nD τ) none) Set.univ)
  isplitl [H0 H1 H2 H3 H4 H5 H6 H9 H10 H11 H12 H15 G0 G1 G2 G3 G4 G5]
  · iapply ((r1 m c t h).2.2.2 f19 f20 f21 G.1 G.2.1 G.2.2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H15]; · iexact H15
    isplitl [G0]; · iexact G0
    isplitl [G1]; · iexact G1
    isplitl [G2]; · iexact G2
    isplitl [G3]; · iexact G3
    isplitl [G4]; · iexact G4
    iexact G5
  · iintro %_ ⟨H0, H1, H2, H3, H4, H5, H6, H9, H10, H11, H12, H15, G0, G1, G2, G3, G4, G5⟩
    isplitl [G0 G1 G2 G3 G4 G5 Hg]
    · isplitl [G0]; · iexists _; iexact G0
      isplitl [G1]; · iexists _; iexact G1
      isplitl [G2]; · iexists _; iexact G2
      isplitl [G3 G4 G5]
      · iexists (next1 m c t h G)
        isplitr; · ipureintro; exact (next_C1 m c t h G) ▸ hG.step m
        isplitl [G3]; · iexact G3
        isplitl [G4]; · iexact G4
        iexact G5
      iexact Hg
    isplitl [H0 H1 H2 H3 H4 H5 H6 H7 H8 H9 H10 H11 H12 H13 H14 H15]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexists X
    isplitr
    · ipureintro
      exact ⟨fun _ => rfl, fun h' => absurd h'.2.2.1 h.2.2.1⟩
    rw [owns_pt (h16 t)]
    iexact H16

theorem body2 (c : Dev nD) (t : Fin cfg0.N) (h : C2 (grid0.coords t)) (X : Vec F S1x2048x512 .bf16) :
    iprop(Phi m c t.val ∗ Ins m c t ∗ owns (c : Thread nD τ) (a16 t) fullShare X)
      ⊢ wp frame (wpE (defs₀ (F := F)) Variants.none (c : Thread nD τ) none) Set.univ
          (cc0_dilated_attention (F := F) (grid0.coords t) (a0 t) (h0 t) (a1 t) (h1 t) (a2 t) (h2 t) (a3 t) (h3 t) (a4 t) (h4 t) (a5 t) (h5 t) (a6 t) (h6 t) (a7 t) (h7 t) (a8 t) (h8 t) (a9 t) (h9 t) (a10 t) (h10 t) (a11 t) (h11 t) (a12 t) (h12 t) (a13 t) (h13 t) (a14 t) (h14 t) (a15 t) (h15 t) (a16 t) (h16 t) S0 (Memref.isWhole_whole _) S1 (Memref.isWhole_whole _) S2 (Memref.isWhole_whole _) S3 (Memref.isWhole_whole _) S4 (Memref.isWhole_whole _) S5 (Memref.isWhole_whole _))
          (fun _ => iprop(Phi m c (t.val + 1) ∗ Ins m c t ∗ ∃ Y, ⌜Left m c t X Y⌝ ∗ owns (c : Thread nD τ) (a16 t) fullShare Y)) := by
  unfold Ins Phi
  rw [owns_pt (h0 t), owns_pt (h1 t), owns_pt (h2 t), owns_pt (h3 t), owns_pt (h4 t), owns_pt (h5 t), owns_pt (h6 t), owns_pt (h7 t), owns_pt (h8 t), owns_pt (h9 t), owns_pt (h10 t), owns_pt (h11 t), owns_pt (h12 t), owns_pt (h13 t), owns_pt (h14 t), owns_pt (h15 t), owns_pt (h16 t)]
  iintro ⟨⟨⟨%f19, G0⟩, ⟨%f20, G1⟩, ⟨%f21, G2⟩, ⟨%G, %hG, G3, G4, G5⟩, Hg⟩, ⟨H0, H1, H2, H3, H4, H5, H6, H7, H8, H9, H10, H11, H12, H13, H14, H15⟩, H16⟩
  iapply (wp_wand_r Idealize.ShloMosaic.frame (wpE (defs₀ (F := F)) Variants.none (c : Thread nD τ) none) Set.univ)
  isplitl [H0 H1 H2 H3 H4 H5 H6 H9 H10 H11 H12 H14 G0 G1 G2 G3 G4 G5]
  · iapply ((r2 m c t h).2.2.2 f19 f20 f21 G.1 G.2.1 G.2.2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [H10]; · iexact H10
    isplitl [H11]; · iexact H11
    isplitl [H12]; · iexact H12
    isplitl [H14]; · iexact H14
    isplitl [G0]; · iexact G0
    isplitl [G1]; · iexact G1
    isplitl [G2]; · iexact G2
    isplitl [G3]; · iexact G3
    isplitl [G4]; · iexact G4
    iexact G5
  · iintro %_ ⟨H0, H1, H2, H3, H4, H5, H6, H9, H10, H11, H12, H14, G0, G1, G2, G3, G4, G5⟩
    isplitl [G0 G1 G2 G3 G4 G5 Hg]
    · isplitl [G0]; · iexists _; iexact G0
      isplitl [G1]; · iexists _; iexact G1
      isplitl [G2]; · iexists _; iexact G2
      isplitl [G3 G4 G5]
      · iexists (next2 m c t h G)
        isplitr; · ipureintro; exact (next_C2 m c t h G) ▸ hG.step m
        isplitl [G3]; · iexact G3
        isplitl [G4]; · iexact G4
        iexact G5
      iexact Hg
    isplitl [H0 H1 H2 H3 H4 H5 H6 H7 H8 H9 H10 H11 H12 H13 H14 H15]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexists X
    isplitr
    · ipureintro
      exact ⟨fun _ => rfl, fun h' => absurd h'.2.2.1 h.2.2.1⟩
    rw [owns_pt (h16 t)]
    iexact H16

theorem body3 (c : Dev nD) (t : Fin cfg0.N) (h : C3 (grid0.coords t)) (X : Vec F S1x2048x512 .bf16) :
    iprop(Phi m c t.val ∗ Ins m c t ∗ owns (c : Thread nD τ) (a16 t) fullShare X)
      ⊢ wp frame (wpE (defs₀ (F := F)) Variants.none (c : Thread nD τ) none) Set.univ
          (cc0_dilated_attention (F := F) (grid0.coords t) (a0 t) (h0 t) (a1 t) (h1 t) (a2 t) (h2 t) (a3 t) (h3 t) (a4 t) (h4 t) (a5 t) (h5 t) (a6 t) (h6 t) (a7 t) (h7 t) (a8 t) (h8 t) (a9 t) (h9 t) (a10 t) (h10 t) (a11 t) (h11 t) (a12 t) (h12 t) (a13 t) (h13 t) (a14 t) (h14 t) (a15 t) (h15 t) (a16 t) (h16 t) S0 (Memref.isWhole_whole _) S1 (Memref.isWhole_whole _) S2 (Memref.isWhole_whole _) S3 (Memref.isWhole_whole _) S4 (Memref.isWhole_whole _) S5 (Memref.isWhole_whole _))
          (fun _ => iprop(Phi m c (t.val + 1) ∗ Ins m c t ∗ ∃ Y, ⌜Left m c t X Y⌝ ∗ owns (c : Thread nD τ) (a16 t) fullShare Y)) := by
  unfold Ins Phi
  rw [owns_pt (h0 t), owns_pt (h1 t), owns_pt (h2 t), owns_pt (h3 t), owns_pt (h4 t), owns_pt (h5 t), owns_pt (h6 t), owns_pt (h7 t), owns_pt (h8 t), owns_pt (h9 t), owns_pt (h10 t), owns_pt (h11 t), owns_pt (h12 t), owns_pt (h13 t), owns_pt (h14 t), owns_pt (h15 t), owns_pt (h16 t)]
  iintro ⟨⟨⟨%f19, G0⟩, ⟨%f20, G1⟩, ⟨%f21, G2⟩, ⟨%G, %hG, G3, G4, G5⟩, Hg⟩, ⟨H0, H1, H2, H3, H4, H5, H6, H7, H8, H9, H10, H11, H12, H13, H14, H15⟩, H16⟩
  iapply (wp_wand_r Idealize.ShloMosaic.frame (wpE (defs₀ (F := F)) Variants.none (c : Thread nD τ) none) Set.univ)
  isplitl [H0 H1 H2 H3 H4 H5 H6 H7 H8 H9 H10 H11 H12 H13 H16 G0 G1 G2 G3 G4 G5]
  · iapply ((r3 m c t h).2.2.2.2 _ f19 f20 f21 G.1 G.2.1 G.2.2)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H16]; · iexact H16
    isplitl [G0]; · iexact G0
    isplitl [G1]; · iexact G1
    isplitl [G2]; · iexact G2
    isplitl [G3]; · iexact G3
    isplitl [G4]; · iexact G4
    iexact G5
  · iintro %_ ⟨H0, H1, H2, H3, H4, H5, H6, H7, H8, H9, H10, H11, H12, H13, H16, G0, G1, G2, G3, G4, G5⟩
    isplitl [G0 G1 G2 G3 G4 G5 Hg]
    · isplitl [G0]; · iexists _; iexact G0
      isplitl [G1]; · iexists _; iexact G1
      isplitl [G2]; · iexists _; iexact G2
      isplitl [G3 G4 G5]
      · iexists (next3 m c t h G)
        isplitr; · ipureintro; exact (next_C3 m c t h G) ▸ hG.step m
        isplitl [G3]; · iexact G3
        isplitl [G4]; · iexact G4
        iexact G5
      iexact Hg
    isplitl [H0 H1 H2 H3 H4 H5 H6 H7 H8 H9 H10 H11 H12 H13 H14 H15]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexists _
    isplitr
    swap
    · unfold owns; iexists _; isplitr; swap; · iexact H16
      ipureintro; rfl
    ipureintro
    exact ⟨fun h' => absurd h h', fun _ => ⟨G, _, hG, rfl⟩⟩

theorem body_at (c : Dev nD) (t : Fin cfg0.N) (X : Vec F S1x2048x512 .bf16) :
    iprop(Phi m c t.val ∗ Ins m c t ∗ owns (c : Thread nD τ) (a16 t) fullShare X)
      ⊢ wp frame (wpE (defs₀ (F := F)) Variants.none (c : Thread nD τ) none) Set.univ (bodyAt0 t)
          (fun _ => iprop(Phi m c (t.val + 1) ∗ Ins m c t ∗ ∃ Y, ⌜Left m c t X Y⌝ ∗ owns (c : Thread nD τ) (a16 t) fullShare Y)) := by
  rcases C_cases t with ⟨h, -⟩ | ⟨h, -⟩ | ⟨h, -⟩
  · exact body1 m c t h X
  · exact body2 m c t h X
  · exact body3 m c t h X

/-! ## The launch -/

/-- What is known at every point: each input window at its block, the result's block at `OUT`. -/
def dat (OUT : Dev nD → Fin cfg0.N → Vec F S1x2048x512 .bf16) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => OUT c t
    | ⟨_ + 17, hw⟩ => absurd hw (Nat.not_lt.2 (Nat.le_add_left _ _))
  Φ t := Phi m c t.val
  q w := Pipeline.shareOf spec0 w
  owed _ := 0

theorem defs₀_row (t : Fin cfg0.N) : defs₀ (F := F) .tc cfg0.body (cfg0.bodyArgs t (cfg0.slots t)) = bodyAt0 t := by
  unfold defs₀; rw [Defs.onTc_tc]

end Cert.Proof.KernelIdeal

end
-- ==== Proof.KernelIdealFrame.lean ====
/- The launch: the run of the whole program, and its frame. -/
module

public import proofs.«01_k».proof.Proof.KernelIdealBody
public import Idealize.ShloMosaic.Lib.Pipeline.FrameBody
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]

variable (m : (ℓ : Loc nD τ sig) → Buf (Elt F) ℓ) (ρ : Dev nD → PrngReg) (OUT : Dev nD → Fin cfg0.N → Vec F S1x2048x512 .bf16)

local notation "𝕄" => MT nD τ sig Unit (Elt F) ℕ (UR sig nD τ) ℕ

theorem A_eq (c : Dev nD) (w : Fin cfg0.W) : (dat m OUT c).A w = V m c (Pipeline.arrRef spec0 w) := rfl
theorem after0_0 (c : Dev nD) (t : Fin cfg0.N) : (dat m OUT c).after 0 t = iblk m c 0 t := by dsimp only [dat]
theorem before0_0 (c : Dev nD) (t : Fin cfg0.N) (d) : (dat m OUT c).before 0 t d = iblk m c 0 t :=
  before0_0_of m (dat m OUT c) (A_eq m OUT c 0) (after0_0 m OUT c) t d
theorem after0_1 (c : Dev nD) (t : Fin cfg0.N) : (dat m OUT c).after 1 t = iblk m c 1 t := by dsimp only [dat]
theorem before0_1 (c : Dev nD) (t : Fin cfg0.N) (d) : (dat m OUT c).before 1 t d = iblk m c 1 t :=
  before0_1_of m (dat m OUT c) (A_eq m OUT c 1) (after0_1 m OUT c) t d
theorem after0_2 (c : Dev nD) (t : Fin cfg0.N) : (dat m OUT c).after 2 t = iblk m c 2 t := by dsimp only [dat]
theorem before0_2 (c : Dev nD) (t : Fin cfg0.N) (d) : (dat m OUT c).before 2 t d = iblk m c 2 t :=
  before0_2_of m (dat m OUT c) (A_eq m OUT c 2) (after0_2 m OUT c) t d
theorem after0_3 (c : Dev nD) (t : Fin cfg0.N) : (dat m OUT c).after 3 t = iblk m c 3 t := by dsimp only [dat]
theorem before0_3 (c : Dev nD) (t : Fin cfg0.N) (d) : (dat m OUT c).before 3 t d = iblk m c 3 t :=
  before0_3_of m (dat m OUT c) (A_eq m OUT c 3) (after0_3 m OUT c) t d
theorem after0_4 (c : Dev nD) (t : Fin cfg0.N) : (dat m OUT c).after 4 t = iblk m c 4 t := by dsimp only [dat]
theorem before0_4 (c : Dev nD) (t : Fin cfg0.N) (d) : (dat m OUT c).before 4 t d = iblk m c 4 t :=
  before0_4_of m (dat m OUT c) (A_eq m OUT c 4) (after0_4 m OUT c) t d
theorem after0_5 (c : Dev nD) (t : Fin cfg0.N) : (dat m OUT c).after 5 t = iblk m c 5 t := by dsimp only [dat]
theorem before0_5 (c : Dev nD) (t : Fin cfg0.N) (d) : (dat m OUT c).before 5 t d = iblk m c 5 t :=
  before0_5_of m (dat m OUT c) (A_eq m OUT c 5) (after0_5 m OUT c) t d
theorem after0_6 (c : Dev nD) (t : Fin cfg0.N) : (dat m OUT c).after 6 t = iblk m c 6 t := by dsimp only [dat]
theorem before0_6 (c : Dev nD) (t : Fin cfg0.N) (d) : (dat m OUT c).before 6 t d = iblk m c 6 t :=
  before0_6_of m (dat m OUT c) (A_eq m OUT c 6) (after0_6 m OUT c) t d
theorem after0_7 (c : Dev nD) (t : Fin cfg0.N) : (dat m OUT c).after 7 t = iblk m c 7 t := by dsimp only [dat]
theorem before0_7 (c : Dev nD) (t : Fin cfg0.N) (d) : (dat m OUT c).before 7 t d = iblk m c 7 t :=
  before0_7_of m (dat m OUT c) (A_eq m OUT c 7) (after0_7 m OUT c) t d
theorem after0_8 (c : Dev nD) (t : Fin cfg0.N) : (dat m OUT c).after 8 t = iblk m c 8 t := by dsimp only [dat]
theorem before0_8 (c : Dev nD) (t : Fin cfg0.N) (d) : (dat m OUT c).before 8 t d = iblk m c 8 t :=
  before0_8_of m (dat m OUT c) (A_eq m OUT c 8) (after0_8 m OUT c) t d
theorem after0_9 (c : Dev nD) (t : Fin cfg0.N) : (dat m OUT c).after 9 t = iblk m c 9 t := by dsimp only [dat]
theorem before0_9 (c : Dev nD) (t : Fin cfg0.N) (d) : (dat m OUT c).before 9 t d = iblk m c 9 t :=
  before0_9_of m (dat m OUT c) (A_eq m OUT c 9) (after0_9 m OUT c) t d
theorem after0_10 (c : Dev nD) (t : Fin cfg0.N) : (dat m OUT c).after 10 t = iblk m c 10 t := by dsimp only [dat]
theorem before0_10 (c : Dev nD) (t : Fin cfg0.N) (d) : (dat m OUT c).before 10 t d = iblk m c 10 t :=
  before0_10_of m (dat m OUT c) (A_eq m OUT c 10) (after0_10 m OUT c) t d
theorem after0_11 (c : Dev nD) (t : Fin cfg0.N) : (dat m OUT c).after 11 t = iblk m c 11 t := by dsimp only [dat]
theorem before0_11 (c : Dev nD) (t : Fin cfg0.N) (d) : (dat m OUT c).before 11 t d = iblk m c 11 t :=
  before0_11_of m (dat m OUT c) (A_eq m OUT c 11) (after0_11 m OUT c) t d
theorem after0_12 (c : Dev nD) (t : Fin cfg0.N) : (dat m OUT c).after 12 t = iblk m c 12 t := by dsimp only [dat]
theorem before0_12 (c : Dev nD) (t : Fin cfg0.N) (d) : (dat m OUT c).before 12 t d = iblk m c 12 t :=
  before0_12_of m (dat m OUT c) (A_eq m OUT c 12) (after0_12 m OUT c) t d
theorem after0_13 (c : Dev nD) (t : Fin cfg0.N) : (dat m OUT c).after 13 t = iblk m c 13 t := by dsimp only [dat]
theorem before0_13 (c : Dev nD) (t : Fin cfg0.N) (d) : (dat m OUT c).before 13 t d = iblk m c 13 t :=
  before0_13_of m (dat m OUT c) (A_eq m OUT c 13) (after0_13 m OUT c) t d
theorem after0_14 (c : Dev nD) (t : Fin cfg0.N) : (dat m OUT c).after 14 t = iblk m c 14 t := by dsimp only [dat]
theorem before0_14 (c : Dev nD) (t : Fin cfg0.N) (d) : (dat m OUT c).before 14 t d = iblk m c 14 t :=
  before0_14_of m (dat m OUT c) (A_eq m OUT c 14) (after0_14 m OUT c) t d
theorem after0_15 (c : Dev nD) (t : Fin cfg0.N) : (dat m OUT c).after 15 t = iblk m c 15 t := by dsimp only [dat]
theorem before0_15 (c : Dev nD) (t : Fin cfg0.N) (d) : (dat m OUT c).before 15 t d = iblk m c 15 t :=
  before0_15_of m (dat m OUT c) (A_eq m OUT c 15) (after0_15 m OUT c) t d
theorem after0_16 (c : Dev nD) (t : Fin cfg0.N) : (dat m OUT c).after 16 t = OUT c t := by dsimp only [dat]

/-- Of which windows nothing is asked: the result's. -/
def fgt (w : Fin cfg0.W) : Bool := decide (w.val = 16)
theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = false := rfl
theorem fgt_10 : fgt 10 = false := rfl
theorem fgt_11 : fgt 11 = false := rfl
theorem fgt_12 : fgt 12 = false := rfl
theorem fgt_13 : fgt 13 = false := rfl
theorem fgt_14 : fgt 14 = false := rfl
theorem fgt_15 : fgt 15 = false := rfl
theorem fgt_16 : fgt 16 = true := rfl

/-- The body on what the launch hands it, what is owed carried along. -/
theorem core (c : Dev nD) (t : Fin cfg0.N) (X : Vec F S1x2048x512 .bf16) :
    iprop((dat m OUT c).Φ t.castSucc ∗ (dat m OUT c).owesAt () t.castSucc ∗ owns (c : Thread nD τ) (a0 t) fullShare (iblk m c 0 t)
    ∗ owns (c : Thread nD τ) (a1 t) fullShare (iblk m c 1 t)
    ∗ owns (c : Thread nD τ) (a2 t) fullShare (iblk m c 2 t)
    ∗ owns (c : Thread nD τ) (a3 t) fullShare (iblk m c 3 t)
    ∗ owns (c : Thread nD τ) (a4 t) fullShare (iblk m c 4 t)
    ∗ owns (c : Thread nD τ) (a5 t) fullShare (iblk m c 5 t)
    ∗ owns (c : Thread nD τ) (a6 t) fullShare (iblk m c 6 t)
    ∗ owns (c : Thread nD τ) (a7 t) fullShare (iblk m c 7 t)
    ∗ owns (c : Thread nD τ) (a8 t) fullShare (iblk m c 8 t)
    ∗ owns (c : Thread nD τ) (a9 t) fullShare (iblk m c 9 t)
    ∗ owns (c : Thread nD τ) (a10 t) fullShare (iblk m c 10 t)
    ∗ owns (c : Thread nD τ) (a11 t) fullShare (iblk m c 11 t)
    ∗ owns (c : Thread nD τ) (a12 t) fullShare (iblk m c 12 t)
    ∗ owns (c : Thread nD τ) (a13 t) fullShare (iblk m c 13 t)
    ∗ owns (c : Thread nD τ) (a14 t) fullShare (iblk m c 14 t)
    ∗ owns (c : Thread nD τ) (a15 t) fullShare (iblk m c 15 t)
    ∗ owns (c : Thread nD τ) (a16 t) fullShare X)
      ⊢ wp frame (wpE (defs₀ (F := F)) Variants.none (c : Thread nD τ) none) Set.univ (bodyAt0 t)
          (fun _ => iprop((dat m OUT c).Φ t.succ ∗ (dat m OUT c).owesAt () t.succ ∗ owns (c : Thread nD τ) (a0 t) fullShare (iblk m c 0 t)
    ∗ owns (c : Thread nD τ) (a1 t) fullShare (iblk m c 1 t)
    ∗ owns (c : Thread nD τ) (a2 t) fullShare (iblk m c 2 t)
    ∗ owns (c : Thread nD τ) (a3 t) fullShare (iblk m c 3 t)
    ∗ owns (c : Thread nD τ) (a4 t) fullShare (iblk m c 4 t)
    ∗ owns (c : Thread nD τ) (a5 t) fullShare (iblk m c 5 t)
    ∗ owns (c : Thread nD τ) (a6 t) fullShare (iblk m c 6 t)
    ∗ owns (c : Thread nD τ) (a7 t) fullShare (iblk m c 7 t)
    ∗ owns (c : Thread nD τ) (a8 t) fullShare (iblk m c 8 t)
    ∗ owns (c : Thread nD τ) (a9 t) fullShare (iblk m c 9 t)
    ∗ owns (c : Thread nD τ) (a10 t) fullShare (iblk m c 10 t)
    ∗ owns (c : Thread nD τ) (a11 t) fullShare (iblk m c 11 t)
    ∗ owns (c : Thread nD τ) (a12 t) fullShare (iblk m c 12 t)
    ∗ owns (c : Thread nD τ) (a13 t) fullShare (iblk m c 13 t)
    ∗ owns (c : Thread nD τ) (a14 t) fullShare (iblk m c 14 t)
    ∗ owns (c : Thread nD τ) (a15 t) fullShare (iblk m c 15 t)
    ∗ ∃ Y, ⌜Left m c t X Y⌝ ∗ owns (c : Thread nD τ) (a16 t) fullShare Y)) := by
  rw [show (dat m OUT c).Φ t.castSucc = Phi m c t.val from rfl, show (dat m OUT c).Φ t.succ = Phi m c (t.val + 1) from rfl,
    show (dat m OUT c).owesAt () t.succ = (dat m OUT c).owesAt () t.castSucc from rfl]
  iintro ⟨HP, Ho, H0, H1, H2, H3, H4, H5, H6, H7, H8, H9, H10, H11, H12, H13, H14, H15, HX⟩
  iapply (wp_wand_r Idealize.ShloMosaic.frame (wpE (defs₀ (F := F)) Variants.none (c : Thread nD τ) none) Set.univ)
  isplitl [HP H0 H1 H2 H3 H4 H5 H6 H7 H8 H9 H10 H11 H12 H13 H14 H15 HX]
  · iapply (body_at m c t X)
    isplitl [HP]; · iexact HP
    isplitl [H0 H1 H2 H3 H4 H5 H6 H7 H8 H9 H10 H11 H12 H13 H14 H15]
    · unfold Ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iexact HX
  iintro %u ⟨HP, HI, HX⟩
  unfold Ins
  icases HI with ⟨H0, H1, H2, H3, H4, H5, H6, H7, H8, H9, H10, H11, H12, H13, H14, H15⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HX

set_option maxHeartbeats 1000000 in
/-- The body when nothing is asked of the result: its block holds anything before and after. -/
theorem obligation_forget (c : Dev nD) :
    BodyObligationLoose (dat m OUT c) (defs₀ (F := F)) Variants.none () Set.univ fgt := fun t => by
  rw [bigSep_W0, bigSep_W0, defs₀_row]
  simp only [fgt_0, fgt_1, fgt_2, fgt_3, fgt_4, fgt_5, fgt_6, fgt_7, fgt_8, fgt_9, fgt_10, fgt_11, fgt_12, fgt_13, fgt_14, fgt_15, fgt_16]
  simp only [before0_0, before0_1, before0_2, before0_3, before0_4, before0_5, before0_6, before0_7, before0_8, before0_9, before0_10, before0_11, before0_12, before0_13, before0_14, before0_15, after0_0, after0_1, after0_2, after0_3, after0_4, after0_5, after0_6, after0_7, after0_8, after0_9, after0_10, after0_11, after0_12, after0_13, after0_14, after0_15]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%X, HX⟩⟩
  iapply (wp_wand_r Idealize.ShloMosaic.frame (wpE (defs₀ (F := F)) Variants.none (c : Thread nD τ) none) Set.univ)
  isplitl [HP Ho H0 H1 H2 H3 H4 H5 H6 H7 H8 H9 H10 H11 H12 H13 H14 H15 HX]
  · iapply (core m OUT c t X)
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HX
  iintro %u ⟨HP, Ho, H0, H1, H2, H3, H4, H5, H6, H7, H8, H9, H10, H11, H12, H13, H14, H15, ⟨%Y, %hY, HX⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists Y; iexact HX

set_option maxHeartbeats 1000000 in
/-- The body when the result is asked for: the block the third step leaves is `OUT`'s, whatever it was reached from. -/
theorem obligation (hOUT : ∀ c t X Y, C3 (grid0.coords t) → Left m c t X Y → Y = OUT c t) (c : Dev nD) :
    BodyObligation (dat m OUT c) (defs₀ (F := F)) Variants.none () Set.univ := fun t => by
  rw [bigSep_W0, bigSep_W0, defs₀_row]
  simp only [before0_0, before0_1, before0_2, before0_3, before0_4, before0_5, before0_6, before0_7, before0_8, before0_9, before0_10, before0_11, before0_12, before0_13, before0_14, before0_15, after0_0, after0_1, after0_2, after0_3, after0_4, after0_5, after0_6, after0_7, after0_8, after0_9, after0_10, after0_11, after0_12, after0_13, after0_14, after0_15]
  rcases C_cases t with ⟨h, ht⟩ | ⟨h, ht⟩ | ⟨h, ht⟩
  · have hf : (cfg0.win 16).flush t = false := by
      rw [Bool.eq_false_iff]; intro hf; have := (flush0_16 t).mp hf; omega
    have hi : idle0 16 (grid0.coords t) = true := idle16_C1 h
    rw [show (win0 16).flush t = false from hf, hi]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, HX⟩⟩
    iapply (wp_wand_r Idealize.ShloMosaic.frame (wpE (defs₀ (F := F)) Variants.none (c : Thread nD τ) none) Set.univ)
    isplitl [HP Ho H0 H1 H2 H3 H4 H5 H6 H7 H8 H9 H10 H11 H12 H13 H14 H15 HX]
    · iapply (core m OUT c t _)
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact HX
    iintro %u ⟨HP, Ho, H0, H1, H2, H3, H4, H5, H6, H7, H8, H9, H10, H11, H12, H13, H14, H15, ⟨%Y, %hY, HX⟩⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    rw [hY.1 (fun h' => h.2.2.1 h'.2.2.1)]
    iexists d16; iexact HX
  · have hf : (cfg0.win 16).flush t = false := by
      rw [Bool.eq_false_iff]; intro hf; have := (flush0_16 t).mp hf; omega
    have hi : idle0 16 (grid0.coords t) = true := idle16_C2 h
    rw [show (win0 16).flush t = false from hf, hi]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, HX⟩⟩
    iapply (wp_wand_r Idealize.ShloMosaic.frame (wpE (defs₀ (F := F)) Variants.none (c : Thread nD τ) none) Set.univ)
    isplitl [HP Ho H0 H1 H2 H3 H4 H5 H6 H7 H8 H9 H10 H11 H12 H13 H14 H15 HX]
    · iapply (core m OUT c t _)
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact HX
    iintro %u ⟨HP, Ho, H0, H1, H2, H3, H4, H5, H6, H7, H8, H9, H10, H11, H12, H13, H14, H15, ⟨%Y, %hY, HX⟩⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    rw [hY.1 (fun h' => h.2.2.1 h'.2.2.1)]
    iexists d16; iexact HX
  · have hi : idle0 16 (grid0.coords t) = false := idle16_C3 h
    rw [hi]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, HX⟩⟩
    iapply (wp_wand_r Idealize.ShloMosaic.frame (wpE (defs₀ (F := F)) Variants.none (c : Thread nD τ) none) Set.univ)
    isplitl [HP Ho H0 H1 H2 H3 H4 H5 H6 H7 H8 H9 H10 H11 H12 H13 H14 H15 HX]
    · iapply (core m OUT c t _)
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact HX
    iintro %u ⟨HP, Ho, H0, H1, H2, H3, H4, H5, H6, H7, H8, H9, H10, H11, H12, H13, H14, H15, ⟨%Y, %hY, HX⟩⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    rw [after0_16, ← hOUT c t _ Y h hY]
    iexact HX

/-! ## The runs -/

theorem share_q (c : Dev nD) (w : Fin cfg0.W) (_ : (cfg0.spec w).isOut = false) : (dat m OUT c).q w = Pipeline.shareOf spec0 w := rfl

set_option backward.isDefEq.respectTransparency.types false in
/-- The program runs to its end, whatever it leaves in the result. -/
theorem run_forget : θ_run defs (onTc (τ := τ) (main (F := F))) (s₀ m ρ)
    (fun r => Pipeline.RDat.FramePost cfg0 (fun c => (dat m OUT c).toRForget fgt) (V m) r ∧ r.2.sem = fun _ => 0) :=
  Pipeline.θ_run_frame_track_forget_shared (Q' := _) cfgs (fun (_ : Fin 1) c => dat m OUT c) (0 : Fin 1) launch₀0 defs₀ Variants.none fgt m ρ main
    (hbody := obligation_forget m OUT) (hq := share_q m OUT) (howed := fun _ _ => rfl) (V := V m) (hmain := hmain m Variants.none) (hA := A_eq m OUT)
    (hin := fun c => phi_in m c) (hout := fun c => phi_out m c _) (hQ' := fun _ h => h)

set_option backward.isDefEq.respectTransparency.types false in
/-- The program runs to its end, the result's blocks at `OUT`. -/
theorem run_value (hOUT : ∀ c t X Y, C3 (grid0.coords t) → Left m c t X Y → Y = OUT c t) : θ_run defs (onTc (τ := τ) (main (F := F))) (s₀ m ρ)
    (fun r => Pipeline.FramePost cfgs (fun (_ : Fin 1) c => dat m OUT c) 0 (V m) r ∧ r.2.sem = fun _ => 0) :=
  Pipeline.θ_run_frame_track_shared (Q' := _) cfgs (fun (_ : Fin 1) c => dat m OUT c) (0 : Fin 1) launch₀0 defs₀ Variants.none m ρ main
    (hbody := fun c => (obligation m OUT hOUT c).loose) (hq := share_q m OUT) (howed := fun _ _ => rfl) (V := V m) (hmain := hmain m Variants.none) (hA := A_eq m OUT)
    (hin := fun c => phi_in m c) (hout := fun c => phi_out m c _) (hQ' := fun _ h => h)

include OUT in
/-- The program ends with its arguments as they were and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of main_arg0 (by decide) (by decide))).trans (V_main_arg0 m c),
      (show _ = V m c (Pipeline.arrRef spec0 7) from (congrFun (((dat m OUT c).toRForget fgt).ArrAt_in 7 rfl _) _).mp ((h.1 c).1 7)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_forget m ρ OUT)

end Cert.Proof.KernelIdeal

end
-- ==== Proof.ReferenceFrame.lean ====
/- The reference's frame: a host program without a launch, read off its run. -/
module

public import proofs.«01_k».proof.Defs
public import proofs.«01_k».proof.Proof.Gen.ReferenceIdeal.Run

@[expose] public section

namespace Cert.Proof

open Idealize.ShloMosaic Idealize.SL.Sem Cert.ReferenceIdeal

theorem frame_reference : Cert.quiescent_ReferenceIdeal (hReferenceIdeal := Cert.ReferenceIdeal.Gen.facts) := fun m ρ _ =>
  (θ_run defs _ _).mono (fun r h => ⟨fun c => (h c).2, sem_eq_zero_of_no_sems (by decide) r.2⟩) (Value.run (F := Ideal) m ρ)

end Cert.Proof
-- ==== Proof.MergeFrame.lean ====
/- The frames of the merge call and of its reference. -/
module

public import proofs.«01_k».proof.Defs
public import proofs.«01_k».proof.Proof.Gen.Merge
public import proofs.«01_k».proof.Proof.Gen.MergeIdeal.Frame
public import proofs.«01_k».proof.Proof.Gen.MergeRefIdeal.Run

@[expose] public section

set_option maxRecDepth 16384

namespace Cert.Proof

open Idealize.ShloMosaic Idealize.SL.Sem

/-- The idealized merge call terminates, keeps its arguments and leaves every counter at zero. -/
theorem frame_mergeIdeal : Cert.quiescent_MergeIdeal (hMergeIdeal := Cert.MergeIdeal.Gen.facts) := fun m ρ _ =>
  Cert.MergeIdeal.Gen.frame (F := Ideal) m ρ

section Same

attribute [local instance] Cert.Merge.Gen.facts

variable {F : FTy → Type} [FloatOps F]

/-! The merge call and its idealization are one text under two names. -/

theorem same_part : (Cert.Merge.k0_part1 (F := F)) = Cert.MergeIdeal.k0_part1 := by
  unfold Cert.Merge.k0_part1 Cert.MergeIdeal.k0_part1; rfl

theorem same_kernel : (Cert.Merge.cc0_merge_output (F := F)) = Cert.MergeIdeal.cc0_merge_output := by
  unfold Cert.Merge.cc0_merge_output Cert.MergeIdeal.cc0_merge_output
  rw [same_part]; rfl

theorem same_table : (Cert.Merge.defs₀ (F := F)) = Cert.MergeIdeal.defs₀ := by
  unfold Cert.Merge.defs₀ Cert.MergeIdeal.defs₀
  rw [same_kernel]
  congr 1
  funext l a
  match l, a with
  | 0, (t, s) => rfl

theorem same_defs : (Cert.Merge.defs (F := F)) = Cert.MergeIdeal.defs := by
  unfold Cert.Merge.defs Cert.MergeIdeal.defs
  rw [same_table]; rfl

theorem same_main : (Cert.Merge.main (F := F)) = Cert.MergeIdeal.main := by
  unfold Cert.Merge.main Cert.MergeIdeal.main; rfl

end Same

/-- The merge call does so too: its text is the idealized one's, and that run is stated over any float values. -/
theorem frame_merge : Cert.quiescent_Merge (hMerge := Cert.Merge.Gen.facts) := fun m ρ _ => by
  rw [same_defs, same_main]
  exact (θ_run Cert.MergeIdeal.defs _ _).mono (fun _ h => h) (Cert.MergeIdeal.Gen.frame (F := Bits) m ρ)

/-- The reference of the merge, a host program without a launch, does so too. -/
theorem frame_mergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

end Cert.Proof
-- ==== Proof.MergeCases.lean ====
module

public import proofs.«01_k».proof.Proof.Gen.MergeIdeal.Value

/-! # The merge kernel's blocks as values

What a grid point of the merge kernel leaves behind, as a term of its input blocks: the first point casts the four
weight matrices into its carried blocks, the later points find them there, and every point writes one block of 512 rows
of the result.
-/

@[expose] public section

set_option maxRecDepth 16384

namespace Cert.Proof.Merge

open Idealize Idealize.ShloMosaic Idealize.SL Idealize.SL.Sem
open Cert.MergeIdeal Cert.MergeIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first grid point the carried block 0 ends at the cast input weights. -/
theorem first_s0 (c : Dev nD) (i : grid0.Coords) (a1 : Memref sig .tc .vmem S512x1024 .f32) (h1 : a1.IsWhole) (a2 : Memref sig .tc .vmem S1x512x1024 .bf16) (h2 : a2.IsWhole) (a3 : Memref sig .tc .vmem S512x768 .bf16) (h3 : a3.IsWhole) (a4 : Memref sig .tc .vmem S512x512 .bf16) (h4 : a4.IsWhole) (a5 : Memref sig .tc .vmem S1024x2048 .f32) (h5 : a5.IsWhole) (a6 : Memref sig .tc .vmem S1x2048 .f32) (h6 : a6.IsWhole) (a7 : Memref sig .tc .vmem S768x1024 .f32) (h7 : a7.IsWhole) (a8 : Memref sig .tc .vmem S512x1024 .f32) (h8 : a8.IsWhole) (a9 : Memref sig .tc .vmem S1024x1024 .f32) (h9 : a9.IsWhole) (a10 : Memref sig .tc .vmem S512x1024 .f32) (h10 : a10.IsWhole) (a11 : Memref sig .tc .vmem S1024x2048 .bf16) (h11 : a11.IsWhole) (a12 : Memref sig .tc .vmem S768x1024 .bf16) (h12 : a12.IsWhole) (a13 : Memref sig .tc .vmem S512x1024 .bf16) (h13 : a13.IsWhole) (a14 : Memref sig .tc .vmem S1024x1024 .bf16) (h14 : a14.IsWhole) (hc : cond0_0 i) (x0 : Vec F S512x1024 .f32) (x1 : Vec F S1x512x1024 .bf16) (x2 : Vec F S512x768 .bf16) (x3 : Vec F S512x512 .bf16) (x4 : Vec F S1024x2048 .f32) (x5 : Vec F S1x2048 .f32) (x6 : Vec F S768x1024 .f32) (x7 : Vec F S512x1024 .f32) (x8 : Vec F S1024x1024 .f32) :
    sout0_A_0 (F := F) c i a1 h1 a2 h2 a3 h3 a4 h4 a5 h5 a6 h6 a7 h7 a8 h8 a9 h9 a10 h10 a11 h11 a12 h12 a13 h13 a14 h14 hc x0 x1 x2 x3 x4 x5 x6 x7 x8 = k0_pay1 x4 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread, h12.read_unread, h13.read_unread, h14.read_unread, View.ld_unit_zero (S := S512x1024) hz2, View.ld_unit_zero (S := S512x768) hz2, View.ld_unit_zero (S := S512x512) hz2, View.ld_unit_zero (S := S1024x2048) hz2, View.ld_unit_zero (S := S1x2048) hz2, View.ld_unit_zero (S := S768x1024) hz2, View.ld_unit_zero (S := S1024x1024) hz2, View.ld_unit_zero (S := S1x512x1024) hz3]

/-- At the first grid point the carried block 1 ends at the cast first mixer's weights. -/
theorem first_s1 (c : Dev nD) (i : grid0.Coords) (a1 : Memref sig .tc .vmem S512x1024 .f32) (h1 : a1.IsWhole) (a2 : Memref sig .tc .vmem S1x512x1024 .bf16) (h2 : a2.IsWhole) (a3 : Memref sig .tc .vmem S512x768 .bf16) (h3 : a3.IsWhole) (a4 : Memref sig .tc .vmem S512x512 .bf16) (h4 : a4.IsWhole) (a5 : Memref sig .tc .vmem S1024x2048 .f32) (h5 : a5.IsWhole) (a6 : Memref sig .tc .vmem S1x2048 .f32) (h6 : a6.IsWhole) (a7 : Memref sig .tc .vmem S768x1024 .f32) (h7 : a7.IsWhole) (a8 : Memref sig .tc .vmem S512x1024 .f32) (h8 : a8.IsWhole) (a9 : Memref sig .tc .vmem S1024x1024 .f32) (h9 : a9.IsWhole) (a10 : Memref sig .tc .vmem S512x1024 .f32) (h10 : a10.IsWhole) (a11 : Memref sig .tc .vmem S1024x2048 .bf16) (h11 : a11.IsWhole) (a12 : Memref sig .tc .vmem S768x1024 .bf16) (h12 : a12.IsWhole) (a13 : Memref sig .tc .vmem S512x1024 .bf16) (h13 : a13.IsWhole) (a14 : Memref sig .tc .vmem S1024x1024 .bf16) (h14 : a14.IsWhole) (hc : cond0_0 i) (x0 : Vec F S512x1024 .f32) (x1 : Vec F S1x512x1024 .bf16) (x2 : Vec F S512x768 .bf16) (x3 : Vec F S512x512 .bf16) (x4 : Vec F S1024x2048 .f32) (x5 : Vec F S1x2048 .f32) (x6 : Vec F S768x1024 .f32) (x7 : Vec F S512x1024 .f32) (x8 : Vec F S1024x1024 .f32) :
    sout0_A_1 (F := F) c i a1 h1 a2 h2 a3 h3 a4 h4 a5 h5 a6 h6 a7 h7 a8 h8 a9 h9 a10 h10 a11 h11 a12 h12 a13 h13 a14 h14 hc x0 x1 x2 x3 x4 x5 x6 x7 x8 = k0_pay2 x6 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread, h12.read_unread, h13.read_unread, h14.read_unread, View.ld_unit_zero (S := S512x1024) hz2, View.ld_unit_zero (S := S512x768) hz2, View.ld_unit_zero (S := S512x512) hz2, View.ld_unit_zero (S := S1024x2048) hz2, View.ld_unit_zero (S := S1x2048) hz2, View.ld_unit_zero (S := S768x1024) hz2, View.ld_unit_zero (S := S1024x1024) hz2, View.ld_unit_zero (S := S1x512x1024) hz3]

/-- At the first grid point the carried block 2 ends at the cast second mixer's weights. -/
theorem first_s2 (c : Dev nD) (i : grid0.Coords) (a1 : Memref sig .tc .vmem S512x1024 .f32) (h1 : a1.IsWhole) (a2 : Memref sig .tc .vmem S1x512x1024 .bf16) (h2 : a2.IsWhole) (a3 : Memref sig .tc .vmem S512x768 .bf16) (h3 : a3.IsWhole) (a4 : Memref sig .tc .vmem S512x512 .bf16) (h4 : a4.IsWhole) (a5 : Memref sig .tc .vmem S1024x2048 .f32) (h5 : a5.IsWhole) (a6 : Memref sig .tc .vmem S1x2048 .f32) (h6 : a6.IsWhole) (a7 : Memref sig .tc .vmem S768x1024 .f32) (h7 : a7.IsWhole) (a8 : Memref sig .tc .vmem S512x1024 .f32) (h8 : a8.IsWhole) (a9 : Memref sig .tc .vmem S1024x1024 .f32) (h9 : a9.IsWhole) (a10 : Memref sig .tc .vmem S512x1024 .f32) (h10 : a10.IsWhole) (a11 : Memref sig .tc .vmem S1024x2048 .bf16) (h11 : a11.IsWhole) (a12 : Memref sig .tc .vmem S768x1024 .bf16) (h12 : a12.IsWhole) (a13 : Memref sig .tc .vmem S512x1024 .bf16) (h13 : a13.IsWhole) (a14 : Memref sig .tc .vmem S1024x1024 .bf16) (h14 : a14.IsWhole) (hc : cond0_0 i) (x0 : Vec F S512x1024 .f32) (x1 : Vec F S1x512x1024 .bf16) (x2 : Vec F S512x768 .bf16) (x3 : Vec F S512x512 .bf16) (x4 : Vec F S1024x2048 .f32) (x5 : Vec F S1x2048 .f32) (x6 : Vec F S768x1024 .f32) (x7 : Vec F S512x1024 .f32) (x8 : Vec F S1024x1024 .f32) :
    sout0_A_2 (F := F) c i a1 h1 a2 h2 a3 h3 a4 h4 a5 h5 a6 h6 a7 h7 a8 h8 a9 h9 a10 h10 a11 h11 a12 h12 a13 h13 a14 h14 hc x0 x1 x2 x3 x4 x5 x6 x7 x8 = k0_pay3 x7 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread, h12.read_unread, h13.read_unread, h14.read_unread, View.ld_unit_zero (S := S512x1024) hz2, View.ld_unit_zero (S := S512x768) hz2, View.ld_unit_zero (S := S512x512) hz2, View.ld_unit_zero (S := S1024x2048) hz2, View.ld_unit_zero (S := S1x2048) hz2, View.ld_unit_zero (S := S768x1024) hz2, View.ld_unit_zero (S := S1024x1024) hz2, View.ld_unit_zero (S := S1x512x1024) hz3]

/-- At the first grid point the carried block 3 ends at the cast output weights. -/
theorem first_s3 (c : Dev nD) (i : grid0.Coords) (a1 : Memref sig .tc .vmem S512x1024 .f32) (h1 : a1.IsWhole) (a2 : Memref sig .tc .vmem S1x512x1024 .bf16) (h2 : a2.IsWhole) (a3 : Memref sig .tc .vmem S512x768 .bf16) (h3 : a3.IsWhole) (a4 : Memref sig .tc .vmem S512x512 .bf16) (h4 : a4.IsWhole) (a5 : Memref sig .tc .vmem S1024x2048 .f32) (h5 : a5.IsWhole) (a6 : Memref sig .tc .vmem S1x2048 .f32) (h6 : a6.IsWhole) (a7 : Memref sig .tc .vmem S768x1024 .f32) (h7 : a7.IsWhole) (a8 : Memref sig .tc .vmem S512x1024 .f32) (h8 : a8.IsWhole) (a9 : Memref sig .tc .vmem S1024x1024 .f32) (h9 : a9.IsWhole) (a10 : Memref sig .tc .vmem S512x1024 .f32) (h10 : a10.IsWhole) (a11 : Memref sig .tc .vmem S1024x2048 .bf16) (h11 : a11.IsWhole) (a12 : Memref sig .tc .vmem S768x1024 .bf16) (h12 : a12.IsWhole) (a13 : Memref sig .tc .vmem S512x1024 .bf16) (h13 : a13.IsWhole) (a14 : Memref sig .tc .vmem S1024x1024 .bf16) (h14 : a14.IsWhole) (hc : cond0_0 i) (x0 : Vec F S512x1024 .f32) (x1 : Vec F S1x512x1024 .bf16) (x2 : Vec F S512x768 .bf16) (x3 : Vec F S512x512 .bf16) (x4 : Vec F S1024x2048 .f32) (x5 : Vec F S1x2048 .f32) (x6 : Vec F S768x1024 .f32) (x7 : Vec F S512x1024 .f32) (x8 : Vec F S1024x1024 .f32) :
    sout0_A_3 (F := F) c i a1 h1 a2 h2 a3 h3 a4 h4 a5 h5 a6 h6 a7 h7 a8 h8 a9 h9 a10 h10 a11 h11 a12 h12 a13 h13 a14 h14 hc x0 x1 x2 x3 x4 x5 x6 x7 x8 = k0_pay4 x8 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread, h12.read_unread, h13.read_unread, h14.read_unread, View.ld_unit_zero (S := S512x1024) hz2, View.ld_unit_zero (S := S512x768) hz2, View.ld_unit_zero (S := S512x512) hz2, View.ld_unit_zero (S := S1024x2048) hz2, View.ld_unit_zero (S := S1x2048) hz2, View.ld_unit_zero (S := S768x1024) hz2, View.ld_unit_zero (S := S1024x1024) hz2, View.ld_unit_zero (S := S1x512x1024) hz3]

/-- What the first grid point writes: the block's value from the weights it has just cast. -/
theorem first_out (c : Dev nD) (i : grid0.Coords) (a1 : Memref sig .tc .vmem S512x1024 .f32) (h1 : a1.IsWhole) (a2 : Memref sig .tc .vmem S1x512x1024 .bf16) (h2 : a2.IsWhole) (a3 : Memref sig .tc .vmem S512x768 .bf16) (h3 : a3.IsWhole) (a4 : Memref sig .tc .vmem S512x512 .bf16) (h4 : a4.IsWhole) (a5 : Memref sig .tc .vmem S1024x2048 .f32) (h5 : a5.IsWhole) (a6 : Memref sig .tc .vmem S1x2048 .f32) (h6 : a6.IsWhole) (a7 : Memref sig .tc .vmem S768x1024 .f32) (h7 : a7.IsWhole) (a8 : Memref sig .tc .vmem S512x1024 .f32) (h8 : a8.IsWhole) (a9 : Memref sig .tc .vmem S1024x1024 .f32) (h9 : a9.IsWhole) (a10 : Memref sig .tc .vmem S512x1024 .f32) (h10 : a10.IsWhole) (a11 : Memref sig .tc .vmem S1024x2048 .bf16) (h11 : a11.IsWhole) (a12 : Memref sig .tc .vmem S768x1024 .bf16) (h12 : a12.IsWhole) (a13 : Memref sig .tc .vmem S512x1024 .bf16) (h13 : a13.IsWhole) (a14 : Memref sig .tc .vmem S1024x1024 .bf16) (h14 : a14.IsWhole) (hc : cond0_0 i) (x0 : Vec F S512x1024 .f32) (x1 : Vec F S1x512x1024 .bf16) (x2 : Vec F S512x768 .bf16) (x3 : Vec F S512x512 .bf16) (x4 : Vec F S1024x2048 .f32) (x5 : Vec F S1x2048 .f32) (x6 : Vec F S768x1024 .f32) (x7 : Vec F S512x1024 .f32) (x8 : Vec F S1024x1024 .f32) :
    out0_A_9 (F := F) c i a1 h1 a2 h2 a3 h3 a4 h4 a5 h5 a6 h6 a7 h7 a8 h8 a9 h9 a10 h10 a11 h11 a12 h12 a13 h13 a14 h14 hc x0 x1 x2 x3 x4 x5 x6 x7 x8
      = k0_pay5 x1 (k0_pay1 x4) x5 x2 (k0_pay2 x6) x3 (k0_pay3 x7) x0 (k0_pay4 x8) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_unit_zero hz2]
  simp only [View.readCov_unit_zero (S := S1024x2048) _ hz2, View.readCov_unit_zero (S := S768x1024) _ hz2, View.readCov_unit_zero (S := S512x1024) _ hz2, View.readCov_unit_zero (S := S1024x1024) _ hz2, View.readAt_eq_ld, h1.read_unread, h2.read_unread, h3.read_unread, h4.read_unread, h5.read_unread, h6.read_unread, h7.read_unread, h8.read_unread, h9.read_unread, h11.read_unread, h12.read_unread, h13.read_unread, h14.read_unread, View.ld_unit_zero (S := S512x1024) hz2, View.ld_unit_zero (S := S512x768) hz2, View.ld_unit_zero (S := S512x512) hz2, View.ld_unit_zero (S := S1024x2048) hz2, View.ld_unit_zero (S := S1x2048) hz2, View.ld_unit_zero (S := S768x1024) hz2, View.ld_unit_zero (S := S1024x1024) hz2, View.ld_unit_zero (S := S1x512x1024) hz3]

/-- What a later grid point writes: the block's value from the carried weights. -/
theorem later_out (c : Dev nD) (i : grid0.Coords) (a1 : Memref sig .tc .vmem S512x1024 .f32) (h1 : a1.IsWhole) (a2 : Memref sig .tc .vmem S1x512x1024 .bf16) (h2 : a2.IsWhole) (a3 : Memref sig .tc .vmem S512x768 .bf16) (h3 : a3.IsWhole) (a4 : Memref sig .tc .vmem S512x512 .bf16) (h4 : a4.IsWhole) (a5 : Memref sig .tc .vmem S1024x2048 .f32) (h5 : a5.IsWhole) (a6 : Memref sig .tc .vmem S1x2048 .f32) (h6 : a6.IsWhole) (a7 : Memref sig .tc .vmem S768x1024 .f32) (h7 : a7.IsWhole) (a8 : Memref sig .tc .vmem S512x1024 .f32) (h8 : a8.IsWhole) (a9 : Memref sig .tc .vmem S1024x1024 .f32) (h9 : a9.IsWhole) (a10 : Memref sig .tc .vmem S512x1024 .f32) (h10 : a10.IsWhole) (a11 : Memref sig .tc .vmem S1024x2048 .bf16) (h11 : a11.IsWhole) (a12 : Memref sig .tc .vmem S768x1024 .bf16) (h12 : a12.IsWhole) (a13 : Memref sig .tc .vmem S512x1024 .bf16) (h13 : a13.IsWhole) (a14 : Memref sig .tc .vmem S1024x1024 .bf16) (h14 : a14.IsWhole) (hc : ¬ cond0_0 i) (x0 : Vec F S512x1024 .f32) (x1 : Vec F S1x512x1024 .bf16) (x2 : Vec F S512x768 .bf16) (x3 : Vec F S512x512 .bf16) (x4 : Vec F S1024x2048 .f32) (x5 : Vec F S1x2048 .f32) (x6 : Vec F S768x1024 .f32) (x7 : Vec F S512x1024 .f32) (x8 : Vec F S1024x1024 .f32) (s0 : Vec F S1024x2048 .bf16) (s1 : Vec F S768x1024 .bf16) (s2 : Vec F S512x1024 .bf16) (s3 : Vec F S1024x1024 .bf16) :
    out0_B_9 (F := F) c i a1 h1 a2 h2 a3 h3 a4 h4 a5 h5 a6 h6 a7 h7 a8 h8 a9 h9 a10 h10 a11 h11 a12 h12 a13 h13 a14 h14 hc x0 x1 x2 x3 x4 x5 x6 x7 x8 s0 s1 s2 s3 = k0_pay5 x1 s0 x5 x2 s1 x3 s2 x0 s3 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc x0 x1 x2 x3 x4 x5 x6 x7 x8 s0 s1 s2 s3)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread, h12.read_unread, h13.read_unread, h14.read_unread, View.ld_unit_zero (S := S512x1024) hz2, View.ld_unit_zero (S := S512x768) hz2, View.ld_unit_zero (S := S512x512) hz2, View.ld_unit_zero (S := S1024x2048) hz2, View.ld_unit_zero (S := S1x2048) hz2, View.ld_unit_zero (S := S768x1024) hz2, View.ld_unit_zero (S := S1024x1024) hz2, View.ld_unit_zero (S := S1x512x1024) hz3]

end Cert.Proof.Merge

end
-- ==== Proof.MergeValue.lean ====
module

public import proofs.«01_k».proof.Proof.MergeCases
public import Idealize.ShloMosaic.Lib.Pointwise
public import Idealize.ShloMosaic.Lib.StableHlo.ReadAt

/-! # The merge kernel's result, element by element

Over the extended reals: what every grid point writes, as a sum of products of the launch's argument arrays, and with it
the array the launch leaves.
-/

@[expose] public section

set_option maxRecDepth 16384

noncomputable section

namespace Cert.Proof.Merge

open Idealize Idealize.ShloMosaic Idealize.ShloMosaic.TcCoe Idealize.SL Idealize.SL.Sem
open Cert.MergeIdeal Cert.MergeIdeal.Gen

variable (m : (ℓ : Loc nD τ sig) → Buf (Elt Ideal) ℓ)

/-! ## The blocks of the windows -/

theorem index_0 : ∀ t : Fin cfg0.N, win0_0.index t 0 = t.val ∧ win0_0.index t 1 = 0 :=
  (by decide +kernel : ∀ t : Fin grid0.N, _)

/-- Window 0 stages row block `t` of the residual. -/
theorem block_0 (c : Dev nD) (t : Fin cfg0.N) (j0 : Fin 512) (j1 : Fin 1024) (p : Fin 32768) (hp : p.val = t.val * 512 + j0.val) :
    iblk m c 0 t (ix2 j0 j1) = V m c main_v14 (ix2 p j1) := by
  have hi := index_0 t
  unfold iblk
  rw [View.read_apply]
  show V m c main_v14 _ = _
  refine congrArg (V m c main_v14) (funext fun a => Fin.ext ?_)
  match a with
  | ⟨0, _⟩ => show win0_0.index t 0 * 512 + 1 * j0.val = p.val; rw [hi.1]; omega
  | ⟨1, _⟩ => show win0_0.index t 1 * 1024 + 1 * j1.val = j1.val; rw [hi.2]; omega

theorem index_2 : ∀ t : Fin cfg0.N, win0_2.index t 0 = t.val ∧ win0_2.index t 1 = 0 :=
  (by decide +kernel : ∀ t : Fin grid0.N, _)

/-- Window 2 stages row block `t` of the first mixer's output. -/
theorem block_2 (c : Dev nD) (t : Fin cfg0.N) (j0 : Fin 512) (j1 : Fin 768) (p : Fin 32768) (hp : p.val = t.val * 512 + j0.val) :
    iblk m c 2 t (ix2 j0 j1) = V m c main_v17 (ix2 p j1) := by
  have hi := index_2 t
  unfold iblk
  rw [View.read_apply]
  show V m c main_v17 _ = _
  refine congrArg (V m c main_v17) (funext fun a => Fin.ext ?_)
  match a with
  | ⟨0, _⟩ => show win0_2.index t 0 * 512 + 1 * j0.val = p.val; rw [hi.1]; omega
  | ⟨1, _⟩ => show win0_2.index t 1 * 768 + 1 * j1.val = j1.val; rw [hi.2]; omega

theorem index_3 : ∀ t : Fin cfg0.N, win0_3.index t 0 = t.val ∧ win0_3.index t 1 = 0 :=
  (by decide +kernel : ∀ t : Fin grid0.N, _)

/-- Window 3 stages row block `t` of the second mixer's output. -/
theorem block_3 (c : Dev nD) (t : Fin cfg0.N) (j0 : Fin 512) (j1 : Fin 512) (p : Fin 32768) (hp : p.val = t.val * 512 + j0.val) :
    iblk m c 3 t (ix2 j0 j1) = V m c main_v19 (ix2 p j1) := by
  have hi := index_3 t
  unfold iblk
  rw [View.read_apply]
  show V m c main_v19 _ = _
  refine congrArg (V m c main_v19) (funext fun a => Fin.ext ?_)
  match a with
  | ⟨0, _⟩ => show win0_3.index t 0 * 512 + 1 * j0.val = p.val; rw [hi.1]; omega
  | ⟨1, _⟩ => show win0_3.index t 1 * 512 + 1 * j1.val = j1.val; rw [hi.2]; omega

theorem index_4 : ∀ t : Fin cfg0.N, win0_4.index t 0 = 0 ∧ win0_4.index t 1 = 4 :=
  (by decide +kernel : ∀ t : Fin grid0.N, _)

/-- Window 4 stages the gates' columns of the input weights. -/
theorem block_4 (c : Dev nD) (t : Fin cfg0.N) (j0 : Fin 1024) (j1 : Fin 2048) :
    iblk m c 4 t (ix2 j0 j1) = V m c main_arg4 (ix2 j0 ⟨8192 + j1.val, by have h3 := j1.isLt; omega⟩) := by
  have hi := index_4 t
  unfold iblk
  rw [View.read_apply]
  show V m c main_arg4 _ = _
  refine congrArg (V m c main_arg4) (funext fun a => Fin.ext ?_)
  match a with
  | ⟨0, _⟩ => show win0_4.index t 0 * 1024 + 1 * j0.val = j0.val; rw [hi.1]; omega
  | ⟨1, _⟩ => show win0_4.index t 1 * 2048 + 1 * j1.val = 8192 + j1.val; rw [hi.2]; omega

theorem index_5 : ∀ t : Fin cfg0.N, win0_5.index t 0 = 0 ∧ win0_5.index t 1 = 4 :=
  (by decide +kernel : ∀ t : Fin grid0.N, _)

/-- Window 5 stages the gates' part of the input bias. -/
theorem block_5 (c : Dev nD) (t : Fin cfg0.N) (j0 : Fin 1) (j1 : Fin 2048) :
    iblk m c 5 t (ix2 j0 j1) = V m c main_v20 (ix2 j0 ⟨8192 + j1.val, by have h3 := j1.isLt; omega⟩) := by
  have hi := index_5 t
  unfold iblk
  rw [View.read_apply]
  show V m c main_v20 _ = _
  refine congrArg (V m c main_v20) (funext fun a => Fin.ext ?_)
  match a with
  | ⟨0, _⟩ => show win0_5.index t 0 * 1 + 1 * j0.val = j0.val; rw [hi.1]; omega
  | ⟨1, _⟩ => show win0_5.index t 1 * 2048 + 1 * j1.val = 8192 + j1.val; rw [hi.2]; omega

theorem index_6 : ∀ t : Fin cfg0.N, win0_6.index t 0 = 0 ∧ win0_6.index t 1 = 0 :=
  (by decide +kernel : ∀ t : Fin grid0.N, _)

/-- Window 6 stages the first mixer's weights. -/
theorem block_6 (c : Dev nD) (t : Fin cfg0.N) (j0 : Fin 768) (j1 : Fin 1024) :
    iblk m c 6 t (ix2 j0 j1) = V m c main_arg6 (ix2 j0 j1) := by
  have hi := index_6 t
  unfold iblk
  rw [View.read_apply]
  show V m c main_arg6 _ = _
  refine congrArg (V m c main_arg6) (funext fun a => Fin.ext ?_)
  match a with
  | ⟨0, _⟩ => show win0_6.index t 0 * 768 + 1 * j0.val = j0.val; rw [hi.1]; omega
  | ⟨1, _⟩ => show win0_6.index t 1 * 1024 + 1 * j1.val = j1.val; rw [hi.2]; omega

theorem index_7 : ∀ t : Fin cfg0.N, win0_7.index t 0 = 0 ∧ win0_7.index t 1 = 0 :=
  (by decide +kernel : ∀ t : Fin grid0.N, _)

/-- Window 7 stages the second mixer's weights. -/
theorem block_7 (c : Dev nD) (t : Fin cfg0.N) (j0 : Fin 512) (j1 : Fin 1024) :
    iblk m c 7 t (ix2 j0 j1) = V m c main_arg7 (ix2 j0 j1) := by
  have hi := index_7 t
  unfold iblk
  rw [View.read_apply]
  show V m c main_arg7 _ = _
  refine congrArg (V m c main_arg7) (funext fun a => Fin.ext ?_)
  match a with
  | ⟨0, _⟩ => show win0_7.index t 0 * 512 + 1 * j0.val = j0.val; rw [hi.1]; omega
  | ⟨1, _⟩ => show win0_7.index t 1 * 1024 + 1 * j1.val = j1.val; rw [hi.2]; omega

theorem index_8 : ∀ t : Fin cfg0.N, win0_8.index t 0 = 0 ∧ win0_8.index t 1 = 0 :=
  (by decide +kernel : ∀ t : Fin grid0.N, _)

/-- Window 8 stages the output weights. -/
theorem block_8 (c : Dev nD) (t : Fin cfg0.N) (j0 : Fin 1024) (j1 : Fin 1024) :
    iblk m c 8 t (ix2 j0 j1) = V m c main_arg8 (ix2 j0 j1) := by
  have hi := index_8 t
  unfold iblk
  rw [View.read_apply]
  show V m c main_arg8 _ = _
  refine congrArg (V m c main_arg8) (funext fun a => Fin.ext ?_)
  match a with
  | ⟨0, _⟩ => show win0_8.index t 0 * 1024 + 1 * j0.val = j0.val; rw [hi.1]; omega
  | ⟨1, _⟩ => show win0_8.index t 1 * 1024 + 1 * j1.val = j1.val; rw [hi.2]; omega

theorem index_1 : ∀ t : Fin cfg0.N, win0_1.index t 0 = 2 ∧ win0_1.index t 1 = t.val ∧ win0_1.index t 2 = 0 :=
  (by decide +kernel : ∀ t : Fin grid0.N, _)

theorem place_1_0 (t : Fin cfg0.N) (j0 : Fin 1) (j1 : Fin 512) (j2 : Fin 1024) :
    (((cfg0.win 1).blk t).view.emb (ix3 j0 j1 j2) (0 : Fin 3)).val = win0_1.index t 0 * 1 + 1 * j0.val := rfl
theorem place_1_1 (t : Fin cfg0.N) (j0 : Fin 1) (j1 : Fin 512) (j2 : Fin 1024) :
    (((cfg0.win 1).blk t).view.emb (ix3 j0 j1 j2) (1 : Fin 3)).val = win0_1.index t 1 * 512 + 1 * j1.val := rfl
theorem place_1_2 (t : Fin cfg0.N) (j0 : Fin 1) (j1 : Fin 512) (j2 : Fin 1024) :
    (((cfg0.win 1).blk t).view.emb (ix3 j0 j1 j2) (2 : Fin 3)).val = win0_1.index t 2 * 1024 + 1 * j2.val := rfl

theorem place_1 (t : Fin cfg0.N) (j0 : Fin 1) (j1 : Fin 512) (j2 : Fin 1024) (p : Fin 32768) (hp : p.val = t.val * 512 + j1.val) :
    ((cfg0.win 1).blk t).view.emb (ix3 j0 j1 j2) = (ix3 2 p j2 : S3x32768x1024.Idx) := by
  have hi := index_1 t
  funext a
  apply Fin.ext
  match a with
  | ⟨0, _⟩ => refine (place_1_0 t j0 j1 j2).trans ?_; rw [hi.1]; have := j0.isLt; show 2 * 1 + 1 * j0.val = 2; omega
  | ⟨1, _⟩ => refine (place_1_1 t j0 j1 j2).trans ?_; rw [hi.2.1]; show t.val * 512 + 1 * j1.val = p.val; omega
  | ⟨2, _⟩ => refine (place_1_2 t j0 j1 j2).trans ?_; rw [hi.2.2]; show 0 * 1024 + 1 * j2.val = j2.val; omega

/-- Window 1 reads row block `t` of the third plane of its array. -/
theorem read_1 (c : Dev nD) (f : Buf (Elt Ideal) ((c : Thread nD τ).loc main_v15)) (t : Fin cfg0.N) (j0 : Fin 1) (j1 : Fin 512) (j2 : Fin 1024)
    (p : Fin 32768) (hp : p.val = t.val * 512 + j1.val) :
    ((cfg0.win 1).blk t).view.read (Elt Ideal) f (ix3 j0 j1 j2) = f (ix3 2 p j2) := by
  rw [View.read_apply]
  exact congrArg f (place_1 t j0 j1 j2 p hp)

/-- Window 1 stages row block `t` of the third plane of the activations: the one whose stride is 1. -/
theorem block_1 (c : Dev nD) (t : Fin cfg0.N) (j0 : Fin 1) (j1 : Fin 512) (j2 : Fin 1024) (p : Fin 32768) (hp : p.val = t.val * 512 + j1.val) :
    iblk m c 1 t (ix3 j0 j1 j2) = V m c main_v15 (ix3 2 p j2) :=
  read_1 c (V m c main_v15) t j0 j1 j2 p hp

/-- Window 4's block is the same one at every point. -/
theorem still_4 (c : Dev nD) (t t' : Fin cfg0.N) : iblk m c 4 t = iblk m c 4 t' := by
  funext j
  obtain ⟨a, b, rfl⟩ : ∃ (a : Fin 1024) (b : Fin 2048), j = ix2 a b := ⟨j 0, j 1, eq_ix2 j⟩
  exact (block_4 m c t a b).trans (block_4 m c t' a b).symm

/-- Window 5's block is the same one at every point. -/
theorem still_5 (c : Dev nD) (t t' : Fin cfg0.N) : iblk m c 5 t = iblk m c 5 t' := by
  funext j
  obtain ⟨a, b, rfl⟩ : ∃ (a : Fin 1) (b : Fin 2048), j = ix2 a b := ⟨j 0, j 1, eq_ix2 j⟩
  exact (block_5 m c t a b).trans (block_5 m c t' a b).symm

/-- Window 6's block is the same one at every point. -/
theorem still_6 (c : Dev nD) (t t' : Fin cfg0.N) : iblk m c 6 t = iblk m c 6 t' := by
  funext j
  obtain ⟨a, b, rfl⟩ : ∃ (a : Fin 768) (b : Fin 1024), j = ix2 a b := ⟨j 0, j 1, eq_ix2 j⟩
  exact (block_6 m c t a b).trans (block_6 m c t' a b).symm

/-- Window 7's block is the same one at every point. -/
theorem still_7 (c : Dev nD) (t t' : Fin cfg0.N) : iblk m c 7 t = iblk m c 7 t' := by
  funext j
  obtain ⟨a, b, rfl⟩ : ∃ (a : Fin 512) (b : Fin 1024), j = ix2 a b := ⟨j 0, j 1, eq_ix2 j⟩
  exact (block_7 m c t a b).trans (block_7 m c t' a b).symm

/-- Window 8's block is the same one at every point. -/
theorem still_8 (c : Dev nD) (t t' : Fin cfg0.N) : iblk m c 8 t = iblk m c 8 t' := by
  funext j
  obtain ⟨a, b, rfl⟩ : ∃ (a : Fin 1024) (b : Fin 1024), j = ix2 a b := ⟨j 0, j 1, eq_ix2 j⟩
  exact (block_8 m c t a b).trans (block_8 m c t' a b).symm

/-! ## What the points leave -/

/-- After every point: the point's block of the result, and the cast weights in the carried blocks. -/
theorem outs_eq (c : Dev nD) : ∀ (n : ℕ) (h : n < cfg0.N), outsAt0 m c n h
    = (k0_pay5 (iblk m c 1 ⟨n, h⟩) (k0_pay1 (iblk m c 4 ⟨n, h⟩)) (iblk m c 5 ⟨n, h⟩) (iblk m c 2 ⟨n, h⟩) (k0_pay2 (iblk m c 6 ⟨n, h⟩))
        (iblk m c 3 ⟨n, h⟩) (k0_pay3 (iblk m c 7 ⟨n, h⟩)) (iblk m c 0 ⟨n, h⟩) (k0_pay4 (iblk m c 8 ⟨n, h⟩)),
      k0_pay1 (iblk m c 4 ⟨n, h⟩), k0_pay2 (iblk m c 6 ⟨n, h⟩), k0_pay3 (iblk m c 7 ⟨n, h⟩), k0_pay4 (iblk m c 8 ⟨n, h⟩))
  | 0, h => (outsAt0_A m c ⟨0, h⟩ rfl).trans (by rw [first_out, first_s0, first_s1, first_s2, first_s3])
  | n + 1, h => by
    have hN : cfg0.N = 64 := N_0
    have hB : ¬(⟨n + 1, h⟩ : Fin cfg0.N).val % 64 = 0 := by dsimp only; omega
    refine (outsAt0_B m c ⟨n + 1, h⟩ hB).trans ?_
    have ih := outs_eq c n (Nat.lt_of_succ_lt h)
    have e : (outsAt0 m c ((⟨n + 1, h⟩ : Fin cfg0.N).val - 1) (Nat.lt_of_le_of_lt (Nat.sub_le _ _) (⟨n + 1, h⟩ : Fin cfg0.N).isLt)) = _ := ih
    unfold sout0_B_0 sout0_B_1 sout0_B_2 sout0_B_3
    rw [later_out, e, still_4 m c ⟨n + 1, h⟩ ⟨n, Nat.lt_of_succ_lt h⟩, still_6 m c ⟨n + 1, h⟩ ⟨n, Nat.lt_of_succ_lt h⟩,
      still_7 m c ⟨n + 1, h⟩ ⟨n, Nat.lt_of_succ_lt h⟩, still_8 m c ⟨n + 1, h⟩ ⟨n, Nat.lt_of_succ_lt h⟩]

/-- The merge, element by element: the residual plus the gated sum of the two mixers' projections through the output
    weights. Row `r` of the flattened rows is row `r % 2048` of example `r / 2048`. -/
def merged (x xn : (⟨3, ![16, 2048, 1024]⟩ : Shape).Idx → EReal) (gh : (⟨3, ![16, 2048, 768]⟩ : Shape).Idx → EReal)
    (ga : (⟨3, ![16, 2048, 512]⟩ : Shape).Idx → EReal) (wi : (⟨2, ![1024, 10240]⟩ : Shape).Idx → EReal)
    (b : (⟨1, ![10240]⟩ : Shape).Idx → EReal) (wh : (⟨2, ![768, 1024]⟩ : Shape).Idx → EReal)
    (wa : (⟨2, ![512, 1024]⟩ : Shape).Idx → EReal) (wo : (⟨2, ![1024, 1024]⟩ : Shape).Idx → EReal)
    (e : Fin 16) (s : Fin 2048) (l : Fin 1024) : EReal :=
  x (ix3 e s l) + ∑ n : Fin 1024,
    (Ideal.logistic ((∑ k : Fin 1024, xn (ix3 e s k) * wi (ix2 k ⟨8192 + n.val, by have := n.isLt; omega⟩))
          + b (ix1 ⟨8192 + n.val, by have := n.isLt; omega⟩)) * ∑ k : Fin 768, gh (ix3 e s k) * wh (ix2 k n)
      + Ideal.logistic ((∑ k : Fin 1024, xn (ix3 e s k) * wi (ix2 k ⟨9216 + n.val, by have := n.isLt; omega⟩))
          + b (ix1 ⟨9216 + n.val, by have := n.isLt; omega⟩)) * ∑ k : Fin 512, ga (ix3 e s k) * wa (ix2 k n))
    * wo (ix2 n l)

/-- One block of the result, element by element. -/
theorem block_apply (x1 : Vec Ideal S1x512x1024 .bf16) (x4 : Vec Ideal S1024x2048 .f32) (x5 : Vec Ideal S1x2048 .f32)
    (x2 : Vec Ideal S512x768 .bf16) (x6 : Vec Ideal S768x1024 .f32) (x3 : Vec Ideal S512x512 .bf16) (x7 : Vec Ideal S512x1024 .f32)
    (x0 : Vec Ideal S512x1024 .f32) (x8 : Vec Ideal S1024x1024 .f32) (r : Fin 512) (l : Fin 1024) :
    k0_pay5 (F := Ideal) x1 (k0_pay1 x4) x5 x2 (k0_pay2 x6) x3 (k0_pay3 x7) x0 (k0_pay4 x8) (ix2 r l)
      = x0 (ix2 r l) + ∑ n : Fin 1024,
        (Ideal.logistic ((∑ k : Fin 1024, x1 (ix3 0 r k) * x4 (ix2 k ⟨n.val, by have := n.isLt; omega⟩))
              + x5 (ix2 0 ⟨n.val, by have := n.isLt; omega⟩)) * ∑ k : Fin 768, x2 (ix2 r k) * x6 (ix2 k n)
          + Ideal.logistic ((∑ k : Fin 1024, x1 (ix3 0 r k) * x4 (ix2 k ⟨1024 + n.val, by have := n.isLt; omega⟩))
              + x5 (ix2 0 ⟨1024 + n.val, by have := n.isLt; omega⟩)) * ∑ k : Fin 512, x3 (ix2 r k) * x7 (ix2 k n))
        * x8 (ix2 n l) := by
  pointwise [k0_pay5, k0_pay1, k0_pay2, k0_pay3, k0_pay4]

/-! ## The arrays the windows read, as the launch finds them -/

theorem array_14 (c : Dev nD) (r : Fin 32768) (l : Fin 1024) :
    V m c main_v14 (ix2 r l) = m ((c : Thread nD τ).loc main_arg0) (ix3 ⟨r.val / 2048, by have := r.isLt; omega⟩ ⟨r.val % 2048, by have := r.isLt; omega⟩ l) := by
  unfold V
  after_reads_at

theorem array_15 (c : Dev nD) (r : Fin 32768) (l : Fin 1024) :
    V m c main_v15 (ix3 2 r l) = m ((c : Thread nD τ).loc main_arg1) (ix3 ⟨r.val / 2048, by have := r.isLt; omega⟩ ⟨r.val % 2048, by have := r.isLt; omega⟩ l) := by
  unfold V
  after_reads_at
  after_reads_at

theorem array_17 (c : Dev nD) (r : Fin 32768) (l : Fin 768) :
    V m c main_v17 (ix2 r l) = m ((c : Thread nD τ).loc main_arg2) (ix3 ⟨r.val / 2048, by have := r.isLt; omega⟩ ⟨r.val % 2048, by have := r.isLt; omega⟩ l) := by
  unfold V
  after_reads_at

theorem array_19 (c : Dev nD) (r : Fin 32768) (l : Fin 512) :
    V m c main_v19 (ix2 r l) = m ((c : Thread nD τ).loc main_arg3) (ix3 ⟨r.val / 2048, by have := r.isLt; omega⟩ ⟨r.val % 2048, by have := r.isLt; omega⟩ l) := by
  unfold V
  after_reads_at

theorem array_20 (c : Dev nD) (l : Fin 10240) :
    V m c main_v20 (ix2 0 l) = m ((c : Thread nD τ).loc main_arg5) (ix1 l) := by
  unfold V
  after_reads_at

/-! ## The blocks in the argument arrays -/

theorem input_0 (c : Dev nD) (t : Fin cfg0.N) (j0 : Fin 512) (j1 : Fin 1024) (r : Fin 32768) (hr : r.val = t.val * 512 + j0.val) :
    iblk m c 0 t (ix2 j0 j1) = m ((c : Thread nD τ).loc main_arg0) (ix3 ⟨r.val / 2048, by have := r.isLt; omega⟩ ⟨r.val % 2048, by have := r.isLt; omega⟩ j1) :=
  (block_0 m c t j0 j1 r hr).trans (array_14 m c r j1)

theorem input_2 (c : Dev nD) (t : Fin cfg0.N) (j0 : Fin 512) (j1 : Fin 768) (r : Fin 32768) (hr : r.val = t.val * 512 + j0.val) :
    iblk m c 2 t (ix2 j0 j1) = m ((c : Thread nD τ).loc main_arg2) (ix3 ⟨r.val / 2048, by have := r.isLt; omega⟩ ⟨r.val % 2048, by have := r.isLt; omega⟩ j1) :=
  (block_2 m c t j0 j1 r hr).trans (array_17 m c r j1)

theorem input_3 (c : Dev nD) (t : Fin cfg0.N) (j0 : Fin 512) (j1 : Fin 512) (r : Fin 32768) (hr : r.val = t.val * 512 + j0.val) :
    iblk m c 3 t (ix2 j0 j1) = m ((c : Thread nD τ).loc main_arg3) (ix3 ⟨r.val / 2048, by have := r.isLt; omega⟩ ⟨r.val % 2048, by have := r.isLt; omega⟩ j1) :=
  (block_3 m c t j0 j1 r hr).trans (array_19 m c r j1)

theorem input_1 (c : Dev nD) (t : Fin cfg0.N) (j0 : Fin 1) (j1 : Fin 512) (j2 : Fin 1024) (r : Fin 32768) (hr : r.val = t.val * 512 + j1.val) :
    iblk m c 1 t (ix3 j0 j1 j2) = m ((c : Thread nD τ).loc main_arg1) (ix3 ⟨r.val / 2048, by have := r.isLt; omega⟩ ⟨r.val % 2048, by have := r.isLt; omega⟩ j2) :=
  (block_1 m c t j0 j1 j2 r hr).trans (array_15 m c r j2)

theorem input_4 (c : Dev nD) (t : Fin cfg0.N) (j0 : Fin 1024) (j1 : Fin 2048) :
    iblk m c 4 t (ix2 j0 j1) = m ((c : Thread nD τ).loc main_arg4) (ix2 j0 ⟨8192 + j1.val, by have h3 := j1.isLt; omega⟩) :=
  (block_4 m c t j0 j1).trans (congrFun (V_main_arg4 m c) _)

theorem input_5 (c : Dev nD) (t : Fin cfg0.N) (j1 : Fin 2048) :
    iblk m c 5 t (ix2 0 j1) = m ((c : Thread nD τ).loc main_arg5) (ix1 ⟨8192 + j1.val, by have h3 := j1.isLt; omega⟩) :=
  (block_5 m c t 0 j1).trans (array_20 m c _)

theorem input_6 (c : Dev nD) (t : Fin cfg0.N) (j0 : Fin 768) (j1 : Fin 1024) :
    iblk m c 6 t (ix2 j0 j1) = m ((c : Thread nD τ).loc main_arg6) (ix2 j0 j1) :=
  (block_6 m c t j0 j1).trans (congrFun (V_main_arg6 m c) _)

theorem input_7 (c : Dev nD) (t : Fin cfg0.N) (j0 : Fin 512) (j1 : Fin 1024) :
    iblk m c 7 t (ix2 j0 j1) = m ((c : Thread nD τ).loc main_arg7) (ix2 j0 j1) :=
  (block_7 m c t j0 j1).trans (congrFun (V_main_arg7 m c) _)

theorem input_8 (c : Dev nD) (t : Fin cfg0.N) (j0 : Fin 1024) (j1 : Fin 1024) :
    iblk m c 8 t (ix2 j0 j1) = m ((c : Thread nD τ).loc main_arg8) (ix2 j0 j1) :=
  (block_8 m c t j0 j1).trans (congrFun (V_main_arg8 m c) _)

/-! ## The result -/

/-- What a point writes is the merge's rows of that point. -/
theorem outs_apply (c : Dev nD) (n : ℕ) (h : n < cfg0.N) (j : Fin 512) (l : Fin 1024) (r : Fin 32768) (hr : r.val = n * 512 + j.val) :
    (outsAt0 m c n h).1 (ix2 j l) = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨r.val / 2048, by have := r.isLt; omega⟩ ⟨r.val % 2048, by have := r.isLt; omega⟩ l := by
  rw [outs_eq]
  refine (block_apply _ _ _ _ _ _ _ _ _ j l).trans ?_
  unfold merged
  simp only [input_0 m c ⟨n, h⟩ j _ r hr, input_1 m c ⟨n, h⟩ 0 j _ r hr, input_2 m c ⟨n, h⟩ j _ r hr, input_3 m c ⟨n, h⟩ j _ r hr,
    input_4, input_5, input_6, input_7, input_8, ← Nat.add_assoc, Nat.reduceAdd]

/-- The array the launch leaves is the merge of the argument arrays. -/
theorem result_apply (c : Dev nD) (r : Fin 32768) (l : Fin 1024) :
    Value.G9 m c (ix2 r l) = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨r.val / 2048, by have := r.isLt; omega⟩ ⟨r.val % 2048, by have := r.isLt; omega⟩ l := by
  have hr := r.isLt
  have hl := l.isLt
  have hN : cfg0.N = 64 := N_0
  have hp : Value.pt9Of (ix2 r l) = r.val / 512 := by
    show 1 * (r.val / 512 - 0) + 1 * (l.val / 1024 - 0) = _
    omega
  have h : Value.pt9Of (ix2 r l) < cfg0.N := by rw [hp]; omega
  have hloc : Value.loc9Of (ix2 r l) = ix2 (⟨r.val % 512, by omega⟩ : Fin 512) l := by
    funext a
    apply Fin.ext
    match a with
    | ⟨0, _⟩ => rfl
    | ⟨1, _⟩ => show l.val % 1024 = l.val; omega
  unfold Value.G9
  rw [dif_pos h, ← Value.outsAt0_sweep m c _ h, hloc]
  exact outs_apply m c _ h _ l r (by rw [hp]; show r.val = r.val / 512 * 512 + r.val % 512; omega)

end Cert.Proof.Merge

end

end
-- ==== Proof.MergeClaim.lean ====
module

public import proofs.«01_k».proof.Defs
public import proofs.«01_k».proof.Proof.MergeValue
public import proofs.«01_k».proof.Proof.Gen.MergeRefIdeal.Run

/-! # The merge call computes its reference

Over the extended reals the array the launch leaves and the reference's result are the same sums, element by element.
-/

@[expose] public section

set_option maxRecDepth 16384

noncomputable section

namespace Cert.Proof.Merge

open Idealize Idealize.ShloMosaic Idealize.ShloMosaic.TcCoe Idealize.SL Idealize.SL.Sem

section Reference

open Cert.MergeRefIdeal Cert.MergeRefIdeal.Gen

/-- The reference's result as a term of its arguments. -/
def reference (x : FVec Ideal S16x2048x1024 .f32) (xn : FVec Ideal S16x2048x1024 .f32) (gh : FVec Ideal S16x2048x768 .f32) (ga : FVec Ideal S16x2048x512 .f32) (wi : FVec Ideal S1024x10240 .f32) (b : FVec Ideal S10240 .f32) (wh : FVec Ideal S768x1024 .f32) (wa : FVec Ideal S512x1024 .f32) (wo : FVec Ideal S1024x1024 .f32) : FVec Ideal S32768x1024 .f32 :=
  shapeCast S32768x1024 (addf x (Host.dotGeneral dot_S16x2048x1024_S1024x1024_S16x2048x1024_2_0_01_1_n_n none (addf (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (addf (Host.dotGeneral dot_S16x2048x1024_S1024x1024_S16x2048x1024_2_0_01_1_n_n none xn (extractStridedSlice S1024x1024 ![0, 8192] wi slices_S1024x10240_S1024x1024_0_8192)) (broadcastInDim S16x2048x1024 ![0, 1, 2] bcast_S1x1x1024_S16x2048x1024_0_1_2 (broadcastInDim S1x1x1024 ![2] bcast_S1024_S1x1x1024_2 (extractStridedSlice S1024 ![8192] b slices_S10240_S1024_8192)))))))) (Host.dotGeneral dot_S16x2048x768_S768x1024_S16x2048x1024_2_0_01_1_n_n none gh wh)) (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (addf (Host.dotGeneral dot_S16x2048x1024_S1024x1024_S16x2048x1024_2_0_01_1_n_n none xn (extractStridedSlice S1024x1024 ![0, 9216] wi slices_S1024x10240_S1024x1024_0_9216)) (broadcastInDim S16x2048x1024 ![0, 1, 2] bcast_S1x1x1024_S16x2048x1024_0_1_2 (broadcastInDim S1x1x1024 ![2] bcast_S1024_S1x1x1024_2 (extractStridedSlice S1024 ![9216] b slices_S10240_S1024_9216)))))))) (Host.dotGeneral dot_S16x2048x512_S512x1024_S16x2048x1024_2_0_01_1_n_n none ga wa))) wo)) shapeCasts_S16x2048x1024_S32768x1024

/-- The reference, element by element: the merge. -/
theorem reference_apply (x : FVec Ideal S16x2048x1024 .f32) (xn : FVec Ideal S16x2048x1024 .f32) (gh : FVec Ideal S16x2048x768 .f32) (ga : FVec Ideal S16x2048x512 .f32) (wi : FVec Ideal S1024x10240 .f32) (b : FVec Ideal S10240 .f32) (wh : FVec Ideal S768x1024 .f32) (wa : FVec Ideal S512x1024 .f32) (wo : FVec Ideal S1024x1024 .f32) (r : Fin 32768) (l : Fin 1024) :
    reference x xn gh ga wi b wh wa wo (ix2 r l) = merged x xn gh ga wi b wh wa wo ⟨r.val / 2048, by have := r.isLt; omega⟩ ⟨r.val % 2048, by have := r.isLt; omega⟩ l := by
  unfold merged Ideal.logistic
  pointwise [reference]

end Reference

/-- The merge call and its reference end with the same array, given the same arguments. -/
theorem algebraic_merge : Cert.algebraic_MergeIdeal_MergeRefIdeal (hMergeIdeal := Cert.MergeIdeal.Gen.facts)
    (hMergeRefIdeal := Cert.MergeRefIdeal.Gen.facts) := fun m g m' g' _ hargs => by
  refine ⟨fun c => Cert.MergeIdeal.Value.G9 m c, Cert.MergeIdeal.Value.run (F := Ideal) m g, ?_⟩
  refine (θ_run Cert.MergeRefIdeal.defs _ _).mono (fun r h c => ⟨?_, (h c).2⟩) (Cert.MergeRefIdeal.Value.run (F := Ideal) m' g')
  obtain ⟨e0, e1, e2, e3, e4, e5, e6, e7, e8⟩ := hargs c
  refine (h c).1.trans ?_
  show reference (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) = _
  rw [e0, e1, e2, e3, e4, e5, e6, e7, e8]
  funext i
  obtain ⟨p, l, rfl⟩ : ∃ (p : Fin 32768) (l : Fin 1024), i = ix2 p l := ⟨i 0, i 1, eq_ix2 i⟩
  exact (reference_apply _ _ _ _ _ _ _ _ _ p l).trans (result_apply m c p l).symm

end Cert.Proof.Merge

end

end
-- ==== Proof.AttnPre.lean ====
module

public import proofs.«01_k».proof.Pre_finite
public import Idealize.ShloMosaic.Lib.ReduceAll
public import Idealize.ShloMosaic.Lib.Pointwise

/-! # Finite arguments

The precondition read element by element: every argument is a real number.
-/

@[expose] public section

set_option maxRecDepth 16384

noncomputable section

namespace Cert.Proof.KernelIdeal

open Idealize Idealize.ShloMosaic Idealize.ShloMosaic.TcCoe Idealize.SL Idealize.SL.Sem

section Facts

open Cert.Pre_finite

instance finite_facts : Cert.Pre_finite.Facts where
  bcast_S_S16x2048x1024 := by decide
  reducesTo_S16x2048x1024_S_d0_1_2 := by decide
  h_S_ := by decide
  bcast_S_S1024x10240 := by decide
  reducesTo_S1024x10240_S_d0_1 := by decide
  bcast_S_S10240 := by decide
  reducesTo_S10240_S_d0 := by decide
  bcast_S_S64 := by decide
  reducesTo_S64_S_d0 := by decide

/-- A number whose absolute value is below infinity is real. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  induction x with
  | coe r => rfl
  | top => simp [Ideal.cmp] at h
  | bot => simp [Ideal.cmp] at h

instance one_index : Subsingleton S_.Idx := ⟨fun a b => funext fun k => k.elim0⟩

/-- An array all of whose absolute values are below infinity is real. -/
theorem real_array {s : Shape} (x : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : (x i : EReal) = ((EReal.toReal (x i) : ℝ) : EReal) :=
  real_of_lt (x i) (Host.reduce_andi_all _ _ hr hu j h i)

/-- The arguments of a finite call are real. -/
theorem finite_real (x : FVec Ideal S16x2048x1024 .f32) (w : FVec Ideal S1024x10240 .f32) (b : FVec Ideal S10240 .f32) (gq gk : FVec Ideal S64 .f32)
    (h : fn (F := Ideal) x w b gq gk = fun _ => 1#1) :
    (∀ i, (x i : EReal) = ((EReal.toReal (x i) : ℝ) : EReal)) ∧ (∀ i, (w i : EReal) = ((EReal.toReal (w i) : ℝ) : EReal))
      ∧ (∀ i, (b i : EReal) = ((EReal.toReal (b i) : ℝ) : EReal)) ∧ (∀ i, (gq i : EReal) = ((EReal.toReal (gq i) : ℝ) : EReal))
      ∧ ∀ i, (gk i : EReal) = ((EReal.toReal (gk i) : ℝ) : EReal) := by
  have h0 := congrFun h (fun k => k.elim0)
  dsimp only [fn, fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨real_array x _ _ _ _ e0, real_array w _ _ _ _ e1, real_array b _ _ _ _ e2, real_array gq _ _ _ _ e3, real_array gk _ _ _ _ e4⟩

end Facts

end Cert.Proof.KernelIdeal

end
-- ==== Proof.AttnReal.lean ====
module

public import Idealize.ShloMosaic.Lib.Pointwise

/-! # Softmax sums over the extended reals

A masked score is a real number or `⊥`. The sums of a tile's weights, kept relative to the tile's maximum, and the way two
such tiles are merged, stated as equations between real numbers.
-/

@[expose] public section

noncomputable section

namespace Cert.Proof.Attn

open Idealize.ShloMosaic

theorem coe_sum {ι : Type} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

theorem sum_real {ι : Type} [Fintype ι] {f : ι → EReal} {g : ι → ℝ} (h : ∀ i, f i = g i) : ∑ i, f i = ((∑ i, g i : ℝ) : EReal) := by
  rw [← coe_sum]
  exact Finset.sum_congr rfl fun i _ => h i

/-- The largest masked score is a real number as soon as one is. -/
theorem max_real {ι : Type} [Fintype ι] (v : ι → Prop) [DecidablePred v] (σ : ι → ℝ) {s : ι → EReal}
    (hs : ∀ j, s j = if v j then ((σ j : ℝ) : EReal) else ⊥) (i : ι) (hi : v i) :
    ∃ M : ℝ, Finset.univ.fold max (⊥ : EReal) s = M := by
  have hlt : Finset.univ.sup s < ⊤ := by
    rw [Finset.sup_lt_iff (bot_lt_top)]
    intro j _
    rw [hs j]
    split
    · exact EReal.coe_lt_top _
    · exact bot_lt_top
  have hle : s i ≤ Finset.univ.sup s := Finset.le_sup (Finset.mem_univ i)
  rw [hs i, if_pos hi] at hle
  have hne : Finset.univ.sup s ≠ ⊥ := fun h => by
    rw [h] at hle
    exact absurd hle (not_le.mpr (EReal.bot_lt_coe _))
  exact ⟨(Finset.univ.sup s).toReal, (EReal.coe_toReal hlt.ne hne).symm⟩

theorem exp_sub (x M : ℝ) : Ideal.exp ((x : EReal) - (M : EReal)) = ((Real.exp (x - M) : ℝ) : EReal) := by
  rw [← EReal.coe_sub, Ideal.exp_coe]

theorem exp_masked (v : Prop) [Decidable v] (x M : ℝ) :
    Ideal.exp ((if v then ((x : ℝ) : EReal) else ⊥) - (M : EReal)) = (((if v then Real.exp (x - M) else 0 : ℝ)) : EReal) := by
  by_cases h : v
  · rw [if_pos h, if_pos h, exp_sub]
  · rw [if_neg h, if_neg h, EReal.bot_sub, Ideal.exp_bot, EReal.coe_zero]

/-- Numerator, maximum and denominator kept relative to the maximum: `N` and `D` are the sums they stand for. -/
def Rep (a m d : EReal) (N D : ℝ) : Prop :=
  ∃ M : ℝ, m = M ∧ a = ((N * Real.exp (-M) : ℝ) : EReal) ∧ d = ((D * Real.exp (-M) : ℝ) : EReal)

/-- The numerator's sum. -/
def num {ι : Type} [Fintype ι] (v : ι → Prop) [DecidablePred v] (σ V : ι → ℝ) : ℝ := ∑ j, if v j then Real.exp (σ j) * V j else 0

/-- The denominator's sum. -/
def den {ι : Type} [Fintype ι] (v : ι → Prop) [DecidablePred v] (σ : ι → ℝ) : ℝ := ∑ j, if v j then Real.exp (σ j) else 0

theorem den_pos {ι : Type} [Fintype ι] (v : ι → Prop) [DecidablePred v] (σ : ι → ℝ) (i : ι) (hi : v i) : 0 < den v σ := by
  refine Finset.sum_pos' (fun j _ => ?_) ⟨i, Finset.mem_univ i, ?_⟩
  · split
    · exact (Real.exp_pos _).le
    · exact le_rfl
  · rw [if_pos hi]
    exact Real.exp_pos _

/-- A tile's maximum, numerator and denominator. -/
theorem rep_tile {ι : Type} [Fintype ι] (v : ι → Prop) [DecidablePred v] (σ V : ι → ℝ) {s W : ι → EReal}
    (hs : ∀ j, s j = if v j then ((σ j : ℝ) : EReal) else ⊥) (hW : ∀ j, W j = V j) (i : ι) (hi : v i) :
    Rep (∑ j, Ideal.exp (s j - Finset.univ.fold max (⊥ : EReal) s) * W j) (Finset.univ.fold max (⊥ : EReal) s)
      (∑ j, Ideal.exp (s j - Finset.univ.fold max (⊥ : EReal) s)) (num v σ V) (den v σ) := by
  obtain ⟨M, hM⟩ := max_real v σ hs i hi
  refine ⟨M, hM, ?_, ?_⟩
  · rw [hM, num, Finset.sum_mul]
    refine sum_real fun j => ?_
    rw [hs j, hW j, exp_masked, ← EReal.coe_mul]
    congr 1
    by_cases h : v j
    · rw [if_pos h, if_pos h, sub_eq_add_neg, Real.exp_add]; ring
    · rw [if_neg h, if_neg h]; ring
  · rw [hM, den, Finset.sum_mul]
    refine sum_real fun j => ?_
    rw [hs j, exp_masked]
    congr 1
    by_cases h : v j
    · rw [if_pos h, if_pos h, sub_eq_add_neg, Real.exp_add]
    · rw [if_neg h, if_neg h]; ring

theorem rescale (N M K : ℝ) : N * Real.exp (-M) * Real.exp (M - K) = N * Real.exp (-K) := by
  rw [mul_assoc, ← Real.exp_add]
  congr 2
  ring

/-- Two tiles merged. -/
theorem rep_merge {a m d a' m' d' : EReal} {N D N' D' : ℝ} (h : Rep a m d N D) (h' : Rep a' m' d' N' D') :
    Rep (a * Ideal.exp (m - max m m') + a' * Ideal.exp (m' - max m m')) (max m m')
      (d * Ideal.exp (m - max m m') + d' * Ideal.exp (m' - max m m')) (N + N') (D + D') := by
  obtain ⟨M, rfl, rfl, rfl⟩ := h
  obtain ⟨M', rfl, rfl, rfl⟩ := h'
  have hmax : max (M : EReal) (M' : EReal) = ((max M M' : ℝ) : EReal) := (EReal.coe_strictMono.monotone.map_max).symm
  refine ⟨max M M', hmax, ?_, ?_⟩
  · rw [hmax, exp_sub, exp_sub, ← EReal.coe_mul, ← EReal.coe_mul, ← EReal.coe_add, rescale, rescale, add_mul]
  · rw [hmax, exp_sub, exp_sub, ← EReal.coe_mul, ← EReal.coe_mul, ← EReal.coe_add, rescale, rescale, add_mul]

theorem div_real (x y : ℝ) (hy : y ≠ 0) : Ideal.div (x : EReal) (y : EReal) = ((x / y : ℝ) : EReal) := by
  rw [Ideal.div_coe hy, ← EReal.coe_mul]
  congr 1
  ring

/-- The quotient a tile stands for. -/
theorem rep_div {a m d : EReal} {N D : ℝ} (h : Rep a m d N D) (hD : 0 < D) : Ideal.div a d = ((N / D : ℝ) : EReal) := by
  obtain ⟨M, rfl, rfl, rfl⟩ := h
  have hE := Real.exp_pos (-M)
  rw [div_real _ _ (mul_pos hD hE).ne']
  congr 1
  exact mul_div_mul_right _ _ hE.ne'

/-- The logarithm of the sum a tile's denominator stands for. -/
theorem rep_log {a m d : EReal} {N D : ℝ} (h : Rep a m d N D) (hD : 0 < D) : m + Ideal.log d = ((Real.log D : ℝ) : EReal) := by
  obtain ⟨M, rfl, rfl, rfl⟩ := h
  have hE := Real.exp_pos (-M)
  rw [Ideal.log_coe, if_neg (not_le.mpr (mul_pos hD hE)), ← EReal.coe_add]
  congr 1
  rw [Real.log_mul hD.ne' hE.ne', Real.log_exp]
  ring

/-- Tiles mixed by the softmax of their denominators' logarithms. -/
theorem mix {ι : Type} [Fintype ι] [Nonempty ι] (N D : ι → ℝ) (hD : ∀ g, 0 < D g) {l w o : ι → EReal}
    (hl : ∀ g, l g = ((Real.log (D g) : ℝ) : EReal))
    (hw : ∀ g, w g = Ideal.exp (l g - Finset.univ.fold max (⊥ : EReal) l)) (ho : ∀ g, o g = ((N g / D g : ℝ) : EReal)) :
    ∑ g, Ideal.div (w g) (∑ g, w g) * o g = (((∑ g, N g) / (∑ g, D g) : ℝ) : EReal) := by
  obtain ⟨i⟩ := (inferInstance : Nonempty ι)
  obtain ⟨T, hT⟩ := max_real (fun _ => True) (fun g => Real.log (D g)) (s := l) (fun j => by rw [hl j, if_pos trivial]) i trivial
  have hw' : ∀ g, w g = ((D g * Real.exp (-T) : ℝ) : EReal) := fun g => by
    rw [hw g, hl g, hT, exp_sub, sub_eq_add_neg, Real.exp_add, Real.exp_log (hD g)]
  have hE := Real.exp_pos (-T)
  have hS : 0 < ∑ g, D g := Finset.sum_pos (fun g _ => hD g) ⟨i, Finset.mem_univ i⟩
  have hsum : ∑ g, w g = (((∑ g, D g) * Real.exp (-T) : ℝ) : EReal) := by
    rw [sum_real hw', Finset.sum_mul]
  rw [hsum, Finset.sum_div]
  refine sum_real fun g => ?_
  rw [hw' g, ho g, div_real _ _ (mul_pos hS hE).ne', ← EReal.coe_mul]
  congr 1
  rw [mul_div_mul_right _ _ hE.ne']
  have := (hD g).ne'
  field_simp

/-- A score with its masked distance term. -/
theorem score_masked (x slope tab : ℝ) (hs : 0 < slope) (v : Prop) [Decidable v] :
    (x : EReal) + (slope : EReal) * (if v then ((tab : ℝ) : EReal) else ⊥) = if v then ((x + slope * tab : ℝ) : EReal) else ⊥ := by
  by_cases h : v
  · rw [if_pos h, if_pos h, ← EReal.coe_mul, ← EReal.coe_add]
  · rw [if_neg h, if_neg h, EReal.coe_mul_bot_of_pos hs, EReal.add_bot]

/-- A sum against a row of a scaled unit matrix. -/
theorem sum_diag {n : ℕ} (x : Fin n) (slope : EReal) (T : Fin n → EReal) {S : Fin n → EReal}
    (hS : ∀ y, S y = if x = y then slope else 0) : ∑ y, S y * T y = slope * T x := by
  rw [Finset.sum_eq_single x]
  · rw [hS x, if_pos rfl]
  · intro y _ hy
    rw [hS y, if_neg (fun h => hy h.symm), zero_mul]
  · intro h
    exact absurd (Finset.mem_univ x) h

/-- A sum over one block of sixty-four of a longer axis. -/
theorem sum_block {n : ℕ} (h : ℕ) (hn : 64 * h + 64 ≤ n) (f : Fin n → ℝ) :
    (∑ c : Fin n, if c.val / 64 = h then f c else 0) = ∑ e : Fin 64, f ⟨64 * h + e.val, by omega⟩ := by
  symm
  refine Finset.sum_of_injOn (fun e : Fin 64 => (⟨64 * h + e.val, by omega⟩ : Fin n)) ?_ ?_ ?_ ?_
  · intro a _ b _ hab
    have := congrArg Fin.val hab
    simp only at this
    exact Fin.ext (by omega)
  · intro a _
    exact Finset.mem_coe.mpr (Finset.mem_univ _)
  · intro c _ hc
    refine if_neg fun h0 => hc ⟨⟨c.val - 64 * h, by omega⟩, Finset.mem_coe.mpr (Finset.mem_univ _), Fin.ext ?_⟩
    simp only
    omega
  · intro e _
    rw [if_pos]
    show (64 * h + e.val) / 64 = h
    omega

/-- The reciprocal root of a positive number. -/
theorem rsqrt_real (x : ℝ) (hx : 0 < x) : Ideal.rsqrt (x : EReal) = (((Real.sqrt x)⁻¹ : ℝ) : EReal) := by
  rw [Ideal.rsqrt_coe, if_neg (not_lt.mpr hx.le), if_neg hx.ne']

/-! ## Constants -/

theorem bits_bot : Ideal.ofBits FTy.f32 0xFF800000#32 = ⊥ := by
  simp [Ideal.ofBits, Ideal.ieee]

theorem bits_m64 : Ideal.ofBits FTy.bf16 0xC280#16 = ((-64 : ℝ) : EReal) := by
  simp [Ideal.ofBits, Ideal.ieee]; norm_num; rw [← EReal.coe_mul]; norm_num

theorem bits_m256 : Ideal.ofBits FTy.bf16 0xC380#16 = ((-256 : ℝ) : EReal) := by
  simp [Ideal.ofBits, Ideal.ieee]; norm_num; rw [← EReal.coe_mul]; norm_num

theorem bits_m1024 : Ideal.ofBits FTy.bf16 0xC480#16 = ((-1024 : ℝ) : EReal) := by
  simp [Ideal.ofBits, Ideal.ieee]; norm_num; rw [← EReal.coe_pow, ← EReal.coe_mul]; norm_num

theorem bits_eighth : Ideal.ofBits FTy.f32 0x3E000000#32 = ((1 / 8 : ℝ) : EReal) := by
  simp [Ideal.ofBits, Ideal.ieee]; norm_num; rw [← EReal.coe_mul]; norm_num

theorem bits_64th : Ideal.ofBits FTy.f32 0x3C800000#32 = ((1 / 64 : ℝ) : EReal) := by
  simp [Ideal.ofBits, Ideal.ieee]; norm_num; rw [← EReal.coe_mul]; norm_num

theorem bits_64 : Ideal.ofBits FTy.f32 0x42800000#32 = ((64 : ℝ) : EReal) := by
  simp [Ideal.ofBits, Ideal.ieee]; norm_num; rw [← EReal.coe_mul]; norm_num

theorem bits_two : Ideal.ofBits FTy.f32 0x40000000#32 = ((2 : ℝ) : EReal) := by
  simp [Ideal.ofBits, Ideal.ieee]; norm_num; rw [← EReal.coe_mul]; norm_num

theorem bits_eight : Ideal.ofBits FTy.f32 0x41000000#32 = ((8 : ℝ) : EReal) := by
  simp [Ideal.ofBits, Ideal.ieee]; norm_num; rw [← EReal.coe_mul]; norm_num

theorem bits_meight : Ideal.ofBits FTy.f32 0xC1000000#32 = ((-8 : ℝ) : EReal) := by
  simp [Ideal.ofBits, Ideal.ieee]; norm_num; rw [← EReal.coe_mul]; norm_num

/-- The normalisation's small number. -/
def eps : ℝ := 8796093 * (2 : ℝ) ^ (-43 : ℤ)

theorem eps_pos : 0 < eps := by unfold eps; positivity

theorem bits_eps : Ideal.ofBits FTy.f32 0x358637BD#32 = ((eps : ℝ) : EReal) := by
  unfold eps
  simp [Ideal.ofBits, Ideal.ieee]

end Cert.Proof.Attn

end
-- ==== Proof.AttnTile.lean ====
module

public import proofs.«01_k».proof.Proof.KernelIdealFrame
public import proofs.«01_k».proof.Proof.AttnReal

/-! # One tile of the attention

The sums over a group's valid positions, in the natural order of the sequence, and what one tile of the kernel's loops adds to
them: the tile's keys are exactly the positions a query may see.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Attn

/-- The slope of head `h`. -/
def slope (h : ℕ) : ℝ := (1 / 2) ^ (h + 1)

theorem slope_pos (h : ℕ) : 0 < slope h := by unfold slope; positivity

/-- Query `i` sees position `j`: at most sixty-four steps away, in steps of the dilation. -/
def ok (d i j : ℕ) : Prop := i ≤ j + 64 * d ∧ j ≤ i + 64 * d ∧ i % d = j % d

instance (d i j : ℕ) : Decidable (ok d i j) := inferInstanceAs (Decidable (_ ∧ _ ∧ _))

theorem ok_self (d i : ℕ) : ok d i i := ⟨by omega, by omega, rfl⟩

/-- Head `h`'s score of query `i` and key `j`. -/
def score (Q K : ℕ → ℕ → ℝ) (h i j : ℕ) : ℝ :=
  (∑ e : Fin 64, Q i (64 * h + e.val) * K j (64 * h + e.val)) + slope h * (-|(i : ℝ) - (j : ℝ)|)

/-- The weighted sum of the values, column `c`. -/
def wnum (Q K V : ℕ → ℕ → ℝ) (d i c : ℕ) : ℝ :=
  num (fun j : Fin 2048 => ok d i j.val) (fun j => score Q K (c / 64) i j.val) (fun j => V j.val c)

/-- The sum of the weights, head `h`. -/
def wden (Q K : ℕ → ℕ → ℝ) (d i h : ℕ) : ℝ := den (fun j : Fin 2048 => ok d i j.val) (fun j => score Q K h i j.val)

theorem wden_pos (Q K : ℕ → ℕ → ℝ) (d i h : ℕ) (hi : i < 2048) : 0 < wden Q K d i h :=
  den_pos _ _ (⟨i, hi⟩ : Fin 2048) (ok_self d i)

/-- The keys of a tile, `j κ`, for the query `i`. -/
structure Keys {w : ℕ} (d i : ℕ) (j : Fin w → ℕ) : Prop where
  lt : ∀ κ, j κ < 2048
  inj : Function.Injective j
  cover : ∀ j', j' < 2048 → ok d i j' → ∃ κ, j κ = j'

theorem sum_keys {w d i : ℕ} {j : Fin w → ℕ} (h : Keys d i j) (f : ℕ → ℝ) :
    (∑ κ, if ok d i (j κ) then f (j κ) else 0) = ∑ j' : Fin 2048, if ok d i j'.val then f j'.val else 0 := by
  refine Finset.sum_of_injOn (fun κ => (⟨j κ, h.lt κ⟩ : Fin 2048)) ?_ ?_ ?_ ?_
  · intro a _ b _ hab
    exact h.inj (congrArg Fin.val hab)
  · intro a _
    exact Finset.mem_coe.mpr (Finset.mem_univ _)
  · intro j' _ hj'
    refine if_neg fun hok => hj' ?_
    obtain ⟨κ, hκ⟩ := h.cover j'.val j'.isLt hok
    exact ⟨κ, Finset.mem_coe.mpr (Finset.mem_univ _), Fin.ext hκ⟩
  · intro κ _
    rfl

/-- A score of the kernel: the head's half of the columns, and the distance term through the scaled unit matrix. -/
theorem score_at (Q K : ℕ → ℕ → ℝ) (d p hh i j : ℕ) (hh2 : hh < 2) (r : Fin 128) {q k sl T : Fin 128 → EReal}
    (hq : ∀ x, q x = ((if x.val / 64 = hh then Q i (128 * p + x.val) else 0 : ℝ) : EReal))
    (hk : ∀ x, k x = ((K j (128 * p + x.val) : ℝ) : EReal))
    (hsl : ∀ x, sl x = if r = x then ((slope (2 * p + hh) : ℝ) : EReal) else 0)
    (hT : T r = if ok d i j then ((-|(i : ℝ) - (j : ℝ)| : ℝ) : EReal) else ⊥) :
    ∑ x, q x * k x + ∑ x, sl x * T x = if ok d i j then ((score Q K (2 * p + hh) i j : ℝ) : EReal) else ⊥ := by
  have h1 : ∑ x, q x * k x = ((∑ e : Fin 64, Q i (64 * (2 * p + hh) + e.val) * K j (64 * (2 * p + hh) + e.val) : ℝ) : EReal) := by
    rw [sum_real (g := fun x : Fin 128 => if x.val / 64 = hh then Q i (128 * p + x.val) * K j (128 * p + x.val) else 0)]
    · rw [sum_block hh (by omega)]
      congr 1
      refine Finset.sum_congr rfl fun e _ => ?_
      have : 128 * p + (64 * hh + e.val) = 64 * (2 * p + hh) + e.val := by ring
      rw [← this]
    · intro x
      rw [hq x, hk x, ← EReal.coe_mul]
      split <;> simp
  rw [h1, sum_diag r _ T hsl, hT, score_masked _ _ _ (slope_pos _)]
  rfl

/-- A tile's sums are the sums over all positions. -/
theorem rep_keys (Q K V : ℕ → ℕ → ℝ) {w : ℕ} (d i c : ℕ) (hi : i < 2048) {j : Fin w → ℕ} (hj : Keys d i j) {s W : Fin w → EReal}
    (hs : ∀ κ, s κ = if ok d i (j κ) then ((score Q K (c / 64) i (j κ) : ℝ) : EReal) else ⊥)
    (hW : ∀ κ, W κ = ((V (j κ) c : ℝ) : EReal)) :
    Rep (∑ κ, Ideal.exp (s κ - Finset.univ.fold max (⊥ : EReal) s) * W κ) (Finset.univ.fold max (⊥ : EReal) s)
      (∑ κ, Ideal.exp (s κ - Finset.univ.fold max (⊥ : EReal) s)) (wnum Q K V d i c) (wden Q K d i (c / 64)) := by
  obtain ⟨κ, hκ⟩ := hj.cover i hi (ok_self d i)
  have := rep_tile (fun κ => ok d i (j κ)) (fun κ => score Q K (c / 64) i (j κ)) (fun κ => V (j κ) c) hs hW κ (by rw [hκ]; exact ok_self d i)
  rw [num, den, sum_keys hj (fun j => Real.exp (score Q K (c / 64) i j) * V j c), sum_keys hj (fun j => Real.exp (score Q K (c / 64) i j))] at this
  exact this

theorem lane {α : Type} (l : Fin 128) (x y : α) :
    Scalar.select (IntOp.cmpi CmpIPredicate.slt (BitVec.ofNat 32 l.val) 64#32) x y = if l.val / 64 = 0 then x else y := by
  have key : ∀ l : Fin 128, IntOp.cmpi CmpIPredicate.slt (BitVec.ofNat 32 l.val) 64#32 = if l.val / 64 = 0 then 1#1 else 0#1 := by decide +kernel
  rw [key l]
  split <;> rfl

/-! ## The tiles of 256 keys -/

/-- A tile's scores. -/
def s256 (Tm : FVec Ideal S256x128 .bf16) (q : Vec Ideal S128x128 .bf16) (sl : Vec Ideal S1x256x128 .bf16) (K : Vec Ideal S256x128 .bf16) :
    FVec Ideal S256x256 .f32 := k0_pay73 k0_pay1 Tm q sl K

/-- The accumulated numerator after the tile. -/
def a256 (S : FVec Ideal S256x256 .f32) (V : Vec Ideal S256x128 .bf16) (m a : Vec Ideal S1x128x128 .f32) : FVec Ideal S1x128x128 .f32 :=
  k0_pay68 k0_pay1 S V m a

/-- The running maximum after the tile. -/
def m256 (S : FVec Ideal S256x256 .f32) (m : Vec Ideal S1x128x128 .f32) : FVec Ideal S1x128x128 .f32 := k0_pay72 (k0_pay65 k0_pay1 S m)

/-- The accumulated denominator after the tile. -/
def d256 (S : FVec Ideal S256x256 .f32) (V : Vec Ideal S256x128 .bf16) (m d : Vec Ideal S1x128x128 .f32) : FVec Ideal S1x128x128 .f32 :=
  k0_pay71 (k0_pay69 k0_pay1 S m d) (k0_pay70 k0_pay1 S V m)

theorem s256_at (Tm : FVec Ideal S256x128 .bf16) (q : Vec Ideal S128x128 .bf16) (sl : Vec Ideal S1x256x128 .bf16) (Kb : Vec Ideal S256x128 .bf16)
    (Q K : ℕ → ℕ → ℝ) (d p hh i j : ℕ) (hh2 : hh < 2) (r : Fin 128) (κ : Fin 256)
    (hq : ∀ x : Fin 128, q (ix2 r x) = ((Q i (128 * p + x.val) : ℝ) : EReal))
    (hk : ∀ x : Fin 128, Kb (ix2 κ x) = ((K j (128 * p + x.val) : ℝ) : EReal))
    (hsl : ∀ x : Fin 128, sl (ix3 0 ⟨128 * hh + r.val, by omega⟩ x) = if r = x then ((slope (2 * p + hh) : ℝ) : EReal) else 0)
    (hT : Tm (ix2 κ r) = if ok d i j then ((-|(i : ℝ) - (j : ℝ)| : ℝ) : EReal) else ⊥) :
    s256 Tm q sl Kb (ix2 ⟨128 * hh + r.val, by omega⟩ κ) = if ok d i j then ((score Q K (2 * p + hh) i j : ℝ) : EReal) else ⊥ := by
  have key := score_at Q K d p hh i j hh2 r (q := fun x => if x.val / 64 = hh then q (ix2 r x) else 0) (k := fun x => Kb (ix2 κ x))
    (sl := fun x => sl (ix3 0 ⟨128 * hh + r.val, by omega⟩ x)) (T := fun x => Tm (ix2 κ x))
    (fun x => by rw [hq x]; split <;> simp) hk hsl hT
  rw [← key]
  unfold s256
  pointwise [k0_pay73, k0_pay1]
  simp only [lane]
  congr 1
  refine Finset.sum_congr rfl fun x _ => ?_
  congr 1
  obtain rfl | rfl : hh = 0 ∨ hh = 1 := by omega
  · rw [dif_pos (by show 128 * 0 + r.val < 128; omega)]
    have e : (⟨128 * 0 + r.val, by omega⟩ : Fin 128) = r := Fin.ext (by simp)
    simp only [e]
  · rw [dif_neg (by show ¬ 128 * 1 + r.val < 128; omega)]
    have e : (⟨128 * 1 + r.val - 128, by omega⟩ : Fin 128) = r := Fin.ext (by simp)
    have h2 : x.val / 64 = 0 ∨ x.val / 64 = 1 := by omega
    rcases h2 with h2 | h2 <;> simp [h2, e]

theorem tile256 (S : FVec Ideal S256x256 .f32) (Vb : Vec Ideal S256x128 .bf16) (m a dn : Vec Ideal S1x128x128 .f32)
    (Q K V : ℕ → ℕ → ℝ) (d p i : ℕ) (hi : i < 2048) (j : Fin 256 → ℕ) (hj : Keys d i j) (r l : Fin 128)
    (hS : ∀ hh (h : hh < 2) κ, S (ix2 ⟨128 * hh + r.val, by omega⟩ κ) = if ok d i (j κ) then ((score Q K (2 * p + hh) i (j κ) : ℝ) : EReal) else ⊥)
    (hV : ∀ κ, Vb (ix2 κ l) = ((V (j κ) (128 * p + l.val) : ℝ) : EReal)) {N D : ℝ}
    (h : Rep (a (ix3 0 r l)) (m (ix3 0 r l)) (dn (ix3 0 r l)) N D) :
    Rep (a256 S Vb m a (ix3 0 r l)) (m256 S m (ix3 0 r l)) (d256 S Vb m dn (ix3 0 r l))
      (N + wnum Q K V d i (128 * p + l.val)) (D + wden Q K d i ((128 * p + l.val) / 64)) := by
  have hh2 : l.val / 64 < 2 := by omega
  have hc : (128 * p + l.val) / 64 = 2 * p + l.val / 64 := by omega
  have key := rep_merge h (rep_keys Q K V d i (128 * p + l.val) hi hj (s := fun κ => S (ix2 ⟨128 * (l.val / 64) + r.val, by omega⟩ κ))
    (W := fun κ => Vb (ix2 κ l)) (fun κ => by rw [hc]; exact hS _ hh2 κ) hV)
  unfold a256 m256 d256
  pointwise [k0_pay68, k0_pay69, k0_pay70, k0_pay71, k0_pay72, k0_pay66, k0_pay67, k0_pay65, k0_pay64, k0_pay63, k0_pay62, k0_pay61, k0_pay1]
  simp only [lane, bits_bot]
  have h2 : l.val / 64 = 0 ∨ l.val / 64 = 1 := by omega
  rcases h2 with h2 | h2
  · simp only [h2, if_true, Nat.mul_zero, Nat.zero_add] at key ⊢
    exact key
  · simp only [h2, one_ne_zero, if_false, Nat.mul_one] at key ⊢
    exact key

/-! ## The tiles of 128 keys -/

/-- A tile's scores. -/
def s128 (Tm : FVec Ideal S128x128 .bf16) (q : Vec Ideal S128x128 .bf16) (sl : Vec Ideal S1x256x128 .bf16) (K : Vec Ideal S128x128 .bf16) :
    FVec Ideal S256x128 .f32 := k0_pay21 k0_pay1 Tm q sl K

theorem s128_at (Tm : FVec Ideal S128x128 .bf16) (q : Vec Ideal S128x128 .bf16) (sl : Vec Ideal S1x256x128 .bf16) (Kb : Vec Ideal S128x128 .bf16)
    (Q K : ℕ → ℕ → ℝ) (d p hh i j : ℕ) (hh2 : hh < 2) (r : Fin 128) (κ : Fin 128)
    (hq : ∀ x : Fin 128, q (ix2 r x) = ((Q i (128 * p + x.val) : ℝ) : EReal))
    (hk : ∀ x : Fin 128, Kb (ix2 κ x) = ((K j (128 * p + x.val) : ℝ) : EReal))
    (hsl : ∀ x : Fin 128, sl (ix3 0 ⟨128 * hh + r.val, by omega⟩ x) = if r = x then ((slope (2 * p + hh) : ℝ) : EReal) else 0)
    (hT : Tm (ix2 κ r) = if ok d i j then ((-|(i : ℝ) - (j : ℝ)| : ℝ) : EReal) else ⊥) :
    s128 Tm q sl Kb (ix2 ⟨128 * hh + r.val, by omega⟩ κ) = if ok d i j then ((score Q K (2 * p + hh) i j : ℝ) : EReal) else ⊥ := by
  have key := score_at Q K d p hh i j hh2 r (q := fun x => if x.val / 64 = hh then q (ix2 r x) else 0) (k := fun x => Kb (ix2 κ x))
    (sl := fun x => sl (ix3 0 ⟨128 * hh + r.val, by omega⟩ x)) (T := fun x => Tm (ix2 κ x))
    (fun x => by rw [hq x]; split <;> simp) hk hsl hT
  rw [← key]
  unfold s128
  pointwise [k0_pay21, k0_pay1]
  simp only [lane]
  congr 1
  refine Finset.sum_congr rfl fun x _ => ?_
  congr 1
  obtain rfl | rfl : hh = 0 ∨ hh = 1 := by omega
  · rw [dif_pos (by show 128 * 0 + r.val < 128; omega)]
    have e : (⟨128 * 0 + r.val, by omega⟩ : Fin 128) = r := Fin.ext (by simp)
    simp only [e]
  · rw [dif_neg (by show ¬ 128 * 1 + r.val < 128; omega)]
    have e : (⟨128 * 1 + r.val - 128, by omega⟩ : Fin 128) = r := Fin.ext (by simp)
    have h2 : x.val / 64 = 0 ∨ x.val / 64 = 1 := by omega
    rcases h2 with h2 | h2 <;> simp [h2, e]

theorem tile128 (S : FVec Ideal S256x128 .f32) (Vb : Vec Ideal S128x128 .bf16)
    (Q K V : ℕ → ℕ → ℝ) (d p i : ℕ) (hi : i < 2048) (j : Fin 128 → ℕ) (hj : Keys d i j) (r l : Fin 128)
    (hS : ∀ hh (h : hh < 2) κ, S (ix2 ⟨128 * hh + r.val, by omega⟩ κ) = if ok d i (j κ) then ((score Q K (2 * p + hh) i (j κ) : ℝ) : EReal) else ⊥)
    (hV : ∀ κ, Vb (ix2 κ l) = ((V (j κ) (128 * p + l.val) : ℝ) : EReal)) :
    Rep (k0_pay11 (F := Ideal) k0_pay1 S Vb (ix3 0 r l)) (k0_pay13 (F := Ideal) k0_pay1 S (ix3 0 r l)) (k0_pay12 (F := Ideal) k0_pay1 S Vb (ix3 0 r l))
      (wnum Q K V d i (128 * p + l.val)) (wden Q K d i ((128 * p + l.val) / 64)) := by
  have hh2 : l.val / 64 < 2 := by omega
  have hc : (128 * p + l.val) / 64 = 2 * p + l.val / 64 := by omega
  have key := rep_keys Q K V d i (128 * p + l.val) hi hj (s := fun κ => S (ix2 ⟨128 * (l.val / 64) + r.val, by omega⟩ κ))
    (W := fun κ => Vb (ix2 κ l)) (fun κ => by rw [hc]; exact hS _ hh2 κ) hV
  pointwise [k0_pay11, k0_pay12, k0_pay13, k0_pay10, k0_pay9, k0_pay1]
  simp only [lane, bits_bot]
  have h2 : l.val / 64 = 0 ∨ l.val / 64 = 1 := by omega
  rcases h2 with h2 | h2
  · simp only [h2, if_true, Nat.mul_zero, Nat.zero_add] at key ⊢
    exact key
  · simp only [h2, one_ne_zero, if_false, Nat.mul_one] at key ⊢
    exact key

end Cert.Proof.KernelIdeal

end
-- ==== Proof.AttnStep.lean ====
module

public import proofs.«01_k».proof.Proof.AttnTile

/-! # One trip of a loop over tiles

What a trip's stores leave of the three accumulators, row by row: the trip's rows take up the tile, all others stay.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Attn

/-- Where a trip reads and writes, for each of the four pairs of heads; `sz` is the size of the keys' block. -/
structure Offs (sz : Fin 2 → ℕ) where
  oq : Fin 4 → Fin 2 → ℕ
  okv : Fin 4 → Fin 2 → ℕ
  oa : Fin 4 → Fin 3 → ℕ
  st : Fin 3 → ℕ
  hq : ∀ p a, oq p a + S128x128.size a ≤ S2048x512.size a
  hkv : ∀ p a, okv p a + sz a ≤ S2048x512.size a
  ha : ∀ p a, S1x128x128.size a = 0 ∨ oa p a + st a * (S1x128x128.size a - 1) < S4x2048x128.size a
  hs : ∀ a, 0 < st a

variable {arg14 : Memref sig .tc .vmem S4x256x128 .bf16} {arg19 arg20 arg21 : Memref sig .tc .vmem S2048x512 .bf16}
  {arg22 arg23 arg24 : Memref sig .tc .vmem S4x2048x128 .f32}

theorem sl_inb (p : Fin 4) : ∀ a, (![p.val, 0, 0] : Fin 3 → ℕ) a + S1x256x128.size a ≤ S4x256x128.size a := by
  revert p; decide

/-- The rectangle of a pair's accumulator. -/
def accRect {sz : Fin 2 → ℕ} (o : Offs sz) (p : Fin 4) : Rect S4x2048x128 :=
  { off := o.oa p, size := S1x128x128.size, stride := o.st, inb := o.ha p, stride_pos := o.hs }

/-- A trip's stores, the last pair first. -/
def stores {sz : Fin 2 → ℕ} (o : Offs sz) (W : Fin 4 → FVec Ideal S1x128x128 .f32) :
    List (View.Piece (Elt Ideal) S4x2048x128 .f32) :=
  [⟨accRect o 3, W 3⟩, ⟨accRect o 2, W 2⟩, ⟨accRect o 1, W 1⟩, ⟨accRect o 0, W 0⟩]

/-- A pair's accumulator, read. -/
def acc {sz : Fin 2 → ℕ} (o : Offs sz) (arg : Memref sig .tc .vmem S4x2048x128 .f32) (f : BufTy.Contents (Elt Ideal) arg.view.ty)
    (p : Fin 4) : Vec Ideal S1x128x128 .f32 := View.readAt (Elt Ideal) arg.view (accRect o p).toLoadRect f

/-- The offsets of a trip whose rows start at `base`. -/
structure Offs.At {sz : Fin 2 → ℕ} (o : Offs sz) (qb kb base d : ℕ) : Prop where
  q : ∀ p, o.oq p 0 = qb ∧ o.oq p 1 = 128 * p.val
  kv : ∀ p, o.okv p 0 = kb ∧ o.okv p 1 = 128 * p.val
  a : ∀ p, o.oa p 0 = p.val ∧ o.oa p 1 = base ∧ o.oa p 2 = 0
  s : o.st 0 = 1 ∧ o.st 1 = d ∧ o.st 2 = 1

section
variable {sz : Fin 2 → ℕ} {o : Offs sz} {qb kb base d : ℕ}

theorem accRect_emb (h : o.At qb kb base d) (p : Fin 4) (r l : Fin 128) (ρ : Fin 2048) (hρ : ρ.val = base + d * r.val) :
    (accRect o p).emb (ix3 0 r l) = ix3 p ρ l := by
  obtain ⟨h0, h1, h2⟩ := h.a p
  obtain ⟨s0, s1, s2⟩ := h.s
  refine (accRect o p).emb_eq_of_coords _ _ fun a => ?_
  match a with
  | 0 => show p.val = o.oa p 0 + o.st 0 * 0; omega
  | 1 => show ρ.val = o.oa p 1 + o.st 1 * r.val; rw [h1, s1, hρ]
  | 2 => show l.val = o.oa p 2 + o.st 2 * l.val; rw [h2, s2]; omega

theorem acc_at (h : o.At qb kb base d) (arg : Memref sig .tc .vmem S4x2048x128 .f32) (f : BufTy.Contents (Elt Ideal) arg.view.ty)
    (p : Fin 4) (r l : Fin 128) (ρ : Fin 2048) (hρ : ρ.val = base + d * r.val) :
    acc o arg f p (ix3 0 r l) = arg.view.read (Elt Ideal) f (ix3 p ρ l) := by
  rw [← accRect_emb h p r l ρ hρ]
  rfl

theorem accRect_pair (h : o.At qb kb base d) (p p' : Fin 4) (hp : p ≠ p') (ρ : Fin 2048) (l : Fin 128) : ix3 p ρ l ∉ (accRect o p').set := by
  intro hm
  obtain ⟨j, hj, e⟩ := (accRect o p').mem_set.mp hm 0
  have e : p.val = o.oa p' 0 + o.st 0 * j := e
  have hj : j < 1 := hj
  rw [(h.a p').1, h.s.1] at e
  exact hp (Fin.ext (by omega))

theorem accRect_row (h : o.At qb kb base d) (p p' : Fin 4) (ρ : Fin 2048) (l : Fin 128) (hρ : ∀ r, r < 128 → ρ.val ≠ base + d * r) :
    ix3 p ρ l ∉ (accRect o p').set := by
  intro hm
  obtain ⟨j, hj, e⟩ := (accRect o p').mem_set.mp hm 1
  have e : ρ.val = o.oa p' 1 + o.st 1 * j := e
  rw [(h.a p').2.1, h.s.2.1] at e
  exact hρ j hj e

/-- A row of the trip holds what the trip stores. -/
theorem stores_hit (h : o.At qb kb base d) (arg : Memref sig .tc .vmem S4x2048x128 .f32) (f : BufTy.Contents (Elt Ideal) arg.view.ty)
    (W : Fin 4 → FVec Ideal S1x128x128 .f32) (p : Fin 4) (r l : Fin 128) (ρ : Fin 2048) (hρ : ρ.val = base + d * r.val) :
    arg.view.read (Elt Ideal) (arg.view.writes (Elt Ideal) f (stores o W)) (ix3 p ρ l) = W p (ix3 0 r l) := by
  have hit := fun (q : Fin 4) L => View.read_writes_cons_hit arg.view f (accRect o q) (W q) L (ix3 0 r l) (ix3 q ρ l) (accRect_emb h q r l ρ hρ)
  have miss := fun (q q' : Fin 4) L (hq : q ≠ q') => View.read_writes_cons_miss arg.view f ⟨accRect o q', W q'⟩ L (ix3 q ρ l) (accRect_pair h q q' hq ρ l)
  unfold stores
  match p with
  | 3 => exact hit 3 _
  | 2 => exact (miss 2 3 _ (by decide)).trans (hit 2 _)
  | 1 => exact ((miss 1 3 _ (by decide)).trans (miss 1 2 _ (by decide))).trans (hit 1 _)
  | 0 => exact (((miss 0 3 _ (by decide)).trans (miss 0 2 _ (by decide))).trans (miss 0 1 _ (by decide))).trans (hit 0 _)

/-- Any other row holds what it held. -/
theorem stores_miss (h : o.At qb kb base d) (arg : Memref sig .tc .vmem S4x2048x128 .f32) (f : BufTy.Contents (Elt Ideal) arg.view.ty)
    (W : Fin 4 → FVec Ideal S1x128x128 .f32) (p : Fin 4) (l : Fin 128) (ρ : Fin 2048) (hρ : ∀ r, r < 128 → ρ.val ≠ base + d * r) :
    arg.view.read (Elt Ideal) (arg.view.writes (Elt Ideal) f (stores o W)) (ix3 p ρ l) = arg.view.read (Elt Ideal) f (ix3 p ρ l) := by
  refine View.read_writes_apply_of_forall_not_mem arg.view f (ix3 p ρ l) _ fun q hq => ?_
  simp only [stores, List.mem_cons, List.not_mem_nil, or_false] at hq
  rcases hq with rfl | rfl | rfl | rfl <;> exact accRect_row h p _ ρ l hρ

end

/-! ## What a trip reads -/

/-- The natural position of a permuted row: the rows of one residue follow each other. -/
def nat (d ρ : ℕ) : ℕ := ρ % (2048 / d) * d + ρ / (2048 / d)

/-- The scratches and the slopes, as real numbers. -/
structure Scr (d : ℕ) (Q K V : ℕ → ℕ → ℝ) (X14 : BufTy.Contents (Elt Ideal) arg14.view.ty) (X19 : BufTy.Contents (Elt Ideal) arg19.view.ty)
    (X20 : BufTy.Contents (Elt Ideal) arg20.view.ty) (X21 : BufTy.Contents (Elt Ideal) arg21.view.ty) : Prop where
  sl : ∀ (p : Fin 4) (a : Fin 256) (x : Fin 128),
    arg14.view.read (Elt Ideal) X14 (ix3 p a x) = if a.val % 128 = x.val then ((slope (2 * p.val + a.val / 128) : ℝ) : EReal) else 0
  q : ∀ (ρ : Fin 2048) (c : Fin 512), arg19.view.read (Elt Ideal) X19 (ix2 ρ c) = ((Q (nat d ρ.val) c.val : ℝ) : EReal)
  k : ∀ (ρ : Fin 2048) (c : Fin 512), arg20.view.read (Elt Ideal) X20 (ix2 ρ c) = ((K (nat d ρ.val) c.val : ℝ) : EReal)
  v : ∀ (ρ : Fin 2048) (c : Fin 512), arg21.view.read (Elt Ideal) X21 (ix2 ρ c) = ((V (nat d ρ.val) c.val : ℝ) : EReal)

theorem rows_at (arg : Memref sig .tc .vmem S2048x512 .bf16) (X : BufTy.Contents (Elt Ideal) arg.view.ty) (F : ℕ → ℕ → ℝ)
    (h : ∀ (ρ : Fin 2048) (c : Fin 512), arg.view.read (Elt Ideal) X (ix2 ρ c) = ((F ρ.val c.val : ℝ) : EReal)) {n : ℕ}
    (off : Fin 2 → ℕ) (inb : ∀ a, off a + (![n, 128] : Fin 2 → ℕ) a ≤ S2048x512.size a) (b p : ℕ) (h0 : off 0 = b) (h1 : off 1 = 128 * p)
    (r : Fin n) (x : Fin 128) :
    View.readAt (Elt Ideal) arg.view (Rect.unit (s := S2048x512) off (![n, 128] : Fin 2 → ℕ) inb).toLoadRect X (ix2 r x) = ((F (b + r.val) (128 * p + x.val) : ℝ) : EReal) := by
  have e0 : off 0 + n ≤ 2048 := inb 0
  have e1 : off 1 + 128 ≤ 512 := inb 1
  rw [← h1, ← h0]
  refine Eq.trans ?_ (h ⟨off 0 + r.val, by omega⟩ ⟨off 1 + x.val, by omega⟩)
  refine congrArg (arg.view.read (Elt Ideal) X) (funext fun a => Fin.ext ?_)
  match a with
  | 0 => show off 0 + 1 * r.val = _; rw [Nat.one_mul]; rfl
  | 1 => show off 1 + 1 * x.val = _; rw [Nat.one_mul]; rfl

theorem sl_at {d : ℕ} {Q K V : ℕ → ℕ → ℝ} {X14 : BufTy.Contents (Elt Ideal) arg14.view.ty} {X19 : BufTy.Contents (Elt Ideal) arg19.view.ty}
    {X20 : BufTy.Contents (Elt Ideal) arg20.view.ty} {X21 : BufTy.Contents (Elt Ideal) arg21.view.ty} (h : Scr d Q K V X14 X19 X20 X21)
    (p : Fin 4) (hh : ℕ) (hh2 : hh < 2) (r x : Fin 128) :
    View.readAt (Elt Ideal) arg14.view (Rect.unit (s := S4x256x128) ![p.val, 0, 0] S1x256x128.size (sl_inb p)).toLoadRect X14 (ix3 0 ⟨128 * hh + r.val, by omega⟩ x)
      = if r = x then ((slope (2 * p.val + hh) : ℝ) : EReal) else 0 := by
  have key := h.sl p ⟨128 * hh + r.val, by omega⟩ x
  have e1 : (128 * hh + r.val) % 128 = r.val := by omega
  have e2 : (128 * hh + r.val) / 128 = hh := by omega
  simp only [e1, e2] at key
  refine Eq.trans (congrArg (arg14.view.read (Elt Ideal) X14) (funext fun a => Fin.ext ?_)) (key.trans ?_)
  · match a with
    | 0 => show p.val + 1 * 0 = p.val; omega
    | 1 => show 0 + 1 * (128 * hh + r.val) = 128 * hh + r.val; omega
    | 2 => show 0 + 1 * x.val = x.val; omega
  · simp only [Fin.ext_iff]

variable (arg14 arg19 arg20 arg21 arg22 arg23 arg24)

/-- A trip's scores for a pair of heads. -/
def sc256 (o : Offs S256x128.size) (Tm : FVec Ideal S256x128 .bf16) (X14 : BufTy.Contents (Elt Ideal) arg14.view.ty)
    (X19 : BufTy.Contents (Elt Ideal) arg19.view.ty) (X20 : BufTy.Contents (Elt Ideal) arg20.view.ty) (p : Fin 4) : FVec Ideal S256x256 .f32 :=
  s256 Tm (View.readAt (Elt Ideal) arg19.view (Rect.unit (s := S2048x512) (o.oq p) S128x128.size (o.hq p)).toLoadRect X19)
    (View.readAt (Elt Ideal) arg14.view (Rect.unit (s := S4x256x128) ![p.val, 0, 0] S1x256x128.size (sl_inb p)).toLoadRect X14)
    (View.readAt (Elt Ideal) arg20.view (Rect.unit (s := S2048x512) (o.okv p) S256x128.size (o.hkv p)).toLoadRect X20)

/-- A trip's scores for a pair of heads, 128 keys. -/
def sc128 (o : Offs S128x128.size) (Tm : FVec Ideal S128x128 .bf16) (X14 : BufTy.Contents (Elt Ideal) arg14.view.ty)
    (X19 : BufTy.Contents (Elt Ideal) arg19.view.ty) (X20 : BufTy.Contents (Elt Ideal) arg20.view.ty) (p : Fin 4) : FVec Ideal S256x128 .f32 :=
  s128 Tm (View.readAt (Elt Ideal) arg19.view (Rect.unit (s := S2048x512) (o.oq p) S128x128.size (o.hq p)).toLoadRect X19)
    (View.readAt (Elt Ideal) arg14.view (Rect.unit (s := S4x256x128) ![p.val, 0, 0] S1x256x128.size (sl_inb p)).toLoadRect X14)
    (View.readAt (Elt Ideal) arg20.view (Rect.unit (s := S2048x512) (o.okv p) S128x128.size (o.hkv p)).toLoadRect X20)

/-- A trip's values for a pair of heads. -/
def vals {n : ℕ} (o : Offs ![n, 128]) (X21 : BufTy.Contents (Elt Ideal) arg21.view.ty) (p : Fin 4) :=
  View.readAt (Elt Ideal) arg21.view (Rect.unit (s := S2048x512) (o.okv p) (![n, 128] : Fin 2 → ℕ) (o.hkv p)).toLoadRect X21

variable {arg14 arg19 arg20 arg21 arg22 arg23 arg24}

section
variable {d : ℕ} {Q K V : ℕ → ℕ → ℝ} {X14 : BufTy.Contents (Elt Ideal) arg14.view.ty} {X19 : BufTy.Contents (Elt Ideal) arg19.view.ty}
  {X20 : BufTy.Contents (Elt Ideal) arg20.view.ty} {X21 : BufTy.Contents (Elt Ideal) arg21.view.ty} (ins : Scr d Q K V X14 X19 X20 X21)
include ins

/-- A trip over 256 keys adds its tile to what the accumulators stand for. -/
theorem step256 {o : Offs S256x128.size} {qb kb base : ℕ} (h : o.At qb kb base d) (Tm : FVec Ideal S256x128 .bf16) (p : Fin 4) (r l : Fin 128)
    (hT : ∀ κ : Fin 256, Tm (ix2 κ r) = if ok d (nat d (qb + r.val)) (nat d (kb + κ.val))
      then ((-|(nat d (qb + r.val) : ℝ) - (nat d (kb + κ.val) : ℝ)| : ℝ) : EReal) else ⊥)
    (hi : nat d (qb + r.val) < 2048) (hj : Keys d (nat d (qb + r.val)) (fun κ : Fin 256 => nat d (kb + κ.val)))
    (ρ : Fin 2048) (hρ : ρ.val = base + d * r.val) (f22 : BufTy.Contents (Elt Ideal) arg22.view.ty)
    (f23 : BufTy.Contents (Elt Ideal) arg23.view.ty) (f24 : BufTy.Contents (Elt Ideal) arg24.view.ty) {N D : ℝ}
    (hrep : Rep (arg22.view.read (Elt Ideal) f22 (ix3 p ρ l)) (arg23.view.read (Elt Ideal) f23 (ix3 p ρ l)) (arg24.view.read (Elt Ideal) f24 (ix3 p ρ l)) N D) :
    Rep
      (arg22.view.read (Elt Ideal) (arg22.view.writes (Elt Ideal) f22 (stores o fun p => a256 (sc256 arg14 arg19 arg20 o Tm X14 X19 X20 p)
        (vals arg21 o X21 p) (acc o arg23 f23 p) (acc o arg22 f22 p))) (ix3 p ρ l))
      (arg23.view.read (Elt Ideal) (arg23.view.writes (Elt Ideal) f23 (stores o fun p => m256 (sc256 arg14 arg19 arg20 o Tm X14 X19 X20 p)
        (acc o arg23 f23 p))) (ix3 p ρ l))
      (arg24.view.read (Elt Ideal) (arg24.view.writes (Elt Ideal) f24 (stores o fun p => d256 (sc256 arg14 arg19 arg20 o Tm X14 X19 X20 p)
        (vals arg21 o X21 p) (acc o arg23 f23 p) (acc o arg24 f24 p))) (ix3 p ρ l))
      (N + wnum Q K V d (nat d (qb + r.val)) (128 * p.val + l.val)) (D + wden Q K d (nat d (qb + r.val)) ((128 * p.val + l.val) / 64)) := by
  rw [stores_hit h _ _ _ p r l ρ hρ, stores_hit h _ _ _ p r l ρ hρ, stores_hit h _ _ _ p r l ρ hρ]
  refine tile256 _ _ _ _ _ Q K V d p.val _ hi _ hj r l (fun hh h2 κ => ?_) (fun κ => ?_) ?_
  · refine s256_at _ _ _ _ Q K d p.val hh _ _ h2 r κ (fun x => ?_) (fun x => ?_) (fun x => ?_) (hT κ)
    · exact rows_at arg19 X19 (fun ρ c => Q (nat d ρ) c) ins.q _ _ _ _ (h.q p).1 (h.q p).2 r x
    · exact rows_at arg20 X20 (fun ρ c => K (nat d ρ) c) ins.k _ _ _ _ (h.kv p).1 (h.kv p).2 κ x
    · exact sl_at ins p hh h2 r x
  · exact rows_at arg21 X21 (fun ρ c => V (nat d ρ) c) ins.v _ _ _ _ (h.kv p).1 (h.kv p).2 κ l
  · rw [acc_at h arg22 f22 p r l ρ hρ, acc_at h arg23 f23 p r l ρ hρ, acc_at h arg24 f24 p r l ρ hρ]
    exact hrep

/-- A trip over 128 keys leaves its tile. -/
theorem step128 {o : Offs S128x128.size} {qb kb base : ℕ} (h : o.At qb kb base d) (Tm : FVec Ideal S128x128 .bf16) (p : Fin 4) (r l : Fin 128)
    (hT : ∀ κ : Fin 128, Tm (ix2 κ r) = if ok d (nat d (qb + r.val)) (nat d (kb + κ.val))
      then ((-|(nat d (qb + r.val) : ℝ) - (nat d (kb + κ.val) : ℝ)| : ℝ) : EReal) else ⊥)
    (hi : nat d (qb + r.val) < 2048) (hj : Keys d (nat d (qb + r.val)) (fun κ : Fin 128 => nat d (kb + κ.val)))
    (ρ : Fin 2048) (hρ : ρ.val = base + d * r.val) (f22 : BufTy.Contents (Elt Ideal) arg22.view.ty)
    (f23 : BufTy.Contents (Elt Ideal) arg23.view.ty) (f24 : BufTy.Contents (Elt Ideal) arg24.view.ty) :
    Rep
      (arg22.view.read (Elt Ideal) (arg22.view.writes (Elt Ideal) f22 (stores o fun p => k0_pay11 k0_pay1 (sc128 arg14 arg19 arg20 o Tm X14 X19 X20 p)
        (vals arg21 o X21 p))) (ix3 p ρ l))
      (arg23.view.read (Elt Ideal) (arg23.view.writes (Elt Ideal) f23 (stores o fun p => k0_pay13 k0_pay1 (sc128 arg14 arg19 arg20 o Tm X14 X19 X20 p))) (ix3 p ρ l))
      (arg24.view.read (Elt Ideal) (arg24.view.writes (Elt Ideal) f24 (stores o fun p => k0_pay12 k0_pay1 (sc128 arg14 arg19 arg20 o Tm X14 X19 X20 p)
        (vals arg21 o X21 p))) (ix3 p ρ l))
      (wnum Q K V d (nat d (qb + r.val)) (128 * p.val + l.val)) (wden Q K d (nat d (qb + r.val)) ((128 * p.val + l.val) / 64)) := by
  rw [stores_hit h _ _ _ p r l ρ hρ, stores_hit h _ _ _ p r l ρ hρ, stores_hit h _ _ _ p r l ρ hρ]
  refine tile128 _ _ Q K V d p.val _ hi _ hj r l (fun hh h2 κ => ?_) (fun κ => ?_)
  · refine s128_at _ _ _ _ Q K d p.val hh _ _ h2 r κ (fun x => ?_) (fun x => ?_) (fun x => ?_) (hT κ)
    · exact rows_at arg19 X19 (fun ρ c => Q (nat d ρ) c) ins.q _ _ _ _ (h.q p).1 (h.q p).2 r x
    · exact rows_at arg20 X20 (fun ρ c => K (nat d ρ) c) ins.k _ _ _ _ (h.kv p).1 (h.kv p).2 κ x
    · exact sl_at ins p hh h2 r x
  · exact rows_at arg21 X21 (fun ρ c => V (nat d ρ) c) ins.v _ _ _ _ (h.kv p).1 (h.kv p).2 κ l

end

/-- A row that one of sixteen trips changes. -/
theorem once {α : Type} (g : ℕ → α) (t : ℕ) (ht : t < 16) (hm : ∀ k, k < 16 → k ≠ t → g (k + 1) = g k) {P P' : α → Prop}
    (hh : P (g t) → P' (g (t + 1))) (h : P (g 0)) : P' (g 16) := by
  have lo : ∀ k, k ≤ t → g k = g 0 := fun k => by
    induction k with
    | zero => intro _; rfl
    | succ k ih => intro hk; rw [hm k (by omega) (by omega), ih (by omega)]
  have hi : ∀ n, t + 1 + n ≤ 16 → g (t + 1 + n) = g (t + 1) := fun n => by
    induction n with
    | zero => intro _; rfl
    | succ n ih => intro hk; rw [← Nat.add_assoc, hm (t + 1 + n) (by omega) (by omega), ih (by omega)]
  have e := hi (16 - (t + 1)) (by omega)
  rw [show t + 1 + (16 - (t + 1)) = 16 by omega] at e
  rw [e]
  refine hh ?_
  rw [lo t le_rfl]
  exact h

/-! ## Positions of a tile -/

/-- A tile of the dilation `d`: queries `t`, residue `s`, keys from `koff` on. -/
theorem ok_tile (d x t koff κ s q : ℕ) (hd : 0 < d) (hs : s < d) (ho : 64 * q + koff = 128 * t) :
    (ok d ((128 * t + x) * d + s) ((koff + κ) * d + s) ↔ |(x : ℝ) + 64 * q - κ| ≤ 64)
      ∧ |(((128 * t + x) * d + s : ℕ) : ℝ) - (((koff + κ) * d + s : ℕ) : ℝ)| = d * |(x : ℝ) + 64 * q - κ| := by
  have hd' : (0 : ℝ) < d := Nat.cast_pos.mpr hd
  have e : (((128 * t + x) * d + s : ℕ) : ℝ) - (((koff + κ) * d + s : ℕ) : ℝ) = d * ((x : ℝ) + 64 * q - κ) := by
    have ho' : (64 : ℝ) * q + koff = 128 * t := by exact_mod_cast ho
    push_cast
    linear_combination (-(d : ℝ)) * ho'
  have e2 : |(((128 * t + x) * d + s : ℕ) : ℝ) - (((koff + κ) * d + s : ℕ) : ℝ)| = d * |(x : ℝ) + 64 * q - κ| := by
    rw [e, abs_mul, abs_of_pos hd']
  refine ⟨?_, e2⟩
  have hmod : ((128 * t + x) * d + s) % d = ((koff + κ) * d + s) % d := by
    rw [Nat.mul_comm, Nat.mul_add_mod, Nat.mul_comm (koff + κ), Nat.mul_add_mod]
  have hle : |(x : ℝ) + 64 * q - κ| ≤ 64 ↔ |(((128 * t + x) * d + s : ℕ) : ℝ) - (((koff + κ) * d + s : ℕ) : ℝ)| ≤ 64 * d := by
    rw [e2, mul_comm (64 : ℝ) (d : ℝ), mul_le_mul_iff_right₀ hd']
  rw [hle, abs_le]
  constructor
  · rintro ⟨h1, h2, -⟩
    have h1' : (((128 * t + x) * d + s : ℕ) : ℝ) ≤ (((koff + κ) * d + s : ℕ) : ℝ) + 64 * d := by exact_mod_cast h1
    have h2' : (((koff + κ) * d + s : ℕ) : ℝ) ≤ (((128 * t + x) * d + s : ℕ) : ℝ) + 64 * d := by exact_mod_cast h2
    constructor <;> linarith
  · rintro ⟨h1, h2⟩
    refine ⟨?_, ?_, hmod⟩
    · have : (((128 * t + x) * d + s : ℕ) : ℝ) ≤ (((koff + κ) * d + s : ℕ) : ℝ) + 64 * d := by linarith
      exact_mod_cast this
    · have : (((koff + κ) * d + s : ℕ) : ℝ) ≤ (((128 * t + x) * d + s : ℕ) : ℝ) + 64 * d := by linarith
      exact_mod_cast this

/-- The masked table: its entries are kept down to `-64 d`. -/
theorem masked_tile (d x t koff κ s q : ℕ) (hd : 0 < d) (hs : s < d) (ho : 64 * q + koff = 128 * t) {T : EReal}
    (hT : T = ((-(d * |(x : ℝ) + 64 * q - κ|) : ℝ) : EReal)) :
    (if ((-(64 * d) : ℝ) : EReal) ≤ T then T else (⊥ : EReal)) = if ok d ((128 * t + x) * d + s) ((koff + κ) * d + s)
      then ((-|(((128 * t + x) * d + s : ℕ) : ℝ) - (((koff + κ) * d + s : ℕ) : ℝ)| : ℝ) : EReal) else ⊥ := by
  obtain ⟨h1, h2⟩ := ok_tile d x t koff κ s q hd hs ho
  have hd' : (0 : ℝ) < d := Nat.cast_pos.mpr hd
  rw [h2, hT]
  refine if_congr ?_ rfl rfl
  rw [h1, EReal.coe_le_coe_iff, neg_le_neg_iff, mul_comm (64 : ℝ) (d : ℝ), mul_le_mul_iff_right₀ hd']

end Cert.Proof.KernelIdeal

end
-- ==== Proof.AttnHost.lean ====
module

public import proofs.«01_k».proof.Proof.AttnStep
public import Idealize.ShloMosaic.Lib.Pointwise
public import Idealize.ShloMosaic.Lib.StableHlo.ReadAt

/-! # The arrays the attention's windows read

What the host leaves in each array before the launch, element by element, and the blocks of it that the windows stage.
-/

@[expose] public section

set_option maxRecDepth 16384

noncomputable section

namespace Cert.Proof.KernelIdeal

open Idealize Idealize.ShloMosaic Idealize.ShloMosaic.TcCoe Idealize.SL Idealize.SL.Sem
open Cert.KernelIdeal Cert.KernelIdeal.Gen
open Cert.Proof.Attn

variable (m : (ℓ : Loc nD τ sig) → Buf (Elt Ideal) ℓ)

/-! ## The arrays -/

theorem nat_lt {d : ℕ} (hd : d = 1 ∨ d = 4 ∨ d = 16) (r : Fin 2048) : nat d r.val < 2048 := by
  rcases hd with rfl | rfl | rfl <;> (unfold nat; omega)

theorem array_13_0 (c : Dev nD) (b : Fin 16) (r : Fin 2048) (k : Fin 1024) :
    V m c main_v13 (ix4 0 b r k) = m ((c : Thread nD τ).loc main_arg0) (ix3 b ⟨nat 16 r.val, nat_lt (by decide) r⟩ k) := by
  unfold V
  after_reads_at
  after_reads_at
  refine congrArg (fun r' => m ((c : Thread nD τ).loc main_arg0) (ix3 b r' k)) (Fin.ext ?_)
  show _ = nat 16 r.val
  unfold nat
  rfl

theorem array_13_1 (c : Dev nD) (b : Fin 16) (r : Fin 2048) (k : Fin 1024) :
    V m c main_v13 (ix4 1 b r k) = m ((c : Thread nD τ).loc main_arg0) (ix3 b ⟨nat 4 r.val, nat_lt (by decide) r⟩ k) := by
  unfold V
  after_reads_at
  after_reads_at
  refine congrArg (fun r' => m ((c : Thread nD τ).loc main_arg0) (ix3 b r' k)) (Fin.ext ?_)
  show _ = nat 4 r.val
  unfold nat
  rfl

theorem array_13_2 (c : Dev nD) (b : Fin 16) (r : Fin 2048) (k : Fin 1024) :
    V m c main_v13 (ix4 2 b r k) = m ((c : Thread nD τ).loc main_arg0) (ix3 b ⟨nat 1 r.val, nat_lt (by decide) r⟩ k) := by
  unfold V
  after_reads_at
  after_reads_at
  refine congrArg (fun r' => m ((c : Thread nD τ).loc main_arg0) (ix3 b r' k)) (Fin.ext ?_)
  show r.val = nat 1 r.val
  unfold nat
  omega

theorem array_14 (c : Dev nD) (l : Fin 10240) :
    V m c main_v14 (ix2 0 l) = m ((c : Thread nD τ).loc main_arg2) (ix1 l) := by
  unfold V
  after_reads_at

theorem array_18 (c : Dev nD) (l : Fin 512) :
    V m c main_v18 (ix2 0 l) = m ((c : Thread nD τ).loc main_arg3) (ix1 ⟨l.val % 64, by omega⟩) := by
  unfold V
  after_reads_at

theorem array_22 (c : Dev nD) (l : Fin 512) :
    V m c main_v22 (ix2 0 l) = m ((c : Thread nD τ).loc main_arg4) (ix1 ⟨l.val % 64, by omega⟩) := by
  unfold V
  after_reads_at

/-- Division by sixty-four of a small word. -/
theorem quot_64 : ∀ a : Fin 256, Scalar.select
          (IntOp.andi
            (IntOp.cmpi CmpIPredicate.ne
              (if BitVec.ofNat 32 a.val = 0 then (0 : BitVec 32) else if (BitVec.ofNat 32 a.val).msb = true then -1 else 1)
              (if (64#32) = 0 then (0 : BitVec 32) else if BitVec.msb (64#32) = true then -1 else 1))
            (IntOp.cmpi CmpIPredicate.ne
              (IntOp.remsi ArithUnit.host (BitVec.ofNat 32 a.val) (64#32)) 0#32))
          (IntOp.subi (IntOp.divsi ArithUnit.host (BitVec.ofNat 32 a.val) (64#32)) 1#32)
          (IntOp.divsi ArithUnit.host (BitVec.ofNat 32 a.val) (64#32)) = BitVec.ofNat 32 (a.val / 64) := by
  decide +kernel

theorem eq_word {n k : ℕ} (hn : n < 4294967296) (hk : k < 4294967296) :
    IntOp.cmpi CmpIPredicate.eq (BitVec.ofNat 32 n) (BitVec.ofNat 32 k) = if n = k then 1#1 else 0#1 := by
  have e : (BitVec.ofNat 32 n = BitVec.ofNat 32 k) ↔ n = k :=
    ⟨fun h => by
      have := congrArg BitVec.toNat h
      rw [BitVec.toNat_ofNat, BitVec.toNat_ofNat, Nat.mod_eq_of_lt (by omega), Nat.mod_eq_of_lt (by omega)] at this
      exact this, fun h => by rw [h]⟩
  by_cases h : n = k
  · subst h; rw [if_pos rfl]; simp [IntOp.cmpi]
  · rw [if_neg h]; simp only [IntOp.cmpi]
    rw [show (BitVec.ofNat 32 n == BitVec.ofNat 32 k) = false from beq_eq_false_iff_ne.mpr fun h' => h (e.mp h')]
    rfl

theorem array_31 (c : Dev nD) (a b : Fin 256) :
    V m c main_v31 (ix2 a b) = (if a.val / 64 = b.val / 64 then (1 : EReal) else 0 : EReal) := by
  unfold V
  after_reads_at
  refine (congrArg (fun w => Scalar.select w (1 : EReal) 0) (congrArg₂ (IntOp.cmpi CmpIPredicate.eq) (quot_64 a) (quot_64 b))).trans ?_
  show Scalar.select (IntOp.cmpi CmpIPredicate.eq _ _) _ _ = _
  rw [eq_word (by omega) (by omega)]
  split <;> rfl

/-- The distance of two small words. -/
theorem dist_word {a b : ℕ} (ha : a < 65536) (hb : b < 65536) :
    IntOp.absi (IntOp.subi (BitVec.ofNat 32 a) (BitVec.ofNat 32 b)) = BitVec.ofNat 32 (a - b + (b - a)) := by
  unfold IntOp.absi IntOp.subi
  rcases Nat.lt_or_ge a b with h | h
  · have e : (BitVec.ofNat 32 a - BitVec.ofNat 32 b).toNat = 4294967296 - (b - a) := by
      rw [BitVec.toNat_sub, BitVec.toNat_ofNat, BitVec.toNat_ofNat]; omega
    have hm : (BitVec.ofNat 32 a - BitVec.ofNat 32 b).msb = true := by rw [BitVec.msb_eq_decide, e]; simp; omega
    rw [hm, if_pos rfl]
    apply BitVec.eq_of_toNat_eq
    rw [BitVec.toNat_neg, e, BitVec.toNat_ofNat]; omega
  · have e : (BitVec.ofNat 32 a - BitVec.ofNat 32 b).toNat = a - b := by
      rw [BitVec.toNat_sub, BitVec.toNat_ofNat, BitVec.toNat_ofNat]; omega
    have hm : (BitVec.ofNat 32 a - BitVec.ofNat 32 b).msb = false := by rw [BitVec.msb_eq_decide, e]; simp; omega
    rw [hm, if_neg (by decide)]
    apply BitVec.eq_of_toNat_eq
    rw [e, BitVec.toNat_ofNat]; omega

theorem dist_real (a b : ℕ) : ((a - b + (b - a) : ℕ) : ℝ) = |(a : ℝ) - (b : ℝ)| := by
  rcases Nat.le_total a b with h | h
  · rw [abs_of_nonpos (by simp [h]), Nat.sub_eq_zero_of_le h, Nat.zero_add, Nat.cast_sub h]; ring
  · rw [abs_of_nonneg (by simp [h]), Nat.sub_eq_zero_of_le h, Nat.add_zero, Nat.cast_sub h]

/-- The negated multiple of a small word. -/
theorem neg_word {d n : ℕ} (hd : d < 32) (hn : n < 65536) :
    (IntOp.muli (-(BitVec.ofNat 32 d)) (BitVec.ofNat 32 n)).toInt = -((d * n : ℕ) : ℤ) := by
  unfold IntOp.muli
  have hdn : d * n < 31 * 65536 + 1 := by nlinarith
  rw [BitVec.neg_mul, ← BitVec.ofNat_mul, BitVec.toInt_neg]
  have e : (BitVec.ofNat 32 (d * n)).toInt = ((d * n : ℕ) : ℤ) := by
    rw [BitVec.toInt_eq_toNat_of_lt, BitVec.toNat_ofNat, Nat.mod_eq_of_lt (by omega)]
    rw [BitVec.toNat_ofNat]; omega
  rw [e, Int.bmod_def]
  omega

theorem table_word (d q κ x : ℕ) (hd : d < 32) (hq : q < 3) (hκ : κ < 256) (hx : x < 128) :
    FloatOps.sitofp (F := Ideal) FTy.f32 (IntOp.muli (-(BitVec.ofNat 32 d)) (IntOp.absi
      (IntOp.subi (IntOp.addi (BitVec.ofNat 32 x) (IntOp.muli (64#32) (BitVec.ofNat 32 q))) (BitVec.ofNat 32 κ))))
      = ((-((d : ℝ) * |(x : ℝ) + 64 * (q : ℝ) - (κ : ℝ)|) : ℝ) : EReal) := by
  have e : IntOp.addi (BitVec.ofNat 32 x) (IntOp.muli (64#32) (BitVec.ofNat 32 q)) = BitVec.ofNat 32 (x + 64 * q) := by
    unfold IntOp.addi IntOp.muli
    rw [BitVec.ofNat_add, BitVec.ofNat_mul]
  rw [e, dist_word (by omega) (by omega)]
  show (((IntOp.muli _ _).toInt : ℝ) : EReal) = _
  rw [neg_word hd (by omega)]
  congr 1
  have := dist_real (x + 64 * q) κ
  push_cast at this ⊢
  rw [← this]

theorem array_43 (c : Dev nD) (q : Fin 3) (κ : Fin 256) (x : Fin 128) :
    V m c main_v43 (ix3 q κ x) = ((-(((1 : ℕ) : ℝ) * |(x.val : ℝ) + 64 * (q.val : ℝ) - (κ.val : ℝ)|) : ℝ) : EReal) := by
  unfold V
  after_reads_at
  exact table_word 1 q.val κ.val x.val (by decide) q.isLt κ.isLt x.isLt

theorem array_55 (c : Dev nD) (q : Fin 3) (κ : Fin 256) (x : Fin 128) :
    V m c main_v55 (ix3 q κ x) = ((-(((4 : ℕ) : ℝ) * |(x.val : ℝ) + 64 * (q.val : ℝ) - (κ.val : ℝ)|) : ℝ) : EReal) := by
  unfold V
  after_reads_at
  exact table_word 4 q.val κ.val x.val (by decide) q.isLt κ.isLt x.isLt

theorem array_67 (c : Dev nD) (q : Fin 1) (κ : Fin 128) (x : Fin 128) :
    V m c main_v67 (ix3 q κ x) = ((-(((16 : ℕ) : ℝ) * |(x.val : ℝ) + 64 * (q.val : ℝ) - (κ.val : ℝ)|) : ℝ) : EReal) := by
  obtain rfl : q = 0 := Subsingleton.elim _ _
  unfold V
  after_reads_at
  exact table_word 16 0 κ.val x.val (by decide) (by omega) (by omega) x.isLt

theorem lit_slope : ∀ h : Fin 8, Ideal.ofBits FTy.f32 (lit0 (S8.rowMajor (ix1 h))) = ((slope h.val : ℝ) : EReal) := by
  intro h
  have e : ∀ h : Fin 8, lit0 (S8.rowMajor (ix1 h)) = BitVec.ofNat 32 (0x3F000000 - 0x800000 * h.val) := by decide +kernel
  rw [e h]
  fin_cases h <;> simp [Ideal.ofBits, Ideal.ieee, slope] <;> norm_num <;> rw [← EReal.coe_mul] <;> norm_num

theorem select_slope (z w v : EReal) (hz : z = Ideal.ofBits FTy.f32 0#32) (n k : ℕ) (hn : n < 65536) (hk : k < 65536) (hw : w = v) :
    Scalar.select (IntOp.cmpi CmpIPredicate.eq (BitVec.ofNat 32 n) (BitVec.ofNat 32 k)) w z = if n = k then v else 0 := by
  rw [eq_word (by omega) (by omega), hw]
  split
  · rfl
  · show z = 0
    rw [hz]; simp [Ideal.ofBits, Ideal.ieee]

theorem array_74 (c : Dev nD) (p : Fin 4) (a : Fin 256) (x : Fin 128) :
    V m c main_v74 (ix3 p a x) = if a.val % 128 = x.val then ((slope (2 * p.val + a.val / 128) : ℝ) : EReal) else 0 := by
  unfold V
  after_reads_at
  refine (select_slope _ _ _ rfl (a.val % 128) x.val (by omega) (by omega) (lit_slope _)).trans ?_
  show (if a.val % 128 = x.val then ((slope (p.val * 2 + a.val / 128) : ℝ) : EReal) else 0) = _
  rw [Nat.mul_comm p.val 2]

/-! ## The blocks -/

theorem index_0 : ∀ t : Fin cfg0.N, win0_0.index t 0 = t.val % 3 ∧ win0_0.index t 1 = t.val / 3 ∧ win0_0.index t 2 = 0 ∧ win0_0.index t 3 = 0 :=
  (by decide +kernel : ∀ t : Fin grid0.N, _)

theorem place_0_0 (t : Fin cfg0.N) (j0 : Fin 1) (j1 : Fin 1) (j2 : Fin 2048) (j3 : Fin 1024) :
    (((cfg0.win 0).blk t).view.emb (ix4 j0 j1 j2 j3) (0 : Fin 4)).val = win0_0.index t 0 * 1 + 1 * j0.val := rfl
theorem place_0_1 (t : Fin cfg0.N) (j0 : Fin 1) (j1 : Fin 1) (j2 : Fin 2048) (j3 : Fin 1024) :
    (((cfg0.win 0).blk t).view.emb (ix4 j0 j1 j2 j3) (1 : Fin 4)).val = win0_0.index t 1 * 1 + 1 * j1.val := rfl
theorem place_0_2 (t : Fin cfg0.N) (j0 : Fin 1) (j1 : Fin 1) (j2 : Fin 2048) (j3 : Fin 1024) :
    (((cfg0.win 0).blk t).view.emb (ix4 j0 j1 j2 j3) (2 : Fin 4)).val = win0_0.index t 2 * 2048 + 1 * j2.val := rfl
theorem place_0_3 (t : Fin cfg0.N) (j0 : Fin 1) (j1 : Fin 1) (j2 : Fin 2048) (j3 : Fin 1024) :
    (((cfg0.win 0).blk t).view.emb (ix4 j0 j1 j2 j3) (3 : Fin 4)).val = win0_0.index t 3 * 1024 + 1 * j3.val := rfl

theorem place_0 (t : Fin cfg0.N) (j0 : Fin 1) (j1 : Fin 1) (j2 : Fin 2048) (j3 : Fin 1024) (p0 : Fin 3) (p1 : Fin 16) (p2 : Fin 2048) (p3 : Fin 1024) (h0 : p0.val = t.val % 3) (h1 : p1.val = t.val / 3) (h2 : p2.val = j2.val) (h3 : p3.val = j3.val) :
    ((cfg0.win 0).blk t).view.emb (ix4 j0 j1 j2 j3) = (ix4 p0 p1 p2 p3 : S3x16x2048x1024.Idx) := by
  have hi := index_0 t
  funext a
  apply Fin.ext
  match a with
  | ⟨0, _⟩ => refine (place_0_0 t j0 j1 j2 j3).trans ?_; rw [hi.1]; show _ = p0.val; omega
  | ⟨1, _⟩ => refine (place_0_1 t j0 j1 j2 j3).trans ?_; rw [hi.2.1]; show _ = p1.val; omega
  | ⟨2, _⟩ => refine (place_0_2 t j0 j1 j2 j3).trans ?_; rw [hi.2.2.1]; show _ = p2.val; omega
  | ⟨3, _⟩ => refine (place_0_3 t j0 j1 j2 j3).trans ?_; rw [hi.2.2.2]; show _ = p3.val; omega

theorem read_0 (c : Dev nD) (f : Buf (Elt Ideal) ((c : Thread nD τ).loc main_v13)) (t : Fin cfg0.N) (j0 : Fin 1) (j1 : Fin 1) (j2 : Fin 2048) (j3 : Fin 1024) (p0 : Fin 3) (p1 : Fin 16) (p2 : Fin 2048) (p3 : Fin 1024) (h0 : p0.val = t.val % 3) (h1 : p1.val = t.val / 3) (h2 : p2.val = j2.val) (h3 : p3.val = j3.val) :
    ((cfg0.win 0).blk t).view.read (Elt Ideal) f (ix4 j0 j1 j2 j3) = f (ix4 p0 p1 p2 p3) := by
  rw [View.read_apply]
  exact congrArg f (place_0 t j0 j1 j2 j3 p0 p1 p2 p3 h0 h1 h2 h3)

/-- Window 0 stages the rows of one group and batch row. -/
theorem block_0 (c : Dev nD) (t : Fin cfg0.N) (j0 : Fin 1) (j1 : Fin 1) (j2 : Fin 2048) (j3 : Fin 1024) (p0 : Fin 3) (p1 : Fin 16) (p2 : Fin 2048) (p3 : Fin 1024) (h0 : p0.val = t.val % 3) (h1 : p1.val = t.val / 3) (h2 : p2.val = j2.val) (h3 : p3.val = j3.val) :
    iblk m c 0 t (ix4 j0 j1 j2 j3) = V m c main_v13 (ix4 p0 p1 p2 p3) := by
  exact read_0 c (V m c main_v13) t j0 j1 j2 j3 p0 p1 p2 p3 h0 h1 h2 h3

theorem index_1 : ∀ t : Fin cfg0.N, win0_1.index t 0 = 0 ∧ win0_1.index t 1 = 8 - t.val % 3 :=
  (by decide +kernel : ∀ t : Fin grid0.N, _)

theorem place_1_0 (t : Fin cfg0.N) (j0 : Fin 1024) (j1 : Fin 512) :
    (((cfg0.win 1).blk t).view.emb (ix2 j0 j1) (0 : Fin 2)).val = win0_1.index t 0 * 1024 + 1 * j0.val := rfl
theorem place_1_1 (t : Fin cfg0.N) (j0 : Fin 1024) (j1 : Fin 512) :
    (((cfg0.win 1).blk t).view.emb (ix2 j0 j1) (1 : Fin 2)).val = win0_1.index t 1 * 512 + 1 * j1.val := rfl

theorem place_1 (t : Fin cfg0.N) (j0 : Fin 1024) (j1 : Fin 512) (p0 : Fin 1024) (p1 : Fin 10240) (h0 : p0.val = j0.val) (h1 : p1.val = (8 - t.val % 3) * 512 + j1.val) :
    ((cfg0.win 1).blk t).view.emb (ix2 j0 j1) = (ix2 p0 p1 : S1024x10240.Idx) := by
  have hi := index_1 t
  funext a
  apply Fin.ext
  match a with
  | ⟨0, _⟩ => refine (place_1_0 t j0 j1).trans ?_; rw [hi.1]; show _ = p0.val; omega
  | ⟨1, _⟩ => refine (place_1_1 t j0 j1).trans ?_; rw [hi.2]; show _ = p1.val; omega

theorem read_1 (c : Dev nD) (f : Buf (Elt Ideal) ((c : Thread nD τ).loc main_arg1)) (t : Fin cfg0.N) (j0 : Fin 1024) (j1 : Fin 512) (p0 : Fin 1024) (p1 : Fin 10240) (h0 : p0.val = j0.val) (h1 : p1.val = (8 - t.val % 3) * 512 + j1.val) :
    ((cfg0.win 1).blk t).view.read (Elt Ideal) f (ix2 j0 j1) = f (ix2 p0 p1) := by
  rw [View.read_apply]
  exact congrArg f (place_1 t j0 j1 p0 p1 h0 h1)

/-- Window 1 stages the queries' weights of one group. -/
theorem block_1 (c : Dev nD) (t : Fin cfg0.N) (j0 : Fin 1024) (j1 : Fin 512) (p0 : Fin 1024) (p1 : Fin 10240) (h0 : p0.val = j0.val) (h1 : p1.val = (8 - t.val % 3) * 512 + j1.val) :
    iblk m c 1 t (ix2 j0 j1) = V m c main_arg1 (ix2 p0 p1) := by
  exact read_1 c (V m c main_arg1) t j0 j1 p0 p1 h0 h1

theorem index_2 : ∀ t : Fin cfg0.N, win0_2.index t 0 = 0 ∧ win0_2.index t 1 = 11 - t.val % 3 :=
  (by decide +kernel : ∀ t : Fin grid0.N, _)

theorem place_2_0 (t : Fin cfg0.N) (j0 : Fin 1024) (j1 : Fin 512) :
    (((cfg0.win 2).blk t).view.emb (ix2 j0 j1) (0 : Fin 2)).val = win0_2.index t 0 * 1024 + 1 * j0.val := rfl
theorem place_2_1 (t : Fin cfg0.N) (j0 : Fin 1024) (j1 : Fin 512) :
    (((cfg0.win 2).blk t).view.emb (ix2 j0 j1) (1 : Fin 2)).val = win0_2.index t 1 * 512 + 1 * j1.val := rfl

theorem place_2 (t : Fin cfg0.N) (j0 : Fin 1024) (j1 : Fin 512) (p0 : Fin 1024) (p1 : Fin 10240) (h0 : p0.val = j0.val) (h1 : p1.val = (11 - t.val % 3) * 512 + j1.val) :
    ((cfg0.win 2).blk t).view.emb (ix2 j0 j1) = (ix2 p0 p1 : S1024x10240.Idx) := by
  have hi := index_2 t
  funext a
  apply Fin.ext
  match a with
  | ⟨0, _⟩ => refine (place_2_0 t j0 j1).trans ?_; rw [hi.1]; show _ = p0.val; omega
  | ⟨1, _⟩ => refine (place_2_1 t j0 j1).trans ?_; rw [hi.2]; show _ = p1.val; omega

theorem read_2 (c : Dev nD) (f : Buf (Elt Ideal) ((c : Thread nD τ).loc main_arg1)) (t : Fin cfg0.N) (j0 : Fin 1024) (j1 : Fin 512) (p0 : Fin 1024) (p1 : Fin 10240) (h0 : p0.val = j0.val) (h1 : p1.val = (11 - t.val % 3) * 512 + j1.val) :
    ((cfg0.win 2).blk t).view.read (Elt Ideal) f (ix2 j0 j1) = f (ix2 p0 p1) := by
  rw [View.read_apply]
  exact congrArg f (place_2 t j0 j1 p0 p1 h0 h1)

/-- Window 2 stages the keys' weights of one group. -/
theorem block_2 (c : Dev nD) (t : Fin cfg0.N) (j0 : Fin 1024) (j1 : Fin 512) (p0 : Fin 1024) (p1 : Fin 10240) (h0 : p0.val = j0.val) (h1 : p1.val = (11 - t.val % 3) * 512 + j1.val) :
    iblk m c 2 t (ix2 j0 j1) = V m c main_arg1 (ix2 p0 p1) := by
  exact read_2 c (V m c main_arg1) t j0 j1 p0 p1 h0 h1

theorem index_3 : ∀ t : Fin cfg0.N, win0_3.index t 0 = 0 ∧ win0_3.index t 1 = 14 - t.val % 3 :=
  (by decide +kernel : ∀ t : Fin grid0.N, _)

theorem place_3_0 (t : Fin cfg0.N) (j0 : Fin 1024) (j1 : Fin 512) :
    (((cfg0.win 3).blk t).view.emb (ix2 j0 j1) (0 : Fin 2)).val = win0_3.index t 0 * 1024 + 1 * j0.val := rfl
theorem place_3_1 (t : Fin cfg0.N) (j0 : Fin 1024) (j1 : Fin 512) :
    (((cfg0.win 3).blk t).view.emb (ix2 j0 j1) (1 : Fin 2)).val = win0_3.index t 1 * 512 + 1 * j1.val := rfl

theorem place_3 (t : Fin cfg0.N) (j0 : Fin 1024) (j1 : Fin 512) (p0 : Fin 1024) (p1 : Fin 10240) (h0 : p0.val = j0.val) (h1 : p1.val = (14 - t.val % 3) * 512 + j1.val) :
    ((cfg0.win 3).blk t).view.emb (ix2 j0 j1) = (ix2 p0 p1 : S1024x10240.Idx) := by
  have hi := index_3 t
  funext a
  apply Fin.ext
  match a with
  | ⟨0, _⟩ => refine (place_3_0 t j0 j1).trans ?_; rw [hi.1]; show _ = p0.val; omega
  | ⟨1, _⟩ => refine (place_3_1 t j0 j1).trans ?_; rw [hi.2]; show _ = p1.val; omega

theorem read_3 (c : Dev nD) (f : Buf (Elt Ideal) ((c : Thread nD τ).loc main_arg1)) (t : Fin cfg0.N) (j0 : Fin 1024) (j1 : Fin 512) (p0 : Fin 1024) (p1 : Fin 10240) (h0 : p0.val = j0.val) (h1 : p1.val = (14 - t.val % 3) * 512 + j1.val) :
    ((cfg0.win 3).blk t).view.read (Elt Ideal) f (ix2 j0 j1) = f (ix2 p0 p1) := by
  rw [View.read_apply]
  exact congrArg f (place_3 t j0 j1 p0 p1 h0 h1)

/-- Window 3 stages the values' weights of one group. -/
theorem block_3 (c : Dev nD) (t : Fin cfg0.N) (j0 : Fin 1024) (j1 : Fin 512) (p0 : Fin 1024) (p1 : Fin 10240) (h0 : p0.val = j0.val) (h1 : p1.val = (14 - t.val % 3) * 512 + j1.val) :
    iblk m c 3 t (ix2 j0 j1) = V m c main_arg1 (ix2 p0 p1) := by
  exact read_3 c (V m c main_arg1) t j0 j1 p0 p1 h0 h1

theorem index_4 : ∀ t : Fin cfg0.N, win0_4.index t 0 = 0 ∧ win0_4.index t 1 = 8 - t.val % 3 :=
  (by decide +kernel : ∀ t : Fin grid0.N, _)

theorem place_4_0 (t : Fin cfg0.N) (j0 : Fin 1) (j1 : Fin 512) :
    (((cfg0.win 4).blk t).view.emb (ix2 j0 j1) (0 : Fin 2)).val = win0_4.index t 0 * 1 + 1 * j0.val := rfl
theorem place_4_1 (t : Fin cfg0.N) (j0 : Fin 1) (j1 : Fin 512) :
    (((cfg0.win 4).blk t).view.emb (ix2 j0 j1) (1 : Fin 2)).val = win0_4.index t 1 * 512 + 1 * j1.val := rfl

theorem place_4 (t : Fin cfg0.N) (j0 : Fin 1) (j1 : Fin 512) (p0 : Fin 1) (p1 : Fin 10240) (h0 : p0.val = j0.val) (h1 : p1.val = (8 - t.val % 3) * 512 + j1.val) :
    ((cfg0.win 4).blk t).view.emb (ix2 j0 j1) = (ix2 p0 p1 : S1x10240.Idx) := by
  have hi := index_4 t
  funext a
  apply Fin.ext
  match a with
  | ⟨0, _⟩ => refine (place_4_0 t j0 j1).trans ?_; rw [hi.1]; show _ = p0.val; omega
  | ⟨1, _⟩ => refine (place_4_1 t j0 j1).trans ?_; rw [hi.2]; show _ = p1.val; omega

theorem read_4 (c : Dev nD) (f : Buf (Elt Ideal) ((c : Thread nD τ).loc main_v14)) (t : Fin cfg0.N) (j0 : Fin 1) (j1 : Fin 512) (p0 : Fin 1) (p1 : Fin 10240) (h0 : p0.val = j0.val) (h1 : p1.val = (8 - t.val % 3) * 512 + j1.val) :
    ((cfg0.win 4).blk t).view.read (Elt Ideal) f (ix2 j0 j1) = f (ix2 p0 p1) := by
  rw [View.read_apply]
  exact congrArg f (place_4 t j0 j1 p0 p1 h0 h1)

/-- Window 4 stages the queries' bias of one group. -/
theorem block_4 (c : Dev nD) (t : Fin cfg0.N) (j0 : Fin 1) (j1 : Fin 512) (p0 : Fin 1) (p1 : Fin 10240) (h0 : p0.val = j0.val) (h1 : p1.val = (8 - t.val % 3) * 512 + j1.val) :
    iblk m c 4 t (ix2 j0 j1) = V m c main_v14 (ix2 p0 p1) := by
  exact read_4 c (V m c main_v14) t j0 j1 p0 p1 h0 h1

theorem index_5 : ∀ t : Fin cfg0.N, win0_5.index t 0 = 0 ∧ win0_5.index t 1 = 11 - t.val % 3 :=
  (by decide +kernel : ∀ t : Fin grid0.N, _)

theorem place_5_0 (t : Fin cfg0.N) (j0 : Fin 1) (j1 : Fin 512) :
    (((cfg0.win 5).blk t).view.emb (ix2 j0 j1) (0 : Fin 2)).val = win0_5.index t 0 * 1 + 1 * j0.val := rfl
theorem place_5_1 (t : Fin cfg0.N) (j0 : Fin 1) (j1 : Fin 512) :
    (((cfg0.win 5).blk t).view.emb (ix2 j0 j1) (1 : Fin 2)).val = win0_5.index t 1 * 512 + 1 * j1.val := rfl

theorem place_5 (t : Fin cfg0.N) (j0 : Fin 1) (j1 : Fin 512) (p0 : Fin 1) (p1 : Fin 10240) (h0 : p0.val = j0.val) (h1 : p1.val = (11 - t.val % 3) * 512 + j1.val) :
    ((cfg0.win 5).blk t).view.emb (ix2 j0 j1) = (ix2 p0 p1 : S1x10240.Idx) := by
  have hi := index_5 t
  funext a
  apply Fin.ext
  match a with
  | ⟨0, _⟩ => refine (place_5_0 t j0 j1).trans ?_; rw [hi.1]; show _ = p0.val; omega
  | ⟨1, _⟩ => refine (place_5_1 t j0 j1).trans ?_; rw [hi.2]; show _ = p1.val; omega

theorem read_5 (c : Dev nD) (f : Buf (Elt Ideal) ((c : Thread nD τ).loc main_v14)) (t : Fin cfg0.N) (j0 : Fin 1) (j1 : Fin 512) (p0 : Fin 1) (p1 : Fin 10240) (h0 : p0.val = j0.val) (h1 : p1.val = (11 - t.val % 3) * 512 + j1.val) :
    ((cfg0.win 5).blk t).view.read (Elt Ideal) f (ix2 j0 j1) = f (ix2 p0 p1) := by
  rw [View.read_apply]
  exact congrArg f (place_5 t j0 j1 p0 p1 h0 h1)

/-- Window 5 stages the keys' bias of one group. -/
theorem block_5 (c : Dev nD) (t : Fin cfg0.N) (j0 : Fin 1) (j1 : Fin 512) (p0 : Fin 1) (p1 : Fin 10240) (h0 : p0.val = j0.val) (h1 : p1.val = (11 - t.val % 3) * 512 + j1.val) :
    iblk m c 5 t (ix2 j0 j1) = V m c main_v14 (ix2 p0 p1) := by
  exact read_5 c (V m c main_v14) t j0 j1 p0 p1 h0 h1

theorem index_6 : ∀ t : Fin cfg0.N, win0_6.index t 0 = 0 ∧ win0_6.index t 1 = 14 - t.val % 3 :=
  (by decide +kernel : ∀ t : Fin grid0.N, _)

theorem place_6_0 (t : Fin cfg0.N) (j0 : Fin 1) (j1 : Fin 512) :
    (((cfg0.win 6).blk t).view.emb (ix2 j0 j1) (0 : Fin 2)).val = win0_6.index t 0 * 1 + 1 * j0.val := rfl
theorem place_6_1 (t : Fin cfg0.N) (j0 : Fin 1) (j1 : Fin 512) :
    (((cfg0.win 6).blk t).view.emb (ix2 j0 j1) (1 : Fin 2)).val = win0_6.index t 1 * 512 + 1 * j1.val := rfl

theorem place_6 (t : Fin cfg0.N) (j0 : Fin 1) (j1 : Fin 512) (p0 : Fin 1) (p1 : Fin 10240) (h0 : p0.val = j0.val) (h1 : p1.val = (14 - t.val % 3) * 512 + j1.val) :
    ((cfg0.win 6).blk t).view.emb (ix2 j0 j1) = (ix2 p0 p1 : S1x10240.Idx) := by
  have hi := index_6 t
  funext a
  apply Fin.ext
  match a with
  | ⟨0, _⟩ => refine (place_6_0 t j0 j1).trans ?_; rw [hi.1]; show _ = p0.val; omega
  | ⟨1, _⟩ => refine (place_6_1 t j0 j1).trans ?_; rw [hi.2]; show _ = p1.val; omega

theorem read_6 (c : Dev nD) (f : Buf (Elt Ideal) ((c : Thread nD τ).loc main_v14)) (t : Fin cfg0.N) (j0 : Fin 1) (j1 : Fin 512) (p0 : Fin 1) (p1 : Fin 10240) (h0 : p0.val = j0.val) (h1 : p1.val = (14 - t.val % 3) * 512 + j1.val) :
    ((cfg0.win 6).blk t).view.read (Elt Ideal) f (ix2 j0 j1) = f (ix2 p0 p1) := by
  rw [View.read_apply]
  exact congrArg f (place_6 t j0 j1 p0 p1 h0 h1)

/-- Window 6 stages the values' bias of one group. -/
theorem block_6 (c : Dev nD) (t : Fin cfg0.N) (j0 : Fin 1) (j1 : Fin 512) (p0 : Fin 1) (p1 : Fin 10240) (h0 : p0.val = j0.val) (h1 : p1.val = (14 - t.val % 3) * 512 + j1.val) :
    iblk m c 6 t (ix2 j0 j1) = V m c main_v14 (ix2 p0 p1) := by
  exact read_6 c (V m c main_v14) t j0 j1 p0 p1 h0 h1

theorem index_7 : ∀ t : Fin cfg0.N, win0_7.index t 0 = 0 ∧ win0_7.index t 1 = 15 :=
  (by decide +kernel : ∀ t : Fin grid0.N, _)

theorem place_7_0 (t : Fin cfg0.N) (j0 : Fin 1024) (j1 : Fin 512) :
    (((cfg0.win 7).blk t).view.emb (ix2 j0 j1) (0 : Fin 2)).val = win0_7.index t 0 * 1024 + 1 * j0.val := rfl
theorem place_7_1 (t : Fin cfg0.N) (j0 : Fin 1024) (j1 : Fin 512) :
    (((cfg0.win 7).blk t).view.emb (ix2 j0 j1) (1 : Fin 2)).val = win0_7.index t 1 * 512 + 1 * j1.val := rfl

theorem place_7 (t : Fin cfg0.N) (j0 : Fin 1024) (j1 : Fin 512) (p0 : Fin 1024) (p1 : Fin 10240) (h0 : p0.val = j0.val) (h1 : p1.val = 7680 + j1.val) :
    ((cfg0.win 7).blk t).view.emb (ix2 j0 j1) = (ix2 p0 p1 : S1024x10240.Idx) := by
  have hi := index_7 t
  funext a
  apply Fin.ext
  match a with
  | ⟨0, _⟩ => refine (place_7_0 t j0 j1).trans ?_; rw [hi.1]; show _ = p0.val; omega
  | ⟨1, _⟩ => refine (place_7_1 t j0 j1).trans ?_; rw [hi.2]; show _ = p1.val; omega

theorem read_7 (c : Dev nD) (f : Buf (Elt Ideal) ((c : Thread nD τ).loc main_arg1)) (t : Fin cfg0.N) (j0 : Fin 1024) (j1 : Fin 512) (p0 : Fin 1024) (p1 : Fin 10240) (h0 : p0.val = j0.val) (h1 : p1.val = 7680 + j1.val) :
    ((cfg0.win 7).blk t).view.read (Elt Ideal) f (ix2 j0 j1) = f (ix2 p0 p1) := by
  rw [View.read_apply]
  exact congrArg f (place_7 t j0 j1 p0 p1 h0 h1)

/-- Window 7 stages the gate's weights. -/
theorem block_7 (c : Dev nD) (t : Fin cfg0.N) (j0 : Fin 1024) (j1 : Fin 512) (p0 : Fin 1024) (p1 : Fin 10240) (h0 : p0.val = j0.val) (h1 : p1.val = 7680 + j1.val) :
    iblk m c 7 t (ix2 j0 j1) = V m c main_arg1 (ix2 p0 p1) := by
  exact read_7 c (V m c main_arg1) t j0 j1 p0 p1 h0 h1

theorem index_8 : ∀ t : Fin cfg0.N, win0_8.index t 0 = 0 ∧ win0_8.index t 1 = 15 :=
  (by decide +kernel : ∀ t : Fin grid0.N, _)

theorem place_8_0 (t : Fin cfg0.N) (j0 : Fin 1) (j1 : Fin 512) :
    (((cfg0.win 8).blk t).view.emb (ix2 j0 j1) (0 : Fin 2)).val = win0_8.index t 0 * 1 + 1 * j0.val := rfl
theorem place_8_1 (t : Fin cfg0.N) (j0 : Fin 1) (j1 : Fin 512) :
    (((cfg0.win 8).blk t).view.emb (ix2 j0 j1) (1 : Fin 2)).val = win0_8.index t 1 * 512 + 1 * j1.val := rfl

theorem place_8 (t : Fin cfg0.N) (j0 : Fin 1) (j1 : Fin 512) (p0 : Fin 1) (p1 : Fin 10240) (h0 : p0.val = j0.val) (h1 : p1.val = 7680 + j1.val) :
    ((cfg0.win 8).blk t).view.emb (ix2 j0 j1) = (ix2 p0 p1 : S1x10240.Idx) := by
  have hi := index_8 t
  funext a
  apply Fin.ext
  match a with
  | ⟨0, _⟩ => refine (place_8_0 t j0 j1).trans ?_; rw [hi.1]; show _ = p0.val; omega
  | ⟨1, _⟩ => refine (place_8_1 t j0 j1).trans ?_; rw [hi.2]; show _ = p1.val; omega

theorem read_8 (c : Dev nD) (f : Buf (Elt Ideal) ((c : Thread nD τ).loc main_v14)) (t : Fin cfg0.N) (j0 : Fin 1) (j1 : Fin 512) (p0 : Fin 1) (p1 : Fin 10240) (h0 : p0.val = j0.val) (h1 : p1.val = 7680 + j1.val) :
    ((cfg0.win 8).blk t).view.read (Elt Ideal) f (ix2 j0 j1) = f (ix2 p0 p1) := by
  rw [View.read_apply]
  exact congrArg f (place_8 t j0 j1 p0 p1 h0 h1)

/-- Window 8 stages the gate's bias. -/
theorem block_8 (c : Dev nD) (t : Fin cfg0.N) (j0 : Fin 1) (j1 : Fin 512) (p0 : Fin 1) (p1 : Fin 10240) (h0 : p0.val = j0.val) (h1 : p1.val = 7680 + j1.val) :
    iblk m c 8 t (ix2 j0 j1) = V m c main_v14 (ix2 p0 p1) := by
  exact read_8 c (V m c main_v14) t j0 j1 p0 p1 h0 h1

theorem index_9 : ∀ t : Fin cfg0.N, win0_9.index t 0 = 0 ∧ win0_9.index t 1 = 0 :=
  (by decide +kernel : ∀ t : Fin grid0.N, _)

theorem place_9_0 (t : Fin cfg0.N) (j0 : Fin 1) (j1 : Fin 512) :
    (((cfg0.win 9).blk t).view.emb (ix2 j0 j1) (0 : Fin 2)).val = win0_9.index t 0 * 1 + 1 * j0.val := rfl
theorem place_9_1 (t : Fin cfg0.N) (j0 : Fin 1) (j1 : Fin 512) :
    (((cfg0.win 9).blk t).view.emb (ix2 j0 j1) (1 : Fin 2)).val = win0_9.index t 1 * 512 + 1 * j1.val := rfl

theorem place_9 (t : Fin cfg0.N) (j0 : Fin 1) (j1 : Fin 512) (p0 : Fin 1) (p1 : Fin 512) (h0 : p0.val = j0.val) (h1 : p1.val = j1.val) :
    ((cfg0.win 9).blk t).view.emb (ix2 j0 j1) = (ix2 p0 p1 : S1x512.Idx) := by
  have hi := index_9 t
  funext a
  apply Fin.ext
  match a with
  | ⟨0, _⟩ => refine (place_9_0 t j0 j1).trans ?_; rw [hi.1]; show _ = p0.val; omega
  | ⟨1, _⟩ => refine (place_9_1 t j0 j1).trans ?_; rw [hi.2]; show _ = p1.val; omega

theorem read_9 (c : Dev nD) (f : Buf (Elt Ideal) ((c : Thread nD τ).loc main_v18)) (t : Fin cfg0.N) (j0 : Fin 1) (j1 : Fin 512) (p0 : Fin 1) (p1 : Fin 512) (h0 : p0.val = j0.val) (h1 : p1.val = j1.val) :
    ((cfg0.win 9).blk t).view.read (Elt Ideal) f (ix2 j0 j1) = f (ix2 p0 p1) := by
  rw [View.read_apply]
  exact congrArg f (place_9 t j0 j1 p0 p1 h0 h1)

/-- Window 9 stages the queries' gains. -/
theorem block_9 (c : Dev nD) (t : Fin cfg0.N) (j0 : Fin 1) (j1 : Fin 512) (p0 : Fin 1) (p1 : Fin 512) (h0 : p0.val = j0.val) (h1 : p1.val = j1.val) :
    iblk m c 9 t (ix2 j0 j1) = V m c main_v18 (ix2 p0 p1) := by
  exact read_9 c (V m c main_v18) t j0 j1 p0 p1 h0 h1

theorem index_10 : ∀ t : Fin cfg0.N, win0_10.index t 0 = 0 ∧ win0_10.index t 1 = 0 :=
  (by decide +kernel : ∀ t : Fin grid0.N, _)

theorem place_10_0 (t : Fin cfg0.N) (j0 : Fin 1) (j1 : Fin 512) :
    (((cfg0.win 10).blk t).view.emb (ix2 j0 j1) (0 : Fin 2)).val = win0_10.index t 0 * 1 + 1 * j0.val := rfl
theorem place_10_1 (t : Fin cfg0.N) (j0 : Fin 1) (j1 : Fin 512) :
    (((cfg0.win 10).blk t).view.emb (ix2 j0 j1) (1 : Fin 2)).val = win0_10.index t 1 * 512 + 1 * j1.val := rfl

theorem place_10 (t : Fin cfg0.N) (j0 : Fin 1) (j1 : Fin 512) (p0 : Fin 1) (p1 : Fin 512) (h0 : p0.val = j0.val) (h1 : p1.val = j1.val) :
    ((cfg0.win 10).blk t).view.emb (ix2 j0 j1) = (ix2 p0 p1 : S1x512.Idx) := by
  have hi := index_10 t
  funext a
  apply Fin.ext
  match a with
  | ⟨0, _⟩ => refine (place_10_0 t j0 j1).trans ?_; rw [hi.1]; show _ = p0.val; omega
  | ⟨1, _⟩ => refine (place_10_1 t j0 j1).trans ?_; rw [hi.2]; show _ = p1.val; omega

theorem read_10 (c : Dev nD) (f : Buf (Elt Ideal) ((c : Thread nD τ).loc main_v22)) (t : Fin cfg0.N) (j0 : Fin 1) (j1 : Fin 512) (p0 : Fin 1) (p1 : Fin 512) (h0 : p0.val = j0.val) (h1 : p1.val = j1.val) :
    ((cfg0.win 10).blk t).view.read (Elt Ideal) f (ix2 j0 j1) = f (ix2 p0 p1) := by
  rw [View.read_apply]
  exact congrArg f (place_10 t j0 j1 p0 p1 h0 h1)

/-- Window 10 stages the keys' gains. -/
theorem block_10 (c : Dev nD) (t : Fin cfg0.N) (j0 : Fin 1) (j1 : Fin 512) (p0 : Fin 1) (p1 : Fin 512) (h0 : p0.val = j0.val) (h1 : p1.val = j1.val) :
    iblk m c 10 t (ix2 j0 j1) = V m c main_v22 (ix2 p0 p1) := by
  exact read_10 c (V m c main_v22) t j0 j1 p0 p1 h0 h1

theorem index_11 : ∀ t : Fin cfg0.N, win0_11.index t 0 = 0 ∧ win0_11.index t 1 = 0 :=
  (by decide +kernel : ∀ t : Fin grid0.N, _)

theorem place_11_0 (t : Fin cfg0.N) (j0 : Fin 256) (j1 : Fin 256) :
    (((cfg0.win 11).blk t).view.emb (ix2 j0 j1) (0 : Fin 2)).val = win0_11.index t 0 * 256 + 1 * j0.val := rfl
theorem place_11_1 (t : Fin cfg0.N) (j0 : Fin 256) (j1 : Fin 256) :
    (((cfg0.win 11).blk t).view.emb (ix2 j0 j1) (1 : Fin 2)).val = win0_11.index t 1 * 256 + 1 * j1.val := rfl

theorem place_11 (t : Fin cfg0.N) (j0 : Fin 256) (j1 : Fin 256) (p0 : Fin 256) (p1 : Fin 256) (h0 : p0.val = j0.val) (h1 : p1.val = j1.val) :
    ((cfg0.win 11).blk t).view.emb (ix2 j0 j1) = (ix2 p0 p1 : S256x256.Idx) := by
  have hi := index_11 t
  funext a
  apply Fin.ext
  match a with
  | ⟨0, _⟩ => refine (place_11_0 t j0 j1).trans ?_; rw [hi.1]; show _ = p0.val; omega
  | ⟨1, _⟩ => refine (place_11_1 t j0 j1).trans ?_; rw [hi.2]; show _ = p1.val; omega

theorem read_11 (c : Dev nD) (f : Buf (Elt Ideal) ((c : Thread nD τ).loc main_v31)) (t : Fin cfg0.N) (j0 : Fin 256) (j1 : Fin 256) (p0 : Fin 256) (p1 : Fin 256) (h0 : p0.val = j0.val) (h1 : p1.val = j1.val) :
    ((cfg0.win 11).blk t).view.read (Elt Ideal) f (ix2 j0 j1) = f (ix2 p0 p1) := by
  rw [View.read_apply]
  exact congrArg f (place_11 t j0 j1 p0 p1 h0 h1)

/-- Window 11 stages the block-diagonal ones. -/
theorem block_11 (c : Dev nD) (t : Fin cfg0.N) (j0 : Fin 256) (j1 : Fin 256) (p0 : Fin 256) (p1 : Fin 256) (h0 : p0.val = j0.val) (h1 : p1.val = j1.val) :
    iblk m c 11 t (ix2 j0 j1) = V m c main_v31 (ix2 p0 p1) := by
  exact read_11 c (V m c main_v31) t j0 j1 p0 p1 h0 h1

theorem index_12 : ∀ t : Fin cfg0.N, win0_12.index t 0 = 0 ∧ win0_12.index t 1 = 0 ∧ win0_12.index t 2 = 0 :=
  (by decide +kernel : ∀ t : Fin grid0.N, _)

theorem place_12_0 (t : Fin cfg0.N) (j0 : Fin 4) (j1 : Fin 256) (j2 : Fin 128) :
    (((cfg0.win 12).blk t).view.emb (ix3 j0 j1 j2) (0 : Fin 3)).val = win0_12.index t 0 * 4 + 1 * j0.val := rfl
theorem place_12_1 (t : Fin cfg0.N) (j0 : Fin 4) (j1 : Fin 256) (j2 : Fin 128) :
    (((cfg0.win 12).blk t).view.emb (ix3 j0 j1 j2) (1 : Fin 3)).val = win0_12.index t 1 * 256 + 1 * j1.val := rfl
theorem place_12_2 (t : Fin cfg0.N) (j0 : Fin 4) (j1 : Fin 256) (j2 : Fin 128) :
    (((cfg0.win 12).blk t).view.emb (ix3 j0 j1 j2) (2 : Fin 3)).val = win0_12.index t 2 * 128 + 1 * j2.val := rfl

theorem place_12 (t : Fin cfg0.N) (j0 : Fin 4) (j1 : Fin 256) (j2 : Fin 128) (p0 : Fin 4) (p1 : Fin 256) (p2 : Fin 128) (h0 : p0.val = j0.val) (h1 : p1.val = j1.val) (h2 : p2.val = j2.val) :
    ((cfg0.win 12).blk t).view.emb (ix3 j0 j1 j2) = (ix3 p0 p1 p2 : S4x256x128.Idx) := by
  have hi := index_12 t
  funext a
  apply Fin.ext
  match a with
  | ⟨0, _⟩ => refine (place_12_0 t j0 j1 j2).trans ?_; rw [hi.1]; show _ = p0.val; omega
  | ⟨1, _⟩ => refine (place_12_1 t j0 j1 j2).trans ?_; rw [hi.2.1]; show _ = p1.val; omega
  | ⟨2, _⟩ => refine (place_12_2 t j0 j1 j2).trans ?_; rw [hi.2.2]; show _ = p2.val; omega

theorem read_12 (c : Dev nD) (f : Buf (Elt Ideal) ((c : Thread nD τ).loc main_v74)) (t : Fin cfg0.N) (j0 : Fin 4) (j1 : Fin 256) (j2 : Fin 128) (p0 : Fin 4) (p1 : Fin 256) (p2 : Fin 128) (h0 : p0.val = j0.val) (h1 : p1.val = j1.val) (h2 : p2.val = j2.val) :
    ((cfg0.win 12).blk t).view.read (Elt Ideal) f (ix3 j0 j1 j2) = f (ix3 p0 p1 p2) := by
  rw [View.read_apply]
  exact congrArg f (place_12 t j0 j1 j2 p0 p1 p2 h0 h1 h2)

/-- Window 12 stages the table of slopes. -/
theorem block_12 (c : Dev nD) (t : Fin cfg0.N) (j0 : Fin 4) (j1 : Fin 256) (j2 : Fin 128) (p0 : Fin 4) (p1 : Fin 256) (p2 : Fin 128) (h0 : p0.val = j0.val) (h1 : p1.val = j1.val) (h2 : p2.val = j2.val) :
    iblk m c 12 t (ix3 j0 j1 j2) = V m c main_v74 (ix3 p0 p1 p2) := by
  exact read_12 c (V m c main_v74) t j0 j1 j2 p0 p1 p2 h0 h1 h2

theorem index_13 : ∀ t : Fin cfg0.N, win0_13.index t 0 = 0 ∧ win0_13.index t 1 = 0 ∧ win0_13.index t 2 = 0 :=
  (by decide +kernel : ∀ t : Fin grid0.N, _)

theorem place_13_0 (t : Fin cfg0.N) (j0 : Fin 3) (j1 : Fin 256) (j2 : Fin 128) :
    (((cfg0.win 13).blk t).view.emb (ix3 j0 j1 j2) (0 : Fin 3)).val = win0_13.index t 0 * 3 + 1 * j0.val := rfl
theorem place_13_1 (t : Fin cfg0.N) (j0 : Fin 3) (j1 : Fin 256) (j2 : Fin 128) :
    (((cfg0.win 13).blk t).view.emb (ix3 j0 j1 j2) (1 : Fin 3)).val = win0_13.index t 1 * 256 + 1 * j1.val := rfl
theorem place_13_2 (t : Fin cfg0.N) (j0 : Fin 3) (j1 : Fin 256) (j2 : Fin 128) :
    (((cfg0.win 13).blk t).view.emb (ix3 j0 j1 j2) (2 : Fin 3)).val = win0_13.index t 2 * 128 + 1 * j2.val := rfl

theorem place_13 (t : Fin cfg0.N) (j0 : Fin 3) (j1 : Fin 256) (j2 : Fin 128) (p0 : Fin 3) (p1 : Fin 256) (p2 : Fin 128) (h0 : p0.val = j0.val) (h1 : p1.val = j1.val) (h2 : p2.val = j2.val) :
    ((cfg0.win 13).blk t).view.emb (ix3 j0 j1 j2) = (ix3 p0 p1 p2 : S3x256x128.Idx) := by
  have hi := index_13 t
  funext a
  apply Fin.ext
  match a with
  | ⟨0, _⟩ => refine (place_13_0 t j0 j1 j2).trans ?_; rw [hi.1]; show _ = p0.val; omega
  | ⟨1, _⟩ => refine (place_13_1 t j0 j1 j2).trans ?_; rw [hi.2.1]; show _ = p1.val; omega
  | ⟨2, _⟩ => refine (place_13_2 t j0 j1 j2).trans ?_; rw [hi.2.2]; show _ = p2.val; omega

theorem read_13 (c : Dev nD) (f : Buf (Elt Ideal) ((c : Thread nD τ).loc main_v43)) (t : Fin cfg0.N) (j0 : Fin 3) (j1 : Fin 256) (j2 : Fin 128) (p0 : Fin 3) (p1 : Fin 256) (p2 : Fin 128) (h0 : p0.val = j0.val) (h1 : p1.val = j1.val) (h2 : p2.val = j2.val) :
    ((cfg0.win 13).blk t).view.read (Elt Ideal) f (ix3 j0 j1 j2) = f (ix3 p0 p1 p2) := by
  rw [View.read_apply]
  exact congrArg f (place_13 t j0 j1 j2 p0 p1 p2 h0 h1 h2)

/-- Window 13 stages the table of distances of stride 1. -/
theorem block_13 (c : Dev nD) (t : Fin cfg0.N) (j0 : Fin 3) (j1 : Fin 256) (j2 : Fin 128) (p0 : Fin 3) (p1 : Fin 256) (p2 : Fin 128) (h0 : p0.val = j0.val) (h1 : p1.val = j1.val) (h2 : p2.val = j2.val) :
    iblk m c 13 t (ix3 j0 j1 j2) = V m c main_v43 (ix3 p0 p1 p2) := by
  exact read_13 c (V m c main_v43) t j0 j1 j2 p0 p1 p2 h0 h1 h2

theorem index_14 : ∀ t : Fin cfg0.N, win0_14.index t 0 = 0 ∧ win0_14.index t 1 = 0 ∧ win0_14.index t 2 = 0 :=
  (by decide +kernel : ∀ t : Fin grid0.N, _)

theorem place_14_0 (t : Fin cfg0.N) (j0 : Fin 3) (j1 : Fin 256) (j2 : Fin 128) :
    (((cfg0.win 14).blk t).view.emb (ix3 j0 j1 j2) (0 : Fin 3)).val = win0_14.index t 0 * 3 + 1 * j0.val := rfl
theorem place_14_1 (t : Fin cfg0.N) (j0 : Fin 3) (j1 : Fin 256) (j2 : Fin 128) :
    (((cfg0.win 14).blk t).view.emb (ix3 j0 j1 j2) (1 : Fin 3)).val = win0_14.index t 1 * 256 + 1 * j1.val := rfl
theorem place_14_2 (t : Fin cfg0.N) (j0 : Fin 3) (j1 : Fin 256) (j2 : Fin 128) :
    (((cfg0.win 14).blk t).view.emb (ix3 j0 j1 j2) (2 : Fin 3)).val = win0_14.index t 2 * 128 + 1 * j2.val := rfl

theorem place_14 (t : Fin cfg0.N) (j0 : Fin 3) (j1 : Fin 256) (j2 : Fin 128) (p0 : Fin 3) (p1 : Fin 256) (p2 : Fin 128) (h0 : p0.val = j0.val) (h1 : p1.val = j1.val) (h2 : p2.val = j2.val) :
    ((cfg0.win 14).blk t).view.emb (ix3 j0 j1 j2) = (ix3 p0 p1 p2 : S3x256x128.Idx) := by
  have hi := index_14 t
  funext a
  apply Fin.ext
  match a with
  | ⟨0, _⟩ => refine (place_14_0 t j0 j1 j2).trans ?_; rw [hi.1]; show _ = p0.val; omega
  | ⟨1, _⟩ => refine (place_14_1 t j0 j1 j2).trans ?_; rw [hi.2.1]; show _ = p1.val; omega
  | ⟨2, _⟩ => refine (place_14_2 t j0 j1 j2).trans ?_; rw [hi.2.2]; show _ = p2.val; omega

theorem read_14 (c : Dev nD) (f : Buf (Elt Ideal) ((c : Thread nD τ).loc main_v55)) (t : Fin cfg0.N) (j0 : Fin 3) (j1 : Fin 256) (j2 : Fin 128) (p0 : Fin 3) (p1 : Fin 256) (p2 : Fin 128) (h0 : p0.val = j0.val) (h1 : p1.val = j1.val) (h2 : p2.val = j2.val) :
    ((cfg0.win 14).blk t).view.read (Elt Ideal) f (ix3 j0 j1 j2) = f (ix3 p0 p1 p2) := by
  rw [View.read_apply]
  exact congrArg f (place_14 t j0 j1 j2 p0 p1 p2 h0 h1 h2)

/-- Window 14 stages the table of distances of stride 4. -/
theorem block_14 (c : Dev nD) (t : Fin cfg0.N) (j0 : Fin 3) (j1 : Fin 256) (j2 : Fin 128) (p0 : Fin 3) (p1 : Fin 256) (p2 : Fin 128) (h0 : p0.val = j0.val) (h1 : p1.val = j1.val) (h2 : p2.val = j2.val) :
    iblk m c 14 t (ix3 j0 j1 j2) = V m c main_v55 (ix3 p0 p1 p2) := by
  exact read_14 c (V m c main_v55) t j0 j1 j2 p0 p1 p2 h0 h1 h2

theorem index_15 : ∀ t : Fin cfg0.N, win0_15.index t 0 = 0 ∧ win0_15.index t 1 = 0 ∧ win0_15.index t 2 = 0 :=
  (by decide +kernel : ∀ t : Fin grid0.N, _)

theorem place_15_0 (t : Fin cfg0.N) (j0 : Fin 1) (j1 : Fin 128) (j2 : Fin 128) :
    (((cfg0.win 15).blk t).view.emb (ix3 j0 j1 j2) (0 : Fin 3)).val = win0_15.index t 0 * 1 + 1 * j0.val := rfl
theorem place_15_1 (t : Fin cfg0.N) (j0 : Fin 1) (j1 : Fin 128) (j2 : Fin 128) :
    (((cfg0.win 15).blk t).view.emb (ix3 j0 j1 j2) (1 : Fin 3)).val = win0_15.index t 1 * 128 + 1 * j1.val := rfl
theorem place_15_2 (t : Fin cfg0.N) (j0 : Fin 1) (j1 : Fin 128) (j2 : Fin 128) :
    (((cfg0.win 15).blk t).view.emb (ix3 j0 j1 j2) (2 : Fin 3)).val = win0_15.index t 2 * 128 + 1 * j2.val := rfl

theorem place_15 (t : Fin cfg0.N) (j0 : Fin 1) (j1 : Fin 128) (j2 : Fin 128) (p0 : Fin 1) (p1 : Fin 128) (p2 : Fin 128) (h0 : p0.val = j0.val) (h1 : p1.val = j1.val) (h2 : p2.val = j2.val) :
    ((cfg0.win 15).blk t).view.emb (ix3 j0 j1 j2) = (ix3 p0 p1 p2 : S1x128x128.Idx) := by
  have hi := index_15 t
  funext a
  apply Fin.ext
  match a with
  | ⟨0, _⟩ => refine (place_15_0 t j0 j1 j2).trans ?_; rw [hi.1]; show _ = p0.val; omega
  | ⟨1, _⟩ => refine (place_15_1 t j0 j1 j2).trans ?_; rw [hi.2.1]; show _ = p1.val; omega
  | ⟨2, _⟩ => refine (place_15_2 t j0 j1 j2).trans ?_; rw [hi.2.2]; show _ = p2.val; omega

theorem read_15 (c : Dev nD) (f : Buf (Elt Ideal) ((c : Thread nD τ).loc main_v67)) (t : Fin cfg0.N) (j0 : Fin 1) (j1 : Fin 128) (j2 : Fin 128) (p0 : Fin 1) (p1 : Fin 128) (p2 : Fin 128) (h0 : p0.val = j0.val) (h1 : p1.val = j1.val) (h2 : p2.val = j2.val) :
    ((cfg0.win 15).blk t).view.read (Elt Ideal) f (ix3 j0 j1 j2) = f (ix3 p0 p1 p2) := by
  rw [View.read_apply]
  exact congrArg f (place_15 t j0 j1 j2 p0 p1 p2 h0 h1 h2)

/-- Window 15 stages the table of distances of stride 16. -/
theorem block_15 (c : Dev nD) (t : Fin cfg0.N) (j0 : Fin 1) (j1 : Fin 128) (j2 : Fin 128) (p0 : Fin 1) (p1 : Fin 128) (p2 : Fin 128) (h0 : p0.val = j0.val) (h1 : p1.val = j1.val) (h2 : p2.val = j2.val) :
    iblk m c 15 t (ix3 j0 j1 j2) = V m c main_v67 (ix3 p0 p1 p2) := by
  exact read_15 c (V m c main_v67) t j0 j1 j2 p0 p1 p2 h0 h1 h2

/-! ## The blocks in the arguments -/

theorem rows_0 (c : Dev nD) (t : Fin cfg0.N) (b : Fin 16) (hb : b.val = t.val / 3) (h : t.val % 3 = 0) (r : Fin 2048) (k : Fin 1024) :
    iblk m c 0 t (ix4 0 0 r k) = m ((c : Thread nD τ).loc main_arg0) (ix3 b ⟨nat 16 r.val, nat_lt (by decide) r⟩ k) :=
  (block_0 m c t 0 0 r k 0 b r k h.symm hb rfl rfl).trans (array_13_0 m c b r k)

theorem rows_1 (c : Dev nD) (t : Fin cfg0.N) (b : Fin 16) (hb : b.val = t.val / 3) (h : t.val % 3 = 1) (r : Fin 2048) (k : Fin 1024) :
    iblk m c 0 t (ix4 0 0 r k) = m ((c : Thread nD τ).loc main_arg0) (ix3 b ⟨nat 4 r.val, nat_lt (by decide) r⟩ k) :=
  (block_0 m c t 0 0 r k 1 b r k h.symm hb rfl rfl).trans (array_13_1 m c b r k)

theorem rows_2 (c : Dev nD) (t : Fin cfg0.N) (b : Fin 16) (hb : b.val = t.val / 3) (h : t.val % 3 = 2) (r : Fin 2048) (k : Fin 1024) :
    iblk m c 0 t (ix4 0 0 r k) = m ((c : Thread nD τ).loc main_arg0) (ix3 b ⟨nat 1 r.val, nat_lt (by decide) r⟩ k) :=
  (block_0 m c t 0 0 r k 2 b r k h.symm hb rfl rfl).trans (array_13_2 m c b r k)

theorem weight_0 (c : Dev nD) (t : Fin cfg0.N) (k : Fin 1024) (l : Fin 512) (p : Fin 10240) (hp : p.val = (8 - t.val % 3) * 512 + l.val) :
    iblk m c 1 t (ix2 k l) = m ((c : Thread nD τ).loc main_arg1) (ix2 k p) :=
  (block_1 m c t k l k p rfl hp).trans (congrFun (V_main_arg1 m c) _)

theorem bias_0 (c : Dev nD) (t : Fin cfg0.N) (l : Fin 512) (p : Fin 10240) (hp : p.val = (8 - t.val % 3) * 512 + l.val) :
    iblk m c 4 t (ix2 0 l) = m ((c : Thread nD τ).loc main_arg2) (ix1 p) :=
  (block_4 m c t 0 l 0 p rfl hp).trans (array_14 m c p)

theorem weight_1 (c : Dev nD) (t : Fin cfg0.N) (k : Fin 1024) (l : Fin 512) (p : Fin 10240) (hp : p.val = (11 - t.val % 3) * 512 + l.val) :
    iblk m c 2 t (ix2 k l) = m ((c : Thread nD τ).loc main_arg1) (ix2 k p) :=
  (block_2 m c t k l k p rfl hp).trans (congrFun (V_main_arg1 m c) _)

theorem bias_1 (c : Dev nD) (t : Fin cfg0.N) (l : Fin 512) (p : Fin 10240) (hp : p.val = (11 - t.val % 3) * 512 + l.val) :
    iblk m c 5 t (ix2 0 l) = m ((c : Thread nD τ).loc main_arg2) (ix1 p) :=
  (block_5 m c t 0 l 0 p rfl hp).trans (array_14 m c p)

theorem weight_2 (c : Dev nD) (t : Fin cfg0.N) (k : Fin 1024) (l : Fin 512) (p : Fin 10240) (hp : p.val = (14 - t.val % 3) * 512 + l.val) :
    iblk m c 3 t (ix2 k l) = m ((c : Thread nD τ).loc main_arg1) (ix2 k p) :=
  (block_3 m c t k l k p rfl hp).trans (congrFun (V_main_arg1 m c) _)

theorem bias_2 (c : Dev nD) (t : Fin cfg0.N) (l : Fin 512) (p : Fin 10240) (hp : p.val = (14 - t.val % 3) * 512 + l.val) :
    iblk m c 6 t (ix2 0 l) = m ((c : Thread nD τ).loc main_arg2) (ix1 p) :=
  (block_6 m c t 0 l 0 p rfl hp).trans (array_14 m c p)

theorem weight_gate (c : Dev nD) (t : Fin cfg0.N) (k : Fin 1024) (l : Fin 512) (p : Fin 10240) (hp : p.val = 7680 + l.val) :
    iblk m c 7 t (ix2 k l) = m ((c : Thread nD τ).loc main_arg1) (ix2 k p) :=
  (block_7 m c t k l k p rfl hp).trans (congrFun (V_main_arg1 m c) _)

theorem bias_gate (c : Dev nD) (t : Fin cfg0.N) (l : Fin 512) (p : Fin 10240) (hp : p.val = 7680 + l.val) :
    iblk m c 8 t (ix2 0 l) = m ((c : Thread nD τ).loc main_arg2) (ix1 p) :=
  (block_8 m c t 0 l 0 p rfl hp).trans (array_14 m c p)

theorem gain_q (c : Dev nD) (t : Fin cfg0.N) (l : Fin 512) :
    iblk m c 9 t (ix2 0 l) = m ((c : Thread nD τ).loc main_arg3) (ix1 ⟨l.val % 64, by omega⟩) :=
  (block_9 m c t 0 l 0 l rfl rfl).trans (array_18 m c l)

theorem gain_k (c : Dev nD) (t : Fin cfg0.N) (l : Fin 512) :
    iblk m c 10 t (ix2 0 l) = m ((c : Thread nD τ).loc main_arg4) (ix1 ⟨l.val % 64, by omega⟩) :=
  (block_10 m c t 0 l 0 l rfl rfl).trans (array_22 m c l)

theorem ones_at (c : Dev nD) (t : Fin cfg0.N) (a b : Fin 256) :
    iblk m c 11 t (ix2 a b) = (if a.val / 64 = b.val / 64 then (1 : EReal) else 0 : EReal) :=
  (block_11 m c t a b a b rfl rfl).trans (array_31 m c a b)

theorem slope_at (c : Dev nD) (t : Fin cfg0.N) (p : Fin 4) (a : Fin 256) (x : Fin 128) :
    iblk m c 12 t (ix3 p a x) = if a.val % 128 = x.val then ((slope (2 * p.val + a.val / 128) : ℝ) : EReal) else 0 :=
  (block_12 m c t p a x p a x rfl rfl rfl).trans (array_74 m c p a x)

theorem table_1 (c : Dev nD) (t : Fin cfg0.N) (q : Fin 3) (κ : Fin 256) (x : Fin 128) :
    iblk m c 13 t (ix3 q κ x) = ((-(((1 : ℕ) : ℝ) * |(x.val : ℝ) + 64 * (q.val : ℝ) - (κ.val : ℝ)|) : ℝ) : EReal) :=
  (block_13 m c t q κ x q κ x rfl rfl rfl).trans (array_43 m c q κ x)

theorem table_4 (c : Dev nD) (t : Fin cfg0.N) (q : Fin 3) (κ : Fin 256) (x : Fin 128) :
    iblk m c 14 t (ix3 q κ x) = ((-(((4 : ℕ) : ℝ) * |(x.val : ℝ) + 64 * (q.val : ℝ) - (κ.val : ℝ)|) : ℝ) : EReal) :=
  (block_14 m c t q κ x q κ x rfl rfl rfl).trans (array_55 m c q κ x)

theorem table_16 (c : Dev nD) (t : Fin cfg0.N) (q : Fin 1) (κ : Fin 128) (x : Fin 128) :
    iblk m c 15 t (ix3 q κ x) = ((-(((16 : ℕ) : ℝ) * |(x.val : ℝ) + 64 * (q.val : ℝ) - (κ.val : ℝ)|) : ℝ) : EReal) :=
  (block_15 m c t q κ x q κ x rfl rfl rfl).trans (array_67 m c q κ x)

end Cert.Proof.KernelIdeal

end
-- ==== Proof.AttnModel.lean ====
module

public import proofs.«01_k».proof.Proof.AttnTile

/-! # The attention over the real numbers

The projections, the norms, the three groups' sums and the gate of one batch row, as functions of real arguments.
-/

@[expose] public section

set_option maxRecDepth 16384

noncomputable section

namespace Cert.Proof.KernelIdeal

open Cert.Proof.Attn

/-- The arguments of one batch row: activations, weights, biases and the two gains. -/
structure Row where
  x : ℕ → Fin 1024 → ℝ
  w : Fin 1024 → ℕ → ℝ
  b : ℕ → ℝ
  gq : ℕ → ℝ
  gk : ℕ → ℝ

namespace Row

variable (A : Row)

/-- Column `n` of the projection of row `i`. -/
def lin (i n : ℕ) : ℝ := (∑ k, A.x i k * A.w k n) + A.b n

end Row

/-- The reciprocal root mean square of head `h` of a row. -/
def rms (z : ℕ → ℝ) (h : ℕ) : ℝ := (Real.sqrt ((∑ e : Fin 64, z (64 * h + e.val) * z (64 * h + e.val)) * (1 / 64) + eps))⁻¹

theorem rms_arg_pos (z : ℕ → ℝ) (h : ℕ) : 0 < (∑ e : Fin 64, z (64 * h + e.val) * z (64 * h + e.val)) * (1 / 64) + eps := by
  have h0 : 0 ≤ ∑ e : Fin 64, z (64 * h + e.val) * z (64 * h + e.val) := Finset.sum_nonneg fun e _ => mul_self_nonneg _
  have := eps_pos
  positivity

/-- A row normed head by head, with a gain. -/
def nrm (z g : ℕ → ℝ) (c : ℕ) : ℝ := z c * rms z (c / 64) * g (c % 64)

namespace Row

variable (A : Row)

/-- The scaled queries of group `g`. -/
def q (g i c : ℕ) : ℝ := nrm (fun c => A.lin i (3072 + 512 * g + c)) A.gq c * (1 / 8)

/-- The keys of group `g`. -/
def k (g i c : ℕ) : ℝ := nrm (fun c => A.lin i (4608 + 512 * g + c)) A.gk c

/-- The values of group `g`. -/
def v (g i c : ℕ) : ℝ := A.lin i (6144 + 512 * g + c)

/-- The numerator of group `g`, dilation `d`. -/
def top (g d i c : ℕ) : ℝ := wnum (A.q g) (A.k g) (A.v g) d i c

/-- The denominator of group `g`, dilation `d`. -/
def bot (g d i h : ℕ) : ℝ := wden (A.q g) (A.k g) d i h

/-- The gate's factor. -/
def silu (i c : ℕ) : ℝ := A.lin i (7680 + c) * (1 + Real.exp (-A.lin i (7680 + c)))⁻¹

/-- The gated attention: the three groups' numerators over their denominators. -/
def out (i c : ℕ) : ℝ :=
  (A.top 2 16 i c + A.top 1 4 i c + A.top 0 1 i c) / (A.bot 2 16 i (c / 64) + A.bot 1 4 i (c / 64) + A.bot 0 1 i (c / 64)) * A.silu i c

end Row

end Cert.Proof.KernelIdeal

end
-- ==== Proof.AttnHeads.lean ====
module

public import proofs.«01_k».proof.Proof.AttnModel
public import proofs.«01_k».proof.Proof.AttnStep
public import Idealize.ShloMosaic.Lib.Pointwise
public import Idealize.ShloMosaic.Lib.WritesUnit

/-! # The projections

Four blocks of rows, each a product with the weights and a bias; queries and keys are normed head by head.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Attn

section Heads

variable {F : FTy → Type} [FloatOps F]

/-- A block's product with the weights, and the bias. -/
def proj (x : Vec F S1x1x512x1024 .bf16) (w : Vec F S1024x512 .f32) (b : Vec F S1x512 .f32) : FVec F S512x512 .f32 :=
  addf (matmul dot_S512x1024_S1024x512_S512x512_1_0_0_1_n_n none (shapeCast S512x1024 x shapeCasts_S1x1x512x1024_S512x1024)
      (truncf .bf16 (w : FVec F S1024x512 .f32) bitsLt_bf16_f32) (constant S512x512 .f32 0#32))
    (broadcastTo S512x512 (shapeCast S1x512 b shapeCasts_S1x512_S1x512) broadcasts_S1x512_S512x512)

/-- The heads' sums of squares, each in all of the head's columns. -/
def sumsq (z : FVec F S512x512 .f32) (hs : Vec F S256x256 .bf16) : FVec F S512x512 .f32 :=
  concatenate S512x512 1 [⟨S512x256, matmul dot_S512x256_S256x256_S512x256_1_0_0_1_n_n none
      (extractStridedSlice S512x256 ![0, 0] (truncf .bf16 (mulf z z) bitsLt_bf16_f32) slices_S512x512_o0_0_S512x256)
      (shapeCast S256x256 (hs : FVec F S256x256 .bf16) shapeCasts_S256x256_S256x256) (constant S512x256 .f32 0#32)⟩,
    ⟨S512x256, matmul dot_S512x256_S256x256_S512x256_1_0_0_1_n_n none
      (extractStridedSlice S512x256 ![0, 256] (truncf .bf16 (mulf z z) bitsLt_bf16_f32) slices_S512x512_o0_256_S512x256)
      (shapeCast S256x256 (hs : FVec F S256x256 .bf16) shapeCasts_S256x256_S256x256) (constant S512x256 .f32 0#32)⟩] concatenates_S512x256_S512x256_S512x512_d1

/-- A block normed, with the gains. -/
def normed (z : FVec F S512x512 .f32) (hs : Vec F S256x256 .bf16) (g : Vec F S1x512 .f32) : FVec F S512x512 .f32 :=
  mulf (mulf z (rsqrt (addf (mulf (sumsq z hs) (broadcast S512x512 (FloatOps.ofBits .f32 1015021568#32)))
      (broadcast S512x512 (FloatOps.ofBits .f32 897988541#32)))))
    (broadcastTo S512x512 (shapeCast S1x512 g shapeCasts_S1x512_S1x512) broadcasts_S1x512_S512x512)

/-- A block of queries. -/
def qhead (x : Vec F S1x1x512x1024 .bf16) (w : Vec F S1024x512 .f32) (b g : Vec F S1x512 .f32) (hs : Vec F S256x256 .bf16) : FVec F S512x512 .bf16 :=
  shapeCast S512x512 (truncf .bf16 (mulf (normed (proj x w b) hs g) (broadcast S512x512 (FloatOps.ofBits .f32 1040187392#32))) bitsLt_bf16_f32)
    shapeCasts_S512x512_S512x512

/-- A block of keys. -/
def khead (x : Vec F S1x1x512x1024 .bf16) (w : Vec F S1024x512 .f32) (b g : Vec F S1x512 .f32) (hs : Vec F S256x256 .bf16) : FVec F S512x512 .bf16 :=
  shapeCast S512x512 (truncf .bf16 (normed (proj x w b) hs g) bitsLt_bf16_f32) shapeCasts_S512x512_S512x512

/-- A block of values. -/
def vhead (x : Vec F S1x1x512x1024 .bf16) (w : Vec F S1024x512 .f32) (b : Vec F S1x512 .f32) : FVec F S512x512 .bf16 :=
  shapeCast S512x512 (truncf .bf16 (proj x w b) bitsLt_bf16_f32) shapeCasts_S512x512_S512x512

/-! ## Where the blocks are read and written -/

theorem xb_inb (q : Fin 4) : ∀ a, (![0, 0, 512 * q.val, 0] : Fin 4 → ℕ) a + S1x1x512x1024.size a ≤ S1x1x2048x1024.size a := by
  revert q; decide
theorem w_inb : ∀ a, (![0, 0] : Fin 2 → ℕ) a + S1024x512.size a ≤ S1024x512.size a := by decide
theorem b_inb : ∀ a, (![0, 0] : Fin 2 → ℕ) a + S1x512.size a ≤ S1x512.size a := by decide
theorem hs_inb : ∀ a, (![0, 0] : Fin 2 → ℕ) a + S256x256.size a ≤ S256x256.size a := by decide
theorem s_inb (q : Fin 4) : ∀ a, (![512 * q.val, 0] : Fin 2 → ℕ) a + S512x512.size a ≤ S2048x512.size a := by
  revert q; decide

abbrev xblk (arg : Memref sig .tc .vmem S1x1x2048x1024 .bf16) (X : BufTy.Contents (Elt F) arg.view.ty) (q : Fin 4) : Vec F S1x1x512x1024 .bf16 :=
  View.readAt (Elt F) arg.view (Rect.unit (s := S1x1x2048x1024) ![0, 0, 512 * q.val, 0] S1x1x512x1024.size (xb_inb q)).toLoadRect X
abbrev wblk (arg : Memref sig .tc .vmem S1024x512 .f32) (X : BufTy.Contents (Elt F) arg.view.ty) : Vec F S1024x512 .f32 :=
  View.readAt (Elt F) arg.view (Rect.unit (s := S1024x512) ![0, 0] S1024x512.size w_inb).toLoadRect X
abbrev bblk (arg : Memref sig .tc .vmem S1x512 .f32) (X : BufTy.Contents (Elt F) arg.view.ty) : Vec F S1x512 .f32 :=
  View.readAt (Elt F) arg.view (Rect.unit (s := S1x512) ![0, 0] S1x512.size b_inb).toLoadRect X
abbrev hblk (arg : Memref sig .tc .vmem S256x256 .bf16) (X : BufTy.Contents (Elt F) arg.view.ty) : Vec F S256x256 .bf16 :=
  View.readAt (Elt F) arg.view (Rect.unit (s := S256x256) ![0, 0] S256x256.size hs_inb).toLoadRect X

/-- Four blocks of rows, the last one first. -/
def four (W : Fin 4 → FVec F S512x512 .bf16) : List (View.Piece (Elt F) S2048x512 .bf16) :=
  [⟨Rect.unit (s := S2048x512) ![1536, 0] S512x512.size (s_inb 3), W 3⟩, ⟨Rect.unit (s := S2048x512) ![1024, 0] S512x512.size (s_inb 2), W 2⟩,
    ⟨Rect.unit (s := S2048x512) ![512, 0] S512x512.size (s_inb 1), W 1⟩, ⟨Rect.unit (s := S2048x512) ![0, 0] S512x512.size (s_inb 0), W 0⟩]

end Heads

theorem four_at (arg : Memref sig .tc .vmem S2048x512 .bf16) (f : BufTy.Contents (Elt Ideal) arg.view.ty) (W : Fin 4 → FVec Ideal S512x512 .bf16)
    (ρ : Fin 2048) (c : Fin 512) (q : Fin 4) (r : Fin 512) (h : ρ.val = 512 * q.val + r.val) :
    arg.view.read (Elt Ideal) (arg.view.writes (Elt Ideal) f (four W)) (ix2 ρ c) = W q (ix2 r c) := by
  have hr := r.isLt
  have hit : ∀ (o : ℕ) (inb : ∀ a, (![o, 0] : Fin 2 → ℕ) a + S512x512.size a ≤ S2048x512.size a) (w : FVec Ideal S512x512 .bf16) L, ρ.val = o + r.val →
      arg.view.read (Elt Ideal) (arg.view.writes (Elt Ideal) f (⟨Rect.unit (s := S2048x512) ![o, 0] S512x512.size inb, w⟩ :: L)) (ix2 ρ c) = w (ix2 r c) :=
    fun o inb w L ho => View.read_writes_cons_unit_of_mem arg.view f inb w L (ix2 ρ c) (ix2 r c) rfl fun a => by
      match a with
      | 0 => exact ho
      | 1 => exact (Nat.zero_add _).symm
  have miss : ∀ (o : ℕ) (inb : ∀ a, (![o, 0] : Fin 2 → ℕ) a + S512x512.size a ≤ S2048x512.size a) (w : FVec Ideal S512x512 .bf16) L, ρ.val < o →
      arg.view.read (Elt Ideal) (arg.view.writes (Elt Ideal) f (⟨Rect.unit (s := S2048x512) ![o, 0] S512x512.size inb, w⟩ :: L)) (ix2 ρ c)
        = arg.view.read (Elt Ideal) (arg.view.writes (Elt Ideal) f L) (ix2 ρ c) :=
    fun o inb w L ho => View.read_writes_cons_unit_of_not_mem arg.view f inb w L (ix2 ρ c) rfl 0 (Or.inl ho)
  unfold four
  match q with
  | 3 => exact hit 1536 _ _ _ h
  | 2 => rw [miss 1536 _ _ _ (by change ρ.val = 512 * 2 + r.val at h; omega)]; exact hit 1024 _ _ _ h
  | 1 =>
    change ρ.val = 512 * 1 + r.val at h
    rw [miss 1536 _ _ _ (by omega), miss 1024 _ _ _ (by omega)]; exact hit 512 _ _ _ h
  | 0 =>
    change ρ.val = 512 * 0 + r.val at h
    rw [miss 1536 _ _ _ (by omega), miss 1024 _ _ _ (by omega), miss 512 _ _ _ (by omega)]; exact hit 0 _ _ _ h

/-! ## One row of a block -/

theorem proj_at (x : Vec Ideal S1x1x512x1024 .bf16) (w : Vec Ideal S1024x512 .f32) (b : Vec Ideal S1x512 .f32) (A : Row) (i n : ℕ) (r c : Fin 512)
    (hx : ∀ k : Fin 1024, x (ix4 0 0 r k) = ((A.x i k : ℝ) : EReal)) (hw : ∀ k : Fin 1024, w (ix2 k c) = ((A.w k (n + c.val) : ℝ) : EReal))
    (hb : b (ix2 0 c) = ((A.b (n + c.val) : ℝ) : EReal)) : proj x w b (ix2 r c) = ((A.lin i (n + c.val) : ℝ) : EReal) := by
  pointwise [proj]
  rw [hb]
  unfold Row.lin
  rw [EReal.coe_add]
  refine congrArg (· + ((A.b (n + c.val) : ℝ) : EReal)) (sum_real fun k => ?_)
  rw [hx k, hw k, EReal.coe_mul]

theorem sumsq_at (z : FVec Ideal S512x512 .f32) (hs : Vec Ideal S256x256 .bf16) (Z : ℕ → ℝ) (r c : Fin 512)
    (hz : ∀ c : Fin 512, z (ix2 r c) = ((Z c.val : ℝ) : EReal))
    (hh : ∀ a b : Fin 256, hs (ix2 a b) = (if a.val / 64 = b.val / 64 then (1 : EReal) else 0 : EReal)) :
    sumsq z hs (ix2 r c) = ((∑ e : Fin 64, Z (64 * (c.val / 64) + e.val) * Z (64 * (c.val / 64) + e.val) : ℝ) : EReal) := by
  have key : ∀ (o : ℕ) (ho : o + 256 ≤ 512) (c' : Fin 256),
      ∑ κ : Fin 256, (z (ix2 r ⟨o + κ.val, by omega⟩) * z (ix2 r ⟨o + κ.val, by omega⟩) : EReal) * hs (ix2 κ c')
        = ((∑ e : Fin 64, Z (o + (64 * (c'.val / 64) + e.val)) * Z (o + (64 * (c'.val / 64) + e.val)) : ℝ) : EReal) := fun o ho c' => by
    have := c'.isLt
    rw [← sum_block (n := 256) (c'.val / 64) (by omega) (fun κ => Z (o + κ.val) * Z (o + κ.val))]
    refine sum_real fun κ => ?_
    rw [hz, hh]
    split
    · rw [mul_one, ← EReal.coe_mul]
    · rw [mul_zero, EReal.coe_zero]
  pointwise [sumsq]
  have hc := c.isLt
  split
  · rename_i h
    have k0 := key 0 (by omega) ⟨c.val, h⟩
    simp only [Nat.zero_add] at k0
    exact k0
  · rename_i h
    have k1 := key 256 (by omega) ⟨c.val - 256, by omega⟩
    refine k1.trans ?_
    congr 1
    refine Finset.sum_congr rfl fun e _ => ?_
    show Z (256 + (64 * ((c.val - 256) / 64) + e.val)) * Z (256 + (64 * ((c.val - 256) / 64) + e.val)) = _
    rw [show 256 + (64 * ((c.val - 256) / 64) + e.val) = 64 * (c.val / 64) + e.val by omega]

theorem normed_at (z : FVec Ideal S512x512 .f32) (hs : Vec Ideal S256x256 .bf16) (g : Vec Ideal S1x512 .f32) (Z G : ℕ → ℝ) (r c : Fin 512)
    (hz : ∀ c : Fin 512, z (ix2 r c) = ((Z c.val : ℝ) : EReal))
    (hh : ∀ a b : Fin 256, hs (ix2 a b) = (if a.val / 64 = b.val / 64 then (1 : EReal) else 0 : EReal))
    (hg : ∀ c : Fin 512, g (ix2 0 c) = ((G (c.val % 64) : ℝ) : EReal)) :
    normed z hs g (ix2 r c) = ((nrm Z G c.val : ℝ) : EReal) := by
  have e : normed z hs g (ix2 r c) = (z (ix2 r c) * Ideal.rsqrt ((sumsq z hs (ix2 r c) : EReal) * Ideal.ofBits FTy.f32 1015021568#32 + Ideal.ofBits FTy.f32 897988541#32) * g (ix2 0 c) : EReal) := by
    pointwise [normed]
  rw [e, sumsq_at z hs Z r c hz hh, bits_64th, bits_eps, hz, hg, ← EReal.coe_mul, ← EReal.coe_add, rsqrt_real _ (rms_arg_pos Z (c.val / 64)),
    ← EReal.coe_mul, ← EReal.coe_mul]
  rfl

/-- What a grid point's windows hold of the arguments: group `g`, dilation `d`. -/
structure Wins (d g : ℕ) (A : Row) {arg2 : Memref sig .tc .vmem S1x1x2048x1024 .bf16} {arg3 arg4 arg5 : Memref sig .tc .vmem S1024x512 .f32}
    {arg6 arg7 arg8 arg11 arg12 : Memref sig .tc .vmem S1x512 .f32} {arg13 : Memref sig .tc .vmem S256x256 .bf16}
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) (X7 : BufTy.Contents (Elt Ideal) arg7.view.ty)
    (X8 : BufTy.Contents (Elt Ideal) arg8.view.ty) (X11 : BufTy.Contents (Elt Ideal) arg11.view.ty) (X12 : BufTy.Contents (Elt Ideal) arg12.view.ty)
    (X13 : BufTy.Contents (Elt Ideal) arg13.view.ty) : Prop where
  x : ∀ (ρ : Fin 2048) (k : Fin 1024), arg2.view.read (Elt Ideal) X2 (ix4 0 0 ρ k) = ((A.x (nat d ρ.val) k : ℝ) : EReal)
  wq : ∀ (k : Fin 1024) (c : Fin 512), arg3.view.read (Elt Ideal) X3 (ix2 k c) = ((A.w k (3072 + 512 * g + c.val) : ℝ) : EReal)
  wk : ∀ (k : Fin 1024) (c : Fin 512), arg4.view.read (Elt Ideal) X4 (ix2 k c) = ((A.w k (4608 + 512 * g + c.val) : ℝ) : EReal)
  wv : ∀ (k : Fin 1024) (c : Fin 512), arg5.view.read (Elt Ideal) X5 (ix2 k c) = ((A.w k (6144 + 512 * g + c.val) : ℝ) : EReal)
  bq : ∀ c : Fin 512, arg6.view.read (Elt Ideal) X6 (ix2 0 c) = ((A.b (3072 + 512 * g + c.val) : ℝ) : EReal)
  bk : ∀ c : Fin 512, arg7.view.read (Elt Ideal) X7 (ix2 0 c) = ((A.b (4608 + 512 * g + c.val) : ℝ) : EReal)
  bv : ∀ c : Fin 512, arg8.view.read (Elt Ideal) X8 (ix2 0 c) = ((A.b (6144 + 512 * g + c.val) : ℝ) : EReal)
  gq : ∀ c : Fin 512, arg11.view.read (Elt Ideal) X11 (ix2 0 c) = ((A.gq (c.val % 64) : ℝ) : EReal)
  gk : ∀ c : Fin 512, arg12.view.read (Elt Ideal) X12 (ix2 0 c) = ((A.gk (c.val % 64) : ℝ) : EReal)
  hs : ∀ a b : Fin 256, arg13.view.read (Elt Ideal) X13 (ix2 a b) = (if a.val / 64 = b.val / 64 then (1 : EReal) else 0 : EReal)

theorem xblk_at (arg : Memref sig .tc .vmem S1x1x2048x1024 .bf16) (X : BufTy.Contents (Elt Ideal) arg.view.ty) (q : Fin 4) (r : Fin 512) (k : Fin 1024)
    (ρ : Fin 2048) (h : ρ.val = 512 * q.val + r.val) : xblk arg X q (ix4 0 0 r k) = arg.view.read (Elt Ideal) X (ix4 0 0 ρ k) := by
  refine congrArg (arg.view.read (Elt Ideal) X) (funext fun a => Fin.ext ?_)
  match a with
  | 0 => rfl
  | 1 => rfl
  | 2 => show 512 * q.val + 1 * r.val = ρ.val; omega
  | 3 => show 0 + 1 * k.val = k.val; omega

theorem wblk_at (arg : Memref sig .tc .vmem S1024x512 .f32) (X : BufTy.Contents (Elt Ideal) arg.view.ty) (k : Fin 1024) (c : Fin 512) :
    wblk arg X (ix2 k c) = arg.view.read (Elt Ideal) X (ix2 k c) := by
  refine congrArg (arg.view.read (Elt Ideal) X) (funext fun a => Fin.ext ?_)
  match a with
  | 0 => show 0 + 1 * k.val = k.val; omega
  | 1 => show 0 + 1 * c.val = c.val; omega

theorem bblk_at (arg : Memref sig .tc .vmem S1x512 .f32) (X : BufTy.Contents (Elt Ideal) arg.view.ty) (c : Fin 512) :
    bblk arg X (ix2 0 c) = arg.view.read (Elt Ideal) X (ix2 0 c) := by
  refine congrArg (arg.view.read (Elt Ideal) X) (funext fun a => Fin.ext ?_)
  match a with
  | 0 => rfl
  | 1 => show 0 + 1 * c.val = c.val; omega

theorem hblk_at (arg : Memref sig .tc .vmem S256x256 .bf16) (X : BufTy.Contents (Elt Ideal) arg.view.ty) (a b : Fin 256) :
    hblk arg X (ix2 a b) = arg.view.read (Elt Ideal) X (ix2 a b) := by
  refine congrArg (arg.view.read (Elt Ideal) X) (funext fun x => Fin.ext ?_)
  match x with
  | 0 => show 0 + 1 * a.val = a.val; omega
  | 1 => show 0 + 1 * b.val = b.val; omega

section Scratch

variable {d g : ℕ} {A : Row} {arg2 : Memref sig .tc .vmem S1x1x2048x1024 .bf16} {arg3 arg4 arg5 : Memref sig .tc .vmem S1024x512 .f32}
    {arg6 arg7 arg8 arg11 arg12 : Memref sig .tc .vmem S1x512 .f32} {arg13 : Memref sig .tc .vmem S256x256 .bf16}
    {X2 : BufTy.Contents (Elt Ideal) arg2.view.ty} {X3 : BufTy.Contents (Elt Ideal) arg3.view.ty} {X4 : BufTy.Contents (Elt Ideal) arg4.view.ty}
    {X5 : BufTy.Contents (Elt Ideal) arg5.view.ty} {X6 : BufTy.Contents (Elt Ideal) arg6.view.ty} {X7 : BufTy.Contents (Elt Ideal) arg7.view.ty}
    {X8 : BufTy.Contents (Elt Ideal) arg8.view.ty} {X11 : BufTy.Contents (Elt Ideal) arg11.view.ty} {X12 : BufTy.Contents (Elt Ideal) arg12.view.ty}
    {X13 : BufTy.Contents (Elt Ideal) arg13.view.ty} (W : Wins d g A X2 X3 X4 X5 X6 X7 X8 X11 X12 X13)
include W

theorem qhead_at (q : Fin 4) (r c : Fin 512) (ρ : Fin 2048) (h : ρ.val = 512 * q.val + r.val) :
    qhead (xblk arg2 X2 q) (wblk arg3 X3) (bblk arg6 X6) (bblk arg11 X11) (hblk arg13 X13) (ix2 r c) = ((A.q g (nat d ρ.val) c.val : ℝ) : EReal) := by
  have hz : ∀ c : Fin 512, proj (xblk arg2 X2 q) (wblk arg3 X3) (bblk arg6 X6) (ix2 r c) = ((A.lin (nat d ρ.val) (3072 + 512 * g + c.val) : ℝ) : EReal) := fun c =>
    proj_at _ _ _ A (nat d ρ.val) (3072 + 512 * g) r c (fun k => (xblk_at arg2 X2 q r k ρ h).trans (W.x ρ k)) (fun k => (wblk_at arg3 X3 k c).trans (W.wq k c))
      ((bblk_at arg6 X6 c).trans (W.bq c))
  have hn := normed_at _ (hblk arg13 X13) (bblk arg11 X11) (fun c => A.lin (nat d ρ.val) (3072 + 512 * g + c)) A.gq r c hz
    (fun a b => (hblk_at arg13 X13 a b).trans (W.hs a b)) (fun c => (bblk_at arg11 X11 c).trans (W.gq c))
  have e : qhead (xblk arg2 X2 q) (wblk arg3 X3) (bblk arg6 X6) (bblk arg11 X11) (hblk arg13 X13) (ix2 r c)
      = ((normed (proj (xblk arg2 X2 q) (wblk arg3 X3) (bblk arg6 X6)) (hblk arg13 X13) (bblk arg11 X11) (ix2 r c) : EReal) * Ideal.ofBits FTy.f32 1040187392#32 : EReal) := by
    pointwise [qhead]
  rw [e, hn, bits_eighth, ← EReal.coe_mul]
  rfl

theorem khead_at (q : Fin 4) (r c : Fin 512) (ρ : Fin 2048) (h : ρ.val = 512 * q.val + r.val) :
    khead (xblk arg2 X2 q) (wblk arg4 X4) (bblk arg7 X7) (bblk arg12 X12) (hblk arg13 X13) (ix2 r c) = ((A.k g (nat d ρ.val) c.val : ℝ) : EReal) := by
  have hz : ∀ c : Fin 512, proj (xblk arg2 X2 q) (wblk arg4 X4) (bblk arg7 X7) (ix2 r c) = ((A.lin (nat d ρ.val) (4608 + 512 * g + c.val) : ℝ) : EReal) := fun c =>
    proj_at _ _ _ A (nat d ρ.val) (4608 + 512 * g) r c (fun k => (xblk_at arg2 X2 q r k ρ h).trans (W.x ρ k)) (fun k => (wblk_at arg4 X4 k c).trans (W.wk k c))
      ((bblk_at arg7 X7 c).trans (W.bk c))
  have hn := normed_at _ (hblk arg13 X13) (bblk arg12 X12) (fun c => A.lin (nat d ρ.val) (4608 + 512 * g + c)) A.gk r c hz
    (fun a b => (hblk_at arg13 X13 a b).trans (W.hs a b)) (fun c => (bblk_at arg12 X12 c).trans (W.gk c))
  have e : khead (xblk arg2 X2 q) (wblk arg4 X4) (bblk arg7 X7) (bblk arg12 X12) (hblk arg13 X13) (ix2 r c)
      = (normed (proj (xblk arg2 X2 q) (wblk arg4 X4) (bblk arg7 X7)) (hblk arg13 X13) (bblk arg12 X12) (ix2 r c) : EReal) := by
    pointwise [khead]
  rw [e, hn]
  rfl

theorem vhead_at (q : Fin 4) (r c : Fin 512) (ρ : Fin 2048) (h : ρ.val = 512 * q.val + r.val) :
    vhead (xblk arg2 X2 q) (wblk arg5 X5) (bblk arg8 X8) (ix2 r c) = ((A.v g (nat d ρ.val) c.val : ℝ) : EReal) := by
  have hz : proj (xblk arg2 X2 q) (wblk arg5 X5) (bblk arg8 X8) (ix2 r c) = ((A.lin (nat d ρ.val) (6144 + 512 * g + c.val) : ℝ) : EReal) :=
    proj_at _ _ _ A (nat d ρ.val) (6144 + 512 * g) r c (fun k => (xblk_at arg2 X2 q r k ρ h).trans (W.x ρ k)) (fun k => (wblk_at arg5 X5 k c).trans (W.wv k c))
      ((bblk_at arg8 X8 c).trans (W.bv c))
  have e : vhead (xblk arg2 X2 q) (wblk arg5 X5) (bblk arg8 X8) (ix2 r c) = (proj (xblk arg2 X2 q) (wblk arg5 X5) (bblk arg8 X8) (ix2 r c) : EReal) := by
    pointwise [vhead]
  rw [e, hz]
  rfl

/-- The three scratches after the projections. -/
theorem scr_of {arg14 : Memref sig .tc .vmem S4x256x128 .bf16} {arg19 arg20 arg21 : Memref sig .tc .vmem S2048x512 .bf16}
    {X14 : BufTy.Contents (Elt Ideal) arg14.view.ty} (f19 : BufTy.Contents (Elt Ideal) arg19.view.ty) (f20 : BufTy.Contents (Elt Ideal) arg20.view.ty)
    (f21 : BufTy.Contents (Elt Ideal) arg21.view.ty) {L19 L20 L21 : List (View.Piece (Elt Ideal) S2048x512 .bf16)}
    (hsl : ∀ (p : Fin 4) (a : Fin 256) (x : Fin 128),
      arg14.view.read (Elt Ideal) X14 (ix3 p a x) = if a.val % 128 = x.val then ((slope (2 * p.val + a.val / 128) : ℝ) : EReal) else 0)
    (e19 : L19 = four fun q => qhead (xblk arg2 X2 q) (wblk arg3 X3) (bblk arg6 X6) (bblk arg11 X11) (hblk arg13 X13))
    (e20 : L20 = four fun q => khead (xblk arg2 X2 q) (wblk arg4 X4) (bblk arg7 X7) (bblk arg12 X12) (hblk arg13 X13))
    (e21 : L21 = four fun q => vhead (xblk arg2 X2 q) (wblk arg5 X5) (bblk arg8 X8)) :
    Scr d (A.q g) (A.k g) (A.v g) X14 (arg19.view.writes (Elt Ideal) f19 L19) (arg20.view.writes (Elt Ideal) f20 L20) (arg21.view.writes (Elt Ideal) f21 L21) := by
  have hq : ∀ ρ : Fin 2048, ρ.val = 512 * (⟨ρ.val / 512, by omega⟩ : Fin 4).val + (⟨ρ.val % 512, by omega⟩ : Fin 512).val := fun ρ => by
    show ρ.val = 512 * (ρ.val / 512) + ρ.val % 512; omega
  subst e19 e20 e21
  exact ⟨hsl, fun ρ c => (four_at arg19 f19 _ ρ c _ _ (hq ρ)).trans (qhead_at W _ _ c ρ (hq ρ)),
    fun ρ c => (four_at arg20 f20 _ ρ c _ _ (hq ρ)).trans (khead_at W _ _ c ρ (hq ρ)),
    fun ρ c => (four_at arg21 f21 _ ρ c _ _ (hq ρ)).trans (vhead_at W _ _ c ρ (hq ρ))⟩

end Scratch

end Cert.Proof.KernelIdeal

end
-- ==== Proof.AttnLists.lean ====
module

public import proofs.«01_k».proof.Proof.AttnHeads
public import proofs.«01_k».proof.Proof.KernelIdealRuns

/-! # What the three kinds of steps store of the projections -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

variable {c : Dev nD} {i : grid0.Coords}
  {arg2 : Memref sig .tc .vmem S1x1x2048x1024 .bf16} {harg2 : arg2.IsWhole}
  {arg3 : Memref sig .tc .vmem S1024x512 .f32} {harg3 : arg3.IsWhole}
  {arg4 : Memref sig .tc .vmem S1024x512 .f32} {harg4 : arg4.IsWhole}
  {arg5 : Memref sig .tc .vmem S1024x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x512 .f32} {harg9 : arg9.IsWhole}
  {arg10 : Memref sig .tc .vmem S1x512 .f32} {harg10 : arg10.IsWhole}
  {arg11 : Memref sig .tc .vmem S1x512 .f32} {harg11 : arg11.IsWhole}
  {arg12 : Memref sig .tc .vmem S1x512 .f32} {harg12 : arg12.IsWhole}
  {arg13 : Memref sig .tc .vmem S256x256 .bf16} {harg13 : arg13.IsWhole}
  {arg14 : Memref sig .tc .vmem S4x256x128 .bf16} {harg14 : arg14.IsWhole}
  {arg15 : Memref sig .tc .vmem S3x256x128 .bf16} {harg15 : arg15.IsWhole}
  {arg16 : Memref sig .tc .vmem S3x256x128 .bf16} {harg16 : arg16.IsWhole}
  {arg17 : Memref sig .tc .vmem S1x128x128 .bf16} {harg17 : arg17.IsWhole}
  {arg18 : Memref sig .tc .vmem S1x2048x512 .bf16} {harg18 : arg18.IsWhole}
  {arg19 : Memref sig .tc .vmem S2048x512 .bf16} {harg19 : arg19.IsWhole}
  {arg20 : Memref sig .tc .vmem S2048x512 .bf16} {harg20 : arg20.IsWhole}
  {arg21 : Memref sig .tc .vmem S2048x512 .bf16} {harg21 : arg21.IsWhole}
  {arg22 : Memref sig .tc .vmem S4x2048x128 .f32} {harg22 : arg22.IsWhole}
  {arg23 : Memref sig .tc .vmem S4x2048x128 .f32} {harg23 : arg23.IsWhole}
  {arg24 : Memref sig .tc .vmem S4x2048x128 .f32} {harg24 : arg24.IsWhole}

theorem q_list1 (k0_h1 : k0_cond1 i = 1#1) (k0_h2 : ¬ k0_cond2 i = 1#1) (k0_h3 : ¬ k0_cond3 i = 1#1) (k0_h4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) (X17 : BufTy.Contents (Elt F) arg17.view.ty) :
    (run1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X11 X12 X13 X14 X17).1 = four fun q => qhead (xblk arg2 X2 q) (wblk arg3 X3) (bblk arg6 X6) (bblk arg11 X11) (hblk arg13 X13) := by
  unfold run1
  dsimp only
  sl_unfold_run_names
  rfl

theorem k_list1 (k0_h1 : k0_cond1 i = 1#1) (k0_h2 : ¬ k0_cond2 i = 1#1) (k0_h3 : ¬ k0_cond3 i = 1#1) (k0_h4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) (X17 : BufTy.Contents (Elt F) arg17.view.ty) :
    (run1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X11 X12 X13 X14 X17).2.1 = four fun q => khead (xblk arg2 X2 q) (wblk arg4 X4) (bblk arg7 X7) (bblk arg12 X12) (hblk arg13 X13) := by
  unfold run1
  dsimp only
  sl_unfold_run_names
  rfl

theorem v_list1 (k0_h1 : k0_cond1 i = 1#1) (k0_h2 : ¬ k0_cond2 i = 1#1) (k0_h3 : ¬ k0_cond3 i = 1#1) (k0_h4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) (X17 : BufTy.Contents (Elt F) arg17.view.ty) :
    (run1 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X11 X12 X13 X14 X17).2.2.1 = four fun q => vhead (xblk arg2 X2 q) (wblk arg5 X5) (bblk arg8 X8) := by
  unfold run1
  dsimp only
  sl_unfold_run_names
  rfl

theorem q_list2 (k0_h1 : ¬ k0_cond1 i = 1#1) (k0_h2 : k0_cond2 i = 1#1) (k0_h3 : ¬ k0_cond3 i = 1#1) (k0_h4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) (X16 : BufTy.Contents (Elt F) arg16.view.ty) :
    (run2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X11 X12 X13 X14 X16).1 = four fun q => qhead (xblk arg2 X2 q) (wblk arg3 X3) (bblk arg6 X6) (bblk arg11 X11) (hblk arg13 X13) := by
  unfold run2
  dsimp only
  sl_unfold_run_names
  rfl

theorem k_list2 (k0_h1 : ¬ k0_cond1 i = 1#1) (k0_h2 : k0_cond2 i = 1#1) (k0_h3 : ¬ k0_cond3 i = 1#1) (k0_h4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) (X16 : BufTy.Contents (Elt F) arg16.view.ty) :
    (run2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X11 X12 X13 X14 X16).2.1 = four fun q => khead (xblk arg2 X2 q) (wblk arg4 X4) (bblk arg7 X7) (bblk arg12 X12) (hblk arg13 X13) := by
  unfold run2
  dsimp only
  sl_unfold_run_names
  rfl

theorem v_list2 (k0_h1 : ¬ k0_cond1 i = 1#1) (k0_h2 : k0_cond2 i = 1#1) (k0_h3 : ¬ k0_cond3 i = 1#1) (k0_h4 : ¬ k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) (X16 : BufTy.Contents (Elt F) arg16.view.ty) :
    (run2 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X11 X12 X13 X14 X16).2.2.1 = four fun q => vhead (xblk arg2 X2 q) (wblk arg5 X5) (bblk arg8 X8) := by
  unfold run2
  dsimp only
  sl_unfold_run_names
  rfl

theorem q_list3 (k0_h1 : ¬ k0_cond1 i = 1#1) (k0_h2 : ¬ k0_cond2 i = 1#1) (k0_h3 : k0_cond3 i = 1#1) (k0_h4 : k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).1 = four fun q => qhead (xblk arg2 X2 q) (wblk arg3 X3) (bblk arg6 X6) (bblk arg11 X11) (hblk arg13 X13) := by
  unfold run3
  dsimp only
  sl_unfold_run_names
  rfl

theorem k_list3 (k0_h1 : ¬ k0_cond1 i = 1#1) (k0_h2 : ¬ k0_cond2 i = 1#1) (k0_h3 : k0_cond3 i = 1#1) (k0_h4 : k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).2.1 = four fun q => khead (xblk arg2 X2 q) (wblk arg4 X4) (bblk arg7 X7) (bblk arg12 X12) (hblk arg13 X13) := by
  unfold run3
  dsimp only
  sl_unfold_run_names
  rfl

theorem v_list3 (k0_h1 : ¬ k0_cond1 i = 1#1) (k0_h2 : ¬ k0_cond2 i = 1#1) (k0_h3 : k0_cond3 i = 1#1) (k0_h4 : k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).2.2.1 = four fun q => vhead (xblk arg2 X2 q) (wblk arg5 X5) (bblk arg8 X8) := by
  unfold run3
  dsimp only
  sl_unfold_run_names
  rfl

end Cert.Proof.KernelIdeal

end
-- ==== Proof.AttnTrip.lean ====
module

public import proofs.«01_k».proof.Proof.AttnStep

/-! # The trips' stores

The stores of each of the three loops, and where they go.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Attn

variable {c : Dev nD} {i : grid0.Coords}
  {arg2 : Memref sig .tc .vmem S1x1x2048x1024 .bf16} {harg2 : arg2.IsWhole}
  {arg3 : Memref sig .tc .vmem S1024x512 .f32} {harg3 : arg3.IsWhole}
  {arg4 : Memref sig .tc .vmem S1024x512 .f32} {harg4 : arg4.IsWhole}
  {arg5 : Memref sig .tc .vmem S1024x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x512 .f32} {harg9 : arg9.IsWhole}
  {arg10 : Memref sig .tc .vmem S1x512 .f32} {harg10 : arg10.IsWhole}
  {arg11 : Memref sig .tc .vmem S1x512 .f32} {harg11 : arg11.IsWhole}
  {arg12 : Memref sig .tc .vmem S1x512 .f32} {harg12 : arg12.IsWhole}
  {arg13 : Memref sig .tc .vmem S256x256 .bf16} {harg13 : arg13.IsWhole}
  {arg14 : Memref sig .tc .vmem S4x256x128 .bf16} {harg14 : arg14.IsWhole}
  {arg15 : Memref sig .tc .vmem S3x256x128 .bf16} {harg15 : arg15.IsWhole}
  {arg16 : Memref sig .tc .vmem S3x256x128 .bf16} {harg16 : arg16.IsWhole}
  {arg17 : Memref sig .tc .vmem S1x128x128 .bf16} {harg17 : arg17.IsWhole}
  {arg18 : Memref sig .tc .vmem S1x2048x512 .bf16} {harg18 : arg18.IsWhole}
  {arg19 : Memref sig .tc .vmem S2048x512 .bf16} {harg19 : arg19.IsWhole}
  {arg20 : Memref sig .tc .vmem S2048x512 .bf16} {harg20 : arg20.IsWhole}
  {arg21 : Memref sig .tc .vmem S2048x512 .bf16} {harg21 : arg21.IsWhole}
  {arg22 : Memref sig .tc .vmem S4x2048x128 .f32} {harg22 : arg22.IsWhole}
  {arg23 : Memref sig .tc .vmem S4x2048x128 .f32} {harg23 : arg23.IsWhole}
  {arg24 : Memref sig .tc .vmem S4x2048x128 .f32} {harg24 : arg24.IsWhole}

/-- Where a trip over the dilation 16 reads and writes. -/
def offs1 (h : k0_cond1 i = 1#1) (k : Fin k0_t1_loop.trips) : Offs S128x128.size where
  oq := ![k0_off2 k, k0_off5 k, k0_off8 k, k0_off11 k]
  okv := ![k0_off3 k, k0_off6 k, k0_off9 k, k0_off12 k]
  oa := ![k0_off4 k, k0_off7 k, k0_off10 k, k0_off13 k]
  st := ![1, 16, 1]
  hq p := by
    match p with
    | 0 => exact k0_off2_inb i k h
    | 1 => exact k0_off5_inb i k h
    | 2 => exact k0_off8_inb i k h
    | 3 => exact k0_off11_inb i k h
  hkv p := by
    match p with
    | 0 => exact k0_off3_inb i k h
    | 1 => exact k0_off6_inb i k h
    | 2 => exact k0_off9_inb i k h
    | 3 => exact k0_off12_inb i k h
  ha p := by
    match p with
    | 0 => exact k0_off4_inb i k h
    | 1 => exact k0_off7_inb i k h
    | 2 => exact k0_off10_inb i k h
    | 3 => exact k0_off13_inb i k h
  hs := by decide

theorem offs1_at (h : k0_cond1 i = 1#1) (k : Fin k0_t1_loop.trips) :
    (offs1 (i := i) h k).At (128 * k.val) (k.val / 1 * 128 + 0) (2048 * (k.val % 1) + k.val / 1) 16 where
  q p := by
    match p with
    | 0 => exact (by decide +kernel : ∀ k : Fin k0_t1_loop.trips, k0_off2 k 0 = 128 * k.val ∧ k0_off2 k 1 = 0) k
    | 1 => exact (by decide +kernel : ∀ k : Fin k0_t1_loop.trips, k0_off5 k 0 = 128 * k.val ∧ k0_off5 k 1 = 128) k
    | 2 => exact (by decide +kernel : ∀ k : Fin k0_t1_loop.trips, k0_off8 k 0 = 128 * k.val ∧ k0_off8 k 1 = 256) k
    | 3 => exact (by decide +kernel : ∀ k : Fin k0_t1_loop.trips, k0_off11 k 0 = 128 * k.val ∧ k0_off11 k 1 = 384) k
  kv p := by
    match p with
    | 0 => exact (by decide +kernel : ∀ k : Fin k0_t1_loop.trips, k0_off3 k 0 = k.val / 1 * 128 + 0 ∧ k0_off3 k 1 = 0) k
    | 1 => exact (by decide +kernel : ∀ k : Fin k0_t1_loop.trips, k0_off6 k 0 = k.val / 1 * 128 + 0 ∧ k0_off6 k 1 = 128) k
    | 2 => exact (by decide +kernel : ∀ k : Fin k0_t1_loop.trips, k0_off9 k 0 = k.val / 1 * 128 + 0 ∧ k0_off9 k 1 = 256) k
    | 3 => exact (by decide +kernel : ∀ k : Fin k0_t1_loop.trips, k0_off12 k 0 = k.val / 1 * 128 + 0 ∧ k0_off12 k 1 = 384) k
  a p := by
    match p with
    | 0 => exact (by decide +kernel : ∀ k : Fin k0_t1_loop.trips, k0_off4 k 0 = 0 ∧ k0_off4 k 1 = 2048 * (k.val % 1) + k.val / 1 ∧ k0_off4 k 2 = 0) k
    | 1 => exact (by decide +kernel : ∀ k : Fin k0_t1_loop.trips, k0_off7 k 0 = 1 ∧ k0_off7 k 1 = 2048 * (k.val % 1) + k.val / 1 ∧ k0_off7 k 2 = 0) k
    | 2 => exact (by decide +kernel : ∀ k : Fin k0_t1_loop.trips, k0_off10 k 0 = 2 ∧ k0_off10 k 1 = 2048 * (k.val % 1) + k.val / 1 ∧ k0_off10 k 2 = 0) k
    | 3 => exact (by decide +kernel : ∀ k : Fin k0_t1_loop.trips, k0_off13 k 0 = 3 ∧ k0_off13 k 1 = 2048 * (k.val % 1) + k.val / 1 ∧ k0_off13 k 2 = 0) k
  s := ⟨rfl, rfl, rfl⟩

/-- A trip's masked table. -/
def tab1 (h : k0_cond1 i = 1#1) (X17 : BufTy.Contents (Elt Ideal) arg17.view.ty) (k : Fin k0_t1_loop.trips) : FVec Ideal S128x128 .bf16 :=
  k0_pay7 (View.readAt (Elt Ideal) arg17.view (Rect.unit (s := S1x128x128) (k0_off1 k) S1x128x128.size (k0_off1_inb i k h)).toLoadRect X17)

theorem list1 (h : k0_cond1 i = 1#1) (k0 k1 : BitVec 32) (X14 : BufTy.Contents (Elt Ideal) arg14.view.ty) (X17 : BufTy.Contents (Elt Ideal) arg17.view.ty) (X19 : BufTy.Contents (Elt Ideal) arg19.view.ty) (X20 : BufTy.Contents (Elt Ideal) arg20.view.ty) (X21 : BufTy.Contents (Elt Ideal) arg21.view.ty)
    (k : Fin k0_t1_loop.trips) (f22 : BufTy.Contents (Elt Ideal) arg22.view.ty) (f23 : BufTy.Contents (Elt Ideal) arg23.view.ty) (f24 : BufTy.Contents (Elt Ideal) arg24.view.ty) :
(trip1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 k).1 f22 f23 f24
        = stores (offs1 h k) (fun p => k0_pay11 k0_pay1 (sc128 arg14 arg19 arg20 (offs1 h k) (tab1 h X17 k) X14 X19 X20 p) (vals arg21 (offs1 h k) X21 p))
      ∧ (trip1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 k).2.1 f22 f23 f24
        = stores (offs1 h k) (fun p => k0_pay13 k0_pay1 (sc128 arg14 arg19 arg20 (offs1 h k) (tab1 h X17 k) X14 X19 X20 p))
      ∧ (trip1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 k).2.2.1 f22 f23 f24
        = stores (offs1 h k) (fun p => k0_pay12 k0_pay1 (sc128 arg14 arg19 arg20 (offs1 h k) (tab1 h X17 k) X14 X19 X20 p) (vals arg21 (offs1 h k) X21 p)) := by
  unfold trip1
  dsimp only
  exact ⟨rfl, rfl, rfl⟩

/-- Where a trip over the dilation 4 reads and writes. -/
def offs2 (h : k0_cond2 i = 1#1) (k : Fin k0_t2_loop.trips) : Offs S256x128.size where
  oq := ![k0_off15 k, k0_off18 k, k0_off21 k, k0_off24 k]
  okv := ![k0_off16 k, k0_off19 k, k0_off22 k, k0_off25 k]
  oa := ![k0_off17 k, k0_off20 k, k0_off23 k, k0_off26 k]
  st := ![1, 4, 1]
  hq p := by
    match p with
    | 0 => exact k0_off15_inb i k h
    | 1 => exact k0_off18_inb i k h
    | 2 => exact k0_off21_inb i k h
    | 3 => exact k0_off24_inb i k h
  hkv p := by
    match p with
    | 0 => exact k0_off16_inb i k h
    | 1 => exact k0_off19_inb i k h
    | 2 => exact k0_off22_inb i k h
    | 3 => exact k0_off25_inb i k h
  ha p := by
    match p with
    | 0 => exact k0_off17_inb i k h
    | 1 => exact k0_off20_inb i k h
    | 2 => exact k0_off23_inb i k h
    | 3 => exact k0_off26_inb i k h
  hs := by decide

theorem offs2_at (h : k0_cond2 i = 1#1) (k : Fin k0_t2_loop.trips) :
    (offs2 (i := i) h k).At (128 * k.val) (k.val / 4 * 512 + min (128 * (k.val % 4) - 64) 256) (512 * (k.val % 4) + k.val / 4) 4 where
  q p := by
    match p with
    | 0 => exact (by decide +kernel : ∀ k : Fin k0_t2_loop.trips, k0_off15 k 0 = 128 * k.val ∧ k0_off15 k 1 = 0) k
    | 1 => exact (by decide +kernel : ∀ k : Fin k0_t2_loop.trips, k0_off18 k 0 = 128 * k.val ∧ k0_off18 k 1 = 128) k
    | 2 => exact (by decide +kernel : ∀ k : Fin k0_t2_loop.trips, k0_off21 k 0 = 128 * k.val ∧ k0_off21 k 1 = 256) k
    | 3 => exact (by decide +kernel : ∀ k : Fin k0_t2_loop.trips, k0_off24 k 0 = 128 * k.val ∧ k0_off24 k 1 = 384) k
  kv p := by
    match p with
    | 0 => exact (by decide +kernel : ∀ k : Fin k0_t2_loop.trips, k0_off16 k 0 = k.val / 4 * 512 + min (128 * (k.val % 4) - 64) 256 ∧ k0_off16 k 1 = 0) k
    | 1 => exact (by decide +kernel : ∀ k : Fin k0_t2_loop.trips, k0_off19 k 0 = k.val / 4 * 512 + min (128 * (k.val % 4) - 64) 256 ∧ k0_off19 k 1 = 128) k
    | 2 => exact (by decide +kernel : ∀ k : Fin k0_t2_loop.trips, k0_off22 k 0 = k.val / 4 * 512 + min (128 * (k.val % 4) - 64) 256 ∧ k0_off22 k 1 = 256) k
    | 3 => exact (by decide +kernel : ∀ k : Fin k0_t2_loop.trips, k0_off25 k 0 = k.val / 4 * 512 + min (128 * (k.val % 4) - 64) 256 ∧ k0_off25 k 1 = 384) k
  a p := by
    match p with
    | 0 => exact (by decide +kernel : ∀ k : Fin k0_t2_loop.trips, k0_off17 k 0 = 0 ∧ k0_off17 k 1 = 512 * (k.val % 4) + k.val / 4 ∧ k0_off17 k 2 = 0) k
    | 1 => exact (by decide +kernel : ∀ k : Fin k0_t2_loop.trips, k0_off20 k 0 = 1 ∧ k0_off20 k 1 = 512 * (k.val % 4) + k.val / 4 ∧ k0_off20 k 2 = 0) k
    | 2 => exact (by decide +kernel : ∀ k : Fin k0_t2_loop.trips, k0_off23 k 0 = 2 ∧ k0_off23 k 1 = 512 * (k.val % 4) + k.val / 4 ∧ k0_off23 k 2 = 0) k
    | 3 => exact (by decide +kernel : ∀ k : Fin k0_t2_loop.trips, k0_off26 k 0 = 3 ∧ k0_off26 k 1 = 512 * (k.val % 4) + k.val / 4 ∧ k0_off26 k 2 = 0) k
  s := ⟨rfl, rfl, rfl⟩

/-- A trip's masked table. -/
def tab2 (h : k0_cond2 i = 1#1) (X16 : BufTy.Contents (Elt Ideal) arg16.view.ty) (k : Fin k0_t2_loop.trips) : FVec Ideal S256x128 .bf16 :=
  k0_pay59 (View.readAt (Elt Ideal) arg16.view (Rect.unit (s := S3x256x128) (k0_off14 k) S1x256x128.size (k0_off14_inb i k h)).toLoadRect X16)

theorem list2 (h : k0_cond2 i = 1#1) (k0 k1 : BitVec 32) (X14 : BufTy.Contents (Elt Ideal) arg14.view.ty) (X16 : BufTy.Contents (Elt Ideal) arg16.view.ty) (X19 : BufTy.Contents (Elt Ideal) arg19.view.ty) (X20 : BufTy.Contents (Elt Ideal) arg20.view.ty) (X21 : BufTy.Contents (Elt Ideal) arg21.view.ty)
    (k : Fin k0_t2_loop.trips) (f22 : BufTy.Contents (Elt Ideal) arg22.view.ty) (f23 : BufTy.Contents (Elt Ideal) arg23.view.ty) (f24 : BufTy.Contents (Elt Ideal) arg24.view.ty) :
(trip2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 k).1 f22 f23 f24
        = stores (offs2 h k) (fun p => a256 (sc256 arg14 arg19 arg20 (offs2 h k) (tab2 h X16 k) X14 X19 X20 p) (vals arg21 (offs2 h k) X21 p) (acc (offs2 h k) arg23 f23 p) (acc (offs2 h k) arg22 f22 p))
      ∧ (trip2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 k).2.1 f22 f23 f24
        = stores (offs2 h k) (fun p => m256 (sc256 arg14 arg19 arg20 (offs2 h k) (tab2 h X16 k) X14 X19 X20 p) (acc (offs2 h k) arg23 f23 p))
      ∧ (trip2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 k).2.2.1 f22 f23 f24
        = stores (offs2 h k) (fun p => d256 (sc256 arg14 arg19 arg20 (offs2 h k) (tab2 h X16 k) X14 X19 X20 p) (vals arg21 (offs2 h k) X21 p) (acc (offs2 h k) arg23 f23 p) (acc (offs2 h k) arg24 f24 p)) := by
  unfold trip2
  dsimp only
  exact ⟨rfl, rfl, rfl⟩

/-- Where a trip over the dilation 1 reads and writes. -/
def offs3 (h : k0_cond3 i = 1#1) (k : Fin k0_t3_loop.trips) : Offs S256x128.size where
  oq := ![k0_off28 k, k0_off31 k, k0_off34 k, k0_off37 k]
  okv := ![k0_off29 k, k0_off32 k, k0_off35 k, k0_off38 k]
  oa := ![k0_off30 k, k0_off33 k, k0_off36 k, k0_off39 k]
  st := fun _ => 1
  hq p := by
    match p with
    | 0 => exact k0_off28_inb i k h
    | 1 => exact k0_off31_inb i k h
    | 2 => exact k0_off34_inb i k h
    | 3 => exact k0_off37_inb i k h
  hkv p := by
    match p with
    | 0 => exact k0_off29_inb i k h
    | 1 => exact k0_off32_inb i k h
    | 2 => exact k0_off35_inb i k h
    | 3 => exact k0_off38_inb i k h
  ha p := by
    match p with
    | 0 => exact (Rect.unit (s := S4x2048x128) (k0_off30 k) S1x128x128.size (k0_off30_inb i k h)).inb
    | 1 => exact (Rect.unit (s := S4x2048x128) (k0_off33 k) S1x128x128.size (k0_off33_inb i k h)).inb
    | 2 => exact (Rect.unit (s := S4x2048x128) (k0_off36 k) S1x128x128.size (k0_off36_inb i k h)).inb
    | 3 => exact (Rect.unit (s := S4x2048x128) (k0_off39 k) S1x128x128.size (k0_off39_inb i k h)).inb
  hs := by decide

theorem offs3_at (h : k0_cond3 i = 1#1) (k : Fin k0_t3_loop.trips) :
    (offs3 (i := i) h k).At (128 * k.val) (k.val / 16 * 2048 + min (128 * (k.val % 16) - 64) 1792) (128 * (k.val % 16) + k.val / 16) 1 where
  q p := by
    match p with
    | 0 => exact (by decide +kernel : ∀ k : Fin k0_t3_loop.trips, k0_off28 k 0 = 128 * k.val ∧ k0_off28 k 1 = 0) k
    | 1 => exact (by decide +kernel : ∀ k : Fin k0_t3_loop.trips, k0_off31 k 0 = 128 * k.val ∧ k0_off31 k 1 = 128) k
    | 2 => exact (by decide +kernel : ∀ k : Fin k0_t3_loop.trips, k0_off34 k 0 = 128 * k.val ∧ k0_off34 k 1 = 256) k
    | 3 => exact (by decide +kernel : ∀ k : Fin k0_t3_loop.trips, k0_off37 k 0 = 128 * k.val ∧ k0_off37 k 1 = 384) k
  kv p := by
    match p with
    | 0 => exact (by decide +kernel : ∀ k : Fin k0_t3_loop.trips, k0_off29 k 0 = k.val / 16 * 2048 + min (128 * (k.val % 16) - 64) 1792 ∧ k0_off29 k 1 = 0) k
    | 1 => exact (by decide +kernel : ∀ k : Fin k0_t3_loop.trips, k0_off32 k 0 = k.val / 16 * 2048 + min (128 * (k.val % 16) - 64) 1792 ∧ k0_off32 k 1 = 128) k
    | 2 => exact (by decide +kernel : ∀ k : Fin k0_t3_loop.trips, k0_off35 k 0 = k.val / 16 * 2048 + min (128 * (k.val % 16) - 64) 1792 ∧ k0_off35 k 1 = 256) k
    | 3 => exact (by decide +kernel : ∀ k : Fin k0_t3_loop.trips, k0_off38 k 0 = k.val / 16 * 2048 + min (128 * (k.val % 16) - 64) 1792 ∧ k0_off38 k 1 = 384) k
  a p := by
    match p with
    | 0 => exact (by decide +kernel : ∀ k : Fin k0_t3_loop.trips, k0_off30 k 0 = 0 ∧ k0_off30 k 1 = 128 * (k.val % 16) + k.val / 16 ∧ k0_off30 k 2 = 0) k
    | 1 => exact (by decide +kernel : ∀ k : Fin k0_t3_loop.trips, k0_off33 k 0 = 1 ∧ k0_off33 k 1 = 128 * (k.val % 16) + k.val / 16 ∧ k0_off33 k 2 = 0) k
    | 2 => exact (by decide +kernel : ∀ k : Fin k0_t3_loop.trips, k0_off36 k 0 = 2 ∧ k0_off36 k 1 = 128 * (k.val % 16) + k.val / 16 ∧ k0_off36 k 2 = 0) k
    | 3 => exact (by decide +kernel : ∀ k : Fin k0_t3_loop.trips, k0_off39 k 0 = 3 ∧ k0_off39 k 1 = 128 * (k.val % 16) + k.val / 16 ∧ k0_off39 k 2 = 0) k
  s := ⟨rfl, rfl, rfl⟩

/-- A trip's masked table. -/
def tab3 (h : k0_cond3 i = 1#1) (X15 : BufTy.Contents (Elt Ideal) arg15.view.ty) (k : Fin k0_t3_loop.trips) : FVec Ideal S256x128 .bf16 :=
  k0_pay138 (View.readAt (Elt Ideal) arg15.view (Rect.unit (s := S3x256x128) (k0_off27 k) S1x256x128.size (k0_off27_inb i k h)).toLoadRect X15)

theorem list3 (h : k0_cond3 i = 1#1) (k0 k1 : BitVec 32) (X14 : BufTy.Contents (Elt Ideal) arg14.view.ty) (X15 : BufTy.Contents (Elt Ideal) arg15.view.ty) (X19 : BufTy.Contents (Elt Ideal) arg19.view.ty) (X20 : BufTy.Contents (Elt Ideal) arg20.view.ty) (X21 : BufTy.Contents (Elt Ideal) arg21.view.ty)
    (k : Fin k0_t3_loop.trips) (f22 : BufTy.Contents (Elt Ideal) arg22.view.ty) (f23 : BufTy.Contents (Elt Ideal) arg23.view.ty) (f24 : BufTy.Contents (Elt Ideal) arg24.view.ty) :
(trip3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 k).1 f22 f23 f24
        = stores (offs3 h k) (fun p => a256 (sc256 arg14 arg19 arg20 (offs3 h k) (tab3 h X15 k) X14 X19 X20 p) (vals arg21 (offs3 h k) X21 p) (acc (offs3 h k) arg23 f23 p) (acc (offs3 h k) arg22 f22 p))
      ∧ (trip3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 k).2.1 f22 f23 f24
        = stores (offs3 h k) (fun p => m256 (sc256 arg14 arg19 arg20 (offs3 h k) (tab3 h X15 k) X14 X19 X20 p) (acc (offs3 h k) arg23 f23 p))
      ∧ (trip3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 k).2.2.1 f22 f23 f24
        = stores (offs3 h k) (fun p => d256 (sc256 arg14 arg19 arg20 (offs3 h k) (tab3 h X15 k) X14 X19 X20 p) (vals arg21 (offs3 h k) X21 p) (acc (offs3 h k) arg23 f23 p) (acc (offs3 h k) arg24 f24 p)) := by
  unfold trip3
  dsimp only
  exact ⟨rfl, rfl, rfl⟩

end Cert.Proof.KernelIdeal

end
-- ==== Proof.AttnLoop.lean ====
module

public import proofs.«01_k».proof.Proof.AttnTrip

/-! # The loops over tiles

Sixteen trips: every row of the accumulators takes up its tile once.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Attn

theorem named_masked : Named.named (F := Ideal) Cert.KernelIdeal.κ "masked" (φ := .f32) 0xF549F2CA#32 = (⊥ : EReal) :=
  IdealRules.named_const.ideal_named_scalar _ _ _ _ rfl

/-- What the three accumulators hold at a place. -/
def obs (arg22 arg23 arg24 : Memref sig .tc .vmem S4x2048x128 .f32) (p : Fin 4) (ρ : Fin 2048) (l : Fin 128)
    (s : BufTy.Contents (Elt Ideal) arg22.view.ty × BufTy.Contents (Elt Ideal) arg23.view.ty × BufTy.Contents (Elt Ideal) arg24.view.ty) :
    EReal × EReal × EReal :=
  (arg22.view.read (Elt Ideal) s.1 (ix3 p ρ l), arg23.view.read (Elt Ideal) s.2.1 (ix3 p ρ l), arg24.view.read (Elt Ideal) s.2.2 (ix3 p ρ l))

theorem rep_obs (arg22 arg23 arg24 : Memref sig .tc .vmem S4x2048x128 .f32) (p : Fin 4) (ρ : Fin 2048) (l : Fin 128)
    (a : BufTy.Contents (Elt Ideal) arg22.view.ty) (b : BufTy.Contents (Elt Ideal) arg23.view.ty) (c : BufTy.Contents (Elt Ideal) arg24.view.ty) (N D : ℝ) :
    Rep (obs arg22 arg23 arg24 p ρ l (a, b, c)).1 (obs arg22 arg23 arg24 p ρ l (a, b, c)).2.1 (obs arg22 arg23 arg24 p ρ l (a, b, c)).2.2 N D
      ↔ Rep (arg22.view.read (Elt Ideal) a (ix3 p ρ l)) (arg23.view.read (Elt Ideal) b (ix3 p ρ l)) (arg24.view.read (Elt Ideal) c (ix3 p ρ l)) N D := Iff.rfl

variable {c : Dev nD} {i : grid0.Coords}
  {arg2 : Memref sig .tc .vmem S1x1x2048x1024 .bf16} {harg2 : arg2.IsWhole}
  {arg3 : Memref sig .tc .vmem S1024x512 .f32} {harg3 : arg3.IsWhole}
  {arg4 : Memref sig .tc .vmem S1024x512 .f32} {harg4 : arg4.IsWhole}
  {arg5 : Memref sig .tc .vmem S1024x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x512 .f32} {harg9 : arg9.IsWhole}
  {arg10 : Memref sig .tc .vmem S1x512 .f32} {harg10 : arg10.IsWhole}
  {arg11 : Memref sig .tc .vmem S1x512 .f32} {harg11 : arg11.IsWhole}
  {arg12 : Memref sig .tc .vmem S1x512 .f32} {harg12 : arg12.IsWhole}
  {arg13 : Memref sig .tc .vmem S256x256 .bf16} {harg13 : arg13.IsWhole}
  {arg14 : Memref sig .tc .vmem S4x256x128 .bf16} {harg14 : arg14.IsWhole}
  {arg15 : Memref sig .tc .vmem S3x256x128 .bf16} {harg15 : arg15.IsWhole}
  {arg16 : Memref sig .tc .vmem S3x256x128 .bf16} {harg16 : arg16.IsWhole}
  {arg17 : Memref sig .tc .vmem S1x128x128 .bf16} {harg17 : arg17.IsWhole}
  {arg18 : Memref sig .tc .vmem S1x2048x512 .bf16} {harg18 : arg18.IsWhole}
  {arg19 : Memref sig .tc .vmem S2048x512 .bf16} {harg19 : arg19.IsWhole}
  {arg20 : Memref sig .tc .vmem S2048x512 .bf16} {harg20 : arg20.IsWhole}
  {arg21 : Memref sig .tc .vmem S2048x512 .bf16} {harg21 : arg21.IsWhole}
  {arg22 : Memref sig .tc .vmem S4x2048x128 .f32} {harg22 : arg22.IsWhole}
  {arg23 : Memref sig .tc .vmem S4x2048x128 .f32} {harg23 : arg23.IsWhole}
  {arg24 : Memref sig .tc .vmem S4x2048x128 .f32} {harg24 : arg24.IsWhole}

/-! ## The dilation 16 -/

theorem pos1 (k r : ℕ) (hk : k < 16) (hr : r < 128) : nat 16 (128 * k + r) = (128 * (k % 1) + r) * 16 + k / 1 := by
  simp only [nat, Nat.reduceDiv]
  omega

theorem key1 (k κ : ℕ) (hk : k < 16) (hκ : κ < 128) :
    nat 16 (k / 1 * 128 + 0 + κ) = (0 + κ) * 16 + k / 1 := by
  simp only [nat, Nat.reduceDiv]
  omega

theorem keys1 (k r : ℕ) (hk : k < 16) (hr : r < 128) :
    Keys 16 (nat 16 (128 * k + r)) (fun κ : Fin 128 => nat 16 (k / 1 * 128 + 0 + κ.val)) where
  lt κ := by
    rw [key1 k κ.val hk κ.isLt]
    omega
  inj a b hab := by
    simp only [key1 k _ hk (Fin.isLt _)] at hab
    exact Fin.ext (by omega)
  cover j hj hok := by
    rw [pos1 k r hk hr] at hok
    obtain ⟨h1, h2, h3⟩ := hok
    refine ⟨⟨(j - k / 1) / 16 - 0, by omega⟩, ?_⟩
    rw [key1 k _ hk (Fin.isLt _)]
    show (0 + ((j - k / 1) / 16 - 0)) * 16 + k / 1 = j
    omega

theorem tabOff1 : ∀ k : Fin k0_t1_loop.trips, k0_off1 k 0 = 0 ∧ k0_off1 k 1 = 0 ∧ k0_off1 k 2 = 0 := by decide +kernel

theorem tab1_at (h : k0_cond1 i = 1#1) (X17 : BufTy.Contents (Elt Ideal) arg17.view.ty)
    (hT : ∀ (q : Fin 1) (κ : Fin 128) (x : Fin 128), arg17.view.read (Elt Ideal) X17 (ix3 q κ x) = ((-(((16 : ℕ) : ℝ) * |(x.val : ℝ) + 64 * (q.val : ℝ) - (κ.val : ℝ)|) : ℝ) : EReal))
    (k : ℕ) (hk : k < 16) (κ : Fin 128) (r : Fin 128) :
    tab1 h X17 ⟨k, hk⟩ (ix2 κ r) = if ok 16 (nat 16 (128 * k + r.val)) (nat 16 (k / 1 * 128 + 0 + κ.val))
      then ((-|(nat 16 (128 * k + r.val) : ℝ) - (nat 16 (k / 1 * 128 + 0 + κ.val) : ℝ)| : ℝ) : EReal) else ⊥ := by
  rw [pos1 k r.val hk r.isLt, key1 k κ.val hk κ.isLt]
  have hq : 0 < 1 := by omega
  rw [← masked_tile 16 r.val (k % 1) (0) κ.val (k / 1) (0) (by norm_num) (by omega) (by omega) (hT ⟨0, hq⟩ κ r)]
  have e : View.readAt (Elt Ideal) arg17.view (Rect.unit (s := S1x128x128) (k0_off1 ⟨k, hk⟩) S1x128x128.size (k0_off1_inb i ⟨k, hk⟩ h)).toLoadRect X17 (ix3 0 κ r)
      = arg17.view.read (Elt Ideal) X17 (ix3 ⟨0, hq⟩ κ r) := by
    obtain ⟨o0, o1, o2⟩ := tabOff1 ⟨k, hk⟩
    refine congrArg (arg17.view.read (Elt Ideal) X17) (funext fun a => Fin.ext ?_)
    match a with
    | 0 => show k0_off1 ⟨k, hk⟩ 0 + 1 * 0 = _; rw [o0]; rfl
    | 1 => show k0_off1 ⟨k, hk⟩ 1 + 1 * κ.val = κ.val; omega
    | 2 => show k0_off1 ⟨k, hk⟩ 2 + 1 * r.val = r.val; omega
  rw [← e]
  have e2 : (-(64 * ((16 : ℕ) : ℝ))) = -1024 := by norm_num
  rw [e2, ← bits_m1024, ← named_masked]
  unfold tab1
  pointwise [k0_pay7]

theorem offs1_nat (h : k0_cond1 i = 1#1) (k : ℕ) (hk : k < 16) :
    (offs1 (i := i) h ⟨k, hk⟩).At (128 * k) (k / 1 * 128 + 0) (2048 * (k % 1) + k / 1) 16 :=
  offs1_at h ⟨k, hk⟩

theorem next1st (h : k0_cond1 i = 1#1) (k0 k1 : BitVec 32) (X14 : BufTy.Contents (Elt Ideal) arg14.view.ty) (X17 : BufTy.Contents (Elt Ideal) arg17.view.ty) (X19 : BufTy.Contents (Elt Ideal) arg19.view.ty) (X20 : BufTy.Contents (Elt Ideal) arg20.view.ty) (X21 : BufTy.Contents (Elt Ideal) arg21.view.ty) (G22 : BufTy.Contents (Elt Ideal) arg22.view.ty) (G23 : BufTy.Contents (Elt Ideal) arg23.view.ty) (G24 : BufTy.Contents (Elt Ideal) arg24.view.ty) (k : ℕ) (hk : k < k0_t1_loop.trips) :
    st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 (k + 1)
      = (arg22.view.writes (Elt Ideal) (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).1 (stores (offs1 h ⟨k, hk⟩) fun p => k0_pay11 k0_pay1 (sc128 arg14 arg19 arg20 (offs1 h ⟨k, hk⟩) (tab1 h X17 ⟨k, hk⟩) X14 X19 X20 p) (vals arg21 (offs1 h ⟨k, hk⟩) X21 p)),
         arg23.view.writes (Elt Ideal) (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).2.1 (stores (offs1 h ⟨k, hk⟩) fun p => k0_pay13 k0_pay1 (sc128 arg14 arg19 arg20 (offs1 h ⟨k, hk⟩) (tab1 h X17 ⟨k, hk⟩) X14 X19 X20 p)),
         arg24.view.writes (Elt Ideal) (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).2.2 (stores (offs1 h ⟨k, hk⟩) fun p => k0_pay12 k0_pay1 (sc128 arg14 arg19 arg20 (offs1 h ⟨k, hk⟩) (tab1 h X17 ⟨k, hk⟩) X14 X19 X20 p) (vals arg21 (offs1 h ⟨k, hk⟩) X21 p))) := by
  obtain ⟨e1, e2, e3⟩ := list1 (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 ⟨k, hk⟩ (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).1 (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).2.1 (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).2.2
  refine (st1_succ h k0 k1 X14 X17 X19 X20 X21 G22 G23 G24 ⟨k, hk⟩).trans ?_
  dsimp only
  rw [e1, e2, e3]

theorem over1 (h : k0_cond1 i = 1#1) (k0 k1 : BitVec 32) (X14 : BufTy.Contents (Elt Ideal) arg14.view.ty) (X17 : BufTy.Contents (Elt Ideal) arg17.view.ty) (X19 : BufTy.Contents (Elt Ideal) arg19.view.ty) (X20 : BufTy.Contents (Elt Ideal) arg20.view.ty) (X21 : BufTy.Contents (Elt Ideal) arg21.view.ty) (G22 : BufTy.Contents (Elt Ideal) arg22.view.ty) (G23 : BufTy.Contents (Elt Ideal) arg23.view.ty) (G24 : BufTy.Contents (Elt Ideal) arg24.view.ty)
    (hT : ∀ (q : Fin 1) (κ : Fin 128) (x : Fin 128), arg17.view.read (Elt Ideal) X17 (ix3 q κ x) = ((-(((16 : ℕ) : ℝ) * |(x.val : ℝ) + 64 * (q.val : ℝ) - (κ.val : ℝ)|) : ℝ) : EReal))
    {Q K V : ℕ → ℕ → ℝ} (ins : Scr 16 Q K V X14 X19 X20 X21) (p : Fin 4) (ρ : Fin 2048) (l : Fin 128)
     :
    Rep (arg22.view.read (Elt Ideal) (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 16).1 (ix3 p ρ l)) (arg23.view.read (Elt Ideal) (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 16).2.1 (ix3 p ρ l)) (arg24.view.read (Elt Ideal) (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 16).2.2 (ix3 p ρ l))
      (wnum Q K V 16 ρ.val (128 * p.val + l.val)) (wden Q K 16 ρ.val ((128 * p.val + l.val) / 64)) := by
  have hr : ρ.val / 16 % 128 < 128 := Nat.mod_lt _ (by norm_num)
  have ht : ρ.val % 16 * 1 + ρ.val / 16 / 128 < 16 := by omega
  have hpos : nat 16 (128 * (ρ.val % 16 * 1 + ρ.val / 16 / 128) + ρ.val / 16 % 128) = ρ.val := by
    rw [pos1 _ _ ht hr]
    omega
  refine once (fun k => obs arg22 arg23 arg24 p ρ l (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k))
    (ρ.val % 16 * 1 + ρ.val / 16 / 128) ht (fun k hk hne => ?_) (P := fun a => True)
    (P' := fun a => Rep a.1 a.2.1 a.2.2 (wnum Q K V 16 ρ.val (128 * p.val + l.val)) (wden Q K 16 ρ.val ((128 * p.val + l.val) / 64))) (fun _ => ?_) trivial
  · have hmiss : ∀ r, r < 128 → ρ.val ≠ 2048 * (k % 1) + k / 1 + 16 * r := fun r hr e => hne (by
      have a1 : ρ.val / 16 = 128 * (k % 1) + r := by omega
      have a2 : ρ.val / 16 / 128 = k % 1 := by omega
      omega)
    have e := next1st (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k hk
    show obs _ _ _ p ρ l _ = obs _ _ _ p ρ l _
    rw [e]
    unfold obs
    have m1 := stores_miss (offs1_nat h k hk) arg22
    have m2 := stores_miss (offs1_nat h k hk) arg23
    have m3 := stores_miss (offs1_nat h k hk) arg24
    rw [m1 _ _ p l ρ hmiss, m2 _ _ p l ρ hmiss, m3 _ _ p l ρ hmiss]
  · obtain ⟨k, hk, hkk⟩ : ∃ k, k < 16 ∧ k = ρ.val % 16 * 1 + ρ.val / 16 / 128 := ⟨_, ht, rfl⟩
    rw [← hkk] at hpos ⊢
    have e := next1st (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k hk
    have key := step128 ins (offs1_nat h k hk) (tab1 h _ ⟨k, hk⟩) p ⟨ρ.val / 16 % 128, hr⟩ l
      (fun κ => tab1_at h _ hT k hk κ ⟨ρ.val / 16 % 128, hr⟩) (by rw [hpos]; exact ρ.isLt)
      (keys1 k _ hk hr) ρ (by show ρ.val = 2048 * (k % 1) + k / 1 + 16 * (ρ.val / 16 % 128); omega)
      (arg22 := arg22) (arg23 := arg23) (arg24 := arg24) (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).1 (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).2.1 (st1 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X17 X19 X20 X21 G22 G23 G24 k).2.2
    rw [hpos] at key
    show Rep (obs _ _ _ p ρ l _).1 (obs _ _ _ p ρ l _).2.1 (obs _ _ _ p ρ l _).2.2 _ _
    rw [e]
    exact (rep_obs ..).mpr key

/-! ## The dilation 4 -/

theorem pos2 (k r : ℕ) (hk : k < 16) (hr : r < 128) : nat 4 (128 * k + r) = (128 * (k % 4) + r) * 4 + k / 4 := by
  simp only [nat, Nat.reduceDiv]
  omega

theorem key2 (k κ : ℕ) (hk : k < 16) (hκ : κ < 256) :
    nat 4 (k / 4 * 512 + min (128 * (k % 4) - 64) 256 + κ) = (min (128 * (k % 4) - 64) 256 + κ) * 4 + k / 4 := by
  simp only [nat, Nat.reduceDiv]
  omega

theorem keys2 (k r : ℕ) (hk : k < 16) (hr : r < 128) :
    Keys 4 (nat 4 (128 * k + r)) (fun κ : Fin 256 => nat 4 (k / 4 * 512 + min (128 * (k % 4) - 64) 256 + κ.val)) where
  lt κ := by
    rw [key2 k κ.val hk κ.isLt]
    omega
  inj a b hab := by
    simp only [key2 k _ hk (Fin.isLt _)] at hab
    exact Fin.ext (by omega)
  cover j hj hok := by
    rw [pos2 k r hk hr] at hok
    obtain ⟨h1, h2, h3⟩ := hok
    refine ⟨⟨(j - k / 4) / 4 - min (128 * (k % 4) - 64) 256, by omega⟩, ?_⟩
    rw [key2 k _ hk (Fin.isLt _)]
    show (min (128 * (k % 4) - 64) 256 + ((j - k / 4) / 4 - min (128 * (k % 4) - 64) 256)) * 4 + k / 4 = j
    omega

theorem tabOff2 : ∀ k : Fin k0_t2_loop.trips, k0_off14 k 0 = (128 * (k.val % 4) - min (128 * (k.val % 4) - 64) 256) / 64 ∧ k0_off14 k 1 = 0 ∧ k0_off14 k 2 = 0 := by decide +kernel

theorem tab2_at (h : k0_cond2 i = 1#1) (X16 : BufTy.Contents (Elt Ideal) arg16.view.ty)
    (hT : ∀ (q : Fin 3) (κ : Fin 256) (x : Fin 128), arg16.view.read (Elt Ideal) X16 (ix3 q κ x) = ((-(((4 : ℕ) : ℝ) * |(x.val : ℝ) + 64 * (q.val : ℝ) - (κ.val : ℝ)|) : ℝ) : EReal))
    (k : ℕ) (hk : k < 16) (κ : Fin 256) (r : Fin 128) :
    tab2 h X16 ⟨k, hk⟩ (ix2 κ r) = if ok 4 (nat 4 (128 * k + r.val)) (nat 4 (k / 4 * 512 + min (128 * (k % 4) - 64) 256 + κ.val))
      then ((-|(nat 4 (128 * k + r.val) : ℝ) - (nat 4 (k / 4 * 512 + min (128 * (k % 4) - 64) 256 + κ.val) : ℝ)| : ℝ) : EReal) else ⊥ := by
  rw [pos2 k r.val hk r.isLt, key2 k κ.val hk κ.isLt]
  have hq : (128 * (k % 4) - min (128 * (k % 4) - 64) 256) / 64 < 3 := by omega
  rw [← masked_tile 4 r.val (k % 4) (min (128 * (k % 4) - 64) 256) κ.val (k / 4) ((128 * (k % 4) - min (128 * (k % 4) - 64) 256) / 64) (by norm_num) (by omega) (by omega) (hT ⟨(128 * (k % 4) - min (128 * (k % 4) - 64) 256) / 64, hq⟩ κ r)]
  have e : View.readAt (Elt Ideal) arg16.view (Rect.unit (s := S3x256x128) (k0_off14 ⟨k, hk⟩) S1x256x128.size (k0_off14_inb i ⟨k, hk⟩ h)).toLoadRect X16 (ix3 0 κ r)
      = arg16.view.read (Elt Ideal) X16 (ix3 ⟨(128 * (k % 4) - min (128 * (k % 4) - 64) 256) / 64, hq⟩ κ r) := by
    obtain ⟨o0, o1, o2⟩ := tabOff2 ⟨k, hk⟩
    refine congrArg (arg16.view.read (Elt Ideal) X16) (funext fun a => Fin.ext ?_)
    match a with
    | 0 => show k0_off14 ⟨k, hk⟩ 0 + 1 * 0 = _; rw [o0]; rfl
    | 1 => show k0_off14 ⟨k, hk⟩ 1 + 1 * κ.val = κ.val; omega
    | 2 => show k0_off14 ⟨k, hk⟩ 2 + 1 * r.val = r.val; omega
  rw [← e]
  have e2 : (-(64 * ((4 : ℕ) : ℝ))) = -256 := by norm_num
  rw [e2, ← bits_m256, ← named_masked]
  unfold tab2
  pointwise [k0_pay59]

theorem offs2_nat (h : k0_cond2 i = 1#1) (k : ℕ) (hk : k < 16) :
    (offs2 (i := i) h ⟨k, hk⟩).At (128 * k) (k / 4 * 512 + min (128 * (k % 4) - 64) 256) (512 * (k % 4) + k / 4) 4 :=
  offs2_at h ⟨k, hk⟩

theorem next2st (h : k0_cond2 i = 1#1) (k0 k1 : BitVec 32) (X14 : BufTy.Contents (Elt Ideal) arg14.view.ty) (X16 : BufTy.Contents (Elt Ideal) arg16.view.ty) (X19 : BufTy.Contents (Elt Ideal) arg19.view.ty) (X20 : BufTy.Contents (Elt Ideal) arg20.view.ty) (X21 : BufTy.Contents (Elt Ideal) arg21.view.ty) (G22 : BufTy.Contents (Elt Ideal) arg22.view.ty) (G23 : BufTy.Contents (Elt Ideal) arg23.view.ty) (G24 : BufTy.Contents (Elt Ideal) arg24.view.ty) (k : ℕ) (hk : k < k0_t2_loop.trips) :
    st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 (k + 1)
      = (arg22.view.writes (Elt Ideal) (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).1 (stores (offs2 h ⟨k, hk⟩) fun p => a256 (sc256 arg14 arg19 arg20 (offs2 h ⟨k, hk⟩) (tab2 h X16 ⟨k, hk⟩) X14 X19 X20 p) (vals arg21 (offs2 h ⟨k, hk⟩) X21 p) (acc (offs2 h ⟨k, hk⟩) arg23 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.1 p) (acc (offs2 h ⟨k, hk⟩) arg22 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).1 p)),
         arg23.view.writes (Elt Ideal) (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.1 (stores (offs2 h ⟨k, hk⟩) fun p => m256 (sc256 arg14 arg19 arg20 (offs2 h ⟨k, hk⟩) (tab2 h X16 ⟨k, hk⟩) X14 X19 X20 p) (acc (offs2 h ⟨k, hk⟩) arg23 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.1 p)),
         arg24.view.writes (Elt Ideal) (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.2 (stores (offs2 h ⟨k, hk⟩) fun p => d256 (sc256 arg14 arg19 arg20 (offs2 h ⟨k, hk⟩) (tab2 h X16 ⟨k, hk⟩) X14 X19 X20 p) (vals arg21 (offs2 h ⟨k, hk⟩) X21 p) (acc (offs2 h ⟨k, hk⟩) arg23 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.1 p) (acc (offs2 h ⟨k, hk⟩) arg24 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.2 p))) := by
  obtain ⟨e1, e2, e3⟩ := list2 (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 ⟨k, hk⟩ (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).1 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.1 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.2
  refine (st2_succ h k0 k1 X14 X16 X19 X20 X21 G22 G23 G24 ⟨k, hk⟩).trans ?_
  dsimp only
  rw [e1, e2, e3]

theorem over2 (h : k0_cond2 i = 1#1) (k0 k1 : BitVec 32) (X14 : BufTy.Contents (Elt Ideal) arg14.view.ty) (X16 : BufTy.Contents (Elt Ideal) arg16.view.ty) (X19 : BufTy.Contents (Elt Ideal) arg19.view.ty) (X20 : BufTy.Contents (Elt Ideal) arg20.view.ty) (X21 : BufTy.Contents (Elt Ideal) arg21.view.ty) (G22 : BufTy.Contents (Elt Ideal) arg22.view.ty) (G23 : BufTy.Contents (Elt Ideal) arg23.view.ty) (G24 : BufTy.Contents (Elt Ideal) arg24.view.ty)
    (hT : ∀ (q : Fin 3) (κ : Fin 256) (x : Fin 128), arg16.view.read (Elt Ideal) X16 (ix3 q κ x) = ((-(((4 : ℕ) : ℝ) * |(x.val : ℝ) + 64 * (q.val : ℝ) - (κ.val : ℝ)|) : ℝ) : EReal))
    {Q K V : ℕ → ℕ → ℝ} (ins : Scr 4 Q K V X14 X19 X20 X21) (p : Fin 4) (ρ : Fin 2048) (l : Fin 128) {N D : ℝ}
    (hrep : Rep (arg22.view.read (Elt Ideal) G22 (ix3 p ρ l)) (arg23.view.read (Elt Ideal) G23 (ix3 p ρ l)) (arg24.view.read (Elt Ideal) G24 (ix3 p ρ l)) N D) :
    Rep (arg22.view.read (Elt Ideal) (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 16).1 (ix3 p ρ l)) (arg23.view.read (Elt Ideal) (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 16).2.1 (ix3 p ρ l)) (arg24.view.read (Elt Ideal) (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 16).2.2 (ix3 p ρ l))
      (N + wnum Q K V 4 ρ.val (128 * p.val + l.val)) (D + wden Q K 4 ρ.val ((128 * p.val + l.val) / 64)) := by
  have hr : ρ.val / 4 % 128 < 128 := Nat.mod_lt _ (by norm_num)
  have ht : ρ.val % 4 * 4 + ρ.val / 4 / 128 < 16 := by omega
  have hpos : nat 4 (128 * (ρ.val % 4 * 4 + ρ.val / 4 / 128) + ρ.val / 4 % 128) = ρ.val := by
    rw [pos2 _ _ ht hr]
    omega
  refine once (fun k => obs arg22 arg23 arg24 p ρ l (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k))
    (ρ.val % 4 * 4 + ρ.val / 4 / 128) ht (fun k hk hne => ?_) (P := fun a => Rep a.1 a.2.1 a.2.2 N D)
    (P' := fun a => Rep a.1 a.2.1 a.2.2 (N + wnum Q K V 4 ρ.val (128 * p.val + l.val)) (D + wden Q K 4 ρ.val ((128 * p.val + l.val) / 64))) (fun hrep => ?_) hrep
  · have hmiss : ∀ r, r < 128 → ρ.val ≠ 512 * (k % 4) + k / 4 + 4 * r := fun r hr e => hne (by
      have a1 : ρ.val / 4 = 128 * (k % 4) + r := by omega
      have a2 : ρ.val / 4 / 128 = k % 4 := by omega
      omega)
    have e := next2st (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k hk
    show obs _ _ _ p ρ l _ = obs _ _ _ p ρ l _
    rw [e]
    unfold obs
    have m1 := stores_miss (offs2_nat h k hk) arg22
    have m2 := stores_miss (offs2_nat h k hk) arg23
    have m3 := stores_miss (offs2_nat h k hk) arg24
    rw [m1 _ _ p l ρ hmiss, m2 _ _ p l ρ hmiss, m3 _ _ p l ρ hmiss]
  · obtain ⟨k, hk, hkk⟩ : ∃ k, k < 16 ∧ k = ρ.val % 4 * 4 + ρ.val / 4 / 128 := ⟨_, ht, rfl⟩
    rw [← hkk] at hpos ⊢
    rw [← hkk] at hrep
    have e := next2st (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k hk
    have key := step256 ins (offs2_nat h k hk) (tab2 h _ ⟨k, hk⟩) p ⟨ρ.val / 4 % 128, hr⟩ l
      (fun κ => tab2_at h _ hT k hk κ ⟨ρ.val / 4 % 128, hr⟩) (by rw [hpos]; exact ρ.isLt)
      (keys2 k _ hk hr) ρ (by show ρ.val = 512 * (k % 4) + k / 4 + 4 * (ρ.val / 4 % 128); omega)
      (arg22 := arg22) (arg23 := arg23) (arg24 := arg24) (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).1 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.1 (st2 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X16 X19 X20 X21 G22 G23 G24 k).2.2 hrep
    rw [hpos] at key
    show Rep (obs _ _ _ p ρ l _).1 (obs _ _ _ p ρ l _).2.1 (obs _ _ _ p ρ l _).2.2 _ _
    rw [e]
    exact (rep_obs ..).mpr key

/-! ## The dilation 1 -/

theorem pos3 (k r : ℕ) (hk : k < 16) (hr : r < 128) : nat 1 (128 * k + r) = (128 * (k % 16) + r) * 1 + k / 16 := by
  simp only [nat, Nat.reduceDiv]
  omega

theorem key3 (k κ : ℕ) (hk : k < 16) (hκ : κ < 256) :
    nat 1 (k / 16 * 2048 + min (128 * (k % 16) - 64) 1792 + κ) = (min (128 * (k % 16) - 64) 1792 + κ) * 1 + k / 16 := by
  simp only [nat, Nat.reduceDiv]
  omega

theorem keys3 (k r : ℕ) (hk : k < 16) (hr : r < 128) :
    Keys 1 (nat 1 (128 * k + r)) (fun κ : Fin 256 => nat 1 (k / 16 * 2048 + min (128 * (k % 16) - 64) 1792 + κ.val)) where
  lt κ := by
    rw [key3 k κ.val hk κ.isLt]
    omega
  inj a b hab := by
    simp only [key3 k _ hk (Fin.isLt _)] at hab
    exact Fin.ext (by omega)
  cover j hj hok := by
    rw [pos3 k r hk hr] at hok
    obtain ⟨h1, h2, h3⟩ := hok
    refine ⟨⟨(j - k / 16) / 1 - min (128 * (k % 16) - 64) 1792, by omega⟩, ?_⟩
    rw [key3 k _ hk (Fin.isLt _)]
    show (min (128 * (k % 16) - 64) 1792 + ((j - k / 16) / 1 - min (128 * (k % 16) - 64) 1792)) * 1 + k / 16 = j
    omega

theorem tabOff3 : ∀ k : Fin k0_t3_loop.trips, k0_off27 k 0 = (128 * (k.val % 16) - min (128 * (k.val % 16) - 64) 1792) / 64 ∧ k0_off27 k 1 = 0 ∧ k0_off27 k 2 = 0 := by decide +kernel

theorem tab3_at (h : k0_cond3 i = 1#1) (X15 : BufTy.Contents (Elt Ideal) arg15.view.ty)
    (hT : ∀ (q : Fin 3) (κ : Fin 256) (x : Fin 128), arg15.view.read (Elt Ideal) X15 (ix3 q κ x) = ((-(((1 : ℕ) : ℝ) * |(x.val : ℝ) + 64 * (q.val : ℝ) - (κ.val : ℝ)|) : ℝ) : EReal))
    (k : ℕ) (hk : k < 16) (κ : Fin 256) (r : Fin 128) :
    tab3 h X15 ⟨k, hk⟩ (ix2 κ r) = if ok 1 (nat 1 (128 * k + r.val)) (nat 1 (k / 16 * 2048 + min (128 * (k % 16) - 64) 1792 + κ.val))
      then ((-|(nat 1 (128 * k + r.val) : ℝ) - (nat 1 (k / 16 * 2048 + min (128 * (k % 16) - 64) 1792 + κ.val) : ℝ)| : ℝ) : EReal) else ⊥ := by
  rw [pos3 k r.val hk r.isLt, key3 k κ.val hk κ.isLt]
  have hq : (128 * (k % 16) - min (128 * (k % 16) - 64) 1792) / 64 < 3 := by omega
  rw [← masked_tile 1 r.val (k % 16) (min (128 * (k % 16) - 64) 1792) κ.val (k / 16) ((128 * (k % 16) - min (128 * (k % 16) - 64) 1792) / 64) (by norm_num) (by omega) (by omega) (hT ⟨(128 * (k % 16) - min (128 * (k % 16) - 64) 1792) / 64, hq⟩ κ r)]
  have e : View.readAt (Elt Ideal) arg15.view (Rect.unit (s := S3x256x128) (k0_off27 ⟨k, hk⟩) S1x256x128.size (k0_off27_inb i ⟨k, hk⟩ h)).toLoadRect X15 (ix3 0 κ r)
      = arg15.view.read (Elt Ideal) X15 (ix3 ⟨(128 * (k % 16) - min (128 * (k % 16) - 64) 1792) / 64, hq⟩ κ r) := by
    obtain ⟨o0, o1, o2⟩ := tabOff3 ⟨k, hk⟩
    refine congrArg (arg15.view.read (Elt Ideal) X15) (funext fun a => Fin.ext ?_)
    match a with
    | 0 => show k0_off27 ⟨k, hk⟩ 0 + 1 * 0 = _; rw [o0]; rfl
    | 1 => show k0_off27 ⟨k, hk⟩ 1 + 1 * κ.val = κ.val; omega
    | 2 => show k0_off27 ⟨k, hk⟩ 2 + 1 * r.val = r.val; omega
  rw [← e]
  have e2 : (-(64 * ((1 : ℕ) : ℝ))) = -64 := by norm_num
  rw [e2, ← bits_m64, ← named_masked]
  unfold tab3
  pointwise [k0_pay138]

theorem offs3_nat (h : k0_cond3 i = 1#1) (k : ℕ) (hk : k < 16) :
    (offs3 (i := i) h ⟨k, hk⟩).At (128 * k) (k / 16 * 2048 + min (128 * (k % 16) - 64) 1792) (128 * (k % 16) + k / 16) 1 :=
  offs3_at h ⟨k, hk⟩

theorem next3st (h : k0_cond3 i = 1#1) (k0 k1 : BitVec 32) (X14 : BufTy.Contents (Elt Ideal) arg14.view.ty) (X15 : BufTy.Contents (Elt Ideal) arg15.view.ty) (X19 : BufTy.Contents (Elt Ideal) arg19.view.ty) (X20 : BufTy.Contents (Elt Ideal) arg20.view.ty) (X21 : BufTy.Contents (Elt Ideal) arg21.view.ty) (G22 : BufTy.Contents (Elt Ideal) arg22.view.ty) (G23 : BufTy.Contents (Elt Ideal) arg23.view.ty) (G24 : BufTy.Contents (Elt Ideal) arg24.view.ty) (k : ℕ) (hk : k < k0_t3_loop.trips) :
    st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 (k + 1)
      = (arg22.view.writes (Elt Ideal) (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).1 (stores (offs3 h ⟨k, hk⟩) fun p => a256 (sc256 arg14 arg19 arg20 (offs3 h ⟨k, hk⟩) (tab3 h X15 ⟨k, hk⟩) X14 X19 X20 p) (vals arg21 (offs3 h ⟨k, hk⟩) X21 p) (acc (offs3 h ⟨k, hk⟩) arg23 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.1 p) (acc (offs3 h ⟨k, hk⟩) arg22 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).1 p)),
         arg23.view.writes (Elt Ideal) (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.1 (stores (offs3 h ⟨k, hk⟩) fun p => m256 (sc256 arg14 arg19 arg20 (offs3 h ⟨k, hk⟩) (tab3 h X15 ⟨k, hk⟩) X14 X19 X20 p) (acc (offs3 h ⟨k, hk⟩) arg23 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.1 p)),
         arg24.view.writes (Elt Ideal) (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.2 (stores (offs3 h ⟨k, hk⟩) fun p => d256 (sc256 arg14 arg19 arg20 (offs3 h ⟨k, hk⟩) (tab3 h X15 ⟨k, hk⟩) X14 X19 X20 p) (vals arg21 (offs3 h ⟨k, hk⟩) X21 p) (acc (offs3 h ⟨k, hk⟩) arg23 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.1 p) (acc (offs3 h ⟨k, hk⟩) arg24 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.2 p))) := by
  obtain ⟨e1, e2, e3⟩ := list3 (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 ⟨k, hk⟩ (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).1 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.1 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.2
  refine (st3_succ h k0 k1 X14 X15 X19 X20 X21 G22 G23 G24 ⟨k, hk⟩).trans ?_
  dsimp only
  rw [e1, e2, e3]

theorem over3 (h : k0_cond3 i = 1#1) (k0 k1 : BitVec 32) (X14 : BufTy.Contents (Elt Ideal) arg14.view.ty) (X15 : BufTy.Contents (Elt Ideal) arg15.view.ty) (X19 : BufTy.Contents (Elt Ideal) arg19.view.ty) (X20 : BufTy.Contents (Elt Ideal) arg20.view.ty) (X21 : BufTy.Contents (Elt Ideal) arg21.view.ty) (G22 : BufTy.Contents (Elt Ideal) arg22.view.ty) (G23 : BufTy.Contents (Elt Ideal) arg23.view.ty) (G24 : BufTy.Contents (Elt Ideal) arg24.view.ty)
    (hT : ∀ (q : Fin 3) (κ : Fin 256) (x : Fin 128), arg15.view.read (Elt Ideal) X15 (ix3 q κ x) = ((-(((1 : ℕ) : ℝ) * |(x.val : ℝ) + 64 * (q.val : ℝ) - (κ.val : ℝ)|) : ℝ) : EReal))
    {Q K V : ℕ → ℕ → ℝ} (ins : Scr 1 Q K V X14 X19 X20 X21) (p : Fin 4) (ρ : Fin 2048) (l : Fin 128) {N D : ℝ}
    (hrep : Rep (arg22.view.read (Elt Ideal) G22 (ix3 p ρ l)) (arg23.view.read (Elt Ideal) G23 (ix3 p ρ l)) (arg24.view.read (Elt Ideal) G24 (ix3 p ρ l)) N D) :
    Rep (arg22.view.read (Elt Ideal) (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 16).1 (ix3 p ρ l)) (arg23.view.read (Elt Ideal) (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 16).2.1 (ix3 p ρ l)) (arg24.view.read (Elt Ideal) (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 16).2.2 (ix3 p ρ l))
      (N + wnum Q K V 1 ρ.val (128 * p.val + l.val)) (D + wden Q K 1 ρ.val ((128 * p.val + l.val) / 64)) := by
  have hr : ρ.val / 1 % 128 < 128 := Nat.mod_lt _ (by norm_num)
  have ht : ρ.val % 1 * 16 + ρ.val / 1 / 128 < 16 := by omega
  have hpos : nat 1 (128 * (ρ.val % 1 * 16 + ρ.val / 1 / 128) + ρ.val / 1 % 128) = ρ.val := by
    rw [pos3 _ _ ht hr]
    omega
  refine once (fun k => obs arg22 arg23 arg24 p ρ l (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k))
    (ρ.val % 1 * 16 + ρ.val / 1 / 128) ht (fun k hk hne => ?_) (P := fun a => Rep a.1 a.2.1 a.2.2 N D)
    (P' := fun a => Rep a.1 a.2.1 a.2.2 (N + wnum Q K V 1 ρ.val (128 * p.val + l.val)) (D + wden Q K 1 ρ.val ((128 * p.val + l.val) / 64))) (fun hrep => ?_) hrep
  · have hmiss : ∀ r, r < 128 → ρ.val ≠ 128 * (k % 16) + k / 16 + 1 * r := fun r hr e => hne (by
      have a1 : ρ.val / 1 = 128 * (k % 16) + r := by omega
      have a2 : ρ.val / 1 / 128 = k % 16 := by omega
      omega)
    have e := next3st (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k hk
    show obs _ _ _ p ρ l _ = obs _ _ _ p ρ l _
    rw [e]
    unfold obs
    have m1 := stores_miss (offs3_nat h k hk) arg22
    have m2 := stores_miss (offs3_nat h k hk) arg23
    have m3 := stores_miss (offs3_nat h k hk) arg24
    rw [m1 _ _ p l ρ hmiss, m2 _ _ p l ρ hmiss, m3 _ _ p l ρ hmiss]
  · obtain ⟨k, hk, hkk⟩ : ∃ k, k < 16 ∧ k = ρ.val % 1 * 16 + ρ.val / 1 / 128 := ⟨_, ht, rfl⟩
    rw [← hkk] at hpos ⊢
    rw [← hkk] at hrep
    have e := next3st (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k hk
    have key := step256 ins (offs3_nat h k hk) (tab3 h _ ⟨k, hk⟩) p ⟨ρ.val / 1 % 128, hr⟩ l
      (fun κ => tab3_at h _ hT k hk κ ⟨ρ.val / 1 % 128, hr⟩) (by rw [hpos]; exact ρ.isLt)
      (keys3 k _ hk hr) ρ (by show ρ.val = 128 * (k % 16) + k / 16 + 1 * (ρ.val / 1 % 128); omega)
      (arg22 := arg22) (arg23 := arg23) (arg24 := arg24) (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).1 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.1 (st3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) h k0 k1 X14 X15 X19 X20 X21 G22 G23 G24 k).2.2 hrep
    rw [hpos] at key
    show Rep (obs _ _ _ p ρ l _).1 (obs _ _ _ p ρ l _).2.1 (obs _ _ _ p ρ l _).2.2 _ _
    rw [e]
    exact (rep_obs ..).mpr key

end Cert.Proof.KernelIdeal

end
-- ==== Proof.AttnEpilogue.lean ====
module

public import proofs.«01_k».proof.Proof.AttnLists
public import proofs.«01_k».proof.Proof.AttnLoop

/-! # What the last kind of step writes to the output -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Attn

variable {F : FTy → Type} [FloatOps F] [Named F]

variable {c : Dev nD} {i : grid0.Coords}
  {arg2 : Memref sig .tc .vmem S1x1x2048x1024 .bf16} {harg2 : arg2.IsWhole}
  {arg3 : Memref sig .tc .vmem S1024x512 .f32} {harg3 : arg3.IsWhole}
  {arg4 : Memref sig .tc .vmem S1024x512 .f32} {harg4 : arg4.IsWhole}
  {arg5 : Memref sig .tc .vmem S1024x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x512 .f32} {harg9 : arg9.IsWhole}
  {arg10 : Memref sig .tc .vmem S1x512 .f32} {harg10 : arg10.IsWhole}
  {arg11 : Memref sig .tc .vmem S1x512 .f32} {harg11 : arg11.IsWhole}
  {arg12 : Memref sig .tc .vmem S1x512 .f32} {harg12 : arg12.IsWhole}
  {arg13 : Memref sig .tc .vmem S256x256 .bf16} {harg13 : arg13.IsWhole}
  {arg14 : Memref sig .tc .vmem S4x256x128 .bf16} {harg14 : arg14.IsWhole}
  {arg15 : Memref sig .tc .vmem S3x256x128 .bf16} {harg15 : arg15.IsWhole}
  {arg16 : Memref sig .tc .vmem S3x256x128 .bf16} {harg16 : arg16.IsWhole}
  {arg17 : Memref sig .tc .vmem S1x128x128 .bf16} {harg17 : arg17.IsWhole}
  {arg18 : Memref sig .tc .vmem S1x2048x512 .bf16} {harg18 : arg18.IsWhole}
  {arg19 : Memref sig .tc .vmem S2048x512 .bf16} {harg19 : arg19.IsWhole}
  {arg20 : Memref sig .tc .vmem S2048x512 .bf16} {harg20 : arg20.IsWhole}
  {arg21 : Memref sig .tc .vmem S2048x512 .bf16} {harg21 : arg21.IsWhole}
  {arg22 : Memref sig .tc .vmem S4x2048x128 .f32} {harg22 : arg22.IsWhole}
  {arg23 : Memref sig .tc .vmem S4x2048x128 .f32} {harg23 : arg23.IsWhole}
  {arg24 : Memref sig .tc .vmem S4x2048x128 .f32} {harg24 : arg24.IsWhole}

/-- A pair of heads' numerators over their denominators. -/
def quot (n d : Vec F S1x512x128 .f32) : FVec F S512x128 .f32 :=
  divf (shapeCast S512x128 n shapeCasts_S1x512x128_S512x128) (shapeCast S512x128 d shapeCasts_S1x512x128_S512x128)

/-- A chunk of the gated mixture. -/
def mixed (z : FVec F S512x512 .f32) (n d : Fin 4 → Vec F S1x512x128 .f32) : FVec F S1x512x512 .bf16 :=
  k0_pay6 z (quot (n 0) (d 0)) (n 1) (d 1) (n 2) (d 2) (n 3) (d 3)

theorem block_inb (p q : Fin 4) : ∀ a, (![p.val, 512 * q.val, 0] : Fin 3 → ℕ) a + S1x512x128.size a ≤ S4x2048x128.size a := by
  revert p q; decide
theorem out_inb (q : Fin 4) : ∀ a, (![0, 512 * q.val, 0] : Fin 3 → ℕ) a + S1x512x512.size a ≤ S1x2048x512.size a := by
  revert q; decide

/-- A chunk of an accumulator. -/
abbrev ablk (arg : Memref sig .tc .vmem S4x2048x128 .f32) (G : BufTy.Contents (Elt F) arg.view.ty) (q p : Fin 4) : Vec F S1x512x128 .f32 :=
  View.readAt (Elt F) arg.view (Rect.unit (s := S4x2048x128) ![p.val, 512 * q.val, 0] S1x512x128.size (block_inb p q)).toLoadRect G

/-- Four blocks of the output, the last one first. -/
def quad (W : Fin 4 → FVec F S1x512x512 .bf16) : List (View.Piece (Elt F) S1x2048x512 .bf16) :=
  [⟨Rect.unit (s := S1x2048x512) ![0, 1536, 0] S1x512x512.size (out_inb 3), W 3⟩, ⟨Rect.unit (s := S1x2048x512) ![0, 1024, 0] S1x512x512.size (out_inb 2), W 2⟩,
    ⟨Rect.unit (s := S1x2048x512) ![0, 512, 0] S1x512x512.size (out_inb 1), W 1⟩, ⟨Rect.unit (s := S1x2048x512) ![0, 0, 0] S1x512x512.size (out_inb 0), W 0⟩]

theorem out_list (k0_h1 : ¬ k0_cond1 i = 1#1) (k0_h2 : ¬ k0_cond2 i = 1#1) (k0_h3 : k0_cond3 i = 1#1) (k0_h4 : k0_cond4 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (f22 : BufTy.Contents (Elt F) arg22.view.ty) (f23 : BufTy.Contents (Elt F) arg23.view.ty) (f24 : BufTy.Contents (Elt F) arg24.view.ty) :
    (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).2.2.2.1 f22 f23 f24 = quad fun q => mixed (proj (xblk arg2 X2 q) (wblk arg9 X9) (bblk arg10 X10))
      (ablk arg22 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 0#32 1#32 X14 X15 (arg19.view.writes (Elt F) arg19.view.junk (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).1) (arg20.view.writes (Elt F) arg20.view.junk (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).2.1) (arg21.view.writes (Elt F) arg21.view.junk (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).2.2.1) f22 f23 f24 k0_t3_loop.trips).1 q) (ablk arg24 (st3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 0#32 1#32 X14 X15 (arg19.view.writes (Elt F) arg19.view.junk (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).1) (arg20.view.writes (Elt F) arg20.view.junk (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).2.1) (arg21.view.writes (Elt F) arg21.view.junk (run3 (F := F) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).2.2.1) f22 f23 f24 k0_t3_loop.trips).2.2 q) := by
  unfold run3
  dsimp only
  rfl

/-! ## The chunks, element by element -/

theorem quad_at (arg : Memref sig .tc .vmem S1x2048x512 .bf16) (f : BufTy.Contents (Elt Ideal) arg.view.ty) (W : Fin 4 → FVec Ideal S1x512x512 .bf16)
    (ρ : Fin 2048) (c : Fin 512) (q : Fin 4) (r : Fin 512) (h : ρ.val = 512 * q.val + r.val) :
    arg.view.read (Elt Ideal) (arg.view.writes (Elt Ideal) f (quad W)) (ix3 0 ρ c) = W q (ix3 0 r c) := by
  have hr := r.isLt
  have hit : ∀ (o : ℕ) (inb : ∀ a, (![0, o, 0] : Fin 3 → ℕ) a + S1x512x512.size a ≤ S1x2048x512.size a) (w : FVec Ideal S1x512x512 .bf16) L, ρ.val = o + r.val →
      arg.view.read (Elt Ideal) (arg.view.writes (Elt Ideal) f (⟨Rect.unit (s := S1x2048x512) ![0, o, 0] S1x512x512.size inb, w⟩ :: L)) (ix3 0 ρ c) = w (ix3 0 r c) :=
    fun o inb w L ho => View.read_writes_cons_unit_of_mem arg.view f inb w L (ix3 0 ρ c) (ix3 0 r c) rfl fun a => by
      match a with
      | 0 => rfl
      | 1 => exact ho
      | 2 => exact (Nat.zero_add _).symm
  have miss : ∀ (o : ℕ) (inb : ∀ a, (![0, o, 0] : Fin 3 → ℕ) a + S1x512x512.size a ≤ S1x2048x512.size a) (w : FVec Ideal S1x512x512 .bf16) L, ρ.val < o →
      arg.view.read (Elt Ideal) (arg.view.writes (Elt Ideal) f (⟨Rect.unit (s := S1x2048x512) ![0, o, 0] S1x512x512.size inb, w⟩ :: L)) (ix3 0 ρ c)
        = arg.view.read (Elt Ideal) (arg.view.writes (Elt Ideal) f L) (ix3 0 ρ c) :=
    fun o inb w L ho => View.read_writes_cons_unit_of_not_mem arg.view f inb w L (ix3 0 ρ c) rfl 1 (Or.inl ho)
  unfold quad
  match q with
  | 3 => exact hit 1536 _ _ _ h
  | 2 => rw [miss 1536 _ _ _ (by change ρ.val = 512 * 2 + r.val at h; omega)]; exact hit 1024 _ _ _ h
  | 1 =>
    change ρ.val = 512 * 1 + r.val at h
    rw [miss 1536 _ _ _ (by omega), miss 1024 _ _ _ (by omega)]; exact hit 512 _ _ _ h
  | 0 =>
    change ρ.val = 512 * 0 + r.val at h
    rw [miss 1536 _ _ _ (by omega), miss 1024 _ _ _ (by omega), miss 512 _ _ _ (by omega)]; exact hit 0 _ _ _ h

theorem ablk_at (arg : Memref sig .tc .vmem S4x2048x128 .f32) (G : BufTy.Contents (Elt Ideal) arg.view.ty) (q p : Fin 4) (r : Fin 512) (l : Fin 128)
    (ρ : Fin 2048) (h : ρ.val = 512 * q.val + r.val) : ablk arg G q p (ix3 0 r l) = arg.view.read (Elt Ideal) G (ix3 p ρ l) := by
  refine congrArg (arg.view.read (Elt Ideal) G) (funext fun a => Fin.ext ?_)
  match a with
  | 0 => show p.val + 1 * 0 = p.val; omega
  | 1 => show 512 * q.val + 1 * r.val = ρ.val; omega
  | 2 => show 0 + 1 * l.val = l.val; omega

theorem mixed_at (z : FVec Ideal S512x512 .f32) (n d : Fin 4 → Vec Ideal S1x512x128 .f32) (r c : Fin 512) (Z : ℝ) (T : ℕ → ℝ)
    (hz : z (ix2 r c) = (Z : EReal)) (hT : ∀ (p : Fin 4) (l : Fin 128), Ideal.div (n p (ix3 0 r l)) (d p (ix3 0 r l)) = ((T (128 * p.val + l.val) : ℝ) : EReal)) :
    mixed z n d (ix3 0 r c) = ((T c.val * (Z * (1 + Real.exp (-Z))⁻¹) : ℝ) : EReal) := by
  have hc := c.isLt
  have key : ∀ (p : Fin 4) (l : Fin 128), 128 * p.val + l.val = c.val → Ideal.div (n p (ix3 0 r l)) (d p (ix3 0 r l)) = ((T c.val : ℝ) : EReal) :=
    fun p l e => (hT p l).trans (by rw [e])
  pointwise [mixed, k0_pay6, quot]
  rw [hz, Ideal.logistic_coe, ← EReal.coe_mul, EReal.coe_mul (T c.val)]
  congr 1
  split_ifs <;> first
    | exact key 0 ⟨c.val, by omega⟩ (by show 128 * 0 + c.val = c.val; omega)
    | exact key 1 ⟨c.val - 128, by omega⟩ (by show 128 * 1 + (c.val - 128) = c.val; omega)
    | exact key 2 ⟨c.val - 128 - 128, by omega⟩ (by show 128 * 2 + (c.val - 128 - 128) = c.val; omega)
    | exact key 3 ⟨c.val - 128 - 128 - 128, by omega⟩ (by show 128 * 3 + (c.val - 128 - 128 - 128) = c.val; omega)

/-- WHAT IS WRITTEN to the output: the gated mixture of the three groups. -/
theorem out_value (k0_h1 : ¬ k0_cond1 i = 1#1) (k0_h2 : ¬ k0_cond2 i = 1#1) (k0_h3 : k0_cond3 i = 1#1) (k0_h4 : k0_cond4 i = 1#1) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) {A : Row}
    (W : Wins 1 0 A X2 X3 X4 X5 X6 X7 X8 X11 X12 X13)
    (hw : ∀ (k : Fin 1024) (c : Fin 512), arg9.view.read (Elt Ideal) X9 (ix2 k c) = ((A.w k (7680 + c.val) : ℝ) : EReal))
    (hb : ∀ c : Fin 512, arg10.view.read (Elt Ideal) X10 (ix2 0 c) = ((A.b (7680 + c.val) : ℝ) : EReal))
    (hsl : ∀ (p : Fin 4) (a : Fin 256) (x : Fin 128),
      arg14.view.read (Elt Ideal) X14 (ix3 p a x) = if a.val % 128 = x.val then ((slope (2 * p.val + a.val / 128) : ℝ) : EReal) else 0)
    (hT : ∀ (q : Fin 3) (κ : Fin 256) (x : Fin 128), arg15.view.read (Elt Ideal) X15 (ix3 q κ x) = ((-(((1 : ℕ) : ℝ) * |(x.val : ℝ) + 64 * (q.val : ℝ) - (κ.val : ℝ)|) : ℝ) : EReal))
    (f18 : BufTy.Contents (Elt Ideal) arg18.view.ty) (f22 : BufTy.Contents (Elt Ideal) arg22.view.ty) (f23 : BufTy.Contents (Elt Ideal) arg23.view.ty) (f24 : BufTy.Contents (Elt Ideal) arg24.view.ty)
    (hrep : ∀ (p : Fin 4) (ρ : Fin 2048) (l : Fin 128),
      Rep (arg22.view.read (Elt Ideal) f22 (ix3 p ρ l)) (arg23.view.read (Elt Ideal) f23 (ix3 p ρ l)) (arg24.view.read (Elt Ideal) f24 (ix3 p ρ l))
        (A.top 2 16 ρ.val (128 * p.val + l.val) + A.top 1 4 ρ.val (128 * p.val + l.val))
        (A.bot 2 16 ρ.val ((128 * p.val + l.val) / 64) + A.bot 1 4 ρ.val ((128 * p.val + l.val) / 64)))
    (ρ : Fin 2048) (c' : Fin 512) :
    arg18.view.read (Elt Ideal) (arg18.view.writes (Elt Ideal) f18 ((run3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15).2.2.2.1 f22 f23 f24)) (ix3 0 ρ c') = ((A.out ρ.val c'.val : ℝ) : EReal) := by
  have hq : ρ.val = 512 * (⟨ρ.val / 512, by omega⟩ : Fin 4).val + (⟨ρ.val % 512, by omega⟩ : Fin 512).val := by
    show ρ.val = 512 * (ρ.val / 512) + ρ.val % 512; omega
  rw [out_list (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15 f22 f23 f24]
  refine (quad_at arg18 f18 _ ρ c' _ _ hq).trans ?_
  refine mixed_at _ _ _ _ c' (A.lin ρ.val (7680 + c'.val)) (fun n => (A.top 2 16 ρ.val n + A.top 1 4 ρ.val n + A.top 0 1 ρ.val n) / (A.bot 2 16 ρ.val (n / 64) + A.bot 1 4 ρ.val (n / 64) + A.bot 0 1 ρ.val (n / 64))) ?_ ?_
  · refine proj_at _ _ _ A ρ.val 7680 _ c' (fun k => ?_) (fun k => (wblk_at arg9 X9 k c').trans (hw k c')) ((bblk_at arg10 X10 c').trans (hb c'))
    refine (xblk_at arg2 X2 _ _ k ρ hq).trans ((W.x ρ k).trans ?_)
    rw [show nat 1 ρ.val = ρ.val from by unfold nat; omega]
  · intro p l
    rw [ablk_at arg22 _ _ p _ l ρ hq, ablk_at arg24 _ _ p _ l ρ hq]
    exact rep_div (over3 (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h3 0#32 1#32 X14 X15 _ _ _ f22 f23 f24 hT
      (scr_of W _ _ _ hsl (q_list3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15) (k_list3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15) (v_list3 (F := Ideal) (c := c) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) (harg23 := harg23) (harg24 := harg24) k0_h1 k0_h2 k0_h3 k0_h4 X2 X3 X4 X5 X6 X7 X8 X9 X10 X11 X12 X13 X14 X15)) p ρ l (hrep p ρ l))
      (add_pos (add_pos (wden_pos _ _ _ _ _ ρ.isLt) (wden_pos _ _ _ _ _ ρ.isLt)) (wden_pos _ _ _ _ _ ρ.isLt))

end Cert.Proof.KernelIdeal

end
-- ==== Proof.AttnPoints.lean ====
module

public import proofs.«01_k».proof.Proof.AttnPre
public import proofs.«01_k».proof.Proof.AttnHost
public import proofs.«01_k».proof.Proof.AttnEpilogue
public import proofs.«01_k».proof.Proof.KernelIdealFrame
public import Idealize.ShloMosaic.Lib.Pipeline.ValueKit

/-! # The attention call's result

What the three points of a batch row leave in the accumulators and in the row's block of the result.
-/

@[expose] public section

set_option maxRecDepth 16384

noncomputable section

namespace Cert.Proof.KernelIdeal

open Idealize Idealize.ShloMosaic Idealize.ShloMosaic.TcCoe Idealize.SL Idealize.SL.Sem
open Cert.KernelIdeal Cert.KernelIdeal.Gen
open Cert.Proof.Attn

variable (m : (ℓ : Loc nD τ sig) → Buf (Elt Ideal) ℓ)

/-- The real arguments of batch row `b`. -/
def row (c : Dev nD) (b : Fin 16) : Row where
  x i k := if h : i < 2048 then EReal.toReal (m ((c : Thread nD τ).loc main_arg0) (ix3 b ⟨i, h⟩ k)) else 0
  w k n := if h : n < 10240 then EReal.toReal (m ((c : Thread nD τ).loc main_arg1) (ix2 k ⟨n, h⟩)) else 0
  b n := if h : n < 10240 then EReal.toReal (m ((c : Thread nD τ).loc main_arg2) (ix1 ⟨n, h⟩)) else 0
  gq e := if h : e < 64 then EReal.toReal (m ((c : Thread nD τ).loc main_arg3) (ix1 ⟨e, h⟩)) else 0
  gk e := if h : e < 64 then EReal.toReal (m ((c : Thread nD τ).loc main_arg4) (ix1 ⟨e, h⟩)) else 0

/-- The arguments read the rows' real numbers. -/
structure Args (c : Dev nD) (b : Fin 16) (A : Row) : Prop where
  x : ∀ (i : Fin 2048) (k : Fin 1024), m ((c : Thread nD τ).loc main_arg0) (ix3 b i k) = ((A.x i.val k : ℝ) : EReal)
  w : ∀ (k : Fin 1024) (n : Fin 10240), m ((c : Thread nD τ).loc main_arg1) (ix2 k n) = ((A.w k n.val : ℝ) : EReal)
  b : ∀ n : Fin 10240, m ((c : Thread nD τ).loc main_arg2) (ix1 n) = ((A.b n.val : ℝ) : EReal)
  gq : ∀ e : Fin 64, m ((c : Thread nD τ).loc main_arg3) (ix1 e) = ((A.gq e.val : ℝ) : EReal)
  gk : ∀ e : Fin 64, m ((c : Thread nD τ).loc main_arg4) (ix1 e) = ((A.gk e.val : ℝ) : EReal)

theorem args_row (c : Dev nD) (b : Fin 16)
    (h : Cert.Pre_finite.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun _ => 1#1) : Args m c b (row m c b) := by
  obtain ⟨e0, e1, e2, e3, e4⟩ := finite_real _ _ _ _ _ h
  refine ⟨fun i k => (e0 (ix3 b i k)).trans ?_, fun k n => (e1 (ix2 k n)).trans ?_, fun n => (e2 (ix1 n)).trans ?_,
    fun e => (e3 (ix1 e)).trans ?_, fun e => (e4 (ix1 e)).trans ?_⟩ <;> refine congrArg _ ?_ <;> symm
  · exact dif_pos i.isLt
  · exact dif_pos n.isLt
  · exact dif_pos n.isLt
  · exact dif_pos e.isLt
  · exact dif_pos e.isLt

variable {m} {c : Dev nD} {b : Fin 16} {A : Row} (R : Args m c b A) (t : Fin cfg0.N)

include R

/-- What the windows of a point hold. -/
theorem wins_of {d g : ℕ} (hd : d = 1 ∨ d = 4 ∨ d = 16) (hg : t.val % 3 + g = 2)
    (hx : ∀ (ρ : Fin 2048) (k : Fin 1024), iblk m c 0 t (ix4 0 0 ρ k) = m ((c : Thread nD τ).loc main_arg0) (ix3 b ⟨nat d ρ.val, nat_lt hd ρ⟩ k)) :
    Wins d g A (x0 m c t) (x1 m c t) (x2 m c t) (x3 m c t) (x4 m c t) (x5 m c t) (x6 m c t) (x9 m c t) (x10 m c t) (x11 m c t) where
  x ρ k := (congrFun ((h0 t).read_unread _) _).trans ((hx ρ k).trans (R.x _ k))
  wq k l := (congrFun ((h1 t).read_unread _) _).trans ((weight_0 m c t k l ⟨3072 + 512 * g + l.val, by omega⟩ (by show 3072 + 512 * g + l.val = _; omega)).trans (R.w k _))
  wk k l := (congrFun ((h2 t).read_unread _) _).trans ((weight_1 m c t k l ⟨4608 + 512 * g + l.val, by omega⟩ (by show 4608 + 512 * g + l.val = _; omega)).trans (R.w k _))
  wv k l := (congrFun ((h3 t).read_unread _) _).trans ((weight_2 m c t k l ⟨6144 + 512 * g + l.val, by omega⟩ (by show 6144 + 512 * g + l.val = _; omega)).trans (R.w k _))
  bq l := (congrFun ((h4 t).read_unread _) _).trans ((bias_0 m c t l ⟨3072 + 512 * g + l.val, by omega⟩ (by show 3072 + 512 * g + l.val = _; omega)).trans (R.b _))
  bk l := (congrFun ((h5 t).read_unread _) _).trans ((bias_1 m c t l ⟨4608 + 512 * g + l.val, by omega⟩ (by show 4608 + 512 * g + l.val = _; omega)).trans (R.b _))
  bv l := (congrFun ((h6 t).read_unread _) _).trans ((bias_2 m c t l ⟨6144 + 512 * g + l.val, by omega⟩ (by show 6144 + 512 * g + l.val = _; omega)).trans (R.b _))
  gq l := (congrFun ((h9 t).read_unread _) _).trans ((gain_q m c t l).trans (R.gq _))
  gk l := (congrFun ((h10 t).read_unread _) _).trans ((gain_k m c t l).trans (R.gk _))
  hs a b := (congrFun ((h11 t).read_unread _) _).trans (ones_at m c t a b)

theorem wins_1 (hb : b.val = t.val / 3) (h : t.val % 3 = 0) :
    Wins 16 2 A (x0 m c t) (x1 m c t) (x2 m c t) (x3 m c t) (x4 m c t) (x5 m c t) (x6 m c t) (x9 m c t) (x10 m c t) (x11 m c t) :=
  wins_of R t (by decide) (by omega) (rows_0 m c t b hb h)
theorem wins_2 (hb : b.val = t.val / 3) (h : t.val % 3 = 1) :
    Wins 4 1 A (x0 m c t) (x1 m c t) (x2 m c t) (x3 m c t) (x4 m c t) (x5 m c t) (x6 m c t) (x9 m c t) (x10 m c t) (x11 m c t) :=
  wins_of R t (by decide) (by omega) (rows_1 m c t b hb h)
theorem wins_3 (hb : b.val = t.val / 3) (h : t.val % 3 = 2) :
    Wins 1 0 A (x0 m c t) (x1 m c t) (x2 m c t) (x3 m c t) (x4 m c t) (x5 m c t) (x6 m c t) (x9 m c t) (x10 m c t) (x11 m c t) :=
  wins_of R t (by decide) (by omega) (rows_2 m c t b hb h)

omit R in
theorem slopes_of (p : Fin 4) (a : Fin 256) (x : Fin 128) :
    (a12 t).view.read (Elt Ideal) (x12 m c t) (ix3 p a x) = if a.val % 128 = x.val then ((slope (2 * p.val + a.val / 128) : ℝ) : EReal) else 0 :=
  (congrFun ((h12 t).read_unread _) _).trans (slope_at m c t p a x)

/-- The accumulators after the first group's point. -/
theorem after_1 (hb : b.val = t.val / 3) (h : t.val % 3 = 0) (g1 : C1 (grid0.coords t)) (G : Acc Ideal) (p : Fin 4) (ρ : Fin 2048) (l : Fin 128) :
    Rep (S3.view.read (Elt Ideal) (next1 m c t g1 G).1 (ix3 p ρ l)) (S4.view.read (Elt Ideal) (next1 m c t g1 G).2.1 (ix3 p ρ l))
      (S5.view.read (Elt Ideal) (next1 m c t g1 G).2.2 (ix3 p ρ l)) (A.top 2 16 ρ.val (128 * p.val + l.val)) (A.bot 2 16 ρ.val ((128 * p.val + l.val) / 64)) :=
  over1 (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g1.1 0#32 1#32 (x12 m c t) (x15 m c t) _ _ _ G.1 G.2.1 G.2.2
    (fun q κ x => (congrFun ((h15 t).read_unread _) _).trans (table_16 m c t q κ x))
    (scr_of (wins_1 R t hb h) _ _ _ (slopes_of t)
      (q_list1 (F := Ideal) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g1.1 g1.2.1 g1.2.2.1 g1.2.2.2 (x0 m c t) (x1 m c t) (x2 m c t) (x3 m c t) (x4 m c t) (x5 m c t) (x6 m c t) (x9 m c t) (x10 m c t) (x11 m c t) (x12 m c t) (x15 m c t))
      (k_list1 (F := Ideal) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g1.1 g1.2.1 g1.2.2.1 g1.2.2.2 (x0 m c t) (x1 m c t) (x2 m c t) (x3 m c t) (x4 m c t) (x5 m c t) (x6 m c t) (x9 m c t) (x10 m c t) (x11 m c t) (x12 m c t) (x15 m c t))
      (v_list1 (F := Ideal) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g1.1 g1.2.1 g1.2.2.1 g1.2.2.2 (x0 m c t) (x1 m c t) (x2 m c t) (x3 m c t) (x4 m c t) (x5 m c t) (x6 m c t) (x9 m c t) (x10 m c t) (x11 m c t) (x12 m c t) (x15 m c t))) p ρ l

/-- The accumulators after the second group's point. -/
theorem after_2 (hb : b.val = t.val / 3) (h : t.val % 3 = 1) (g2 : C2 (grid0.coords t)) (G : Acc Ideal) (p : Fin 4) (ρ : Fin 2048) (l : Fin 128) {N D : ℝ}
    (hrep : Rep (S3.view.read (Elt Ideal) G.1 (ix3 p ρ l)) (S4.view.read (Elt Ideal) G.2.1 (ix3 p ρ l)) (S5.view.read (Elt Ideal) G.2.2 (ix3 p ρ l)) N D) :
    Rep (S3.view.read (Elt Ideal) (next2 m c t g2 G).1 (ix3 p ρ l)) (S4.view.read (Elt Ideal) (next2 m c t g2 G).2.1 (ix3 p ρ l))
      (S5.view.read (Elt Ideal) (next2 m c t g2 G).2.2 (ix3 p ρ l)) (N + A.top 1 4 ρ.val (128 * p.val + l.val)) (D + A.bot 1 4 ρ.val ((128 * p.val + l.val) / 64)) :=
  over2 (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g2.2.1 0#32 1#32 (x12 m c t) (x14 m c t) _ _ _ G.1 G.2.1 G.2.2
    (fun q κ x => (congrFun ((h14 t).read_unread _) _).trans (table_4 m c t q κ x))
    (scr_of (wins_2 R t hb h) _ _ _ (slopes_of t)
      (q_list2 (F := Ideal) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g2.1 g2.2.1 g2.2.2.1 g2.2.2.2 (x0 m c t) (x1 m c t) (x2 m c t) (x3 m c t) (x4 m c t) (x5 m c t) (x6 m c t) (x9 m c t) (x10 m c t) (x11 m c t) (x12 m c t) (x14 m c t))
      (k_list2 (F := Ideal) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g2.1 g2.2.1 g2.2.2.1 g2.2.2.2 (x0 m c t) (x1 m c t) (x2 m c t) (x3 m c t) (x4 m c t) (x5 m c t) (x6 m c t) (x9 m c t) (x10 m c t) (x11 m c t) (x12 m c t) (x14 m c t))
      (v_list2 (F := Ideal) (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g2.1 g2.2.1 g2.2.2.1 g2.2.2.2 (x0 m c t) (x1 m c t) (x2 m c t) (x3 m c t) (x4 m c t) (x5 m c t) (x6 m c t) (x9 m c t) (x10 m c t) (x11 m c t) (x12 m c t) (x14 m c t))) p ρ l hrep

/-- The block of the result that the third group's point writes. -/
theorem written_3 (hb : b.val = t.val / 3) (h : t.val % 3 = 2) (g3 : C3 (grid0.coords t)) (G : Acc Ideal) (f : BufTy.Contents (Elt Ideal) (a16 t).view.ty)
    (hrep : ∀ (p : Fin 4) (ρ : Fin 2048) (l : Fin 128),
      Rep (S3.view.read (Elt Ideal) G.1 (ix3 p ρ l)) (S4.view.read (Elt Ideal) G.2.1 (ix3 p ρ l)) (S5.view.read (Elt Ideal) G.2.2 (ix3 p ρ l))
        (A.top 2 16 ρ.val (128 * p.val + l.val) + A.top 1 4 ρ.val (128 * p.val + l.val))
        (A.bot 2 16 ρ.val ((128 * p.val + l.val) / 64) + A.bot 1 4 ρ.val ((128 * p.val + l.val) / 64))) (ρ : Fin 2048) (l : Fin 512) :
    (a16 t).view.read (Elt Ideal) ((a16 t).view.writes (Elt Ideal) f ((r3 m c t g3).2.2.2.1 G.1 G.2.1 G.2.2)) (ix3 0 ρ l) = ((A.out ρ.val l.val : ℝ) : EReal) :=
  out_value (c := c) (i := grid0.coords t) (harg2 := h0 t) (harg3 := h1 t) (harg4 := h2 t) (harg5 := h3 t) (harg6 := h4 t) (harg7 := h5 t) (harg8 := h6 t) (harg9 := h7 t) (harg10 := h8 t) (harg11 := h9 t) (harg12 := h10 t) (harg13 := h11 t) (harg14 := h12 t) (harg15 := h13 t) (harg16 := h14 t) (harg17 := h15 t) (harg18 := h16 t) (harg19 := Memref.isWhole_whole _) (harg20 := Memref.isWhole_whole _) (harg21 := Memref.isWhole_whole _) (harg22 := Memref.isWhole_whole _) (harg23 := Memref.isWhole_whole _) (harg24 := Memref.isWhole_whole _) g3.1 g3.2.1 g3.2.2.1 g3.2.2.2 (x0 m c t) (x1 m c t) (x2 m c t) (x3 m c t) (x4 m c t) (x5 m c t) (x6 m c t) (x7 m c t) (x8 m c t) (x9 m c t) (x10 m c t) (x11 m c t) (x12 m c t) (x13 m c t) (wins_3 R t hb h)
    (fun k l => (congrFun ((h7 t).read_unread _) _).trans ((weight_gate m c t k l ⟨7680 + l.val, by omega⟩ rfl).trans (R.w k _)))
    (fun l => (congrFun ((h8 t).read_unread _) _).trans ((bias_gate m c t l ⟨7680 + l.val, by omega⟩ rfl).trans (R.b _)))
    (slopes_of t) (fun q κ x => (congrFun ((h13 t).read_unread _) _).trans (table_1 m c t q κ x)) f G.1 G.2.1 G.2.2 hrep ρ l

omit R in
theorem reach_succ {k : ℕ} {G : Acc Ideal} (hR : Reach m c (k + 1) G) : ∃ (s : Fin cfg0.N) (G' : Acc Ideal), s.val = k ∧ Reach m c k G' ∧ G = next m c s G' := by
  unfold Reach at hR
  obtain ⟨hk, G', h, e⟩ := hR
  exact ⟨⟨k, hk⟩, G', rfl, h, e⟩

omit R in
/-- What the accumulators hold before the third point of a row. -/
theorem reach_3 {k : ℕ} {G : Acc Ideal} (hR : Reach m c (k + 1 + 1) G) : ∃ (t1 t0 : Fin cfg0.N) (G0 : Acc Ideal), t1.val = k + 1 ∧ t0.val = k ∧
    G = next m c t1 (next m c t0 G0) := by
  obtain ⟨t1, G1, h1, hR1, e1⟩ := reach_succ hR
  obtain ⟨t0, G0, h0, _, e0⟩ := reach_succ hR1
  exact ⟨t1, t0, G0, h1, h0, e0 ▸ e1⟩

omit R in
theorem kind_1 (h : t.val % 3 = 0) : C1 (grid0.coords t) := by
  rcases C_cases t with ⟨q, _⟩ | ⟨_, q⟩ | ⟨_, q⟩
  · exact q
  · omega
  · omega

omit R in
theorem kind_2 (h : t.val % 3 = 1) : C2 (grid0.coords t) := by
  rcases C_cases t with ⟨_, q⟩ | ⟨q, _⟩ | ⟨_, q⟩
  · omega
  · exact q
  · omega

omit R in
theorem kind_3 (g3 : C3 (grid0.coords t)) : t.val % 3 = 2 := by
  rcases C_cases t with ⟨h, _⟩ | ⟨h, _⟩ | ⟨_, h⟩
  · exact absurd h.1 g3.1
  · exact absurd h.2.1 g3.2.1
  · exact h

/-- The accumulators before the third point of a row. -/
theorem before_3 (hb : b.val = t.val / 3) (h : t.val % 3 = 2) (G : Acc Ideal) (hR : Reach m c t.val G) (p : Fin 4) (ρ : Fin 2048) (l : Fin 128) :
    Rep (S3.view.read (Elt Ideal) G.1 (ix3 p ρ l)) (S4.view.read (Elt Ideal) G.2.1 (ix3 p ρ l)) (S5.view.read (Elt Ideal) G.2.2 (ix3 p ρ l))
      (A.top 2 16 ρ.val (128 * p.val + l.val) + A.top 1 4 ρ.val (128 * p.val + l.val))
      (A.bot 2 16 ρ.val ((128 * p.val + l.val) / 64) + A.bot 1 4 ρ.val ((128 * p.val + l.val) / 64)) := by
  have hk : t.val = t.val - 2 + 1 + 1 := by omega
  rw [hk] at hR
  obtain ⟨t1, t0, G0, h1, h0, e⟩ := reach_3 hR
  have q1 : C2 (grid0.coords t1) := kind_2 t1 (by omega)
  have q0 : C1 (grid0.coords t0) := kind_1 t0 (by omega)
  have e' : G = next2 m c t1 q1 (next1 m c t0 q0 G0) :=
    e.trans ((congrArg (next m c t1) (next_C1 m c t0 q0 G0)).trans (next_C2 m c t1 q1 _))
  have a1 := after_1 R t0 (by omega) (by omega) q0 G0 p ρ l
  have a2 := after_2 R t1 (by omega) (by omega) q1 (next1 m c t0 q0 G0) p ρ l a1
  rwa [← e'] at a2

/-- WHATEVER a third point may leave in the result's block is the row's gated mixture. -/
theorem left_value (hb : b.val = t.val / 3) (g3 : C3 (grid0.coords t)) (X Y : Vec Ideal S1x2048x512 .bf16) (hL : Left m c t X Y)
    (ρ : Fin 2048) (l : Fin 512) : Y (ix3 0 ρ l) = ((A.out ρ.val l.val : ℝ) : EReal) := by
  obtain ⟨G, f, hR, e⟩ := hL.2 g3
  exact (congrFun e _).trans (written_3 R t hb (kind_3 t g3) g3 G f (before_3 R t hb (kind_3 t g3) G hR) ρ l)

end Cert.Proof.KernelIdeal

end
-- ==== Proof.AttnResult.lean ====
module

public import proofs.«01_k».proof.Proof.AttnPoints

/-! # The array the attention call leaves

With finite arguments it is the gated mixture, element by element.
-/

@[expose] public section

set_option maxRecDepth 16384

noncomputable section

namespace Cert.Proof.KernelIdeal

open Idealize Idealize.ShloMosaic Idealize.ShloMosaic.TcCoe Idealize.SL Idealize.SL.Sem

section Run

open Cert.KernelIdeal Cert.KernelIdeal.Gen

variable (m : (ℓ : Loc nD τ sig) → Buf (Elt Ideal) ℓ)

theorem index_16 : ∀ t : Fin cfg0.N, win0_16.index t 0 = t.val / 3 ∧ win0_16.index t 1 = 0 ∧ win0_16.index t 2 = 0 :=
  (by decide +kernel : ∀ t : Fin grid0.N, _)

/-- The result's array after the run, from a value for its blocks. -/
theorem result_array (c : Dev nD) (val : Fin 16 → Fin 2048 → Fin 512 → EReal) (OUT : Dev nD → Fin cfg0.N → Vec Ideal S1x2048x512 .bf16)
    (hO : ∀ (t : Fin cfg0.N) (b : Fin 16) (ρ : Fin 2048) (l : Fin 512), b.val = t.val / 3 → OUT c t (ix3 0 ρ l) = val b ρ l) :
    (dat m OUT c).arrAt 16 cfg0.N = (fun i => val (i 0) (i 1) (i 2) : Buf (Elt Ideal) ((c : Thread nD τ).loc main_v75)) := by
  refine (dat m OUT c).arrAt_eq_of_covers 16 _ (by decide +kernel) fun t hf y => ?_
  rw [after0_16]
  have hi := index_16 t
  have hy0 : (y 0).val < 1 := (y 0).isLt
  have hy1 : (y 1).val < 2048 := (y 1).isLt
  have hy2 : (y 2).val < 512 := (y 2).isLt
  have e0 : (((cfg0.win 16).blk t).view.emb y (0 : Fin 3)).val = win0_16.index t 0 * 1 + 1 * (y 0).val := rfl
  have e1 : (((cfg0.win 16).blk t).view.emb y (1 : Fin 3)).val = win0_16.index t 1 * 2048 + 1 * (y 1).val := rfl
  have e2 : (((cfg0.win 16).blk t).view.emb y (2 : Fin 3)).val = win0_16.index t 2 * 512 + 1 * (y 2).val := rfl
  have ey : (cfg0.win 16).xinj (cfg0.grid.coords t) y = (ix3 0 ⟨(y 1).val, hy1⟩ ⟨(y 2).val, hy2⟩ : S1x2048x512.Idx) := by
    funext a
    apply Fin.ext
    match a with
    | ⟨0, _⟩ => show (y 0).val = 0; omega
    | ⟨1, _⟩ => rfl
    | ⟨2, _⟩ => rfl
  have f1 : (((cfg0.win 16).blk t).view.emb y (1 : Fin 3)) = (⟨(y 1).val, hy1⟩ : Fin 2048) := Fin.ext (by rw [e1]; show _ = (y 1).val; rw [hi.2.1]; omega)
  have f2 : (((cfg0.win 16).blk t).view.emb y (2 : Fin 3)) = (⟨(y 2).val, hy2⟩ : Fin 512) := Fin.ext (by rw [e2]; show _ = (y 2).val; rw [hi.2.2]; omega)
  show OUT c t ((cfg0.win 16).xinj (cfg0.grid.coords t) y) = _
  rw [ey, hO t (((cfg0.win 16).blk t).view.emb y (0 : Fin 3)) _ _ (by rw [e0, hi.1]; omega)]
  exact congrArg₂ (val _) f1.symm f2.symm

/-- The batch row of a point. -/
def rowOf (t : Fin cfg0.N) : Fin 16 := ⟨t.val / 3 % 16, Nat.mod_lt _ (by decide)⟩

theorem rowOf_val : ∀ t : Fin cfg0.N, (rowOf t).val = t.val / 3 :=
  (by decide +kernel : ∀ t : Fin grid0.N, _)

/-- The gated mixture of a batch row, an element of it. -/
def mixture (c : Dev nD) (b : Fin 16) (ρ : Fin 2048) (l : Fin 512) : EReal := (((row m c b).out ρ.val l.val : ℝ) : EReal)

/-- The result's block that a row's last point leaves. -/
def blockOut (c : Dev nD) (t : Fin cfg0.N) : Vec Ideal S1x2048x512 .bf16 := fun y => mixture m c (rowOf t) (y 1) (y 2)

/-- The result. -/
def result (c : Dev nD) : Buf (Elt Ideal) ((c : Thread nD τ).loc main_v75) := fun i => mixture m c (i 0) (i 1) (i 2)

theorem result_eq (c : Dev nD) : (dat m (blockOut m) c).arrAt 16 cfg0.N = result m c :=
  result_array m c (mixture m c) (blockOut m) fun t b ρ l hb => by
    have e : rowOf t = b := Fin.ext ((rowOf_val t).trans hb.symm)
    show mixture m c (rowOf t) ρ l = mixture m c b ρ l
    rw [e]

/-- With finite arguments the program leaves the mixture in the result, the arguments as they were. -/
theorem run_mixture (ρ : Dev nD → PrngReg)
    (hfin : ∀ c : Dev nD, Cert.Pre_finite.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun _ => 1#1) :
    θ_run defs (onTc (τ := τ) (main (F := Ideal))) ⟨m, fun _ => 0, ρ⟩ fun r => ∀ c : Dev nD,
      r.2.mem ((c.tc : Thread nD τ).loc main_v75) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hOUT : ∀ c t X Y, C3 (grid0.coords t) → Left m c t X Y → Y = blockOut m c t := fun c t X Y h3 hL => by
    funext y
    obtain ⟨u, ρ, l, rfl⟩ : ∃ (u : Fin 1) (ρ : Fin 2048) (l : Fin 512), y = ix3 u ρ l := ⟨y 0, y 1, y 2, eq_ix3 y⟩
    obtain rfl : u = 0 := Subsingleton.elim _ _
    exact left_value (args_row m c (rowOf t) (hfin c)) t (rowOf_val t) h3 X Y hL ρ l
  refine (θ_run defs _ _).mono (fun r h c => ?_) (run_value m ρ (blockOut m) hOUT)
  exact ⟨((h.1 c).1 16).trans (result_eq m c),
    ((h.1 c).2 main_arg0 (Pipeline.mem_restRefs_of main_arg0 (by decide) (by decide))).trans (V_main_arg0 m c),
    ((h.1 c).1 7).trans (((dat m (blockOut m) c).arrAt_in 7 rfl _).trans ((A_eq m (blockOut m) c 7).trans (V_main_arg1 m c))),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩

end Run

end Cert.Proof.KernelIdeal

end
-- ==== Proof.AttnRef.lean ====
module

public import proofs.«01_k».proof.Proof.AttnModel
public import proofs.«01_k».proof.Proof.AttnHost
public import proofs.«01_k».proof.Proof.Gen.ReferenceIdeal.Run
public import Idealize.ShloMosaic.Lib.Pointwise

/-! # The reference's attention over the real numbers

The reference's arrays read element by element, up to its result.
-/

@[expose] public section

set_option maxRecDepth 16384

noncomputable section

namespace Cert.Proof.AttnRef

open Idealize.ShloMosaic Idealize.ShloMosaic.TcCoe Idealize.ShloMosaic.Tactic
open Cert.ReferenceIdeal Cert.ReferenceIdeal.Gen Cert.ReferenceIdeal.Value
open Cert.Proof.Attn
open Cert.Proof.KernelIdeal (Row ok score slope nrm rms rms_arg_pos wnum wden wden_pos dist_word dist_real)

section Rows

variable (V0 : Valuation τ sig (Elt Ideal))

/-- The arguments are those of the row `A`, for batch row `b`. -/
structure Reads (b : Fin 16) (A : Row) : Prop where
  x : ∀ (i : Fin 2048) (k : Fin 1024), V0 (Proc.tc.devRef main_arg0) (ix3 b i k) = ((A.x i.val k : ℝ) : EReal)
  w : ∀ (k : Fin 1024) (n : Fin 10240), V0 (Proc.tc.devRef main_arg1) (ix2 k n) = ((A.w k n.val : ℝ) : EReal)
  b : ∀ n : Fin 10240, V0 (Proc.tc.devRef main_arg2) (ix1 n) = ((A.b n.val : ℝ) : EReal)
  gq : ∀ e : Fin 64, V0 (Proc.tc.devRef main_arg3) (ix1 e) = ((A.gq e.val : ℝ) : EReal)
  gk : ∀ e : Fin 64, V0 (Proc.tc.devRef main_arg4) (ix1 e) = ((A.gk e.val : ℝ) : EReal)

/-- A projection over real arguments. -/
theorem lin_real {x w : Fin 1024 → EReal} {y : EReal} {x' w' : Fin 1024 → ℝ} {y' : ℝ} (hx : ∀ k, x k = x' k) (hw : ∀ k, w k = w' k)
    (hy : y = y') : ∑ k, x k * w k + y = (((∑ k, x' k * w' k) + y' : ℝ) : EReal) := by
  rw [EReal.coe_add, ← coe_sum, hy]
  refine congrArg (· + (y' : EReal)) (Finset.sum_congr rfl fun k _ => ?_)
  rw [hx, hw, EReal.coe_mul]

/-- One element of a normed head over real arguments, the sum of squares taken by a quotient. -/
theorem nrm_real (z : ℕ → ℝ) (h e : ℕ) (he : e < 64) (g : ℕ → ℝ) {f : Fin 64 → EReal} {a y : EReal} (hf : ∀ x : Fin 64, f x = ((z (64 * h + x.val) : ℝ) : EReal))
    (ha : a = ((z (64 * h + e) : ℝ) : EReal)) (hy : y = ((g e : ℝ) : EReal)) :
    a * Ideal.rsqrt (Ideal.div (∑ x, f x * f x) (Ideal.ofBits FTy.f32 1115684864#32) + Ideal.ofBits FTy.f32 897988541#32) * y
      = ((nrm z g (64 * h + e) : ℝ) : EReal) := by
  have hs : ∑ x, f x * f x = ((∑ e : Fin 64, z (64 * h + e.val) * z (64 * h + e.val) : ℝ) : EReal) :=
    sum_real fun x => by rw [hf x, EReal.coe_mul]
  rw [hs, bits_64, bits_eps, div_real _ _ (by norm_num), ← EReal.coe_add, ha, hy,
    show (∑ e : Fin 64, z (64 * h + e.val) * z (64 * h + e.val)) / 64 + eps = (∑ e : Fin 64, z (64 * h + e.val) * z (64 * h + e.val)) * (1 / 64) + eps by ring,
    rsqrt_real _ (rms_arg_pos z h), ← EReal.coe_mul, ← EReal.coe_mul]
  unfold nrm rms
  rw [show (64 * h + e) / 64 = h by omega, show (64 * h + e) % 64 = e by omega]

/-- The score over real queries and keys. -/
theorem score_real (Q K : ℕ → ℕ → ℝ) (Q' : ℕ → ℕ → ℝ) (hQ : ∀ i c, Q i c = Q' i c * (1 / 8)) (h i j : ℕ) (hi : i < 2048) (hj : j < 2048)
    {q k : Fin 64 → EReal} {s : EReal} (hq : ∀ x : Fin 64, q x = ((Q' i (64 * h + x.val) : ℝ) : EReal))
    (hk : ∀ x : Fin 64, k x = ((K j (64 * h + x.val) : ℝ) : EReal)) (hs : s = ((slope h : ℝ) : EReal)) :
    (∑ x, q x * k x) * Ideal.ofBits FTy.f32 1040187392#32 - s * FloatOps.sitofp (F := Ideal) FTy.f32 (IntOp.absi (IntOp.subi (BitVec.ofNat 32 i) (BitVec.ofNat 32 j)))
      = ((score Q K h i j : ℝ) : EReal) := by
  have h1 : ∑ x, q x * k x = ((∑ e : Fin 64, Q' i (64 * h + e.val) * K j (64 * h + e.val) : ℝ) : EReal) :=
    sum_real fun x => by rw [hq x, hk x, EReal.coe_mul]
  have h2 : FloatOps.sitofp (F := Ideal) FTy.f32 (IntOp.absi (IntOp.subi (BitVec.ofNat 32 i) (BitVec.ofNat 32 j))) = ((|(i : ℝ) - (j : ℝ)| : ℝ) : EReal) := by
    rw [dist_word (by omega) (by omega)]
    show (((BitVec.ofNat 32 (i - j + (j - i))).toInt : ℝ) : EReal) = _
    rw [← dist_real]
    congr 1
    rw [BitVec.toInt_eq_toNat_of_lt, BitVec.toNat_ofNat, Nat.mod_eq_of_lt (by omega)]
    · push_cast; rfl
    · rw [BitVec.toNat_ofNat]; omega
  rw [h1, h2, hs, bits_eighth, ← EReal.coe_mul, ← EReal.coe_mul, ← EReal.coe_sub]
  congr 1
  unfold score
  rw [Finset.sum_mul, sub_eq_add_neg, neg_mul_eq_mul_neg]
  congr 1
  refine Finset.sum_congr rfl fun e _ => ?_
  rw [hQ]; ring

/-- A conjunction of a distance test and a divisibility test. -/
def test (n L D : BitVec 32) : BitVec 1 :=
  IntOp.andi (IntOp.cmpi CmpIPredicate.sle n L)
        (IntOp.cmpi CmpIPredicate.eq
          (Scalar.select
            (IntOp.andi
              (IntOp.cmpi CmpIPredicate.ne (IntOp.cmpi CmpIPredicate.slt (IntOp.remsi ArithUnit.host n D) 0#32)
                (IntOp.cmpi CmpIPredicate.slt D 0#32))
              (IntOp.cmpi CmpIPredicate.ne (IntOp.remsi ArithUnit.host n D) 0#32))
            (IntOp.addi (IntOp.remsi ArithUnit.host n D) D) (IntOp.remsi ArithUnit.host n D))
          0#32)

theorem test_1 : ∀ n : Fin 2048, test (BitVec.ofNat 32 n.val) 64#32 1#32 = if n.val ≤ 64 ∧ n.val % 1 = 0 then 1#1 else 0#1 := by
  decide +kernel
theorem test_4 : ∀ n : Fin 2048, test (BitVec.ofNat 32 n.val) 256#32 4#32 = if n.val ≤ 256 ∧ n.val % 4 = 0 then 1#1 else 0#1 := by
  decide +kernel
theorem test_16 : ∀ n : Fin 2048, test (BitVec.ofNat 32 n.val) 1024#32 16#32 = if n.val ≤ 1024 ∧ n.val % 16 = 0 then 1#1 else 0#1 := by
  decide +kernel

/-- The three tests are the three masks. -/
theorem test_ok (d i j : ℕ) (hi : i < 2048) (hj : j < 2048) (L D : BitVec 32) (hd : d = 1 ∨ d = 4 ∨ d = 16)
    (ht : ∀ n : Fin 2048, test (BitVec.ofNat 32 n.val) L D = if n.val ≤ 64 * d ∧ n.val % d = 0 then 1#1 else 0#1) (s z : EReal) (hz : z = ⊥) :
    Scalar.select (test (IntOp.absi (IntOp.subi (BitVec.ofNat 32 i) (BitVec.ofNat 32 j))) L D) s z = if ok d i j then s else ⊥ := by
  rw [dist_word (by omega) (by omega), ht ⟨i - j + (j - i), by omega⟩, hz]
  have e : (i - j + (j - i) ≤ 64 * d ∧ (i - j + (j - i)) % d = 0) ↔ ok d i j := by
    unfold ok
    rcases hd with rfl | rfl | rfl <;> omega
  show Scalar.select (if i - j + (j - i) ≤ 64 * d ∧ (i - j + (j - i)) % d = 0 then 1#1 else 0#1) s ⊥ = _
  by_cases h : ok d i j
  · rw [if_pos h, if_pos (e.mpr h)]; rfl
  · rw [if_neg h, if_neg fun h' => h (e.mp h')]; rfl

/-! ## The largest score -/

theorem reduces_row : S16x8x2048x2048.Reduces [3] S16x8x2048 := by decide
theorem reduces_group : S3x16x8x2048.Reduces [0] S16x8x2048 := by decide

theorem lift_row (b : Fin 16) (h : Fin 8) (i j : Fin 2048) : reduces_row.lift (ix3 b h i) j = ix4 b h i j := by
  funext a
  match a with
  | ⟨0, _⟩ => rfl
  | ⟨1, _⟩ => rfl
  | ⟨2, _⟩ => rfl
  | ⟨3, _⟩ => rfl

theorem lift_group (g : Fin 3) (b : Fin 16) (h : Fin 8) (i : Fin 2048) : reduces_group.lift (ix3 b h i) g = ix4 g b h i := by
  funext a
  match a with
  | ⟨0, _⟩ => rfl
  | ⟨1, _⟩ => rfl
  | ⟨2, _⟩ => rfl
  | ⟨3, _⟩ => rfl

theorem fold_row (f : S16x8x2048x2048.Idx → EReal) (b : Fin 16) (h : Fin 8) (i : Fin 2048) :
    Finset.fold max (Ideal.ofBits FTy.f32 4286578688#32) f
      (Finset.univ.filter fun y => reducesTo_S16x8x2048x2048_S16x8x2048_d3.drop y = ix3 b h i)
      = Finset.univ.fold max ⊥ fun j : Fin 2048 => f (ix4 b h i j) := by
  rw [bits_bot]
  have e := reduces_row.fold_filter_drop_single (max : EReal → EReal → EReal) ⊥ f (ix3 b h i)
  refine Eq.trans ?_ (e.trans (congrArg (fun w => Finset.univ.fold max ⊥ w) (funext fun j => congrArg f (lift_row b h i j))))
  refine congrArg (Finset.fold max ⊥ f) (Finset.filter_congr fun y _ => ?_)
  rw [reducesTo_S16x8x2048x2048_S16x8x2048_d3.drop_eq_drop reduces_row]

theorem fold_group (f : S3x16x8x2048.Idx → EReal) (b : Fin 16) (h : Fin 8) (i : Fin 2048) :
    max (Ideal.ofBits FTy.f32 4286578688#32) (Finset.fold max (Ideal.ofBits FTy.f32 4286578688#32) f
      (Finset.univ.filter fun y => reducesTo_S3x16x8x2048_S16x8x2048_d0.drop y = ix3 b h i))
      = Finset.univ.fold max ⊥ fun g : Fin 3 => f (ix4 g b h i) := by
  rw [bits_bot, max_eq_right bot_le]
  have e := reduces_group.fold_filter_drop_single (max : EReal → EReal → EReal) ⊥ f (ix3 b h i)
  refine Eq.trans ?_ (e.trans (congrArg (fun w => Finset.univ.fold max ⊥ w) (funext fun g => congrArg f (lift_group g b h i))))
  refine congrArg (Finset.fold max ⊥ f) (Finset.filter_congr fun y _ => ?_)
  rw [reducesTo_S3x16x8x2048_S16x8x2048_d0.drop_eq_drop reduces_group]

/-! ## The projections -/

variable {V0} {b : Fin 16} {A : Row} (R : Reads V0 b A)
include R

theorem v14_at (i : Fin 2048) (n : Fin 4608) : res_main_v14 V0 (ix3 b i n) = ((A.lin i.val (3072 + n.val) : ℝ) : EReal) := by
  pointwise [res_main_v14]
  exact lin_real (fun k => R.x i k) (fun k => R.w k ⟨3072 + n.val, by omega⟩) (R.b ⟨3072 + n.val, by omega⟩)

theorem v20_at (i : Fin 2048) (n : Fin 512) : res_main_v20 V0 (ix3 b i n) = ((A.lin i.val (7680 + n.val) : ℝ) : EReal) := by
  pointwise [res_main_v20]
  exact lin_real (fun k => R.x i k) (fun k => R.w k ⟨7680 + n.val, by omega⟩) (R.b ⟨7680 + n.val, by omega⟩)

theorem v24_at (i : Fin 2048) (g : Fin 3) (h : Fin 8) (e : Fin 64) :
    res_main_v24 V0 (ix5 b i g h e) = ((A.lin i.val (3072 + 512 * g.val + (64 * h.val + e.val)) : ℝ) : EReal) := by
  pointwise [res_main_v24]
  refine (v14_at R i _).trans (congrArg (fun n => ((A.lin i.val n : ℝ) : EReal)) ?_)
  show 3072 + _ = _
  simp only
  omega

theorem v38_at (i : Fin 2048) (g : Fin 3) (h : Fin 8) (e : Fin 64) :
    res_main_v38 V0 (ix5 b i g h e) = ((A.lin i.val (4608 + 512 * g.val + (64 * h.val + e.val)) : ℝ) : EReal) := by
  pointwise [res_main_v38]
  refine (v14_at R i _).trans (congrArg (fun n => ((A.lin i.val n : ℝ) : EReal)) ?_)
  show 3072 + _ = _
  simp only
  omega

theorem v52_at (i : Fin 2048) (g : Fin 3) (h : Fin 8) (e : Fin 64) :
    res_main_v52 V0 (ix5 b i g h e) = ((A.lin i.val (6144 + 512 * g.val + (64 * h.val + e.val)) : ℝ) : EReal) := by
  pointwise [res_main_v52]
  refine (v14_at R i _).trans (congrArg (fun n => ((A.lin i.val n : ℝ) : EReal)) ?_)
  show 3072 + _ = _
  simp only
  omega

theorem v37_at (i : Fin 2048) (g : Fin 3) (h : Fin 8) (e : Fin 64) :
    res_main_v37 V0 (ix5 b i g h e) = ((nrm (fun c => A.lin i.val (3072 + 512 * g.val + c)) A.gq (64 * h.val + e.val) : ℝ) : EReal) := by
  pointwise [res_main_v37]
  exact nrm_real (fun c => A.lin i.val (3072 + 512 * g.val + c)) h.val e.val e.isLt A.gq (fun x => v24_at R i g h x) (v24_at R i g h e) (R.gq e)

theorem v51_at (i : Fin 2048) (g : Fin 3) (h : Fin 8) (e : Fin 64) :
    res_main_v51 V0 (ix5 b i g h e) = ((nrm (fun c => A.lin i.val (4608 + 512 * g.val + c)) A.gk (64 * h.val + e.val) : ℝ) : EReal) := by
  pointwise [res_main_v51]
  exact nrm_real (fun c => A.lin i.val (4608 + 512 * g.val + c)) h.val e.val e.isLt A.gk (fun x => v38_at R i g h x) (v38_at R i g h e) (R.gk e)

omit R in
theorem v8_at (h : Fin 8) : res_main_v8 V0 (ix1 h) = ((slope h.val : ℝ) : EReal) := by
  pointwise [res_main_v8]
  have e : FloatOps.sitofp (F := Ideal) FTy.f32 (BitVec.ofNat 32 h.val) = ((h.val : ℝ) : EReal) := by
    show (((BitVec.ofNat 32 h.val).toInt : ℝ) : EReal) = _
    have : ∀ h : Fin 8, (BitVec.ofNat 32 h.val).toInt = (h.val : ℤ) := by decide
    rw [this h]; push_cast; rfl
  rw [e, bits_two, bits_meight, bits_eight, ← EReal.coe_one, ← EReal.coe_add, ← EReal.coe_mul, div_real _ _ (by norm_num),
    Ideal.pow_coe_coe]
  congr 1
  unfold Cert.Proof.KernelIdeal.slope
  rw [show (-8 : ℝ) * (1 + (h.val : ℝ)) / 8 = -((h.val + 1 : ℕ) : ℝ) by push_cast; ring]
  show (2 : ℝ) ^ (-((h.val + 1 : ℕ) : ℝ)) = _
  rw [Real.rpow_neg (by norm_num), Real.rpow_natCast, one_div, inv_pow]

end Rows

end Cert.Proof.AttnRef

end
-- ==== Proof.AttnRefOut.lean ====
module

public import proofs.«01_k».proof.Proof.AttnRef

/-! # The reference's attention, group by group

The masked scores, the weights and the groups' mixture, up to the result.
-/

@[expose] public section

set_option maxRecDepth 16384

noncomputable section

namespace Cert.Proof.AttnRef

open Idealize.ShloMosaic Idealize.ShloMosaic.TcCoe Idealize.ShloMosaic.Tactic
open Cert.ReferenceIdeal Cert.ReferenceIdeal.Gen Cert.ReferenceIdeal.Value
open Cert.Proof.Attn
open Cert.Proof.KernelIdeal (Row ok score nrm wnum wden wden_pos)

section Names

variable (V0 : Valuation τ sig (Elt Ideal))

def av83 (b : Fin 16) (h : Fin 8) (i j : Fin 2048) : EReal := res_main_v83 V0 (ix4 b h i j)
def av88 (b : Fin 16) (h : Fin 8) (i j : Fin 2048) : EReal := res_main_v88 V0 (ix4 b h i j)
def av84 (b : Fin 16) (h : Fin 8) (i : Fin 2048) : EReal := res_main_v84 V0 (ix3 b h i)
def av89 (b : Fin 16) (h : Fin 8) (i : Fin 2048) : EReal := res_main_v89 V0 (ix3 b h i)
def av120 (b : Fin 16) (h : Fin 8) (i j : Fin 2048) : EReal := res_main_v120 V0 (ix4 b h i j)
def av125 (b : Fin 16) (h : Fin 8) (i j : Fin 2048) : EReal := res_main_v125 V0 (ix4 b h i j)
def av121 (b : Fin 16) (h : Fin 8) (i : Fin 2048) : EReal := res_main_v121 V0 (ix3 b h i)
def av126 (b : Fin 16) (h : Fin 8) (i : Fin 2048) : EReal := res_main_v126 V0 (ix3 b h i)
def av157 (b : Fin 16) (h : Fin 8) (i j : Fin 2048) : EReal := res_main_v157 V0 (ix4 b h i j)
def av162 (b : Fin 16) (h : Fin 8) (i j : Fin 2048) : EReal := res_main_v162 V0 (ix4 b h i j)
def av158 (b : Fin 16) (h : Fin 8) (i : Fin 2048) : EReal := res_main_v158 V0 (ix3 b h i)
def av163 (b : Fin 16) (h : Fin 8) (i : Fin 2048) : EReal := res_main_v163 V0 (ix3 b h i)
def a52 (b : Fin 16) (i : Fin 2048) (g : Fin 3) (h : Fin 8) (e : Fin 64) : EReal := res_main_v52 V0 (ix5 b i g h e)
def a175 (g : Fin 3) (b : Fin 16) (h : Fin 8) (i : Fin 2048) : EReal := res_main_v175 V0 (ix4 g b h i)
def a182 (g : Fin 3) (b : Fin 16) (h : Fin 8) (i : Fin 2048) : EReal := res_main_v182 V0 (ix4 g b h i)

end Names

/-! ## The mixture's operations, each at an index -/

/-- A group's score, with a leading axis. -/
def part (m d : FVec Ideal S16x8x2048 .f32) : FVec Ideal S1x16x8x2048 .f32 :=
  broadcastInDim S1x16x8x2048 ![1, 2, 3] bcast_S16x8x2048_S1x16x8x2048_1_2_3 (addf m (Host.log d))

theorem part_at (m d : FVec Ideal S16x8x2048 .f32) (b : Fin 16) (h : Fin 8) (i : Fin 2048) :
    part m d (ix4 0 b h i) = (m (ix3 b h i) + Ideal.log (d (ix3 b h i)) : EReal) := by
  pointwise [part]

/-- The groups' scores, one above the other. -/
def stack (x y z : FVec Ideal S1x16x8x2048 .f32) : FVec Ideal S3x16x8x2048 .f32 :=
  concatenate S3x16x8x2048 0 [⟨S1x16x8x2048, x⟩, ⟨S1x16x8x2048, y⟩, ⟨S1x16x8x2048, z⟩] concatenates_S1x16x8x2048_S1x16x8x2048_S1x16x8x2048_S3x16x8x2048_d0

section Stack

variable (x y z : FVec Ideal S1x16x8x2048 .f32) (b : Fin 16) (h : Fin 8) (i : Fin 2048)

theorem stack_0 : stack x y z (ix4 0 b h i) = x (ix4 0 b h i) := by pointwise [stack]

theorem stack_1 : stack x y z (ix4 1 b h i) = y (ix4 0 b h i) := by pointwise [stack]

theorem stack_2 : stack x y z (ix4 2 b h i) = z (ix4 0 b h i) := by pointwise [stack]

end Stack

/-- A row's value, for each group. -/
def lift4 (m : FVec Ideal S16x8x2048 .f32) : FVec Ideal S3x16x8x2048 .f32 :=
  broadcastInDim S3x16x8x2048 ![0, 1, 2, 3] bcast_S1x16x8x2048_S3x16x8x2048_0_1_2_3 (broadcastInDim S1x16x8x2048 ![1, 2, 3] bcast_S16x8x2048_S1x16x8x2048_1_2_3 m)

theorem lift4_at (m : FVec Ideal S16x8x2048 .f32) (g : Fin 3) (b : Fin 16) (h : Fin 8) (i : Fin 2048) : lift4 m (ix4 g b h i) = m (ix3 b h i) := by
  pointwise [lift4]

/-- The exponentials of the scores less a row's value. -/
def rel (x : FVec Ideal S3x16x8x2048 .f32) (m : FVec Ideal S16x8x2048 .f32) : FVec Ideal S3x16x8x2048 .f32 := Host.exp (subf x (lift4 m))

theorem rel_at (x : FVec Ideal S3x16x8x2048 .f32) (m : FVec Ideal S16x8x2048 .f32) (g : Fin 3) (b : Fin 16) (h : Fin 8) (i : Fin 2048) :
    rel x m (ix4 g b h i) = (Ideal.exp ((x (ix4 g b h i) : EReal) - lift4 m (ix4 g b h i)) : EReal) := by
  pointwise [rel]

/-- The largest of the groups' scores. -/
def red (x : FVec Ideal S3x16x8x2048 .f32) : FVec Ideal S16x8x2048 .f32 :=
  Host.reduce FloatOps.maximumf x (constant S_ .f32 0xFF800000#32) reducesTo_S3x16x8x2048_S16x8x2048_d0 h_S_

theorem red_at (x : FVec Ideal S3x16x8x2048 .f32) (b : Fin 16) (h : Fin 8) (i : Fin 2048) :
    red x (ix3 b h i) = Finset.fold max (Ideal.ofBits FTy.f32 4286578688#32) x
      (Finset.univ.filter fun y => reducesTo_S3x16x8x2048_S16x8x2048_d0.drop y = ix3 b h i) := by
  pointwise [red]

/-- The larger of a row's value and the least value. -/
def tops (m : FVec Ideal S16x8x2048 .f32) : FVec Ideal S16x8x2048 .f32 :=
  maximumf (broadcastInDim S16x8x2048 ![] bcast_S_S16x8x2048 (constant S_ .f32 0xFF800000#32)) m

theorem tops_at (m : FVec Ideal S16x8x2048 .f32) (b : Fin 16) (h : Fin 8) (i : Fin 2048) :
    tops m (ix3 b h i) = max (Ideal.ofBits FTy.f32 4286578688#32) (m (ix3 b h i)) := by
  pointwise [tops]

/-- The groups' sum of a row. -/
def sums (x : FVec Ideal S3x16x8x2048 .f32) : FVec Ideal S16x8x2048 .f32 :=
  Host.reduceAdd x (constant S_ .f32 0x00000000#32) reducesTo_S3x16x8x2048_S16x8x2048_d0 h_S_

theorem sums_at (x : FVec Ideal S3x16x8x2048 .f32) (b : Fin 16) (h : Fin 8) (i : Fin 2048) :
    sums x (ix3 b h i) = ∑ g : Fin 3, (x (ix4 g b h i) : EReal) := by
  pointwise [sums]

/-- The groups' sum of a row of vectors. -/
def sums5 (x : FVec Ideal S3x16x8x2048x64 .f32) : FVec Ideal S16x8x2048x64 .f32 :=
  Host.reduceAdd x (constant S_ .f32 0x00000000#32) reducesTo_S3x16x8x2048x64_S16x8x2048x64_d0 h_S_

theorem sums5_at (x : FVec Ideal S3x16x8x2048x64 .f32) (b : Fin 16) (h : Fin 8) (i : Fin 2048) (e : Fin 64) :
    sums5 x (ix4 b h i e) = ∑ g : Fin 3, (x (ix5 g b h i e) : EReal) := by
  pointwise [sums5]

/-- The weighted vectors. -/
def wide (x : FVec Ideal S3x16x8x2048 .f32) (y : FVec Ideal S3x16x8x2048x64 .f32) : FVec Ideal S3x16x8x2048x64 .f32 :=
  mulf (broadcastInDim S3x16x8x2048x64 ![0, 1, 2, 3, 4] bcast_S3x16x8x2048x1_S3x16x8x2048x64_0_1_2_3_4 (broadcastInDim S3x16x8x2048x1 ![0, 1, 2, 3] bcast_S3x16x8x2048_S3x16x8x2048x1_0_1_2_3 x)) y

theorem wide_at (x : FVec Ideal S3x16x8x2048 .f32) (y : FVec Ideal S3x16x8x2048x64 .f32) (g : Fin 3) (b : Fin 16) (h : Fin 8) (i : Fin 2048) (e : Fin 64) :
    wide x y (ix5 g b h i e) = (x (ix4 g b h i) * y (ix5 g b h i e) : EReal) := by
  pointwise [wide]

/-- The weights, each a part of their sum. -/
def share (x : FVec Ideal S3x16x8x2048 .f32) (m : FVec Ideal S16x8x2048 .f32) : FVec Ideal S3x16x8x2048 .f32 := Host.divf x (lift4 m)

theorem share_at (x : FVec Ideal S3x16x8x2048 .f32) (m : FVec Ideal S16x8x2048 .f32) (g : Fin 3) (b : Fin 16) (h : Fin 8) (i : Fin 2048) :
    share x m (ix4 g b h i) = Ideal.div (x (ix4 g b h i)) (lift4 m (ix4 g b h i)) := by
  pointwise [share]

/-- The heads side by side. -/
def flat (y : FVec Ideal S16x8x2048x64 .f32) : FVec Ideal S16x2048x512 .f32 :=
  shapeCast _ (transpose S16x2048x8x64 [0, 2, 1, 3] y transposes_S16x8x2048x64_S16x2048x8x64_0_2_1_3) shapeCasts_S16x2048x8x64_S16x2048x512

theorem flat_at (y : FVec Ideal S16x8x2048x64 .f32) (b : Fin 16) (i : Fin 2048) (c : Fin 512) :
    flat y (ix3 b i c) = y (ix4 b ⟨c.val / 64, by omega⟩ i ⟨c.val % 64, by omega⟩) := by
  pointwise [flat]

/-- A product with a gate. -/
def gated (y z : FVec Ideal S16x2048x512 .f32) : FVec Ideal S16x2048x512 .bf16 :=
  truncf .bf16 (mulf y (mulf z (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf z)))))) bitsLt_bf16_f32

theorem gated_at (y z : FVec Ideal S16x2048x512 .f32) (b : Fin 16) (i : Fin 2048) (c : Fin 512) :
    gated y z (ix3 b i c) = (y (ix3 b i c) * ((z (ix3 b i c) : EReal) * Ideal.div 1 (1 + Ideal.exp (-(z (ix3 b i c) : EReal)))) : EReal) := by
  pointwise [gated]

section Rows

variable {V0 : Valuation τ sig (Elt Ideal)} {b : Fin 16} {A : Row} (R : Reads V0 b A)
include R

/-! ## Group 0 -/

theorem v83_at (h : Fin 8) (i j : Fin 2048) :
    res_main_v83 V0 (ix4 b h i j) = if ok 1 i.val j.val then ((score (A.q 0) (A.k 0) h.val i.val j.val : ℝ) : EReal) else ⊥ := by
  pointwise [res_main_v83, res_main_v60, res_main_call0_v4, res_main_call0_v2, res_main_call0_v0]
  refine (test_ok 1 i.val j.val i.isLt j.isLt 64#32 1#32 (by decide) test_1 _ _ bits_bot).trans ?_
  rw [score_real (A.q 0) (A.k 0) (fun i c => nrm (fun c => A.lin i (3072 + 512 * 0 + c)) A.gq c) (fun _ _ => rfl) h.val i.val j.val i.isLt j.isLt
    (fun x => v37_at R i 0 h x) (fun x => v51_at R j 0 h x) (v8_at h)]

theorem rep_0 (h : Fin 8) (i : Fin 2048) (e : Fin 64) :
    Rep (∑ j, av88 V0 b h i j * a52 V0 b j 0 h e) (av84 V0 b h i) (av89 V0 b h i)
      (A.top 0 1 i.val (64 * h.val + e.val)) (A.bot 0 1 i.val h.val) := by
  have hm : av84 V0 b h i = Finset.univ.fold max (⊥ : EReal) fun j : Fin 2048 => av83 V0 b h i j := by
    show res_main_v84 V0 (ix3 b h i) = _
    pointwise [res_main_v84]
    exact fold_row _ b h i
  have hx : ∀ j, av88 V0 b h i j = Ideal.exp (av83 V0 b h i j - av84 V0 b h i) := by
    intro j
    show res_main_v88 V0 (ix4 b h i j) = Ideal.exp (av83 V0 b h i j - av84 V0 b h i)
    pointwise [res_main_v88]
    rfl
  have hd : av89 V0 b h i = ∑ j, av88 V0 b h i j := by
    show res_main_v89 V0 (ix3 b h i) = ∑ j, av88 V0 b h i j
    pointwise [res_main_v89]
    rfl
  rw [hd]
  simp only [hx]
  rw [hm]
  have key := rep_tile (fun j : Fin 2048 => ok 1 i.val j.val) (fun j => score (A.q 0) (A.k 0) h.val i.val j.val) (fun j => A.v 0 j.val (64 * h.val + e.val))
    (s := fun j => av83 V0 b h i j) (W := fun j => a52 V0 b j 0 h e)
    (fun j => v83_at R h i j) (fun j => v52_at R j 0 h e) i (Cert.Proof.KernelIdeal.ok_self 1 i.val)
  unfold Row.top Row.bot wnum wden
  rw [show (64 * h.val + e.val) / 64 = h.val by omega]
  exact key

/-! ## Group 1 -/

theorem v120_at (h : Fin 8) (i j : Fin 2048) :
    res_main_v120 V0 (ix4 b h i j) = if ok 4 i.val j.val then ((score (A.q 1) (A.k 1) h.val i.val j.val : ℝ) : EReal) else ⊥ := by
  pointwise [res_main_v120, res_main_v60, res_main_call2_v4, res_main_call2_v2, res_main_call2_v0]
  refine (test_ok 4 i.val j.val i.isLt j.isLt 256#32 4#32 (by decide) test_4 _ _ bits_bot).trans ?_
  rw [score_real (A.q 1) (A.k 1) (fun i c => nrm (fun c => A.lin i (3072 + 512 * 1 + c)) A.gq c) (fun _ _ => rfl) h.val i.val j.val i.isLt j.isLt
    (fun x => v37_at R i 1 h x) (fun x => v51_at R j 1 h x) (v8_at h)]

theorem rep_1 (h : Fin 8) (i : Fin 2048) (e : Fin 64) :
    Rep (∑ j, av125 V0 b h i j * a52 V0 b j 1 h e) (av121 V0 b h i) (av126 V0 b h i)
      (A.top 1 4 i.val (64 * h.val + e.val)) (A.bot 1 4 i.val h.val) := by
  have hm : av121 V0 b h i = Finset.univ.fold max (⊥ : EReal) fun j : Fin 2048 => av120 V0 b h i j := by
    show res_main_v121 V0 (ix3 b h i) = _
    pointwise [res_main_v121]
    exact fold_row _ b h i
  have hx : ∀ j, av125 V0 b h i j = Ideal.exp (av120 V0 b h i j - av121 V0 b h i) := by
    intro j
    show res_main_v125 V0 (ix4 b h i j) = Ideal.exp (av120 V0 b h i j - av121 V0 b h i)
    pointwise [res_main_v125]
    rfl
  have hd : av126 V0 b h i = ∑ j, av125 V0 b h i j := by
    show res_main_v126 V0 (ix3 b h i) = ∑ j, av125 V0 b h i j
    pointwise [res_main_v126]
    rfl
  rw [hd]
  simp only [hx]
  rw [hm]
  have key := rep_tile (fun j : Fin 2048 => ok 4 i.val j.val) (fun j => score (A.q 1) (A.k 1) h.val i.val j.val) (fun j => A.v 1 j.val (64 * h.val + e.val))
    (s := fun j => av120 V0 b h i j) (W := fun j => a52 V0 b j 1 h e)
    (fun j => v120_at R h i j) (fun j => v52_at R j 1 h e) i (Cert.Proof.KernelIdeal.ok_self 4 i.val)
  unfold Row.top Row.bot wnum wden
  rw [show (64 * h.val + e.val) / 64 = h.val by omega]
  exact key

/-! ## Group 2 -/

theorem v157_at (h : Fin 8) (i j : Fin 2048) :
    res_main_v157 V0 (ix4 b h i j) = if ok 16 i.val j.val then ((score (A.q 2) (A.k 2) h.val i.val j.val : ℝ) : EReal) else ⊥ := by
  pointwise [res_main_v157, res_main_v60, res_main_call4_v4, res_main_call4_v2, res_main_call4_v0]
  refine (test_ok 16 i.val j.val i.isLt j.isLt 1024#32 16#32 (by decide) test_16 _ _ bits_bot).trans ?_
  rw [score_real (A.q 2) (A.k 2) (fun i c => nrm (fun c => A.lin i (3072 + 512 * 2 + c)) A.gq c) (fun _ _ => rfl) h.val i.val j.val i.isLt j.isLt
    (fun x => v37_at R i 2 h x) (fun x => v51_at R j 2 h x) (v8_at h)]

theorem rep_2 (h : Fin 8) (i : Fin 2048) (e : Fin 64) :
    Rep (∑ j, av162 V0 b h i j * a52 V0 b j 2 h e) (av158 V0 b h i) (av163 V0 b h i)
      (A.top 2 16 i.val (64 * h.val + e.val)) (A.bot 2 16 i.val h.val) := by
  have hm : av158 V0 b h i = Finset.univ.fold max (⊥ : EReal) fun j : Fin 2048 => av157 V0 b h i j := by
    show res_main_v158 V0 (ix3 b h i) = _
    pointwise [res_main_v158]
    exact fold_row _ b h i
  have hx : ∀ j, av162 V0 b h i j = Ideal.exp (av157 V0 b h i j - av158 V0 b h i) := by
    intro j
    show res_main_v162 V0 (ix4 b h i j) = Ideal.exp (av157 V0 b h i j - av158 V0 b h i)
    pointwise [res_main_v162]
    rfl
  have hd : av163 V0 b h i = ∑ j, av162 V0 b h i j := by
    show res_main_v163 V0 (ix3 b h i) = ∑ j, av162 V0 b h i j
    pointwise [res_main_v163]
    rfl
  rw [hd]
  simp only [hx]
  rw [hm]
  have key := rep_tile (fun j : Fin 2048 => ok 16 i.val j.val) (fun j => score (A.q 2) (A.k 2) h.val i.val j.val) (fun j => A.v 2 j.val (64 * h.val + e.val))
    (s := fun j => av157 V0 b h i j) (W := fun j => a52 V0 b j 2 h e)
    (fun j => v157_at R h i j) (fun j => v52_at R j 2 h e) i (Cert.Proof.KernelIdeal.ok_self 16 i.val)
  unfold Row.top Row.bot wnum wden
  rw [show (64 * h.val + e.val) / 64 = h.val by omega]
  exact key

/-! ## The result -/

omit R in
theorem bot_pos (g d i h : ℕ) (hi : i < 2048) : 0 < A.bot g d i h := wden_pos _ _ d i h hi

end Rows

section Out

variable {F : FTy → Type} [FloatOps F] [Named F] (V0 : Valuation τ sig (Elt F))

/-- The three groups' quotients, one above the other. -/
def parts :(⟨S3x16x8x2048x64, .f32⟩ : BufTy).Contents (Elt F) := concatenate S3x16x8x2048x64 0 [⟨S1x16x8x2048x64, ((broadcastInDim S1x16x8x2048x64 ![1, 2, 3, 4] bcast_S16x8x2048x64_S1x16x8x2048x64_1_2_3_4 (Host.divf (Host.dotGeneral dot_S16x8x2048x2048_S16x2048x8x64_S16x8x2048x64_3_1_2_3_01_02 none (res_main_v88 V0) (shapeCast _ (extractStridedSlice S16x2048x1x8x64 ![0, 0, 0, 0, 0] (res_main_v52 V0) slices_S16x2048x3x8x64_S16x2048x1x8x64_0_0_0_0_0) shapeCasts_S16x2048x1x8x64_S16x2048x8x64)) (broadcastInDim S16x8x2048x64 ![0, 1, 2, 3] bcast_S16x8x2048x1_S16x8x2048x64_0_1_2_3 (broadcastInDim S16x8x2048x1 ![0, 1, 2] bcast_S16x8x2048_S16x8x2048x1_0_1_2 (res_main_v89 V0))))) : (⟨S1x16x8x2048x64, .f32⟩ : BufTy).Contents (Elt F))⟩, ⟨S1x16x8x2048x64, ((broadcastInDim S1x16x8x2048x64 ![1, 2, 3, 4] bcast_S16x8x2048x64_S1x16x8x2048x64_1_2_3_4 (Host.divf (Host.dotGeneral dot_S16x8x2048x2048_S16x2048x8x64_S16x8x2048x64_3_1_2_3_01_02 none (res_main_v125 V0) (shapeCast _ (extractStridedSlice S16x2048x1x8x64 ![0, 0, 1, 0, 0] (res_main_v52 V0) slices_S16x2048x3x8x64_S16x2048x1x8x64_0_0_1_0_0) shapeCasts_S16x2048x1x8x64_S16x2048x8x64)) (broadcastInDim S16x8x2048x64 ![0, 1, 2, 3] bcast_S16x8x2048x1_S16x8x2048x64_0_1_2_3 (broadcastInDim S16x8x2048x1 ![0, 1, 2] bcast_S16x8x2048_S16x8x2048x1_0_1_2 (res_main_v126 V0))))) : (⟨S1x16x8x2048x64, .f32⟩ : BufTy).Contents (Elt F))⟩, ⟨S1x16x8x2048x64, ((broadcastInDim S1x16x8x2048x64 ![1, 2, 3, 4] bcast_S16x8x2048x64_S1x16x8x2048x64_1_2_3_4 (Host.divf (Host.dotGeneral dot_S16x8x2048x2048_S16x2048x8x64_S16x8x2048x64_3_1_2_3_01_02 none (res_main_v162 V0) (shapeCast _ (extractStridedSlice S16x2048x1x8x64 ![0, 0, 2, 0, 0] (res_main_v52 V0) slices_S16x2048x3x8x64_S16x2048x1x8x64_0_0_2_0_0) shapeCasts_S16x2048x1x8x64_S16x2048x8x64)) (broadcastInDim S16x8x2048x64 ![0, 1, 2, 3] bcast_S16x8x2048x1_S16x8x2048x64_0_1_2_3 (broadcastInDim S16x8x2048x1 ![0, 1, 2] bcast_S16x8x2048_S16x8x2048x1_0_1_2 (res_main_v163 V0))))) : (⟨S1x16x8x2048x64, .f32⟩ : BufTy).Contents (Elt F))⟩] concatenates_S1x16x8x2048x64_S1x16x8x2048x64_S1x16x8x2048x64_S3x16x8x2048x64_d0

/-- The reference's result. -/
def out : (Proc.devRef .tc main_v199 : DevRef τ sig).ty.Contents (Elt F) := truncf .bf16 (mulf (shapeCast _ (transpose S16x2048x8x64 [0, 2, 1, 3] (Host.reduceAdd (mulf (broadcastInDim S3x16x8x2048x64 ![0, 1, 2, 3, 4] bcast_S3x16x8x2048x1_S3x16x8x2048x64_0_1_2_3_4 (broadcastInDim S3x16x8x2048x1 ![0, 1, 2, 3] bcast_S3x16x8x2048_S3x16x8x2048x1_0_1_2_3 (Host.divf (res_main_v182 V0) (broadcastInDim S3x16x8x2048 ![0, 1, 2, 3] bcast_S1x16x8x2048_S3x16x8x2048_0_1_2_3 (broadcastInDim S1x16x8x2048 ![1, 2, 3] bcast_S16x8x2048_S1x16x8x2048_1_2_3 (Host.reduceAdd (res_main_v182 V0) (constant S_ .f32 0x00000000#32) reducesTo_S3x16x8x2048_S16x8x2048_d0 h_S_)))))) ((parts V0))) (constant S_ .f32 0x00000000#32) reducesTo_S3x16x8x2048x64_S16x8x2048x64_d0 h_S_) transposes_S16x8x2048x64_S16x2048x8x64_0_2_1_3) shapeCasts_S16x2048x8x64_S16x2048x512) (mulf (res_main_v20 V0) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (res_main_v20 V0))))))) bitsLt_bf16_f32

end Out

section Final

variable {V0 : Valuation τ sig (Elt Ideal)} {b : Fin 16} {A : Row} (R : Reads V0 b A)
include R

theorem parts_0 (h : Fin 8) (i : Fin 2048) (e : Fin 64) :
    parts V0 (ix5 0 b h i e) = ((A.top 0 1 i.val (64 * h.val + e.val) / A.bot 0 1 i.val h.val : ℝ) : EReal) := by
  pointwise [parts]
  exact rep_div (rep_0 R h i e) (bot_pos 0 1 i.val h.val i.isLt)

theorem parts_1 (h : Fin 8) (i : Fin 2048) (e : Fin 64) :
    parts V0 (ix5 1 b h i e) = ((A.top 1 4 i.val (64 * h.val + e.val) / A.bot 1 4 i.val h.val : ℝ) : EReal) := by
  pointwise [parts]
  exact rep_div (rep_1 R h i e) (bot_pos 1 4 i.val h.val i.isLt)

theorem parts_2 (h : Fin 8) (i : Fin 2048) (e : Fin 64) :
    parts V0 (ix5 2 b h i e) = ((A.top 2 16 i.val (64 * h.val + e.val) / A.bot 2 16 i.val h.val : ℝ) : EReal) := by
  pointwise [parts]
  exact rep_div (rep_2 R h i e) (bot_pos 2 16 i.val h.val i.isLt)

theorem v175_0 (h : Fin 8) (i : Fin 2048) : a175 V0 0 b h i = ((Real.log (A.bot 0 1 i.val h.val) : ℝ) : EReal) := by
  have e : a175 V0 0 b h i = (av84 V0 b h i + Ideal.log (av89 V0 b h i) : EReal) :=
    (stack_0 (part (res_main_v84 V0) (res_main_v89 V0)) (part (res_main_v121 V0) (res_main_v126 V0)) (part (res_main_v158 V0) (res_main_v163 V0)) b h i).trans
      (part_at (res_main_v84 V0) (res_main_v89 V0) b h i)
  rw [e]
  exact rep_log (rep_0 R h i 0) (bot_pos 0 1 i.val h.val i.isLt)

theorem v175_1 (h : Fin 8) (i : Fin 2048) : a175 V0 1 b h i = ((Real.log (A.bot 1 4 i.val h.val) : ℝ) : EReal) := by
  have e : a175 V0 1 b h i = (av121 V0 b h i + Ideal.log (av126 V0 b h i) : EReal) :=
    (stack_1 (part (res_main_v84 V0) (res_main_v89 V0)) (part (res_main_v121 V0) (res_main_v126 V0)) (part (res_main_v158 V0) (res_main_v163 V0)) b h i).trans
      (part_at (res_main_v121 V0) (res_main_v126 V0) b h i)
  rw [e]
  exact rep_log (rep_1 R h i 0) (bot_pos 1 4 i.val h.val i.isLt)

theorem v175_2 (h : Fin 8) (i : Fin 2048) : a175 V0 2 b h i = ((Real.log (A.bot 2 16 i.val h.val) : ℝ) : EReal) := by
  have e : a175 V0 2 b h i = (av158 V0 b h i + Ideal.log (av163 V0 b h i) : EReal) :=
    (stack_2 (part (res_main_v84 V0) (res_main_v89 V0)) (part (res_main_v121 V0) (res_main_v126 V0)) (part (res_main_v158 V0) (res_main_v163 V0)) b h i).trans
      (part_at (res_main_v158 V0) (res_main_v163 V0) b h i)
  rw [e]
  exact rep_log (rep_2 R h i 0) (bot_pos 2 16 i.val h.val i.isLt)

omit R in
theorem v182_at (h : Fin 8) (i : Fin 2048) (g : Fin 3) :
    a182 V0 g b h i = Ideal.exp (a175 V0 g b h i - Finset.univ.fold max (⊥ : EReal) fun g : Fin 3 => a175 V0 g b h i) := by
  have e : a182 V0 g b h i = (Ideal.exp (a175 V0 g b h i - lift4 (tops (red (res_main_v175 V0))) (ix4 g b h i)) : EReal) :=
    rel_at (res_main_v175 V0) (tops (red (res_main_v175 V0))) g b h i
  rw [e, lift4_at, tops_at, red_at, fold_group]
  rfl

omit R in
theorem silu_real (z : ℝ) {y : EReal} (hy : y = z) : y * Ideal.div 1 (1 + Ideal.exp (-y)) = ((z * (1 + Real.exp (-z))⁻¹ : ℝ) : EReal) := by
  have h : (0 : ℝ) < 1 + Real.exp (-z) := by positivity
  rw [hy, ← EReal.coe_neg, Ideal.exp_coe, ← EReal.coe_one, ← EReal.coe_add, div_real _ _ h.ne', ← EReal.coe_mul, one_div]

theorem out_at (i : Fin 2048) (c : Fin 512) : out V0 (ix3 b i c) = ((A.out i.val c.val : ℝ) : EReal) := by
  have hc : 64 * (c.val / 64) + c.val % 64 = c.val := by omega
  have p0 := parts_0 R ⟨c.val / 64, by omega⟩ i ⟨c.val % 64, by omega⟩
  have p1 := parts_1 R ⟨c.val / 64, by omega⟩ i ⟨c.val % 64, by omega⟩
  have p2 := parts_2 R ⟨c.val / 64, by omega⟩ i ⟨c.val % 64, by omega⟩
  have l0 := v175_0 R ⟨c.val / 64, by omega⟩ i
  have l1 := v175_1 R ⟨c.val / 64, by omega⟩ i
  have l2 := v175_2 R ⟨c.val / 64, by omega⟩ i
  simp only [hc] at p0 p1 p2
  have h1 := mix ![A.top 0 1 i.val c.val, A.top 1 4 i.val c.val, A.top 2 16 i.val c.val]
    ![A.bot 0 1 i.val (c.val / 64), A.bot 1 4 i.val (c.val / 64), A.bot 2 16 i.val (c.val / 64)]
    (Fin.forall_fin_succ.mpr ⟨bot_pos 0 1 i.val _ i.isLt, Fin.forall_fin_succ.mpr ⟨bot_pos 1 4 i.val _ i.isLt, Fin.forall_fin_one.mpr (bot_pos 2 16 i.val _ i.isLt)⟩⟩)
    (l := fun g => a175 V0 g b ⟨c.val / 64, by omega⟩ i) (w := fun g => a182 V0 g b ⟨c.val / 64, by omega⟩ i)
    (o := fun g => parts V0 (ix5 g b ⟨c.val / 64, by omega⟩ i ⟨c.val % 64, by omega⟩))
    (Fin.forall_fin_succ.mpr ⟨l0, Fin.forall_fin_succ.mpr ⟨l1, Fin.forall_fin_one.mpr l2⟩⟩) (fun g => v182_at ⟨c.val / 64, by omega⟩ i g)
    (Fin.forall_fin_succ.mpr ⟨p0, Fin.forall_fin_succ.mpr ⟨p1, Fin.forall_fin_one.mpr p2⟩⟩)
  have e : out V0 (ix3 b i c) = gated (flat (sums5 (wide (share (res_main_v182 V0) (sums (res_main_v182 V0))) (parts V0)))) (res_main_v20 V0) (ix3 b i c) := rfl
  rw [e, gated_at, flat_at, sums5_at]
  simp only [wide_at, share_at, lift4_at, sums_at]
  have hr : (∑ g, ![A.top 0 1 i.val c.val, A.top 1 4 i.val c.val, A.top 2 16 i.val c.val] g)
      / (∑ g, ![A.bot 0 1 i.val (c.val / 64), A.bot 1 4 i.val (c.val / 64), A.bot 2 16 i.val (c.val / 64)] g)
      * (A.lin i.val (7680 + c.val) * (1 + Real.exp (-A.lin i.val (7680 + c.val)))⁻¹) = A.out i.val c.val := by
    unfold Row.out Row.silu
    rw [Fin.sum_univ_three, Fin.sum_univ_three]
    show (A.top 0 1 i.val c.val + A.top 1 4 i.val c.val + A.top 2 16 i.val c.val) / (A.bot 0 1 i.val (c.val / 64) + A.bot 1 4 i.val (c.val / 64) + A.bot 2 16 i.val (c.val / 64)) * _ = _
    rw [add_comm (A.top 2 16 i.val c.val + A.top 1 4 i.val c.val), add_comm (A.top 2 16 i.val c.val), ← add_assoc,
      add_comm (A.bot 2 16 i.val (c.val / 64) + A.bot 1 4 i.val (c.val / 64)), add_comm (A.bot 2 16 i.val (c.val / 64)), ← add_assoc]
  exact (congrArg₂ (· * ·) h1 (silu_real _ (v20_at R i c))).trans ((EReal.coe_mul _ _).symm.trans (congrArg _ hr))

end Final

end Cert.Proof.AttnRef

end
-- ==== Proof.AttnClaim.lean ====
module

public import proofs.«01_k».proof.Defs
public import proofs.«01_k».proof.Proof.AttnResult
public import proofs.«01_k».proof.Proof.AttnRefOut
public import proofs.«01_k».proof.Proof.Gen.ReferenceIdeal.Run

/-! # The attention call computes its reference

With finite arguments, the array that the launch leaves over the extended reals and the reference's result are the same
gated mixture, element by element.
-/

@[expose] public section

set_option maxRecDepth 16384

noncomputable section

namespace Cert.Proof.KernelIdeal

open Idealize Idealize.ShloMosaic Idealize.ShloMosaic.TcCoe Idealize.SL Idealize.SL.Sem
open Idealize.ShloMosaic.StableHlo (launchContents)

/-- The reference leaves its gated mixture, the arguments as they were. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v199) = AttnRef.out (launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) := by
  refine (θ_run Cert.ReferenceIdeal.defs _ _).mono (fun r h c => ⟨(h c).1.trans ?_, (h c).2⟩) (Cert.ReferenceIdeal.Value.run (F := Ideal) m ρ)
  generalize launchContents m c = V0
  rfl

/-- The reference's mixture is the call's. -/
theorem reference_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (hfin : Cert.Pre_finite.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) = fun _ => 1#1)
    (e0 : V0 (Proc.tc.devRef Cert.ReferenceIdeal.main_arg0) = m ((c : Thread Cert.KernelIdeal.nD Cert.KernelIdeal.τ).loc Cert.KernelIdeal.main_arg0))
    (e1 : V0 (Proc.tc.devRef Cert.ReferenceIdeal.main_arg1) = m ((c : Thread Cert.KernelIdeal.nD Cert.KernelIdeal.τ).loc Cert.KernelIdeal.main_arg1))
    (e2 : V0 (Proc.tc.devRef Cert.ReferenceIdeal.main_arg2) = m ((c : Thread Cert.KernelIdeal.nD Cert.KernelIdeal.τ).loc Cert.KernelIdeal.main_arg2))
    (e3 : V0 (Proc.tc.devRef Cert.ReferenceIdeal.main_arg3) = m ((c : Thread Cert.KernelIdeal.nD Cert.KernelIdeal.τ).loc Cert.KernelIdeal.main_arg3))
    (e4 : V0 (Proc.tc.devRef Cert.ReferenceIdeal.main_arg4) = m ((c : Thread Cert.KernelIdeal.nD Cert.KernelIdeal.τ).loc Cert.KernelIdeal.main_arg4))
    (b : Fin 16) (p : Fin 2048) (l : Fin 512) : AttnRef.out V0 (ix3 b p l) = mixture m c b p l := by
  have R := args_row m c b hfin
  exact AttnRef.out_at (b := b) (A := row m c b) ⟨fun i k => (congrFun e0 _).trans (R.x i k), fun k n => (congrFun e1 _).trans (R.w k n),
    fun n => (congrFun e2 _).trans (R.b n), fun e => (congrFun e3 _).trans (R.gq e), fun e => (congrFun e4 _).trans (R.gk e)⟩ p l

/-- The attention call and its reference end with the same array, given the same finite arguments. -/
theorem algebraic_attention : Cert.algebraic_KernelIdeal_ReferenceIdeal_pre_finite (hKernelIdeal := Cert.KernelIdeal.Gen.facts)
    (hReferenceIdeal := Cert.ReferenceIdeal.Gen.facts) (hPre_finite := finite_facts) := fun m g m' g' hfin hargs => by
  refine ⟨fun c => result m c, run_mixture m g hfin, ?_⟩
  refine (θ_run Cert.ReferenceIdeal.defs _ _).mono (fun r h c => ⟨(h c).1.trans ?_, (h c).2⟩) (run_reference m' g')
  obtain ⟨e0, e1, e2, e3, e4⟩ := hargs c
  funext i
  obtain ⟨b, p, l, rfl⟩ : ∃ (b : Fin 16) (p : Fin 2048) (l : Fin 512), i = ix3 b p l := ⟨i 0, i 1, i 2, eq_ix3 i⟩
  exact reference_eq m c (launchContents m' c) (hfin c) e0 e1 e2 e3 e4 b p l

end Cert.Proof.KernelIdeal

end
-- ==== Proof.lean ====
module

public import proofs.«01_k».proof.Defs
public import proofs.«01_k».proof.Proof.KernelFrame
public import proofs.«01_k».proof.Proof.KernelIdealFrame
public import proofs.«01_k».proof.Proof.ReferenceFrame
public import proofs.«01_k».proof.Proof.MergeFrame
public import proofs.«01_k».proof.Proof.MergeClaim
public import proofs.«01_k».proof.Proof.AttnClaim

@[expose] public section

noncomputable section

namespace Cert.Proof

open Idealize.ShloMosaic Idealize.SL.Sem

theorem frame_kernel : Cert.quiescent_Kernel (hKernel := Cert.Kernel.Gen.facts) := fun m ρ _ =>
  Kernel.frame_all (F := Bits) m ρ fun _ _ _ => (0 : BitVec 16)

theorem frame_kernelIdeal : Cert.quiescent_KernelIdeal (hKernelIdeal := Cert.KernelIdeal.Gen.facts) := fun m ρ _ =>
  KernelIdeal.frame_all (F := Ideal) m ρ fun _ _ _ => (0 : EReal)

theorem frame_kernelIdeal_finite : Cert.quiescent_KernelIdeal_pre_finite (hKernelIdeal := Cert.KernelIdeal.Gen.facts)
    (hPre_finite := KernelIdeal.finite_facts) := fun m ρ _ =>
  KernelIdeal.frame_all (F := Ideal) m ρ fun _ _ _ => (0 : EReal)

theorem frame_reference_finite : Cert.quiescent_ReferenceIdeal_pre_finite (hReferenceIdeal := Cert.ReferenceIdeal.Gen.facts)
    (hPre_finite := KernelIdeal.finite_facts) := fun m ρ _ => frame_reference m ρ trivial

theorem claim : Cert.Claim :=
  ⟨Cert.Kernel.Gen.facts, Cert.KernelIdeal.Gen.facts, Cert.ReferenceIdeal.Gen.facts, Cert.Merge.Gen.facts,
    Cert.MergeIdeal.Gen.facts, Cert.MergeRefIdeal.Gen.facts, KernelIdeal.finite_facts, frame_kernel, frame_kernelIdeal,
    frame_kernelIdeal_finite, frame_reference, frame_reference_finite, frame_merge, frame_mergeIdeal, frame_mergeRef,
    IdealRules.named_const.statement _ _ _ _ _ rfl, KernelIdeal.algebraic_attention, trivial, Merge.algebraic_merge⟩

end Cert.Proof

end
